-- ==== Defs.lean ====
def Pre_Kernel [hPre_placed : Cert.Pre_placed.Facts] (m : (ℓ : Loc Cert.Kernel.nD Cert.Kernel.τ Cert.Kernel.sig) → Buf (Elt Bits) ℓ) : Prop :=
  ∀ c : Dev Cert.Kernel.nD,
    (Cert.Pre_placed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_placed : Cert.Pre_placed.Facts] (m : (ℓ : Loc Cert.KernelIdeal.nD Cert.KernelIdeal.τ Cert.KernelIdeal.sig) → Buf (Elt Ideal) ℓ) : Prop :=
  ∀ c : Dev Cert.KernelIdeal.nD,
    (Cert.Pre_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_placed [hPre_placed : Cert.Pre_placed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_placed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference [hPre_placed : Cert.Pre_placed.Facts] (m : (ℓ : Loc Cert.Reference.nD Cert.Reference.τ Cert.Reference.sig) → Buf (Elt Bits) ℓ) : Prop :=
  ∀ c : Dev Cert.Reference.nD,
    (Cert.Pre_placed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_counted [hPre_counted : Cert.Pre_counted.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_counted.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_counted [hPre_counted : Cert.Pre_counted.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_counted.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def quiescent_Kernel [hKernel : Cert.Kernel.Facts] [hPre_placed : Cert.Pre_placed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_placed : Cert.Pre_placed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_placed [hReferenceIdeal : Cert.ReferenceIdeal.Facts] [hPre_placed : Cert.Pre_placed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_placed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] [hPre_placed : Cert.Pre_placed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_counted [hKernel5Ideal : Cert.Kernel5Ideal.Facts] [hPre_counted : Cert.Pre_counted.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_counted m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_counted [hReference5Ideal : Cert.Reference5Ideal.Facts] [hPre_counted : Cert.Pre_counted.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_counted m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def bitexact_Kernel_Reference_on_written [hKernel : Cert.Kernel.Facts] [hReference : Cert.Reference.Facts] [hPre_placed : Cert.Pre_placed.Facts] [hOn_written : Cert.On_written.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          (∀ i : (⟨4, ![5120, 8, 8, 128]⟩ : Shape).Idx, (Cert.On_written.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) i = 1#1 → r.2.mem ((c.tc : Thread Cert.Kernel.nD Cert.Kernel.τ).loc Cert.Kernel.main_v2) i = v0 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          (∀ i : (⟨4, ![5120, 8, 8, 128]⟩ : Shape).Idx, (Cert.On_written.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) i = 1#1 → r.2.mem ((c.tc : Thread Cert.Reference.nD Cert.Reference.τ).loc Cert.Reference.main_v13) i = v0 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def algebraic_KernelIdeal_ReferenceIdeal_on_written [hKernelIdeal : Cert.KernelIdeal.Facts] [hReferenceIdeal : Cert.ReferenceIdeal.Facts] [hPre_placed : Cert.Pre_placed.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![5120, 8, 8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![5120, 8, 8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v13) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_v11) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v20_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal_pre_counted [hKernel5Ideal : Cert.Kernel5Ideal.Facts] [hReference5Ideal : Cert.Reference5Ideal.Facts] [hPre_counted : Cert.Pre_counted.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_counted m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_v70) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_placed : Cert.Pre_placed.Facts) (hPre_routed : Cert.Pre_routed.Facts) (hPre_counted : Cert.Pre_counted.Facts) (hOn_written : Cert.On_written.Facts),
    quiescent_Kernel (hKernel := hKernel) (hPre_placed := hPre_placed)
    ∧ quiescent_KernelIdeal (hKernelIdeal := hKernelIdeal) (hPre_placed := hPre_placed)
    ∧ quiescent_ReferenceIdeal (hReferenceIdeal := hReferenceIdeal)
    ∧ quiescent_ReferenceIdeal_pre_placed (hReferenceIdeal := hReferenceIdeal) (hPre_placed := hPre_placed)
    ∧ quiescent_Reference (hReference := hReference) (hPre_placed := hPre_placed)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_counted (hKernel5Ideal := hKernel5Ideal) (hPre_counted := hPre_counted)
    ∧ quiescent_Reference5Ideal (hReference5Ideal := hReference5Ideal)
    ∧ quiescent_Reference5Ideal_pre_counted (hReference5Ideal := hReference5Ideal) (hPre_counted := hPre_counted)
    ∧ preserves_Kernel_KernelIdeal
    ∧ bitexact_Kernel_Reference_on_written (hKernel := hKernel) (hReference := hReference) (hPre_placed := hPre_placed) (hOn_written := hOn_written)
    ∧ algebraic_KernelIdeal_ReferenceIdeal_on_written (hKernelIdeal := hKernelIdeal) (hReferenceIdeal := hReferenceIdeal) (hPre_placed := hPre_placed) (hOn_written := hOn_written)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_counted (hKernel5Ideal := hKernel5Ideal) (hReference5Ideal := hReference5Ideal) (hPre_counted := hPre_counted)
-- ==== On_written.lean ====
abbrev S32768 : Shape := ⟨1, ![32768]⟩
abbrev S32 : Shape := ⟨1, ![32]⟩
abbrev S1 : Shape := ⟨1, ![1]⟩
abbrev S16384x1024 : Shape := ⟨2, ![16384, 1024]⟩
abbrev S40960 : Shape := ⟨1, ![40960]⟩
abbrev S_ : Shape := ⟨0, ![]⟩
abbrev S40960x1 : Shape := ⟨2, ![40960, 1]⟩
abbrev S1x32768 : Shape := ⟨2, ![1, 32768]⟩
abbrev S40960x32768 : Shape := ⟨2, ![40960, 32768]⟩
abbrev S1x32 : Shape := ⟨2, ![1, 32]⟩
abbrev S40960x32 : Shape := ⟨2, ![40960, 32]⟩
abbrev S5120x1x8x1 : Shape := ⟨4, ![5120, 1, 8, 1]⟩
abbrev S5120x8x8x128 : Shape := ⟨4, ![5120, 8, 8, 128]⟩

class Facts : Prop where
  bcast_S_S40960 : S_.BroadcastsInDim S40960 (![] : Fin 0 → Fin S40960.rank)
  bcast_S_S32768 : S_.BroadcastsInDim S32768 (![] : Fin 0 → Fin S32768.rank)
  bcast_S40960_S40960x1_0 : S40960.BroadcastsInDim S40960x1 (![0] : Fin 1 → Fin S40960x1.rank)
  bcast_S32768_S1x32768_1 : S32768.BroadcastsInDim S1x32768 (![1] : Fin 1 → Fin S1x32768.rank)
  bcast_S40960x1_S40960x32768_0_1 : S40960x1.BroadcastsInDim S40960x32768 (![0, 1] : Fin 2 → Fin S40960x32768.rank)
  bcast_S1x32768_S40960x32768_0_1 : S1x32768.BroadcastsInDim S40960x32768 (![0, 1] : Fin 2 → Fin S40960x32768.rank)
  reducesTo_S40960x32768_S40960_d1 : S40960x32768.ReducesTo [1] S40960
  h_S_ : 0 < S_.numel
  bcast_S32_S1x32_1 : S32.BroadcastsInDim S1x32 (![1] : Fin 1 → Fin S1x32.rank)
  bcast_S40960x1_S40960x32_0_1 : S40960x1.BroadcastsInDim S40960x32 (![0, 1] : Fin 2 → Fin S40960x32.rank)
  bcast_S1x32_S40960x32_0_1 : S1x32.BroadcastsInDim S40960x32 (![0, 1] : Fin 2 → Fin S40960x32.rank)
  reducesTo_S40960x32_S40960_d1 : S40960x32.ReducesTo [1] S40960
  bcast_S1_S40960_0 : S1.BroadcastsInDim S40960 (![0] : Fin 1 → Fin S40960.rank)
  shapeCasts_S40960_S5120x1x8x1 : S40960.ShapeCasts S5120x1x8x1
  bcast_S5120x1x8x1_S5120x8x8x128_0_1_2_3 : S5120x1x8x1.BroadcastsInDim S5120x8x8x128 (![0, 1, 2, 3] : Fin 4 → Fin S5120x8x8x128.rank)

variable [Facts]

def fn_part1 {F : FTy → Type} [FloatOps F] (main_arg3 : IVec S1 32) (main_v2 : IVec S40960 32) (main_v12 : IVec S40960 1) (main_v19 : IVec S40960 1) : IVec S5120x8x8x128 1 :=
  let main_v20 : IVec S40960 1 := ori main_v12 main_v19
  let main_v21 : IVec S40960 32 := broadcastInDim S40960 ![0] bcast_S1_S40960_0 main_arg3
  let main_v22 : IVec S40960 1 := cmpi .sge main_v2 main_v21
  let main_v23 : IVec S40960 1 := ori main_v20 main_v22
  let main_v24 : IVec S5120x1x8x1 1 := shapeCast S5120x1x8x1 main_v23 shapeCasts_S40960_S5120x1x8x1
  let main_v25 : IVec S5120x8x8x128 1 := broadcastInDim S5120x8x8x128 ![0, 1, 2, 3] bcast_S5120x1x8x1_S5120x8x8x128_0_1_2_3 main_v24
  main_v25

def fn {F : FTy → Type} [FloatOps F] (main_arg0 : IVec S32768 32) (main_arg1 : IVec S32768 32) (main_arg2 : IVec S32 32) (main_arg3 : IVec S1 32) (main_arg4 : FVec F S16384x1024 .f32) : IVec S5120x8x8x128 1 :=
  let main_v0 : IVec S40960 32 := iotaInDim S40960 32 0
  let main_c : IVec S_ 32 := constantI S_ 32 8#32
  let main_v1 : IVec S40960 32 := broadcastInDim S40960 ![] bcast_S_S40960 main_c
  let main_v2 : IVec S40960 32 := Host.shrsi main_v0 main_v1
  let main_c_0 : IVec S_ 32 := constantI S_ 32 8#32
  let main_v3 : IVec S32768 32 := broadcastInDim S32768 ![] bcast_S_S32768 main_c_0
  let main_v4 : IVec S32768 32 := muli main_arg0 main_v3
  let main_v5 : IVec S32768 32 := addi main_v4 main_arg1
  let main_v6 : IVec S40960x1 32 := broadcastInDim S40960x1 ![0] bcast_S40960_S40960x1_0 main_v0
  let main_v7 : IVec S1x32768 32 := broadcastInDim S1x32768 ![1] bcast_S32768_S1x32768_1 main_v5
  let main_v8 : IVec S40960x32768 32 := broadcastInDim S40960x32768 ![0, 1] bcast_S40960x1_S40960x32768_0_1 main_v6
  let main_v9 : IVec S40960x32768 32 := broadcastInDim S40960x32768 ![0, 1] bcast_S1x32768_S40960x32768_0_1 main_v7
  let main_v10 : IVec S40960x32768 1 := cmpi .ne main_v8 main_v9
  let main_c_1 : IVec S_ 1 := constantI S_ 1 1#1
  let main_v11 : IVec S40960 1 := (fun x v => Host.reduce IntOp.andi x v reducesTo_S40960x32768_S40960_d1 h_S_) main_v10 main_c_1
  let main_v12 : IVec S40960 1 := noti main_v11
  let main_v13 : IVec S40960x1 32 := broadcastInDim S40960x1 ![0] bcast_S40960_S40960x1_0 main_v2
  let main_v14 : IVec S1x32 32 := broadcastInDim S1x32 ![1] bcast_S32_S1x32_1 main_arg2
  let main_v15 : IVec S40960x32 32 := broadcastInDim S40960x32 ![0, 1] bcast_S40960x1_S40960x32_0_1 main_v13
  let main_v16 : IVec S40960x32 32 := broadcastInDim S40960x32 ![0, 1] bcast_S1x32_S40960x32_0_1 main_v14
  let main_v17 : IVec S40960x32 1 := cmpi .ne main_v15 main_v16
  let main_c_2 : IVec S_ 1 := constantI S_ 1 1#1
  let main_v18 : IVec S40960 1 := (fun x v => Host.reduce IntOp.andi x v reducesTo_S40960x32_S40960_d1 h_S_) main_v17 main_c_2
  let main_v19 : IVec S40960 1 := noti main_v18
  fn_part1 (F := F) main_arg3 main_v2 main_v12 main_v19
-- ==== Pre_counted.lean ====
abbrev S16384x128 : Shape := ⟨2, ![16384, 128]⟩
abbrev S8x128 : Shape := ⟨2, ![8, 128]⟩
abbrev S32 : Shape := ⟨1, ![32]⟩
abbrev S16384x2 : Shape := ⟨2, ![16384, 2]⟩
abbrev S1x32 : Shape := ⟨2, ![1, 32]⟩
abbrev S16384x2x1 : Shape := ⟨3, ![16384, 2, 1]⟩
abbrev S1x1x32 : Shape := ⟨3, ![1, 1, 32]⟩
abbrev S16384x2x32 : Shape := ⟨3, ![16384, 2, 32]⟩
abbrev S_ : Shape := ⟨0, ![]⟩

class Facts : Prop where
  slices_S16384x128_S16384x2_0_0 : S16384x128.Slices ![0, 0] S16384x2
  slices_S8x128_S1x32_0_4 : S8x128.Slices ![0, 4] S1x32
  shapeCasts_S1x32_S32 : S1x32.ShapeCasts S32
  bcast_S16384x2_S16384x2x1_0_1 : S16384x2.BroadcastsInDim S16384x2x1 (![0, 1] : Fin 2 → Fin S16384x2x1.rank)
  bcast_S32_S1x1x32_2 : S32.BroadcastsInDim S1x1x32 (![2] : Fin 1 → Fin S1x1x32.rank)
  bcast_S16384x2x1_S16384x2x32_0_1_2 : S16384x2x1.BroadcastsInDim S16384x2x32 (![0, 1, 2] : Fin 3 → Fin S16384x2x32.rank)
  bcast_S1x1x32_S16384x2x32_0_1_2 : S1x1x32.BroadcastsInDim S16384x2x32 (![0, 1, 2] : Fin 3 → Fin S16384x2x32.rank)
  reducesTo_S16384x2x32_S16384x2_d2 : S16384x2x32.ReducesTo [2] S16384x2
  h_S_ : 0 < S_.numel
  reducesTo_S16384x2_S_d0_1 : S16384x2.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16384x128 .f32) (main_arg1 : FVec F S8x128 .f32) : IVec S_ 1 :=
  let main_v0 : IVec S32 32 := iotaInDim S32 32 0
  let main_v1 : FVec F S32 .f32 := sitofp .f32 main_v0
  let main_v2 : FVec F S16384x2 .f32 := (extractStridedSlice S16384x2 ![0, 0] · slices_S16384x128_S16384x2_0_0) main_arg0
  let main_v3 : FVec F S1x32 .f32 := (extractStridedSlice S1x32 ![0, 4] · slices_S8x128_S1x32_0_4) main_arg1
  let main_v4 : FVec F S32 .f32 := shapeCast S32 main_v3 shapeCasts_S1x32_S32
  let main_v5 : FVec F S16384x2x1 .f32 := broadcastInDim S16384x2x1 ![0, 1] bcast_S16384x2_S16384x2x1_0_1 main_v2
  let main_v6 : FVec F S1x1x32 .f32 := broadcastInDim S1x1x32 ![2] bcast_S32_S1x1x32_2 main_v1
  let main_v7 : FVec F S16384x2x32 .f32 := broadcastInDim S16384x2x32 ![0, 1, 2] bcast_S16384x2x1_S16384x2x32_0_1_2 main_v5
  let main_v8 : FVec F S16384x2x32 .f32 := broadcastInDim S16384x2x32 ![0, 1, 2] bcast_S1x1x32_S16384x2x32_0_1_2 main_v6
  let main_v9 : IVec S16384x2x32 1 := cmpf .oeq main_v7 main_v8
  let main_c : IVec S_ 1 := constantI S_ 1 0#1
  let main_v10 : IVec S16384x2 1 := (fun x v => Host.reduce IntOp.ori x v reducesTo_S16384x2x32_S16384x2_d2 h_S_) main_v9 main_c
  let main_c_0 : IVec S_ 1 := constantI S_ 1 1#1
  let main_v11 : IVec S_ 1 := (fun x v => Host.reduce IntOp.andi x v reducesTo_S16384x2_S_d0_1 h_S_) main_v10 main_c_0
  let main_cst : FVec F S_ .f32 := constant S_ .f32 0x00000000#32
  let main_v12 : FVec F S32 .f32 := broadcastInDim S32 ![] bcast_S_S32 main_cst
  let main_v13 : IVec S32 1 := cmpf .oge main_v4 main_v12
  let main_cst_1 : FVec F S_ .f32 := constant S_ .f32 0x7F800000#32
  let main_v14 : FVec F S32 .f32 := broadcastInDim S32 ![] bcast_S_S32 main_cst_1
  let main_v15 : IVec S32 1 := cmpf .olt main_v4 main_v14
  let main_v16 : IVec S32 1 := andi main_v13 main_v15
  let main_c_2 : IVec S_ 1 := constantI S_ 1 1#1
  let main_v17 : IVec S_ 1 := (fun x v => Host.reduce IntOp.andi x v reducesTo_S32_S_d0 h_S_) main_v16 main_c_2
  let main_v18 : IVec S_ 1 := andi main_v11 main_v17
  main_v18
-- ==== Pre_placed.lean ====
abbrev S32768 : Shape := ⟨1, ![32768]⟩
abbrev S32 : Shape := ⟨1, ![32]⟩
abbrev S1 : Shape := ⟨1, ![1]⟩
abbrev S16384x1024 : Shape := ⟨2, ![16384, 1024]⟩
abbrev S_ : Shape := ⟨0, ![]⟩
abbrev S32768x1 : Shape := ⟨2, ![32768, 1]⟩
abbrev S1x32768 : Shape := ⟨2, ![1, 32768]⟩
abbrev S32768x32768 : Shape := ⟨2, ![32768, 32768]⟩
abbrev S32x1 : Shape := ⟨2, ![32, 1]⟩
abbrev S1x32 : Shape := ⟨2, ![1, 32]⟩
abbrev S32x32 : Shape := ⟨2, ![32, 32]⟩

class Facts : Prop where
  bcast_S_S32768 : S_.BroadcastsInDim S32768 (![] : Fin 0 → Fin S32768.rank)
  reducesTo_S32768_S_d0 : S32768.ReducesTo [0] S_
  h_S_ : 0 < S_.numel
  bcast_S32768_S32768x1_0 : S32768.BroadcastsInDim S32768x1 (![0] : Fin 1 → Fin S32768x1.rank)
  bcast_S32768_S1x32768_1 : S32768.BroadcastsInDim S1x32768 (![1] : Fin 1 → Fin S1x32768.rank)
  bcast_S32768x1_S32768x32768_0_1 : S32768x1.BroadcastsInDim S32768x32768 (![0, 1] : Fin 2 → Fin S32768x32768.rank)
  bcast_S1x32768_S32768x32768_0_1 : S1x32768.BroadcastsInDim S32768x32768 (![0, 1] : Fin 2 → Fin S32768x32768.rank)
  reducesTo_S32768x32768_S_d0_1 : S32768x32768.ReducesTo [0, 1] S_
  bcast_S_S1 : S_.BroadcastsInDim S1 (![] : Fin 0 → Fin S1.rank)
  reducesTo_S1_S_d0 : S1.ReducesTo [0] S_
  bcast_S1_S32_0 : S1.BroadcastsInDim S32 (![0] : Fin 1 → Fin S32.rank)
  reducesTo_S32_S_d0 : S32.ReducesTo [0] S_
  bcast_S_S32 : S_.BroadcastsInDim S32 (![] : Fin 0 → Fin S32.rank)
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  reducesTo_S32x32_S_d0_1 : S32x32.ReducesTo [0, 1] S_

variable [Facts]

def fn_part3 {F : FTy → Type} [FloatOps F] (main_v41 : IVec S_ 1) (main_v57 : IVec S32x32 1) (main_c_12 : IVec S_ 1) : IVec S_ 1 :=
  let main_v58 : IVec S_ 1 := (fun x v => Host.reduce IntOp.andi x v reducesTo_S32x32_S_d0_1 h_S_) main_v57 main_c_12
  let main_v59 : IVec S_ 1 := andi main_v41 main_v58
  main_v59

def fn_part2 {F : FTy → Type} [FloatOps F] (main_arg2 : IVec S32 32) (main_arg3 : IVec S1 32) (main_v4 : IVec S32 32) (main_v30 : IVec S_ 1) (main_v36 : IVec S_ 1) : IVec S_ 1 :=
  let main_v37 : IVec S_ 1 := andi main_v30 main_v36
  let main_v38 : IVec S32 32 := broadcastInDim S32 ![0] bcast_S1_S32_0 main_arg3
  let main_v39 : IVec S32 1 := cmpi .slt main_arg2 main_v38
  let main_c_10 : IVec S_ 1 := constantI S_ 1 1#1
  let main_v40 : IVec S_ 1 := (fun x v => Host.reduce IntOp.andi x v reducesTo_S32_S_d0 h_S_) main_v39 main_c_10
  let main_v41 : IVec S_ 1 := andi main_v37 main_v40
  let main_c_11 : IVec S_ 32 := constantI S_ 32 0#32
  let main_v42 : IVec S32 32 := broadcastInDim S32 ![] bcast_S_S32 main_c_11
  let main_v43 : IVec S32 1 := cmpi .slt main_arg2 main_v42
  let main_v44 : IVec S32x1 1 := broadcastInDim S32x1 ![0] bcast_S32_S32x1_0 main_v43
  let main_v45 : IVec S32x1 32 := broadcastInDim S32x1 ![0] bcast_S32_S32x1_0 main_arg2
  let main_v46 : IVec S1x32 32 := broadcastInDim S1x32 ![1] bcast_S32_S1x32_1 main_arg2
  let main_v47 : IVec S32x32 32 := broadcastInDim S32x32 ![0, 1] bcast_S32x1_S32x32_0_1 main_v45
  let main_v48 : IVec S32x32 32 := broadcastInDim S32x32 ![0, 1] bcast_S1x32_S32x32_0_1 main_v46
  let main_v49 : IVec S32x32 1 := cmpi .ne main_v47 main_v48
  let main_v50 : IVec S32x32 1 := broadcastInDim S32x32 ![0, 1] bcast_S32x1_S32x32_0_1 main_v44
  let main_v51 : IVec S32x32 1 := ori main_v50 main_v49
  let main_v52 : IVec S32x1 32 := broadcastInDim S32x1 ![0] bcast_S32_S32x1_0 main_v4
  let main_v53 : IVec S1x32 32 := broadcastInDim S1x32 ![1] bcast_S32_S1x32_1 main_v4
  let main_v54 : IVec S32x32 32 := broadcastInDim S32x32 ![0, 1] bcast_S32x1_S32x32_0_1 main_v52
  let main_v55 : IVec S32x32 32 := broadcastInDim S32x32 ![0, 1] bcast_S1x32_S32x32_0_1 main_v53
  let main_v56 : IVec S32x32 1 := cmpi .eq main_v54 main_v55
  let main_v57 : IVec S32x32 1 := ori main_v51 main_v56
  let main_c_12 : IVec S_ 1 := constantI S_ 1 1#1
  fn_part3 (F := F) main_v41 main_v57 main_c_12

def fn_part1 {F : FTy → Type} [FloatOps F] (main_arg2 : IVec S32 32) (main_arg3 : IVec S1 32) (main_v2 : IVec S32768 32) (main_v3 : IVec S32768 32) (main_v4 : IVec S32 32) (main_v10 : IVec S_ 1) (main_v16 : IVec S_ 1) : IVec S_ 1 :=
  let main_v17 : IVec S_ 1 := andi main_v10 main_v16
  let main_v18 : IVec S32768x1 32 := broadcastInDim S32768x1 ![0] bcast_S32768_S32768x1_0 main_v2
  let main_v19 : IVec S1x32768 32 := broadcastInDim S1x32768 ![1] bcast_S32768_S1x32768_1 main_v2
  let main_v20 : IVec S32768x32768 32 := broadcastInDim S32768x32768 ![0, 1] bcast_S32768x1_S32768x32768_0_1 main_v18
  let main_v21 : IVec S32768x32768 32 := broadcastInDim S32768x32768 ![0, 1] bcast_S1x32768_S32768x32768_0_1 main_v19
  let main_v22 : IVec S32768x32768 1 := cmpi .ne main_v20 main_v21
  let main_v23 : IVec S32768x1 32 := broadcastInDim S32768x1 ![0] bcast_S32768_S32768x1_0 main_v3
  let main_v24 : IVec S1x32768 32 := broadcastInDim S1x32768 ![1] bcast_S32768_S1x32768_1 main_v3
  let main_v25 : IVec S32768x32768 32 := broadcastInDim S32768x32768 ![0, 1] bcast_S32768x1_S32768x32768_0_1 main_v23
  let main_v26 : IVec S32768x32768 32 := broadcastInDim S32768x32768 ![0, 1] bcast_S1x32768_S32768x32768_0_1 main_v24
  let main_v27 : IVec S32768x32768 1 := cmpi .eq main_v25 main_v26
  let main_v28 : IVec S32768x32768 1 := ori main_v22 main_v27
  let main_c_6 : IVec S_ 1 := constantI S_ 1 1#1
  let main_v29 : IVec S_ 1 := (fun x v => Host.reduce IntOp.andi x v reducesTo_S32768x32768_S_d0_1 h_S_) main_v28 main_c_6
  let main_v30 : IVec S_ 1 := andi main_v17 main_v29
  let main_c_7 : IVec S_ 32 := constantI S_ 32 0#32
  let main_v31 : IVec S1 32 := broadcastInDim S1 ![] bcast_S_S1 main_c_7
  let main_v32 : IVec S1 1 := cmpi .sge main_arg3 main_v31
  let main_c_8 : IVec S_ 32 := constantI S_ 32 160#32
  let main_v33 : IVec S1 32 := broadcastInDim S1 ![] bcast_S_S1 main_c_8
  let main_v34 : IVec S1 1 := cmpi .sle main_arg3 main_v33
  let main_v35 : IVec S1 1 := andi main_v32 main_v34
  let main_c_9 : IVec S_ 1 := constantI S_ 1 1#1
  let main_v36 : IVec S_ 1 := (fun x v => Host.reduce IntOp.andi x v reducesTo_S1_S_d0 h_S_) main_v35 main_c_9
  fn_part2 (F := F) main_arg2 main_arg3 main_v4 main_v30 main_v36

def fn {F : FTy → Type} [FloatOps F] (main_arg0 : IVec S32768 32) (main_arg1 : IVec S32768 32) (main_arg2 : IVec S32 32) (main_arg3 : IVec S1 32) (main_arg4 : FVec F S16384x1024 .f32) : IVec S_ 1 :=
  let main_c : IVec S_ 32 := constantI S_ 32 8#32
  let main_v0 : IVec S32768 32 := broadcastInDim S32768 ![] bcast_S_S32768 main_c
  let main_v1 : IVec S32768 32 := muli main_arg0 main_v0
  let main_v2 : IVec S32768 32 := addi main_v1 main_arg1
  let main_v3 : IVec S32768 32 := iotaInDim S32768 32 0
  let main_v4 : IVec S32 32 := iotaInDim S32 32 0
  let main_c_0 : IVec S_ 32 := constantI S_ 32 0#32
  let main_v5 : IVec S32768 32 := broadcastInDim S32768 ![] bcast_S_S32768 main_c_0
  let main_v6 : IVec S32768 1 := cmpi .sge main_arg0 main_v5
  let main_c_1 : IVec S_ 32 := constantI S_ 32 5120#32
  let main_v7 : IVec S32768 32 := broadcastInDim S32768 ![] bcast_S_S32768 main_c_1
  let main_v8 : IVec S32768 1 := cmpi .slt main_arg0 main_v7
  let main_v9 : IVec S32768 1 := andi main_v6 main_v8
  let main_c_2 : IVec S_ 1 := constantI S_ 1 1#1
  let main_v10 : IVec S_ 1 := (fun x v => Host.reduce IntOp.andi x v reducesTo_S32768_S_d0 h_S_) main_v9 main_c_2
  let main_c_3 : IVec S_ 32 := constantI S_ 32 0#32
  let main_v11 : IVec S32768 32 := broadcastInDim S32768 ![] bcast_S_S32768 main_c_3
  let main_v12 : IVec S32768 1 := cmpi .sge main_arg1 main_v11
  let main_c_4 : IVec S_ 32 := constantI S_ 32 8#32
  let main_v13 : IVec S32768 32 := broadcastInDim S32768 ![] bcast_S_S32768 main_c_4
  let main_v14 : IVec S32768 1 := cmpi .slt main_arg1 main_v13
  let main_v15 : IVec S32768 1 := andi main_v12 main_v14
  let main_c_5 : IVec S_ 1 := constantI S_ 1 1#1
  let main_v16 : IVec S_ 1 := (fun x v => Host.reduce IntOp.andi x v reducesTo_S32768_S_d0 h_S_) main_v15 main_c_5
  fn_part1 (F := F) main_arg2 main_arg3 main_v2 main_v3 main_v4 main_v10 main_v16
-- ==== Pre_routed.lean ====
abbrev S160 : Shape := ⟨1, ![160]⟩
abbrev S1 : Shape := ⟨1, ![1]⟩
abbrev S40960x1024 : Shape := ⟨2, ![40960, 1024]⟩
abbrev S32x1024x512 : Shape := ⟨3, ![32, 1024, 512]⟩
abbrev S32x256x1024 : Shape := ⟨3, ![32, 256, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S160 32) (main_arg1 : IVec S1 32) (main_arg2 : FVec F S40960x1024 .f32) (main_arg3 : FVec F S32x1024x512 .f32) (main_arg4 : FVec F S32x256x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 160#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S32768 : Shape := ⟨1, ![32768]⟩
abbrev S32 : Shape := ⟨1, ![32]⟩
abbrev S1 : Shape := ⟨1, ![1]⟩
abbrev S16384x1024 : Shape := ⟨2, ![16384, 1024]⟩
abbrev S2048x8x8x128 : Shape := ⟨4, ![2048, 8, 8, 128]⟩
abbrev S5120x8x8x128 : Shape := ⟨4, ![5120, 8, 8, 128]⟩
abbrev S256x8x8x128 : Shape := ⟨4, ![256, 8, 8, 128]⟩
abbrev S32x8x8x128 : Shape := ⟨4, ![32, 8, 8, 128]⟩
abbrev S_ : Shape := ⟨0, ![]⟩
abbrev S1x8x1x128 : Shape := ⟨4, ![1, 8, 1, 128]⟩
abbrev S8x128 : Shape := ⟨2, ![8, 128]⟩

abbrev nBuf : Space → Nat
  | .hbm => 4
  | .vmem => 3
  | .smem => 4
  | _ => 0

abbrev bufTy : (tb : Table) → Fin (tcTables nBuf tb) → BufTy
  | .hbm, ⟨0, _⟩ => ⟨S16384x1024, .f32⟩
  | .hbm, ⟨1, _⟩ => ⟨S2048x8x8x128, .f32⟩
  | .hbm, ⟨2, _⟩ => ⟨S2048x8x8x128, .f32⟩
  | .hbm, ⟨3, _⟩ => ⟨S5120x8x8x128, .f32⟩
  | .local _ .vmem, ⟨0, _⟩ => ⟨S256x8x8x128, .f32⟩
  | .local _ .vmem, ⟨1, _⟩ => ⟨S256x8x8x128, .f32⟩
  | .local _ .vmem, ⟨2, _⟩ => ⟨S32x8x8x128, .f32⟩
  | .local _ .smem, ⟨0, _⟩ => ⟨S32768, .i32⟩
  | .local _ .smem, ⟨1, _⟩ => ⟨S32768, .i32⟩
  | .local _ .smem, ⟨2, _⟩ => ⟨S32, .i32⟩
  | .local _ .smem, ⟨3, _⟩ => ⟨S1, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg4 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond2 (v10 : BitVec 32) : BitVec 1 :=
  let c0_i32_10 : BitVec 32 := 0#32
  let v11 : BitVec 1 := Scalar.cmpi .sge v10 c0_i32_10
  let v12 : BitVec 32 := Scalar.extui v11
  let c0_i32_11 : BitVec 32 := 0#32
  let v13 : BitVec 1 := Scalar.cmpi .ne v12 c0_i32_11
  v13

def k0_chk1 (i : grid0.Coords) (v10 : BitVec 32) (v278 : BitVec 32) : Prop :=
  (∀ (k0_h1 : k0_cond1 i = 1#1), ∀ (k0_h2 : k0_cond2 v10 = 1#1), ∀ a, (k0_off1 v278) a + S32x8x8x128.size a ≤ S5120x8x8x128.size a)
theorem k0_off1_inb : ∀ (i : grid0.Coords) (v10 : BitVec 32) (v278 : BitVec 32) (k0_hw1 : k0_chk1 i v10 v278), ∀ (k0_h1 : k0_cond1 i = 1#1), ∀ (k0_h2 : k0_cond2 v10 = 1#1), ∀ a, (k0_off1 v278) a + S32x8x8x128.size a ≤ S5120x8x8x128.size a := fun i v10 v278 k0_hw1 k0_h1 k0_h2 => k0_hw1 k0_h1 k0_h2

def k0_off2 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond3 (v14 : BitVec 32) : BitVec 1 :=
  let c0_i32_12 : BitVec 32 := 0#32
  let v15 : BitVec 1 := Scalar.cmpi .sge v14 c0_i32_12
  let v16 : BitVec 32 := Scalar.extui v15
  let c0_i32_13 : BitVec 32 := 0#32
  let v17 : BitVec 1 := Scalar.cmpi .ne v16 c0_i32_13
  v17

def k0_chk2 (i : grid0.Coords) (v14 : BitVec 32) (v278 : BitVec 32) : Prop :=
  (∀ (k0_h1 : k0_cond1 i = 1#1), ∀ (k0_h3 : k0_cond3 v14 = 1#1), ∀ a, (k0_off2 v278) a + S32x8x8x128.size a ≤ S5120x8x8x128.size a)
theorem k0_off2_inb : ∀ (i : grid0.Coords) (v14 : BitVec 32) (v278 : BitVec 32) (k0_hw2 : k0_chk2 i v14 v278), ∀ (k0_h1 : k0_cond1 i = 1#1), ∀ (k0_h3 : k0_cond3 v14 = 1#1), ∀ a, (k0_off2 v278) a + S32x8x8x128.size a ≤ S5120x8x8x128.size a := fun i v14 v278 k0_hw2 k0_h1 k0_h3 => k0_hw2 k0_h1 k0_h3

def k0_off3 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond4 (v18 : BitVec 32) : BitVec 1 :=
  let c0_i32_14 : BitVec 32 := 0#32
  let v19 : BitVec 1 := Scalar.cmpi .sge v18 c0_i32_14
  let v20 : BitVec 32 := Scalar.extui v19
  let c0_i32_15 : BitVec 32 := 0#32
  let v21 : BitVec 1 := Scalar.cmpi .ne v20 c0_i32_15
  v21

def k0_chk3 (i : grid0.Coords) (v18 : BitVec 32) (v278 : BitVec 32) : Prop :=
  (∀ (k0_h1 : k0_cond1 i = 1#1), ∀ (k0_h4 : k0_cond4 v18 = 1#1), ∀ a, (k0_off3 v278) a + S32x8x8x128.size a ≤ S5120x8x8x128.size a)
theorem k0_off3_inb : ∀ (i : grid0.Coords) (v18 : BitVec 32) (v278 : BitVec 32) (k0_hw3 : k0_chk3 i v18 v278), ∀ (k0_h1 : k0_cond1 i = 1#1), ∀ (k0_h4 : k0_cond4 v18 = 1#1), ∀ a, (k0_off3 v278) a + S32x8x8x128.size a ≤ S5120x8x8x128.size a := fun i v18 v278 k0_hw3 k0_h1 k0_h4 => k0_hw3 k0_h1 k0_h4

def k0_off4 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond5 (v22 : BitVec 32) : BitVec 1 :=
  let c0_i32_16 : BitVec 32 := 0#32
  let v23 : BitVec 1 := Scalar.cmpi .sge v22 c0_i32_16
  let v24 : BitVec 32 := Scalar.extui v23
  let c0_i32_17 : BitVec 32 := 0#32
  let v25 : BitVec 1 := Scalar.cmpi .ne v24 c0_i32_17
  v25

def k0_chk4 (i : grid0.Coords) (v22 : BitVec 32) (v278 : BitVec 32) : Prop :=
  (∀ (k0_h1 : k0_cond1 i = 1#1), ∀ (k0_h5 : k0_cond5 v22 = 1#1), ∀ a, (k0_off4 v278) a + S32x8x8x128.size a ≤ S5120x8x8x128.size a)
theorem k0_off4_inb : ∀ (i : grid0.Coords) (v22 : BitVec 32) (v278 : BitVec 32) (k0_hw4 : k0_chk4 i v22 v278), ∀ (k0_h1 : k0_cond1 i = 1#1), ∀ (k0_h5 : k0_cond5 v22 = 1#1), ∀ a, (k0_off4 v278) a + S32x8x8x128.size a ≤ S5120x8x8x128.size a := fun i v22 v278 k0_hw4 k0_h1 k0_h5 => k0_hw4 k0_h1 k0_h5

def k0_off5 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond6 (v26 : BitVec 32) : BitVec 1 :=
  let c0_i32_18 : BitVec 32 := 0#32
  let v27 : BitVec 1 := Scalar.cmpi .sge v26 c0_i32_18
  let v28 : BitVec 32 := Scalar.extui v27
  let c0_i32_19 : BitVec 32 := 0#32
  let v29 : BitVec 1 := Scalar.cmpi .ne v28 c0_i32_19
  v29

def k0_chk5 (i : grid0.Coords) (v26 : BitVec 32) (v278 : BitVec 32) : Prop :=
  (∀ (k0_h1 : k0_cond1 i = 1#1), ∀ (k0_h6 : k0_cond6 v26 = 1#1), ∀ a, (k0_off5 v278) a + S32x8x8x128.size a ≤ S5120x8x8x128.size a)
theorem k0_off5_inb : ∀ (i : grid0.Coords) (v26 : BitVec 32) (v278 : BitVec 32) (k0_hw5 : k0_chk5 i v26 v278), ∀ (k0_h1 : k0_cond1 i = 1#1), ∀ (k0_h6 : k0_cond6 v26 = 1#1), ∀ a, (k0_off5 v278) a + S32x8x8x128.size a ≤ S5120x8x8x128.size a := fun i v26 v278 k0_hw5 k0_h1 k0_h6 => k0_hw5 k0_h1 k0_h6

def k0_off6 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond7 (v30 : BitVec 32) : BitVec 1 :=
  let c0_i32_20 : BitVec 32 := 0#32
  let v31 : BitVec 1 := Scalar.cmpi .sge v30 c0_i32_20
  let v32 : BitVec 32 := Scalar.extui v31
  let c0_i32_21 : BitVec 32 := 0#32
  let v33 : BitVec 1 := Scalar.cmpi .ne v32 c0_i32_21
  v33

def k0_chk6 (i : grid0.Coords) (v30 : BitVec 32) (v278 : BitVec 32) : Prop :=
  (∀ (k0_h1 : k0_cond1 i = 1#1), ∀ (k0_h7 : k0_cond7 v30 = 1#1), ∀ a, (k0_off6 v278) a + S32x8x8x128.size a ≤ S5120x8x8x128.size a)
theorem k0_off6_inb : ∀ (i : grid0.Coords) (v30 : BitVec 32) (v278 : BitVec 32) (k0_hw6 : k0_chk6 i v30 v278), ∀ (k0_h1 : k0_cond1 i = 1#1), ∀ (k0_h7 : k0_cond7 v30 = 1#1), ∀ a, (k0_off6 v278) a + S32x8x8x128.size a ≤ S5120x8x8x128.size a := fun i v30 v278 k0_hw6 k0_h1 k0_h7 => k0_hw6 k0_h1 k0_h7

def k0_off7 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond8 (v34 : BitVec 32) : BitVec 1 :=
  let c0_i32_22 : BitVec 32 := 0#32
  let v35 : BitVec 1 := Scalar.cmpi .sge v34 c0_i32_22
  let v36 : BitVec 32 := Scalar.extui v35
  let c0_i32_23 : BitVec 32 := 0#32
  let v37 : BitVec 1 := Scalar.cmpi .ne v36 c0_i32_23
  v37

def k0_chk7 (i : grid0.Coords) (v34 : BitVec 32) (v278 : BitVec 32) : Prop :=
  (∀ (k0_h1 : k0_cond1 i = 1#1), ∀ (k0_h8 : k0_cond8 v34 = 1#1), ∀ a, (k0_off7 v278) a + S32x8x8x128.size a ≤ S5120x8x8x128.size a)
theorem k0_off7_inb : ∀ (i : grid0.Coords) (v34 : BitVec 32) (v278 : BitVec 32) (k0_hw7 : k0_chk7 i v34 v278), ∀ (k0_h1 : k0_cond1 i = 1#1), ∀ (k0_h8 : k0_cond8 v34 = 1#1), ∀ a, (k0_off7 v278) a + S32x8x8x128.size a ≤ S5120x8x8x128.size a := fun i v34 v278 k0_hw7 k0_h1 k0_h8 => k0_hw7 k0_h1 k0_h8

def k0_off8 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond9 (v38 : BitVec 32) : BitVec 1 :=
  let c0_i32_24 : BitVec 32 := 0#32
  let v39 : BitVec 1 := Scalar.cmpi .sge v38 c0_i32_24
  let v40 : BitVec 32 := Scalar.extui v39
  let c0_i32_25 : BitVec 32 := 0#32
  let v41 : BitVec 1 := Scalar.cmpi .ne v40 c0_i32_25
  v41

def k0_chk8 (i : grid0.Coords) (v38 : BitVec 32) (v278 : BitVec 32) : Prop :=
  (∀ (k0_h1 : k0_cond1 i = 1#1), ∀ (k0_h9 : k0_cond9 v38 = 1#1), ∀ a, (k0_off8 v278) a + S32x8x8x128.size a ≤ S5120x8x8x128.size a)
theorem k0_off8_inb : ∀ (i : grid0.Coords) (v38 : BitVec 32) (v278 : BitVec 32) (k0_hw8 : k0_chk8 i v38 v278), ∀ (k0_h1 : k0_cond1 i = 1#1), ∀ (k0_h9 : k0_cond9 v38 = 1#1), ∀ a, (k0_off8 v278) a + S32x8x8x128.size a ≤ S5120x8x8x128.size a := fun i v38 v278 k0_hw8 k0_h1 k0_h9 => k0_hw8 k0_h1 k0_h9

def k0_off9 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond10 (v42 : BitVec 32) : BitVec 1 :=
  let c0_i32_26 : BitVec 32 := 0#32
  let v43 : BitVec 1 := Scalar.cmpi .sge v42 c0_i32_26
  let v44 : BitVec 32 := Scalar.extui v43
  let c0_i32_27 : BitVec 32 := 0#32
  let v45 : BitVec 1 := Scalar.cmpi .ne v44 c0_i32_27
  v45

def k0_chk9 (i : grid0.Coords) (v42 : BitVec 32) (v278 : BitVec 32) : Prop :=
  (∀ (k0_h1 : k0_cond1 i = 1#1), ∀ (k0_h10 : k0_cond10 v42 = 1#1), ∀ a, (k0_off9 v278) a + S32x8x8x128.size a ≤ S5120x8x8x128.size a)
theorem k0_off9_inb : ∀ (i : grid0.Coords) (v42 : BitVec 32) (v278 : BitVec 32) (k0_hw9 : k0_chk9 i v42 v278), ∀ (k0_h1 : k0_cond1 i = 1#1), ∀ (k0_h10 : k0_cond10 v42 = 1#1), ∀ a, (k0_off9 v278) a + S32x8x8x128.size a ≤ S5120x8x8x128.size a := fun i v42 v278 k0_hw9 k0_h1 k0_h10 => k0_hw9 k0_h1 k0_h10

def k0_off10 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond11 (v46 : BitVec 32) : BitVec 1 :=
  let c0_i32_28 : BitVec 32 := 0#32
  let v47 : BitVec 1 := Scalar.cmpi .sge v46 c0_i32_28
  let v48 : BitVec 32 := Scalar.extui v47
  let c0_i32_29 : BitVec 32 := 0#32
  let v49 : BitVec 1 := Scalar.cmpi .ne v48 c0_i32_29
  v49

def k0_chk10 (i : grid0.Coords) (v46 : BitVec 32) (v278 : BitVec 32) : Prop :=
  (∀ (k0_h1 : k0_cond1 i = 1#1), ∀ (k0_h11 : k0_cond11 v46 = 1#1), ∀ a, (k0_off10 v278) a + S32x8x8x128.size a ≤ S5120x8x8x128.size a)
theorem k0_off10_inb : ∀ (i : grid0.Coords) (v46 : BitVec 32) (v278 : BitVec 32) (k0_hw10 : k0_chk10 i v46 v278), ∀ (k0_h1 : k0_cond1 i = 1#1), ∀ (k0_h11 : k0_cond11 v46 = 1#1), ∀ a, (k0_off10 v278) a + S32x8x8x128.size a ≤ S5120x8x8x128.size a := fun i v46 v278 k0_hw10 k0_h1 k0_h11 => k0_hw10 k0_h1 k0_h11

def k0_off11 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond12 (v50 : BitVec 32) : BitVec 1 :=
  let c0_i32_30 : BitVec 32 := 0#32
  let v51 : BitVec 1 := Scalar.cmpi .sge v50 c0_i32_30
  let v52 : BitVec 32 := Scalar.extui v51
  let c0_i32_31 : BitVec 32 := 0#32
  let v53 : BitVec 1 := Scalar.cmpi .ne v52 c0_i32_31
  v53

def k0_chk11 (i : grid0.Coords) (v50 : BitVec 32) (v278 : BitVec 32) : Prop :=
  (∀ (k0_h1 : k0_cond1 i = 1#1), ∀ (k0_h12 : k0_cond12 v50 = 1#1), ∀ a, (k0_off11 v278) a + S32x8x8x128.size a ≤ S5120x8x8x128.size a)
theorem k0_off11_inb : ∀ (i : grid0.Coords) (v50 : BitVec 32) (v278 : BitVec 32) (k0_hw11 : k0_chk11 i v50 v278), ∀ (k0_h1 : k0_cond1 i = 1#1), ∀ (k0_h12 : k0_cond12 v50 = 1#1), ∀ a, (k0_off11 v278) a + S32x8x8x128.size a ≤ S5120x8x8x128.size a := fun i v50 v278 k0_hw11 k0_h1 k0_h12 => k0_hw11 k0_h1 k0_h12

def k0_off12 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond13 (v54 : BitVec 32) : BitVec 1 :=
  let c0_i32_32 : BitVec 32 := 0#32
  let v55 : BitVec 1 := Scalar.cmpi .sge v54 c0_i32_32
  let v56 : BitVec 32 := Scalar.extui v55
  let c0_i32_33 : BitVec 32 := 0#32
  let v57 : BitVec 1 := Scalar.cmpi .ne v56 c0_i32_33
  v57

def k0_chk12 (i : grid0.Coords) (v54 : BitVec 32) (v278 : BitVec 32) : Prop :=
  (∀ (k0_h1 : k0_cond1 i = 1#1), ∀ (k0_h13 : k0_cond13 v54 = 1#1), ∀ a, (k0_off12 v278) a + S32x8x8x128.size a ≤ S5120x8x8x128.size a)
theorem k0_off12_inb : ∀ (i : grid0.Coords) (v54 : BitVec 32) (v278 : BitVec 32) (k0_hw12 : k0_chk12 i v54 v278), ∀ (k0_h1 : k0_cond1 i = 1#1), ∀ (k0_h13 : k0_cond13 v54 = 1#1), ∀ a, (k0_off12 v278) a + S32x8x8x128.size a ≤ S5120x8x8x128.size a := fun i v54 v278 k0_hw12 k0_h1 k0_h13 => k0_hw12 k0_h1 k0_h13

def k0_off13 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond14 (v58 : BitVec 32) : BitVec 1 :=
  let c0_i32_34 : BitVec 32 := 0#32
  let v59 : BitVec 1 := Scalar.cmpi .sge v58 c0_i32_34
  let v60 : BitVec 32 := Scalar.extui v59
  let c0_i32_35 : BitVec 32 := 0#32
  let v61 : BitVec 1 := Scalar.cmpi .ne v60 c0_i32_35
  v61

def k0_chk13 (i : grid0.Coords) (v58 : BitVec 32) (v278 : BitVec 32) : Prop :=
  (∀ (k0_h1 : k0_cond1 i = 1#1), ∀ (k0_h14 : k0_cond14 v58 = 1#1), ∀ a, (k0_off13 v278) a + S32x8x8x128.size a ≤ S5120x8x8x128.size a)
theorem k0_off13_inb : ∀ (i : grid0.Coords) (v58 : BitVec 32) (v278 : BitVec 32) (k0_hw13 : k0_chk13 i v58 v278), ∀ (k0_h1 : k0_cond1 i = 1#1), ∀ (k0_h14 : k0_cond14 v58 = 1#1), ∀ a, (k0_off13 v278) a + S32x8x8x128.size a ≤ S5120x8x8x128.size a := fun i v58 v278 k0_hw13 k0_h1 k0_h14 => k0_hw13 k0_h1 k0_h14

def k0_off14 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond15 (v62 : BitVec 32) : BitVec 1 :=
  let c0_i32_36 : BitVec 32 := 0#32
  let v63 : BitVec 1 := Scalar.cmpi .sge v62 c0_i32_36
  let v64 : BitVec 32 := Scalar.extui v63
  let c0_i32_37 : BitVec 32 := 0#32
  let v65 : BitVec 1 := Scalar.cmpi .ne v64 c0_i32_37
  v65

def k0_chk14 (i : grid0.Coords) (v62 : BitVec 32) (v278 : BitVec 32) : Prop :=
  (∀ (k0_h1 : k0_cond1 i = 1#1), ∀ (k0_h15 : k0_cond15 v62 = 1#1), ∀ a, (k0_off14 v278) a + S32x8x8x128.size a ≤ S5120x8x8x128.size a)
theorem k0_off14_inb : ∀ (i : grid0.Coords) (v62 : BitVec 32) (v278 : BitVec 32) (k0_hw14 : k0_chk14 i v62 v278), ∀ (k0_h1 : k0_cond1 i = 1#1), ∀ (k0_h15 : k0_cond15 v62 = 1#1), ∀ a, (k0_off14 v278) a + S32x8x8x128.size a ≤ S5120x8x8x128.size a := fun i v62 v278 k0_hw14 k0_h1 k0_h15 => k0_hw14 k0_h1 k0_h15

def k0_off15 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond16 (v66 : BitVec 32) : BitVec 1 :=
  let c0_i32_38 : BitVec 32 := 0#32
  let v67 : BitVec 1 := Scalar.cmpi .sge v66 c0_i32_38
  let v68 : BitVec 32 := Scalar.extui v67
  let c0_i32_39 : BitVec 32 := 0#32
  let v69 : BitVec 1 := Scalar.cmpi .ne v68 c0_i32_39
  v69

def k0_chk15 (i : grid0.Coords) (v66 : BitVec 32) (v278 : BitVec 32) : Prop :=
  (∀ (k0_h1 : k0_cond1 i = 1#1), ∀ (k0_h16 : k0_cond16 v66 = 1#1), ∀ a, (k0_off15 v278) a + S32x8x8x128.size a ≤ S5120x8x8x128.size a)
theorem k0_off15_inb : ∀ (i : grid0.Coords) (v66 : BitVec 32) (v278 : BitVec 32) (k0_hw15 : k0_chk15 i v66 v278), ∀ (k0_h1 : k0_cond1 i = 1#1), ∀ (k0_h16 : k0_cond16 v66 = 1#1), ∀ a, (k0_off15 v278) a + S32x8x8x128.size a ≤ S5120x8x8x128.size a := fun i v66 v278 k0_hw15 k0_h1 k0_h16 => k0_hw15 k0_h1 k0_h16

def k0_off16 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond17 (v70 : BitVec 32) : BitVec 1 :=
  let c0_i32_40 : BitVec 32 := 0#32
  let v71 : BitVec 1 := Scalar.cmpi .sge v70 c0_i32_40
  let v72 : BitVec 32 := Scalar.extui v71
  let c0_i32_41 : BitVec 32 := 0#32
  let v73 : BitVec 1 := Scalar.cmpi .ne v72 c0_i32_41
  v73

def k0_chk16 (i : grid0.Coords) (v70 : BitVec 32) (v278 : BitVec 32) : Prop :=
  (∀ (k0_h1 : k0_cond1 i = 1#1), ∀ (k0_h17 : k0_cond17 v70 = 1#1), ∀ a, (k0_off16 v278) a + S32x8x8x128.size a ≤ S5120x8x8x128.size a)
theorem k0_off16_inb : ∀ (i : grid0.Coords) (v70 : BitVec 32) (v278 : BitVec 32) (k0_hw16 : k0_chk16 i v70 v278), ∀ (k0_h1 : k0_cond1 i = 1#1), ∀ (k0_h17 : k0_cond17 v70 = 1#1), ∀ a, (k0_off16 v278) a + S32x8x8x128.size a ≤ S5120x8x8x128.size a := fun i v70 v278 k0_hw16 k0_h1 k0_h17 => k0_hw16 k0_h1 k0_h17

def k0_off17 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond18 (v74 : BitVec 32) : BitVec 1 :=
  let c0_i32_42 : BitVec 32 := 0#32
  let v75 : BitVec 1 := Scalar.cmpi .sge v74 c0_i32_42
  let v76 : BitVec 32 := Scalar.extui v75
  let c0_i32_43 : BitVec 32 := 0#32
  let v77 : BitVec 1 := Scalar.cmpi .ne v76 c0_i32_43
  v77

def k0_chk17 (i : grid0.Coords) (v74 : BitVec 32) (v278 : BitVec 32) : Prop :=
  (∀ (k0_h1 : k0_cond1 i = 1#1), ∀ (k0_h18 : k0_cond18 v74 = 1#1), ∀ a, (k0_off17 v278) a + S32x8x8x128.size a ≤ S5120x8x8x128.size a)
theorem k0_off17_inb : ∀ (i : grid0.Coords) (v74 : BitVec 32) (v278 : BitVec 32) (k0_hw17 : k0_chk17 i v74 v278), ∀ (k0_h1 : k0_cond1 i = 1#1), ∀ (k0_h18 : k0_cond18 v74 = 1#1), ∀ a, (k0_off17 v278) a + S32x8x8x128.size a ≤ S5120x8x8x128.size a := fun i v74 v278 k0_hw17 k0_h1 k0_h18 => k0_hw17 k0_h1 k0_h18

def k0_off18 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond19 (v78 : BitVec 32) : BitVec 1 :=
  let c0_i32_44 : BitVec 32 := 0#32
  let v79 : BitVec 1 := Scalar.cmpi .sge v78 c0_i32_44
  let v80 : BitVec 32 := Scalar.extui v79
  let c0_i32_45 : BitVec 32 := 0#32
  let v81 : BitVec 1 := Scalar.cmpi .ne v80 c0_i32_45
  v81

def k0_chk18 (i : grid0.Coords) (v78 : BitVec 32) (v278 : BitVec 32) : Prop :=
  (∀ (k0_h1 : k0_cond1 i = 1#1), ∀ (k0_h19 : k0_cond19 v78 = 1#1), ∀ a, (k0_off18 v278) a + S32x8x8x128.size a ≤ S5120x8x8x128.size a)
theorem k0_off18_inb : ∀ (i : grid0.Coords) (v78 : BitVec 32) (v278 : BitVec 32) (k0_hw18 : k0_chk18 i v78 v278), ∀ (k0_h1 : k0_cond1 i = 1#1), ∀ (k0_h19 : k0_cond19 v78 = 1#1), ∀ a, (k0_off18 v278) a + S32x8x8x128.size a ≤ S5120x8x8x128.size a := fun i v78 v278 k0_hw18 k0_h1 k0_h19 => k0_hw18 k0_h1 k0_h19

def k0_off19 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond20 (v82 : BitVec 32) : BitVec 1 :=
  let c0_i32_46 : BitVec 32 := 0#32
  let v83 : BitVec 1 := Scalar.cmpi .sge v82 c0_i32_46
  let v84 : BitVec 32 := Scalar.extui v83
  let c0_i32_47 : BitVec 32 := 0#32
  let v85 : BitVec 1 := Scalar.cmpi .ne v84 c0_i32_47
  v85

def k0_chk19 (i : grid0.Coords) (v82 : BitVec 32) (v278 : BitVec 32) : Prop :=
  (∀ (k0_h1 : k0_cond1 i = 1#1), ∀ (k0_h20 : k0_cond20 v82 = 1#1), ∀ a, (k0_off19 v278) a + S32x8x8x128.size a ≤ S5120x8x8x128.size a)
theorem k0_off19_inb : ∀ (i : grid0.Coords) (v82 : BitVec 32) (v278 : BitVec 32) (k0_hw19 : k0_chk19 i v82 v278), ∀ (k0_h1 : k0_cond1 i = 1#1), ∀ (k0_h20 : k0_cond20 v82 = 1#1), ∀ a, (k0_off19 v278) a + S32x8x8x128.size a ≤ S5120x8x8x128.size a := fun i v82 v278 k0_hw19 k0_h1 k0_h20 => k0_hw19 k0_h1 k0_h20

def k0_off20 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond21 (v86 : BitVec 32) : BitVec 1 :=
  let c0_i32_48 : BitVec 32 := 0#32
  let v87 : BitVec 1 := Scalar.cmpi .sge v86 c0_i32_48
  let v88 : BitVec 32 := Scalar.extui v87
  let c0_i32_49 : BitVec 32 := 0#32
  let v89 : BitVec 1 := Scalar.cmpi .ne v88 c0_i32_49
  v89

def k0_chk20 (i : grid0.Coords) (v86 : BitVec 32) (v278 : BitVec 32) : Prop :=
  (∀ (k0_h1 : k0_cond1 i = 1#1), ∀ (k0_h21 : k0_cond21 v86 = 1#1), ∀ a, (k0_off20 v278) a + S32x8x8x128.size a ≤ S5120x8x8x128.size a)
theorem k0_off20_inb : ∀ (i : grid0.Coords) (v86 : BitVec 32) (v278 : BitVec 32) (k0_hw20 : k0_chk20 i v86 v278), ∀ (k0_h1 : k0_cond1 i = 1#1), ∀ (k0_h21 : k0_cond21 v86 = 1#1), ∀ a, (k0_off20 v278) a + S32x8x8x128.size a ≤ S5120x8x8x128.size a := fun i v86 v278 k0_hw20 k0_h1 k0_h21 => k0_hw20 k0_h1 k0_h21

def k0_off21 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond22 (v90 : BitVec 32) : BitVec 1 :=
  let c0_i32_50 : BitVec 32 := 0#32
  let v91 : BitVec 1 := Scalar.cmpi .sge v90 c0_i32_50
  let v92 : BitVec 32 := Scalar.extui v91
  let c0_i32_51 : BitVec 32 := 0#32
  let v93 : BitVec 1 := Scalar.cmpi .ne v92 c0_i32_51
  v93

def k0_chk21 (i : grid0.Coords) (v90 : BitVec 32) (v278 : BitVec 32) : Prop :=
  (∀ (k0_h1 : k0_cond1 i = 1#1), ∀ (k0_h22 : k0_cond22 v90 = 1#1), ∀ a, (k0_off21 v278) a + S32x8x8x128.size a ≤ S5120x8x8x128.size a)
theorem k0_off21_inb : ∀ (i : grid0.Coords) (v90 : BitVec 32) (v278 : BitVec 32) (k0_hw21 : k0_chk21 i v90 v278), ∀ (k0_h1 : k0_cond1 i = 1#1), ∀ (k0_h22 : k0_cond22 v90 = 1#1), ∀ a, (k0_off21 v278) a + S32x8x8x128.size a ≤ S5120x8x8x128.size a := fun i v90 v278 k0_hw21 k0_h1 k0_h22 => k0_hw21 k0_h1 k0_h22

def k0_off22 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond23 (v94 : BitVec 32) : BitVec 1 :=
  let c0_i32_52 : BitVec 32 := 0#32
  let v95 : BitVec 1 := Scalar.cmpi .sge v94 c0_i32_52
  let v96 : BitVec 32 := Scalar.extui v95
  let c0_i32_53 : BitVec 32 := 0#32
  let v97 : BitVec 1 := Scalar.cmpi .ne v96 c0_i32_53
  v97

def k0_chk22 (i : grid0.Coords) (v94 : BitVec 32) (v278 : BitVec 32) : Prop :=
  (∀ (k0_h1 : k0_cond1 i = 1#1), ∀ (k0_h23 : k0_cond23 v94 = 1#1), ∀ a, (k0_off22 v278) a + S32x8x8x128.size a ≤ S5120x8x8x128.size a)
theorem k0_off22_inb : ∀ (i : grid0.Coords) (v94 : BitVec 32) (v278 : BitVec 32) (k0_hw22 : k0_chk22 i v94 v278), ∀ (k0_h1 : k0_cond1 i = 1#1), ∀ (k0_h23 : k0_cond23 v94 = 1#1), ∀ a, (k0_off22 v278) a + S32x8x8x128.size a ≤ S5120x8x8x128.size a := fun i v94 v278 k0_hw22 k0_h1 k0_h23 => k0_hw22 k0_h1 k0_h23

def k0_off23 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond24 (v98 : BitVec 32) : BitVec 1 :=
  let c0_i32_54 : BitVec 32 := 0#32
  let v99 : BitVec 1 := Scalar.cmpi .sge v98 c0_i32_54
  let v100 : BitVec 32 := Scalar.extui v99
  let c0_i32_55 : BitVec 32 := 0#32
  let v101 : BitVec 1 := Scalar.cmpi .ne v100 c0_i32_55
  v101

def k0_chk23 (i : grid0.Coords) (v98 : BitVec 32) (v278 : BitVec 32) : Prop :=
  (∀ (k0_h1 : k0_cond1 i = 1#1), ∀ (k0_h24 : k0_cond24 v98 = 1#1), ∀ a, (k0_off23 v278) a + S32x8x8x128.size a ≤ S5120x8x8x128.size a)
theorem k0_off23_inb : ∀ (i : grid0.Coords) (v98 : BitVec 32) (v278 : BitVec 32) (k0_hw23 : k0_chk23 i v98 v278), ∀ (k0_h1 : k0_cond1 i = 1#1), ∀ (k0_h24 : k0_cond24 v98 = 1#1), ∀ a, (k0_off23 v278) a + S32x8x8x128.size a ≤ S5120x8x8x128.size a := fun i v98 v278 k0_hw23 k0_h1 k0_h24 => k0_hw23 k0_h1 k0_h24

def k0_off24 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond25 (v102 : BitVec 32) : BitVec 1 :=
  let c0_i32_56 : BitVec 32 := 0#32
  let v103 : BitVec 1 := Scalar.cmpi .sge v102 c0_i32_56
  let v104 : BitVec 32 := Scalar.extui v103
  let c0_i32_57 : BitVec 32 := 0#32
  let v105 : BitVec 1 := Scalar.cmpi .ne v104 c0_i32_57
  v105

def k0_chk24 (i : grid0.Coords) (v102 : BitVec 32) (v278 : BitVec 32) : Prop :=
  (∀ (k0_h1 : k0_cond1 i = 1#1), ∀ (k0_h25 : k0_cond25 v102 = 1#1), ∀ a, (k0_off24 v278) a + S32x8x8x128.size a ≤ S5120x8x8x128.size a)
theorem k0_off24_inb : ∀ (i : grid0.Coords) (v102 : BitVec 32) (v278 : BitVec 32) (k0_hw24 : k0_chk24 i v102 v278), ∀ (k0_h1 : k0_cond1 i = 1#1), ∀ (k0_h25 : k0_cond25 v102 = 1#1), ∀ a, (k0_off24 v278) a + S32x8x8x128.size a ≤ S5120x8x8x128.size a := fun i v102 v278 k0_hw24 k0_h1 k0_h25 => k0_hw24 k0_h1 k0_h25

def k0_off25 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond26 (v106 : BitVec 32) : BitVec 1 :=
  let c0_i32_58 : BitVec 32 := 0#32
  let v107 : BitVec 1 := Scalar.cmpi .sge v106 c0_i32_58
  let v108 : BitVec 32 := Scalar.extui v107
  let c0_i32_59 : BitVec 32 := 0#32
  let v109 : BitVec 1 := Scalar.cmpi .ne v108 c0_i32_59
  v109

def k0_chk25 (i : grid0.Coords) (v106 : BitVec 32) (v278 : BitVec 32) : Prop :=
  (∀ (k0_h1 : k0_cond1 i = 1#1), ∀ (k0_h26 : k0_cond26 v106 = 1#1), ∀ a, (k0_off25 v278) a + S32x8x8x128.size a ≤ S5120x8x8x128.size a)
theorem k0_off25_inb : ∀ (i : grid0.Coords) (v106 : BitVec 32) (v278 : BitVec 32) (k0_hw25 : k0_chk25 i v106 v278), ∀ (k0_h1 : k0_cond1 i = 1#1), ∀ (k0_h26 : k0_cond26 v106 = 1#1), ∀ a, (k0_off25 v278) a + S32x8x8x128.size a ≤ S5120x8x8x128.size a := fun i v106 v278 k0_hw25 k0_h1 k0_h26 => k0_hw25 k0_h1 k0_h26

def k0_off26 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond27 (v110 : BitVec 32) : BitVec 1 :=
  let c0_i32_60 : BitVec 32 := 0#32
  let v111 : BitVec 1 := Scalar.cmpi .sge v110 c0_i32_60
  let v112 : BitVec 32 := Scalar.extui v111
  let c0_i32_61 : BitVec 32 := 0#32
  let v113 : BitVec 1 := Scalar.cmpi .ne v112 c0_i32_61
  v113

def k0_chk26 (i : grid0.Coords) (v110 : BitVec 32) (v278 : BitVec 32) : Prop :=
  (∀ (k0_h1 : k0_cond1 i = 1#1), ∀ (k0_h27 : k0_cond27 v110 = 1#1), ∀ a, (k0_off26 v278) a + S32x8x8x128.size a ≤ S5120x8x8x128.size a)
theorem k0_off26_inb : ∀ (i : grid0.Coords) (v110 : BitVec 32) (v278 : BitVec 32) (k0_hw26 : k0_chk26 i v110 v278), ∀ (k0_h1 : k0_cond1 i = 1#1), ∀ (k0_h27 : k0_cond27 v110 = 1#1), ∀ a, (k0_off26 v278) a + S32x8x8x128.size a ≤ S5120x8x8x128.size a := fun i v110 v278 k0_hw26 k0_h1 k0_h27 => k0_hw26 k0_h1 k0_h27

def k0_off27 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond28 (v114 : BitVec 32) : BitVec 1 :=
  let c0_i32_62 : BitVec 32 := 0#32
  let v115 : BitVec 1 := Scalar.cmpi .sge v114 c0_i32_62
  let v116 : BitVec 32 := Scalar.extui v115
  let c0_i32_63 : BitVec 32 := 0#32
  let v117 : BitVec 1 := Scalar.cmpi .ne v116 c0_i32_63
  v117

def k0_chk27 (i : grid0.Coords) (v114 : BitVec 32) (v278 : BitVec 32) : Prop :=
  (∀ (k0_h1 : k0_cond1 i = 1#1), ∀ (k0_h28 : k0_cond28 v114 = 1#1), ∀ a, (k0_off27 v278) a + S32x8x8x128.size a ≤ S5120x8x8x128.size a)
theorem k0_off27_inb : ∀ (i : grid0.Coords) (v114 : BitVec 32) (v278 : BitVec 32) (k0_hw27 : k0_chk27 i v114 v278), ∀ (k0_h1 : k0_cond1 i = 1#1), ∀ (k0_h28 : k0_cond28 v114 = 1#1), ∀ a, (k0_off27 v278) a + S32x8x8x128.size a ≤ S5120x8x8x128.size a := fun i v114 v278 k0_hw27 k0_h1 k0_h28 => k0_hw27 k0_h1 k0_h28

def k0_off28 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond29 (v118 : BitVec 32) : BitVec 1 :=
  let c0_i32_64 : BitVec 32 := 0#32
  let v119 : BitVec 1 := Scalar.cmpi .sge v118 c0_i32_64
  let v120 : BitVec 32 := Scalar.extui v119
  let c0_i32_65 : BitVec 32 := 0#32
  let v121 : BitVec 1 := Scalar.cmpi .ne v120 c0_i32_65
  v121

def k0_chk28 (i : grid0.Coords) (v118 : BitVec 32) (v278 : BitVec 32) : Prop :=
  (∀ (k0_h1 : k0_cond1 i = 1#1), ∀ (k0_h29 : k0_cond29 v118 = 1#1), ∀ a, (k0_off28 v278) a + S32x8x8x128.size a ≤ S5120x8x8x128.size a)
theorem k0_off28_inb : ∀ (i : grid0.Coords) (v118 : BitVec 32) (v278 : BitVec 32) (k0_hw28 : k0_chk28 i v118 v278), ∀ (k0_h1 : k0_cond1 i = 1#1), ∀ (k0_h29 : k0_cond29 v118 = 1#1), ∀ a, (k0_off28 v278) a + S32x8x8x128.size a ≤ S5120x8x8x128.size a := fun i v118 v278 k0_hw28 k0_h1 k0_h29 => k0_hw28 k0_h1 k0_h29

def k0_off29 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond30 (v122 : BitVec 32) : BitVec 1 :=
  let c0_i32_66 : BitVec 32 := 0#32
  let v123 : BitVec 1 := Scalar.cmpi .sge v122 c0_i32_66
  let v124 : BitVec 32 := Scalar.extui v123
  let c0_i32_67 : BitVec 32 := 0#32
  let v125 : BitVec 1 := Scalar.cmpi .ne v124 c0_i32_67
  v125

def k0_chk29 (i : grid0.Coords) (v122 : BitVec 32) (v278 : BitVec 32) : Prop :=
  (∀ (k0_h1 : k0_cond1 i = 1#1), ∀ (k0_h30 : k0_cond30 v122 = 1#1), ∀ a, (k0_off29 v278) a + S32x8x8x128.size a ≤ S5120x8x8x128.size a)
theorem k0_off29_inb : ∀ (i : grid0.Coords) (v122 : BitVec 32) (v278 : BitVec 32) (k0_hw29 : k0_chk29 i v122 v278), ∀ (k0_h1 : k0_cond1 i = 1#1), ∀ (k0_h30 : k0_cond30 v122 = 1#1), ∀ a, (k0_off29 v278) a + S32x8x8x128.size a ≤ S5120x8x8x128.size a := fun i v122 v278 k0_hw29 k0_h1 k0_h30 => k0_hw29 k0_h1 k0_h30

def k0_off30 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond31 (v126 : BitVec 32) : BitVec 1 :=
  let c0_i32_68 : BitVec 32 := 0#32
  let v127 : BitVec 1 := Scalar.cmpi .sge v126 c0_i32_68
  let v128 : BitVec 32 := Scalar.extui v127
  let c0_i32_69 : BitVec 32 := 0#32
  let v129 : BitVec 1 := Scalar.cmpi .ne v128 c0_i32_69
  v129

def k0_chk30 (i : grid0.Coords) (v126 : BitVec 32) (v278 : BitVec 32) : Prop :=
  (∀ (k0_h1 : k0_cond1 i = 1#1), ∀ (k0_h31 : k0_cond31 v126 = 1#1), ∀ a, (k0_off30 v278) a + S32x8x8x128.size a ≤ S5120x8x8x128.size a)
theorem k0_off30_inb : ∀ (i : grid0.Coords) (v126 : BitVec 32) (v278 : BitVec 32) (k0_hw30 : k0_chk30 i v126 v278), ∀ (k0_h1 : k0_cond1 i = 1#1), ∀ (k0_h31 : k0_cond31 v126 = 1#1), ∀ a, (k0_off30 v278) a + S32x8x8x128.size a ≤ S5120x8x8x128.size a := fun i v126 v278 k0_hw30 k0_h1 k0_h31 => k0_hw30 k0_h1 k0_h31

def k0_off31 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond32 (v130 : BitVec 32) : BitVec 1 :=
  let c0_i32_70 : BitVec 32 := 0#32
  let v131 : BitVec 1 := Scalar.cmpi .sge v130 c0_i32_70
  let v132 : BitVec 32 := Scalar.extui v131
  let c0_i32_71 : BitVec 32 := 0#32
  let v133 : BitVec 1 := Scalar.cmpi .ne v132 c0_i32_71
  v133

def k0_chk31 (i : grid0.Coords) (v130 : BitVec 32) (v278 : BitVec 32) : Prop :=
  (∀ (k0_h1 : k0_cond1 i = 1#1), ∀ (k0_h32 : k0_cond32 v130 = 1#1), ∀ a, (k0_off31 v278) a + S32x8x8x128.size a ≤ S5120x8x8x128.size a)
theorem k0_off31_inb : ∀ (i : grid0.Coords) (v130 : BitVec 32) (v278 : BitVec 32) (k0_hw31 : k0_chk31 i v130 v278), ∀ (k0_h1 : k0_cond1 i = 1#1), ∀ (k0_h32 : k0_cond32 v130 = 1#1), ∀ a, (k0_off31 v278) a + S32x8x8x128.size a ≤ S5120x8x8x128.size a := fun i v130 v278 k0_hw31 k0_h1 k0_h32 => k0_hw31 k0_h1 k0_h32

def k0_off32 (v278 : BitVec 32) : Fin 4 → Nat :=
  let c32_i32 : BitVec 32 := 32#32
  let v279 : BitVec 32 := Scalar.muli v278 c32_i32
  let c0_i32_182 : BitVec 32 := 0#32
  let c0_i32_183 : BitVec 32 := 0#32
  let c0_i32_184 : BitVec 32 := 0#32
  ![v279.toNat, 0, 0, 0]
def k0_cond33 (v134 : BitVec 32) : BitVec 1 :=
  let c0_i32_72 : BitVec 32 := 0#32
  let v135 : BitVec 1 := Scalar.cmpi .sge v134 c0_i32_72
  let v136 : BitVec 32 := Scalar.extui v135
  let c0_i32_73 : BitVec 32 := 0#32
  let v137 : BitVec 1 := Scalar.cmpi .ne v136 c0_i32_73
  v137

def k0_chk32 (i : grid0.Coords) (v134 : BitVec 32) (v278 : BitVec 32) : Prop :=
  (∀ (k0_h1 : k0_cond1 i = 1#1), ∀ (k0_h33 : k0_cond33 v134 = 1#1), ∀ a, (k0_off32 v278) a + S32x8x8x128.size a ≤ S5120x8x8x128.size a)
theorem k0_off32_inb : ∀ (i : grid0.Coords) (v134 : BitVec 32) (v278 : BitVec 32) (k0_hw32 : k0_chk32 i v134 v278), ∀ (k0_h1 : k0_cond1 i = 1#1), ∀ (k0_h33 : k0_cond33 v134 = 1#1), ∀ a, (k0_off32 v278) a + S32x8x8x128.size a ≤ S5120x8x8x128.size a := fun i v134 v278 k0_hw32 k0_h1 k0_h33 => k0_hw32 k0_h1 k0_h33

@[reducible] def k0_t1_loop (v138 : BitVec 32) : Scf.Loop 32 :=
  let c160_i32 : BitVec 32 := 160#32
  let v139 : BitVec 32 := Scalar.subi c160_i32 v138
  let c1_i32_76 : BitVec 32 := 1#32
  let v141 : BitVec 32 := Scalar.divsi v139 c1_i32_76
  let v142 : BitVec 32 := Scalar.muli v141 c1_i32_76
  let v143 : BitVec 32 := Scalar.addi v138 v142
  let c1_i32_77 : BitVec 32 := 1#32
  ⟨v138, v143, c1_i32_77⟩

def k0_off33 (v138 : BitVec 32) (k0_t1 : Fin (k0_t1_loop v138).trips) : Fin 4 → Nat :=
  let c1_i32_77 : BitVec 32 := 1#32
  let arg10 : BitVec 32 := Scf.iv v138 c1_i32_77 k0_t1
  let c32_i32 : BitVec 32 := 32#32
  let v278 : BitVec 32 := Scalar.muli arg10 c32_i32
  let c0_i32_181 : BitVec 32 := 0#32
  let c0_i32_182 : BitVec 32 := 0#32
  let c0_i32_183 : BitVec 32 := 0#32
  ![v278.toNat, 0, 0, 0]
@[reducible] def k0_t2_loop (v138 : BitVec 32) : Scf.Loop 32 :=
  let c160_i32 : BitVec 32 := 160#32
  let v139 : BitVec 32 := Scalar.subi c160_i32 v138
  let c1_i32_76 : BitVec 32 := 1#32
  let v141 : BitVec 32 := Scalar.divsi v139 c1_i32_76
  let v142 : BitVec 32 := Scalar.muli v141 c1_i32_76
  let v143 : BitVec 32 := Scalar.addi v138 v142
  let v140 : BitVec 32 := Scalar.addi v138 v139
  let c1_i32_78 : BitVec 32 := 1#32
  ⟨v143, v140, c1_i32_78⟩
def k0_off34 (v138 : BitVec 32) (k0_t2 : Fin (k0_t2_loop v138).trips) : Fin 4 → Nat :=
  let c160_i32 : BitVec 32 := 160#32
  let v139 : BitVec 32 := Scalar.subi c160_i32 v138
  let c1_i32_76 : BitVec 32 := 1#32
  let v141 : BitVec 32 := Scalar.divsi v139 c1_i32_76
  let v142 : BitVec 32 := Scalar.muli v141 c1_i32_76
  let v143 : BitVec 32 := Scalar.addi v138 v142
  let c1_i32_78 : BitVec 32 := 1#32
  let arg10 : BitVec 32 := Scf.iv v143 c1_i32_78 k0_t2
  let c32_i32 : BitVec 32 := 32#32
  let v278 : BitVec 32 := Scalar.muli arg10 c32_i32
  let c0_i32_181 : BitVec 32 := 0#32
  let c0_i32_182 : BitVec 32 := 0#32
  let c0_i32_183 : BitVec 32 := 0#32
  ![v278.toNat, 0, 0, 0]

def k0_chk33 (i : grid0.Coords) (v138 : BitVec 32) : Prop :=
  (∀ (k0_h1 : k0_cond1 i = 1#1), (k0_t1_loop v138).OK) ∧
  (∀ k0_t1 : Fin (k0_t1_loop v138).trips, ∀ (k0_h1 : k0_cond1 i = 1#1), ∀ a, (k0_off33 v138 k0_t1) a + S32x8x8x128.size a ≤ S5120x8x8x128.size a) ∧
  (∀ (k0_h1 : k0_cond1 i = 1#1), (k0_t2_loop v138).OK) ∧
  (∀ k0_t2 : Fin (k0_t2_loop v138).trips, ∀ (k0_h1 : k0_cond1 i = 1#1), ∀ a, (k0_off34 v138 k0_t2) a + S32x8x8x128.size a ≤ S5120x8x8x128.size a)
theorem k0_t1_ok : ∀ (i : grid0.Coords) (v138 : BitVec 32) (k0_hw33 : k0_chk33 i v138), ∀ (k0_h1 : k0_cond1 i = 1#1), (k0_t1_loop v138).OK := fun i v138 k0_hw33 k0_h1 => k0_hw33.1 k0_h1
theorem k0_off33_inb : ∀ (i : grid0.Coords) (v138 : BitVec 32) (k0_hw33 : k0_chk33 i v138) (k0_t1 : Fin (k0_t1_loop v138).trips), ∀ (k0_h1 : k0_cond1 i = 1#1), ∀ a, (k0_off33 v138 k0_t1) a + S32x8x8x128.size a ≤ S5120x8x8x128.size a := fun i v138 k0_hw33 k0_t1 k0_h1 => k0_hw33.2.1 k0_t1 k0_h1
theorem k0_t2_ok : ∀ (i : grid0.Coords) (v138 : BitVec 32) (k0_hw33 : k0_chk33 i v138), ∀ (k0_h1 : k0_cond1 i = 1#1), (k0_t2_loop v138).OK := fun i v138 k0_hw33 k0_h1 => k0_hw33.2.2.1 k0_h1
theorem k0_off34_inb : ∀ (i : grid0.Coords) (v138 : BitVec 32) (k0_hw33 : k0_chk33 i v138) (k0_t2 : Fin (k0_t2_loop v138).trips), ∀ (k0_h1 : k0_cond1 i = 1#1), ∀ a, (k0_off34 v138 k0_t2) a + S32x8x8x128.size a ≤ S5120x8x8x128.size a := fun i v138 k0_hw33 k0_t2 k0_h1 => k0_hw33.2.2.2 k0_t2 k0_h1

@[reducible] def k0_t3_loop (v272 : BitVec 32) : Scf.Loop 32 :=
  let c160_i32_177 : BitVec 32 := 160#32
  let v273 : BitVec 32 := Scalar.subi c160_i32_177 v272
  let c1_i32_178 : BitVec 32 := 1#32
  let v275 : BitVec 32 := Scalar.divsi v273 c1_i32_178
  let v276 : BitVec 32 := Scalar.muli v275 c1_i32_178
  let v277 : BitVec 32 := Scalar.addi v272 v276
  let c1_i32_179 : BitVec 32 := 1#32
  ⟨v272, v277, c1_i32_179⟩

@[reducible] def k0_t4_loop (v272 : BitVec 32) : Scf.Loop 32 :=
  let c160_i32_177 : BitVec 32 := 160#32
  let v273 : BitVec 32 := Scalar.subi c160_i32_177 v272
  let c1_i32_178 : BitVec 32 := 1#32
  let v275 : BitVec 32 := Scalar.divsi v273 c1_i32_178
  let v276 : BitVec 32 := Scalar.muli v275 c1_i32_178
  let v277 : BitVec 32 := Scalar.addi v272 v276
  let v274 : BitVec 32 := Scalar.addi v272 v273
  let c1_i32_180 : BitVec 32 := 1#32
  ⟨v277, v274, c1_i32_180⟩

def k0_chk34 (i : grid0.Coords) (v272 : BitVec 32) : Prop :=
  (∀ (k0_h1 : k0_cond1 i = 1#1), (k0_t3_loop v272).OK) ∧
  (∀ (k0_h1 : k0_cond1 i = 1#1), (k0_t4_loop v272).OK)
theorem k0_t3_ok : ∀ (i : grid0.Coords) (v272 : BitVec 32) (k0_hw34 : k0_chk34 i v272), ∀ (k0_h1 : k0_cond1 i = 1#1), (k0_t3_loop v272).OK := fun i v272 k0_hw34 k0_h1 => k0_hw34.1 k0_h1
theorem k0_t4_ok : ∀ (i : grid0.Coords) (v272 : BitVec 32) (k0_hw34 : k0_chk34 i v272), ∀ (k0_h1 : k0_cond1 i = 1#1), (k0_t4_loop v272).OK := fun i v272 k0_hw34 k0_h1 => k0_hw34.2 k0_h1

@[reducible] def k0_t5_loop : Scf.Loop 32 :=
  let c0_i32_1 : BitVec 32 := 0#32
  let c256_i32 : BitVec 32 := 256#32
  let v4 : BitVec 32 := Scalar.addi c0_i32_1 c256_i32
  let c1_i32 : BitVec 32 := 1#32
  ⟨c0_i32_1, v4, c1_i32⟩
def k0_off35 (i : grid0.Coords) (k0_t5 : Fin k0_t5_loop.trips) : Fin 1 → Nat :=
  let c0_i32_6 : BitVec 32 := 0#32
  let arg0 : BitVec 32 := BitVec.ofNat 32 (i 0).val
  let c2048_i32 : BitVec 32 := 2048#32
  let v3 : BitVec 32 := Scalar.muli arg0 c2048_i32
  let v6 : BitVec 32 := Scalar.addi c0_i32_6 v3
  let c0_i32_1 : BitVec 32 := 0#32
  let c1_i32 : BitVec 32 := 1#32
  let arg10 : BitVec 32 := Scf.iv c0_i32_1 c1_i32 k0_t5
  let c8_i32 : BitVec 32 := 8#32
  let v7 : BitVec 32 := Scalar.muli arg10 c8_i32
  let v8 : BitVec 32 := Scalar.addi v6 v7
  let c0_i32_7 : BitVec 32 := 0#32
  let v9 : BitVec 32 := Scalar.addi v8 c0_i32_7
  let v10 : Index := Scalar.indexCast v9
  ![v10.toNat]
def k0_off36 (v11 : BitVec 32) (v13 : BitVec 32) : Fin 4 → Nat :=
  let c0_i32_9 : BitVec 32 := 0#32
  let c0_i32_10 : BitVec 32 := 0#32
  ![v11.toNat, 0, v13.toNat, 0]

def k0_chk35 (v11 : BitVec 32) (v13 : BitVec 32) : Prop :=
  (∀ a, (k0_off36 v11 v13) a + S1x8x1x128.size a ≤ S5120x8x8x128.size a)
theorem k0_off36_inb : ∀ (v11 : BitVec 32) (v13 : BitVec 32) (k0_hw35 : k0_chk35 v11 v13), ∀ a, (k0_off36 v11 v13) a + S1x8x1x128.size a ≤ S5120x8x8x128.size a := fun v11 v13 k0_hw35 => k0_hw35

def k0_off37 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_11 : BitVec 32 := 0#32
  let c0_i32_8 : BitVec 32 := 0#32
  let c0_i32_12 : BitVec 32 := 0#32
  ![arg10.toNat, 0, 0, 0]
def k0_off38 (i : grid0.Coords) (k0_t5 : Fin k0_t5_loop.trips) : Fin 1 → Nat :=
  let c16384_i32 : BitVec 32 := 16384#32
  let arg0 : BitVec 32 := BitVec.ofNat 32 (i 0).val
  let c2048_i32 : BitVec 32 := 2048#32
  let v3 : BitVec 32 := Scalar.muli arg0 c2048_i32
  let v18 : BitVec 32 := Scalar.addi c16384_i32 v3
  let c0_i32_1 : BitVec 32 := 0#32
  let c1_i32 : BitVec 32 := 1#32
  let arg10 : BitVec 32 := Scf.iv c0_i32_1 c1_i32 k0_t5
  let c8_i32_13 : BitVec 32 := 8#32
  let v19 : BitVec 32 := Scalar.muli arg10 c8_i32_13
  let v20 : BitVec 32 := Scalar.addi v18 v19
  let c0_i32_14 : BitVec 32 := 0#32
  let v21 : BitVec 32 := Scalar.addi v20 c0_i32_14
  let v22 : Index := Scalar.indexCast v21
  ![v22.toNat]
def k0_off39 (v23 : BitVec 32) (v25 : BitVec 32) : Fin 4 → Nat :=
  let c0_i32_16 : BitVec 32 := 0#32
  let c0_i32_17 : BitVec 32 := 0#32
  ![v23.toNat, 0, v25.toNat, 0]

def k0_chk36 (v23 : BitVec 32) (v25 : BitVec 32) : Prop :=
  (∀ a, (k0_off39 v23 v25) a + S1x8x1x128.size a ≤ S5120x8x8x128.size a)
theorem k0_off39_inb : ∀ (v23 : BitVec 32) (v25 : BitVec 32) (k0_hw36 : k0_chk36 v23 v25), ∀ a, (k0_off39 v23 v25) a + S1x8x1x128.size a ≤ S5120x8x8x128.size a := fun v23 v25 k0_hw36 => k0_hw36

def k0_off40 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_18 : BitVec 32 := 0#32
  let c0_i32_15 : BitVec 32 := 0#32
  let c0_i32_19 : BitVec 32 := 0#32
  ![arg10.toNat, 0, 0, 0]
def k0_off41 (i : grid0.Coords) (k0_t5 : Fin k0_t5_loop.trips) : Fin 1 → Nat :=
  let c0_i32_20 : BitVec 32 := 0#32
  let arg0 : BitVec 32 := BitVec.ofNat 32 (i 0).val
  let c2048_i32 : BitVec 32 := 2048#32
  let v3 : BitVec 32 := Scalar.muli arg0 c2048_i32
  let v30 : BitVec 32 := Scalar.addi c0_i32_20 v3
  let c0_i32_1 : BitVec 32 := 0#32
  let c1_i32 : BitVec 32 := 1#32
  let arg10 : BitVec 32 := Scf.iv c0_i32_1 c1_i32 k0_t5
  let c8_i32_21 : BitVec 32 := 8#32
  let v31 : BitVec 32 := Scalar.muli arg10 c8_i32_21
  let v32 : BitVec 32 := Scalar.addi v30 v31
  let c1_i32_22 : BitVec 32 := 1#32
  let v33 : BitVec 32 := Scalar.addi v32 c1_i32_22
  let v34 : Index := Scalar.indexCast v33
  ![v34.toNat]
def k0_off42 (v35 : BitVec 32) (v37 : BitVec 32) : Fin 4 → Nat :=
  let c0_i32_24 : BitVec 32 := 0#32
  let c0_i32_25 : BitVec 32 := 0#32
  ![v35.toNat, 0, v37.toNat, 0]

def k0_chk37 (v35 : BitVec 32) (v37 : BitVec 32) : Prop :=
  (∀ a, (k0_off42 v35 v37) a + S1x8x1x128.size a ≤ S5120x8x8x128.size a)
theorem k0_off42_inb : ∀ (v35 : BitVec 32) (v37 : BitVec 32) (k0_hw37 : k0_chk37 v35 v37), ∀ a, (k0_off42 v35 v37) a + S1x8x1x128.size a ≤ S5120x8x8x128.size a := fun v35 v37 k0_hw37 => k0_hw37

def k0_off43 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_26 : BitVec 32 := 0#32
  let c1_i32_23 : BitVec 32 := 1#32
  let c0_i32_27 : BitVec 32 := 0#32
  ![arg10.toNat, 0, 1, 0]
def k0_off44 (i : grid0.Coords) (k0_t5 : Fin k0_t5_loop.trips) : Fin 1 → Nat :=
  let c16384_i32_28 : BitVec 32 := 16384#32
  let arg0 : BitVec 32 := BitVec.ofNat 32 (i 0).val
  let c2048_i32 : BitVec 32 := 2048#32
  let v3 : BitVec 32 := Scalar.muli arg0 c2048_i32
  let v42 : BitVec 32 := Scalar.addi c16384_i32_28 v3
  let c0_i32_1 : BitVec 32 := 0#32
  let c1_i32 : BitVec 32 := 1#32
  let arg10 : BitVec 32 := Scf.iv c0_i32_1 c1_i32 k0_t5
  let c8_i32_29 : BitVec 32 := 8#32
  let v43 : BitVec 32 := Scalar.muli arg10 c8_i32_29
  let v44 : BitVec 32 := Scalar.addi v42 v43
  let c1_i32_30 : BitVec 32 := 1#32
  let v45 : BitVec 32 := Scalar.addi v44 c1_i32_30
  let v46 : Index := Scalar.indexCast v45
  ![v46.toNat]
def k0_off45 (v47 : BitVec 32) (v49 : BitVec 32) : Fin 4 → Nat :=
  let c0_i32_32 : BitVec 32 := 0#32
  let c0_i32_33 : BitVec 32 := 0#32
  ![v47.toNat, 0, v49.toNat, 0]

def k0_chk38 (v47 : BitVec 32) (v49 : BitVec 32) : Prop :=
  (∀ a, (k0_off45 v47 v49) a + S1x8x1x128.size a ≤ S5120x8x8x128.size a)
theorem k0_off45_inb : ∀ (v47 : BitVec 32) (v49 : BitVec 32) (k0_hw38 : k0_chk38 v47 v49), ∀ a, (k0_off45 v47 v49) a + S1x8x1x128.size a ≤ S5120x8x8x128.size a := fun v47 v49 k0_hw38 => k0_hw38

def k0_off46 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_34 : BitVec 32 := 0#32
  let c1_i32_31 : BitVec 32 := 1#32
  let c0_i32_35 : BitVec 32 := 0#32
  ![arg10.toNat, 0, 1, 0]
def k0_off47 (i : grid0.Coords) (k0_t5 : Fin k0_t5_loop.trips) : Fin 1 → Nat :=
  let c0_i32_36 : BitVec 32 := 0#32
  let arg0 : BitVec 32 := BitVec.ofNat 32 (i 0).val
  let c2048_i32 : BitVec 32 := 2048#32
  let v3 : BitVec 32 := Scalar.muli arg0 c2048_i32
  let v54 : BitVec 32 := Scalar.addi c0_i32_36 v3
  let c0_i32_1 : BitVec 32 := 0#32
  let c1_i32 : BitVec 32 := 1#32
  let arg10 : BitVec 32 := Scf.iv c0_i32_1 c1_i32 k0_t5
  let c8_i32_37 : BitVec 32 := 8#32
  let v55 : BitVec 32 := Scalar.muli arg10 c8_i32_37
  let v56 : BitVec 32 := Scalar.addi v54 v55
  let c2_i32 : BitVec 32 := 2#32
  let v57 : BitVec 32 := Scalar.addi v56 c2_i32
  let v58 : Index := Scalar.indexCast v57
  ![v58.toNat]
def k0_off48 (v59 : BitVec 32) (v61 : BitVec 32) : Fin 4 → Nat :=
  let c0_i32_39 : BitVec 32 := 0#32
  let c0_i32_40 : BitVec 32 := 0#32
  ![v59.toNat, 0, v61.toNat, 0]

def k0_chk39 (v59 : BitVec 32) (v61 : BitVec 32) : Prop :=
  (∀ a, (k0_off48 v59 v61) a + S1x8x1x128.size a ≤ S5120x8x8x128.size a)
theorem k0_off48_inb : ∀ (v59 : BitVec 32) (v61 : BitVec 32) (k0_hw39 : k0_chk39 v59 v61), ∀ a, (k0_off48 v59 v61) a + S1x8x1x128.size a ≤ S5120x8x8x128.size a := fun v59 v61 k0_hw39 => k0_hw39

def k0_off49 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_41 : BitVec 32 := 0#32
  let c2_i32_38 : BitVec 32 := 2#32
  let c0_i32_42 : BitVec 32 := 0#32
  ![arg10.toNat, 0, 2, 0]
def k0_off50 (i : grid0.Coords) (k0_t5 : Fin k0_t5_loop.trips) : Fin 1 → Nat :=
  let c16384_i32_43 : BitVec 32 := 16384#32
  let arg0 : BitVec 32 := BitVec.ofNat 32 (i 0).val
  let c2048_i32 : BitVec 32 := 2048#32
  let v3 : BitVec 32 := Scalar.muli arg0 c2048_i32
  let v66 : BitVec 32 := Scalar.addi c16384_i32_43 v3
  let c0_i32_1 : BitVec 32 := 0#32
  let c1_i32 : BitVec 32 := 1#32
  let arg10 : BitVec 32 := Scf.iv c0_i32_1 c1_i32 k0_t5
  let c8_i32_44 : BitVec 32 := 8#32
  let v67 : BitVec 32 := Scalar.muli arg10 c8_i32_44
  let v68 : BitVec 32 := Scalar.addi v66 v67
  let c2_i32_45 : BitVec 32 := 2#32
  let v69 : BitVec 32 := Scalar.addi v68 c2_i32_45
  let v70 : Index := Scalar.indexCast v69
  ![v70.toNat]
def k0_off51 (v71 : BitVec 32) (v73 : BitVec 32) : Fin 4 → Nat :=
  let c0_i32_47 : BitVec 32 := 0#32
  let c0_i32_48 : BitVec 32 := 0#32
  ![v71.toNat, 0, v73.toNat, 0]

def k0_chk40 (v71 : BitVec 32) (v73 : BitVec 32) : Prop :=
  (∀ a, (k0_off51 v71 v73) a + S1x8x1x128.size a ≤ S5120x8x8x128.size a)
theorem k0_off51_inb : ∀ (v71 : BitVec 32) (v73 : BitVec 32) (k0_hw40 : k0_chk40 v71 v73), ∀ a, (k0_off51 v71 v73) a + S1x8x1x128.size a ≤ S5120x8x8x128.size a := fun v71 v73 k0_hw40 => k0_hw40

def k0_off52 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_49 : BitVec 32 := 0#32
  let c2_i32_46 : BitVec 32 := 2#32
  let c0_i32_50 : BitVec 32 := 0#32
  ![arg10.toNat, 0, 2, 0]
def k0_off53 (i : grid0.Coords) (k0_t5 : Fin k0_t5_loop.trips) : Fin 1 → Nat :=
  let c0_i32_51 : BitVec 32 := 0#32
  let arg0 : BitVec 32 := BitVec.ofNat 32 (i 0).val
  let c2048_i32 : BitVec 32 := 2048#32
  let v3 : BitVec 32 := Scalar.muli arg0 c2048_i32
  let v78 : BitVec 32 := Scalar.addi c0_i32_51 v3
  let c0_i32_1 : BitVec 32 := 0#32
  let c1_i32 : BitVec 32 := 1#32
  let arg10 : BitVec 32 := Scf.iv c0_i32_1 c1_i32 k0_t5
  let c8_i32_52 : BitVec 32 := 8#32
  let v79 : BitVec 32 := Scalar.muli arg10 c8_i32_52
  let v80 : BitVec 32 := Scalar.addi v78 v79
  let c3_i32 : BitVec 32 := 3#32
  let v81 : BitVec 32 := Scalar.addi v80 c3_i32
  let v82 : Index := Scalar.indexCast v81
  ![v82.toNat]
def k0_off54 (v83 : BitVec 32) (v85 : BitVec 32) : Fin 4 → Nat :=
  let c0_i32_54 : BitVec 32 := 0#32
  let c0_i32_55 : BitVec 32 := 0#32
  ![v83.toNat, 0, v85.toNat, 0]

def k0_chk41 (v83 : BitVec 32) (v85 : BitVec 32) : Prop :=
  (∀ a, (k0_off54 v83 v85) a + S1x8x1x128.size a ≤ S5120x8x8x128.size a)
theorem k0_off54_inb : ∀ (v83 : BitVec 32) (v85 : BitVec 32) (k0_hw41 : k0_chk41 v83 v85), ∀ a, (k0_off54 v83 v85) a + S1x8x1x128.size a ≤ S5120x8x8x128.size a := fun v83 v85 k0_hw41 => k0_hw41

def k0_off55 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_56 : BitVec 32 := 0#32
  let c3_i32_53 : BitVec 32 := 3#32
  let c0_i32_57 : BitVec 32 := 0#32
  ![arg10.toNat, 0, 3, 0]
def k0_off56 (i : grid0.Coords) (k0_t5 : Fin k0_t5_loop.trips) : Fin 1 → Nat :=
  let c16384_i32_58 : BitVec 32 := 16384#32
  let arg0 : BitVec 32 := BitVec.ofNat 32 (i 0).val
  let c2048_i32 : BitVec 32 := 2048#32
  let v3 : BitVec 32 := Scalar.muli arg0 c2048_i32
  let v90 : BitVec 32 := Scalar.addi c16384_i32_58 v3
  let c0_i32_1 : BitVec 32 := 0#32
  let c1_i32 : BitVec 32 := 1#32
  let arg10 : BitVec 32 := Scf.iv c0_i32_1 c1_i32 k0_t5
  let c8_i32_59 : BitVec 32 := 8#32
  let v91 : BitVec 32 := Scalar.muli arg10 c8_i32_59
  let v92 : BitVec 32 := Scalar.addi v90 v91
  let c3_i32_60 : BitVec 32 := 3#32
  let v93 : BitVec 32 := Scalar.addi v92 c3_i32_60
  let v94 : Index := Scalar.indexCast v93
  ![v94.toNat]
def k0_off57 (v95 : BitVec 32) (v97 : BitVec 32) : Fin 4 → Nat :=
  let c0_i32_62 : BitVec 32 := 0#32
  let c0_i32_63 : BitVec 32 := 0#32
  ![v95.toNat, 0, v97.toNat, 0]

def k0_chk42 (v95 : BitVec 32) (v97 : BitVec 32) : Prop :=
  (∀ a, (k0_off57 v95 v97) a + S1x8x1x128.size a ≤ S5120x8x8x128.size a)
theorem k0_off57_inb : ∀ (v95 : BitVec 32) (v97 : BitVec 32) (k0_hw42 : k0_chk42 v95 v97), ∀ a, (k0_off57 v95 v97) a + S1x8x1x128.size a ≤ S5120x8x8x128.size a := fun v95 v97 k0_hw42 => k0_hw42

def k0_off58 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_64 : BitVec 32 := 0#32
  let c3_i32_61 : BitVec 32 := 3#32
  let c0_i32_65 : BitVec 32 := 0#32
  ![arg10.toNat, 0, 3, 0]
def k0_off59 (i : grid0.Coords) (k0_t5 : Fin k0_t5_loop.trips) : Fin 1 → Nat :=
  let c0_i32_66 : BitVec 32 := 0#32
  let arg0 : BitVec 32 := BitVec.ofNat 32 (i 0).val
  let c2048_i32 : BitVec 32 := 2048#32
  let v3 : BitVec 32 := Scalar.muli arg0 c2048_i32
  let v102 : BitVec 32 := Scalar.addi c0_i32_66 v3
  let c0_i32_1 : BitVec 32 := 0#32
  let c1_i32 : BitVec 32 := 1#32
  let arg10 : BitVec 32 := Scf.iv c0_i32_1 c1_i32 k0_t5
  let c8_i32_67 : BitVec 32 := 8#32
  let v103 : BitVec 32 := Scalar.muli arg10 c8_i32_67
  let v104 : BitVec 32 := Scalar.addi v102 v103
  let c4_i32 : BitVec 32 := 4#32
  let v105 : BitVec 32 := Scalar.addi v104 c4_i32
  let v106 : Index := Scalar.indexCast v105
  ![v106.toNat]
def k0_off60 (v107 : BitVec 32) (v109 : BitVec 32) : Fin 4 → Nat :=
  let c0_i32_69 : BitVec 32 := 0#32
  let c0_i32_70 : BitVec 32 := 0#32
  ![v107.toNat, 0, v109.toNat, 0]

def k0_chk43 (v107 : BitVec 32) (v109 : BitVec 32) : Prop :=
  (∀ a, (k0_off60 v107 v109) a + S1x8x1x128.size a ≤ S5120x8x8x128.size a)
theorem k0_off60_inb : ∀ (v107 : BitVec 32) (v109 : BitVec 32) (k0_hw43 : k0_chk43 v107 v109), ∀ a, (k0_off60 v107 v109) a + S1x8x1x128.size a ≤ S5120x8x8x128.size a := fun v107 v109 k0_hw43 => k0_hw43

def k0_off61 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_71 : BitVec 32 := 0#32
  let c4_i32_68 : BitVec 32 := 4#32
  let c0_i32_72 : BitVec 32 := 0#32
  ![arg10.toNat, 0, 4, 0]
def k0_off62 (i : grid0.Coords) (k0_t5 : Fin k0_t5_loop.trips) : Fin 1 → Nat :=
  let c16384_i32_73 : BitVec 32 := 16384#32
  let arg0 : BitVec 32 := BitVec.ofNat 32 (i 0).val
  let c2048_i32 : BitVec 32 := 2048#32
  let v3 : BitVec 32 := Scalar.muli arg0 c2048_i32
  let v114 : BitVec 32 := Scalar.addi c16384_i32_73 v3
  let c0_i32_1 : BitVec 32 := 0#32
  let c1_i32 : BitVec 32 := 1#32
  let arg10 : BitVec 32 := Scf.iv c0_i32_1 c1_i32 k0_t5
  let c8_i32_74 : BitVec 32 := 8#32
  let v115 : BitVec 32 := Scalar.muli arg10 c8_i32_74
  let v116 : BitVec 32 := Scalar.addi v114 v115
  let c4_i32_75 : BitVec 32 := 4#32
  let v117 : BitVec 32 := Scalar.addi v116 c4_i32_75
  let v118 : Index := Scalar.indexCast v117
  ![v118.toNat]
def k0_off63 (v119 : BitVec 32) (v121 : BitVec 32) : Fin 4 → Nat :=
  let c0_i32_77 : BitVec 32 := 0#32
  let c0_i32_78 : BitVec 32 := 0#32
  ![v119.toNat, 0, v121.toNat, 0]

def k0_chk44 (v119 : BitVec 32) (v121 : BitVec 32) : Prop :=
  (∀ a, (k0_off63 v119 v121) a + S1x8x1x128.size a ≤ S5120x8x8x128.size a)
theorem k0_off63_inb : ∀ (v119 : BitVec 32) (v121 : BitVec 32) (k0_hw44 : k0_chk44 v119 v121), ∀ a, (k0_off63 v119 v121) a + S1x8x1x128.size a ≤ S5120x8x8x128.size a := fun v119 v121 k0_hw44 => k0_hw44

def k0_off64 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_79 : BitVec 32 := 0#32
  let c4_i32_76 : BitVec 32 := 4#32
  let c0_i32_80 : BitVec 32 := 0#32
  ![arg10.toNat, 0, 4, 0]
def k0_off65 (i : grid0.Coords) (k0_t5 : Fin k0_t5_loop.trips) : Fin 1 → Nat :=
  let c0_i32_81 : BitVec 32 := 0#32
  let arg0 : BitVec 32 := BitVec.ofNat 32 (i 0).val
  let c2048_i32 : BitVec 32 := 2048#32
  let v3 : BitVec 32 := Scalar.muli arg0 c2048_i32
  let v126 : BitVec 32 := Scalar.addi c0_i32_81 v3
  let c0_i32_1 : BitVec 32 := 0#32
  let c1_i32 : BitVec 32 := 1#32
  let arg10 : BitVec 32 := Scf.iv c0_i32_1 c1_i32 k0_t5
  let c8_i32_82 : BitVec 32 := 8#32
  let v127 : BitVec 32 := Scalar.muli arg10 c8_i32_82
  let v128 : BitVec 32 := Scalar.addi v126 v127
  let c5_i32 : BitVec 32 := 5#32
  let v129 : BitVec 32 := Scalar.addi v128 c5_i32
  let v130 : Index := Scalar.indexCast v129
  ![v130.toNat]
def k0_off66 (v131 : BitVec 32) (v133 : BitVec 32) : Fin 4 → Nat :=
  let c0_i32_84 : BitVec 32 := 0#32
  let c0_i32_85 : BitVec 32 := 0#32
  ![v131.toNat, 0, v133.toNat, 0]

def k0_chk45 (v131 : BitVec 32) (v133 : BitVec 32) : Prop :=
  (∀ a, (k0_off66 v131 v133) a + S1x8x1x128.size a ≤ S5120x8x8x128.size a)
theorem k0_off66_inb : ∀ (v131 : BitVec 32) (v133 : BitVec 32) (k0_hw45 : k0_chk45 v131 v133), ∀ a, (k0_off66 v131 v133) a + S1x8x1x128.size a ≤ S5120x8x8x128.size a := fun v131 v133 k0_hw45 => k0_hw45

def k0_off67 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_86 : BitVec 32 := 0#32
  let c5_i32_83 : BitVec 32 := 5#32
  let c0_i32_87 : BitVec 32 := 0#32
  ![arg10.toNat, 0, 5, 0]
def k0_off68 (i : grid0.Coords) (k0_t5 : Fin k0_t5_loop.trips) : Fin 1 → Nat :=
  let c16384_i32_88 : BitVec 32 := 16384#32
  let arg0 : BitVec 32 := BitVec.ofNat 32 (i 0).val
  let c2048_i32 : BitVec 32 := 2048#32
  let v3 : BitVec 32 := Scalar.muli arg0 c2048_i32
  let v138 : BitVec 32 := Scalar.addi c16384_i32_88 v3
  let c0_i32_1 : BitVec 32 := 0#32
  let c1_i32 : BitVec 32 := 1#32
  let arg10 : BitVec 32 := Scf.iv c0_i32_1 c1_i32 k0_t5
  let c8_i32_89 : BitVec 32 := 8#32
  let v139 : BitVec 32 := Scalar.muli arg10 c8_i32_89
  let v140 : BitVec 32 := Scalar.addi v138 v139
  let c5_i32_90 : BitVec 32 := 5#32
  let v141 : BitVec 32 := Scalar.addi v140 c5_i32_90
  let v142 : Index := Scalar.indexCast v141
  ![v142.toNat]
def k0_off69 (v143 : BitVec 32) (v145 : BitVec 32) : Fin 4 → Nat :=
  let c0_i32_92 : BitVec 32 := 0#32
  let c0_i32_93 : BitVec 32 := 0#32
  ![v143.toNat, 0, v145.toNat, 0]

def k0_chk46 (v143 : BitVec 32) (v145 : BitVec 32) : Prop :=
  (∀ a, (k0_off69 v143 v145) a + S1x8x1x128.size a ≤ S5120x8x8x128.size a)
theorem k0_off69_inb : ∀ (v143 : BitVec 32) (v145 : BitVec 32) (k0_hw46 : k0_chk46 v143 v145), ∀ a, (k0_off69 v143 v145) a + S1x8x1x128.size a ≤ S5120x8x8x128.size a := fun v143 v145 k0_hw46 => k0_hw46

def k0_off70 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_94 : BitVec 32 := 0#32
  let c5_i32_91 : BitVec 32 := 5#32
  let c0_i32_95 : BitVec 32 := 0#32
  ![arg10.toNat, 0, 5, 0]
def k0_off71 (i : grid0.Coords) (k0_t5 : Fin k0_t5_loop.trips) : Fin 1 → Nat :=
  let c0_i32_96 : BitVec 32 := 0#32
  let arg0 : BitVec 32 := BitVec.ofNat 32 (i 0).val
  let c2048_i32 : BitVec 32 := 2048#32
  let v3 : BitVec 32 := Scalar.muli arg0 c2048_i32
  let v150 : BitVec 32 := Scalar.addi c0_i32_96 v3
  let c0_i32_1 : BitVec 32 := 0#32
  let c1_i32 : BitVec 32 := 1#32
  let arg10 : BitVec 32 := Scf.iv c0_i32_1 c1_i32 k0_t5
  let c8_i32_97 : BitVec 32 := 8#32
  let v151 : BitVec 32 := Scalar.muli arg10 c8_i32_97
  let v152 : BitVec 32 := Scalar.addi v150 v151
  let c6_i32 : BitVec 32 := 6#32
  let v153 : BitVec 32 := Scalar.addi v152 c6_i32
  let v154 : Index := Scalar.indexCast v153
  ![v154.toNat]
def k0_off72 (v155 : BitVec 32) (v157 : BitVec 32) : Fin 4 → Nat :=
  let c0_i32_99 : BitVec 32 := 0#32
  let c0_i32_100 : BitVec 32 := 0#32
  ![v155.toNat, 0, v157.toNat, 0]

def k0_chk47 (v155 : BitVec 32) (v157 : BitVec 32) : Prop :=
  (∀ a, (k0_off72 v155 v157) a + S1x8x1x128.size a ≤ S5120x8x8x128.size a)
theorem k0_off72_inb : ∀ (v155 : BitVec 32) (v157 : BitVec 32) (k0_hw47 : k0_chk47 v155 v157), ∀ a, (k0_off72 v155 v157) a + S1x8x1x128.size a ≤ S5120x8x8x128.size a := fun v155 v157 k0_hw47 => k0_hw47

def k0_off73 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_101 : BitVec 32 := 0#32
  let c6_i32_98 : BitVec 32 := 6#32
  let c0_i32_102 : BitVec 32 := 0#32
  ![arg10.toNat, 0, 6, 0]
def k0_off74 (i : grid0.Coords) (k0_t5 : Fin k0_t5_loop.trips) : Fin 1 → Nat :=
  let c16384_i32_103 : BitVec 32 := 16384#32
  let arg0 : BitVec 32 := BitVec.ofNat 32 (i 0).val
  let c2048_i32 : BitVec 32 := 2048#32
  let v3 : BitVec 32 := Scalar.muli arg0 c2048_i32
  let v162 : BitVec 32 := Scalar.addi c16384_i32_103 v3
  let c0_i32_1 : BitVec 32 := 0#32
  let c1_i32 : BitVec 32 := 1#32
  let arg10 : BitVec 32 := Scf.iv c0_i32_1 c1_i32 k0_t5
  let c8_i32_104 : BitVec 32 := 8#32
  let v163 : BitVec 32 := Scalar.muli arg10 c8_i32_104
  let v164 : BitVec 32 := Scalar.addi v162 v163
  let c6_i32_105 : BitVec 32 := 6#32
  let v165 : BitVec 32 := Scalar.addi v164 c6_i32_105
  let v166 : Index := Scalar.indexCast v165
  ![v166.toNat]
def k0_off75 (v167 : BitVec 32) (v169 : BitVec 32) : Fin 4 → Nat :=
  let c0_i32_107 : BitVec 32 := 0#32
  let c0_i32_108 : BitVec 32 := 0#32
  ![v167.toNat, 0, v169.toNat, 0]

def k0_chk48 (v167 : BitVec 32) (v169 : BitVec 32) : Prop :=
  (∀ a, (k0_off75 v167 v169) a + S1x8x1x128.size a ≤ S5120x8x8x128.size a)
theorem k0_off75_inb : ∀ (v167 : BitVec 32) (v169 : BitVec 32) (k0_hw48 : k0_chk48 v167 v169), ∀ a, (k0_off75 v167 v169) a + S1x8x1x128.size a ≤ S5120x8x8x128.size a := fun v167 v169 k0_hw48 => k0_hw48

def k0_off76 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_109 : BitVec 32 := 0#32
  let c6_i32_106 : BitVec 32 := 6#32
  let c0_i32_110 : BitVec 32 := 0#32
  ![arg10.toNat, 0, 6, 0]
def k0_off77 (i : grid0.Coords) (k0_t5 : Fin k0_t5_loop.trips) : Fin 1 → Nat :=
  let c0_i32_111 : BitVec 32 := 0#32
  let arg0 : BitVec 32 := BitVec.ofNat 32 (i 0).val
  let c2048_i32 : BitVec 32 := 2048#32
  let v3 : BitVec 32 := Scalar.muli arg0 c2048_i32
  let v174 : BitVec 32 := Scalar.addi c0_i32_111 v3
  let c0_i32_1 : BitVec 32 := 0#32
  let c1_i32 : BitVec 32 := 1#32
  let arg10 : BitVec 32 := Scf.iv c0_i32_1 c1_i32 k0_t5
  let c8_i32_112 : BitVec 32 := 8#32
  let v175 : BitVec 32 := Scalar.muli arg10 c8_i32_112
  let v176 : BitVec 32 := Scalar.addi v174 v175
  let c7_i32 : BitVec 32 := 7#32
  let v177 : BitVec 32 := Scalar.addi v176 c7_i32
  let v178 : Index := Scalar.indexCast v177
  ![v178.toNat]
def k0_off78 (v179 : BitVec 32) (v181 : BitVec 32) : Fin 4 → Nat :=
  let c0_i32_114 : BitVec 32 := 0#32
  let c0_i32_115 : BitVec 32 := 0#32
  ![v179.toNat, 0, v181.toNat, 0]

def k0_chk49 (v179 : BitVec 32) (v181 : BitVec 32) : Prop :=
  (∀ a, (k0_off78 v179 v181) a + S1x8x1x128.size a ≤ S5120x8x8x128.size a)
theorem k0_off78_inb : ∀ (v179 : BitVec 32) (v181 : BitVec 32) (k0_hw49 : k0_chk49 v179 v181), ∀ a, (k0_off78 v179 v181) a + S1x8x1x128.size a ≤ S5120x8x8x128.size a := fun v179 v181 k0_hw49 => k0_hw49

def k0_off79 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_116 : BitVec 32 := 0#32
  let c7_i32_113 : BitVec 32 := 7#32
  let c0_i32_117 : BitVec 32 := 0#32
  ![arg10.toNat, 0, 7, 0]
def k0_off80 (i : grid0.Coords) (k0_t5 : Fin k0_t5_loop.trips) : Fin 1 → Nat :=
  let c16384_i32_118 : BitVec 32 := 16384#32
  let arg0 : BitVec 32 := BitVec.ofNat 32 (i 0).val
  let c2048_i32 : BitVec 32 := 2048#32
  let v3 : BitVec 32 := Scalar.muli arg0 c2048_i32
  let v186 : BitVec 32 := Scalar.addi c16384_i32_118 v3
  let c0_i32_1 : BitVec 32 := 0#32
  let c1_i32 : BitVec 32 := 1#32
  let arg10 : BitVec 32 := Scf.iv c0_i32_1 c1_i32 k0_t5
  let c8_i32_119 : BitVec 32 := 8#32
  let v187 : BitVec 32 := Scalar.muli arg10 c8_i32_119
  let v188 : BitVec 32 := Scalar.addi v186 v187
  let c7_i32_120 : BitVec 32 := 7#32
  let v189 : BitVec 32 := Scalar.addi v188 c7_i32_120
  let v190 : Index := Scalar.indexCast v189
  ![v190.toNat]
def k0_off81 (v191 : BitVec 32) (v193 : BitVec 32) : Fin 4 → Nat :=
  let c0_i32_122 : BitVec 32 := 0#32
  let c0_i32_123 : BitVec 32 := 0#32
  ![v191.toNat, 0, v193.toNat, 0]

def k0_chk50 (v191 : BitVec 32) (v193 : BitVec 32) : Prop :=
  (∀ a, (k0_off81 v191 v193) a + S1x8x1x128.size a ≤ S5120x8x8x128.size a)
theorem k0_off81_inb : ∀ (v191 : BitVec 32) (v193 : BitVec 32) (k0_hw50 : k0_chk50 v191 v193), ∀ a, (k0_off81 v191 v193) a + S1x8x1x128.size a ≤ S5120x8x8x128.size a := fun v191 v193 k0_hw50 => k0_hw50

def k0_off82 (k0_t5 : Fin k0_t5_loop.trips) : Fin 4 → Nat :=
  let c0_i32_1 : BitVec 32 := 0#32
  let c1_i32 : BitVec 32 := 1#32
  let arg10 : BitVec 32 := Scf.iv c0_i32_1 c1_i32 k0_t5
  let c0_i32_124 : BitVec 32 := 0#32
  let c7_i32_121 : BitVec 32 := 7#32
  let c0_i32_125 : BitVec 32 := 0#32
  ![arg10.toNat, 0, 7, 0]
@[reducible] def k0_t6_loop : Scf.Loop 32 :=
  let c0_i32_3 : BitVec 32 := 0#32
  let c2048_i32_4 : BitVec 32 := 2048#32
  let v5 : BitVec 32 := Scalar.addi c0_i32_3 c2048_i32_4
  let c1_i32_5 : BitVec 32 := 1#32
  ⟨c0_i32_3, v5, c1_i32_5⟩
def k0_off83 : Fin 4 → Nat :=
  let c0_i32_8 : BitVec 32 := 0#32
  let c3_i32_9 : BitVec 32 := 3#32
  let v8 : BitVec 32 := Scalar.shrui c0_i32_8 c3_i32_9
  let c0_i32_12 : BitVec 32 := 0#32
  let c0_i32_10 : BitVec 32 := 0#32
  let c7_i32_11 : BitVec 32 := 7#32
  let v9 : BitVec 32 := Scalar.andi c0_i32_10 c7_i32_11
  let c0_i32_13 : BitVec 32 := 0#32
  ![v8.toNat, 0, v9.toNat, 0]
def k0_off84 : Fin 4 → Nat :=
  let c0_i32_6 : BitVec 32 := 0#32
  let c3_i32 : BitVec 32 := 3#32
  let v6 : BitVec 32 := Scalar.shrui c0_i32_6 c3_i32
  let c0_i32_14 : BitVec 32 := 0#32
  let c0_i32_7 : BitVec 32 := 0#32
  let c7_i32 : BitVec 32 := 7#32
  let v7 : BitVec 32 := Scalar.andi c0_i32_7 c7_i32
  let c0_i32_15 : BitVec 32 := 0#32
  ![v6.toNat, 0, v7.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S32768 : Shape := ⟨1, ![32768]⟩
abbrev S32 : Shape := ⟨1, ![32]⟩
abbrev S1 : Shape := ⟨1, ![1]⟩
abbrev S16384x1024 : Shape := ⟨2, ![16384, 1024]⟩
abbrev S_ : Shape := ⟨0, ![]⟩
abbrev S40960x1024 : Shape := ⟨2, ![40960, 1024]⟩
abbrev S32768x1024 : Shape := ⟨2, ![32768, 1024]⟩
abbrev S32768x1 : Shape := ⟨2, ![32768, 1]⟩
abbrev S5120x8x8x128 : Shape := ⟨4, ![5120, 8, 8, 128]⟩

abbrev nBuf : Space → Nat
  | .hbm => 23
  | .vmem => 0
  | .smem => 0
  | _ => 0

abbrev bufTy : (tb : Table) → Fin (tcTables nBuf tb) → BufTy
  | .hbm, ⟨0, _⟩ => ⟨S32768, .i32⟩
  | .hbm, ⟨1, _⟩ => ⟨S32768, .i32⟩
  | .hbm, ⟨2, _⟩ => ⟨S32, .i32⟩
  | .hbm, ⟨3, _⟩ => ⟨S1, .i32⟩
  | .hbm, ⟨4, _⟩ => ⟨S16384x1024, .f32⟩
  | .hbm, ⟨5, _⟩ => ⟨S_, .f32⟩
  | .hbm, ⟨6, _⟩ => ⟨S40960x1024, .f32⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1024, .f32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S40960x1024, .f32⟩
  | .hbm, ⟨21, _⟩ => ⟨S5120x8x8x128, .f32⟩
  | .hbm, ⟨22, _⟩ => ⟨S5120x8x8x128, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S40960x1024 : Shape := ⟨2, ![40960, 1024]⟩
abbrev S32x1024x512 : Shape := ⟨3, ![32, 1024, 512]⟩
abbrev S32x256x1024 : Shape := ⟨3, ![32, 256, 1024]⟩
abbrev S5120x8x8x128 : Shape := ⟨4, ![5120, 8, 8, 128]⟩
abbrev S_ : Shape := ⟨0, ![]⟩
abbrev S160x1 : Shape := ⟨2, ![160, 1]⟩
abbrev S32x8x8x128 : Shape := ⟨4, ![32, 8, 8, 128]⟩
abbrev S1x1024x512 : Shape := ⟨3, ![1, 1024, 512]⟩
abbrev S1x256x1024 : Shape := ⟨3, ![1, 256, 1024]⟩
abbrev S32x1x8x128 : Shape := ⟨4, ![32, 1, 8, 128]⟩
abbrev S32x8x128 : Shape := ⟨3, ![32, 8, 128]⟩
abbrev S32x8x1024 : Shape := ⟨3, ![32, 8, 1024]⟩
abbrev S256x1024 : Shape := ⟨2, ![256, 1024]⟩
abbrev S1024x512 : Shape := ⟨2, ![1024, 512]⟩
abbrev S256x512 : Shape := ⟨2, ![256, 512]⟩
abbrev S256x256 : Shape := ⟨2, ![256, 256]⟩

abbrev nBuf : Space → Nat
  | .hbm => 21
  | .vmem => 8
  | .smem => 2
  | _ => 0

abbrev bufTy : (tb : Table) → Fin (tcTables nBuf tb) → BufTy
  | .hbm, ⟨0, _⟩ => ⟨S160, .i32⟩
  | .hbm, ⟨1, _⟩ => ⟨S40960x1024, .f32⟩
  | .hbm, ⟨2, _⟩ => ⟨S32x1024x512, .f32⟩
  | .hbm, ⟨3, _⟩ => ⟨S32x256x1024, .f32⟩
  | .hbm, ⟨4, _⟩ => ⟨S5120x8x8x128, .f32⟩
  | .hbm, ⟨5, _⟩ => ⟨S5120x8x8x128, .f32⟩
  | .hbm, ⟨6, _⟩ => ⟨S160, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S160, .i32⟩
  | .hbm, ⟨11, _⟩ => ⟨S160, .i32⟩
  | .hbm, ⟨12, _⟩ => ⟨S_, .i32⟩
  | .hbm, ⟨13, _⟩ => ⟨S160, .i32⟩
  | .hbm, ⟨14, _⟩ => ⟨S160, .i1⟩
  | .hbm, ⟨15, _⟩ => ⟨S_, .i32⟩
  | .hbm, ⟨16, _⟩ => ⟨S160, .i32⟩
  | .hbm, ⟨17, _⟩ => ⟨S160, .i32⟩
  | .hbm, ⟨18, _⟩ => ⟨S160, .i32⟩
  | .hbm, ⟨19, _⟩ => ⟨S160x1, .i32⟩
  | .hbm, ⟨20, _⟩ => ⟨S5120x8x8x128, .f32⟩
  | .local _ .vmem, ⟨0, _⟩ => ⟨S32x8x8x128, .f32⟩
  | .local _ .vmem, ⟨1, _⟩ => ⟨S32x8x8x128, .f32⟩
  | .local _ .vmem, ⟨2, _⟩ => ⟨S1x1024x512, .f32⟩
  | .local _ .vmem, ⟨3, _⟩ => ⟨S1x1024x512, .f32⟩
  | .local _ .vmem, ⟨4, _⟩ => ⟨S1x256x1024, .f32⟩
  | .local _ .vmem, ⟨5, _⟩ => ⟨S1x256x1024, .f32⟩
  | .local _ .vmem, ⟨6, _⟩ => ⟨S32x8x8x128, .f32⟩
  | .local _ .vmem, ⟨7, _⟩ => ⟨S32x8x8x128, .f32⟩
  | .local _ .smem, ⟨0, _⟩ => ⟨S160, .i32⟩
  | .local _ .smem, ⟨1, _⟩ => ⟨S1, .i32⟩
  | _, _ => ⟨S160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v14 : Ref sig .tc := ⟨.hbm, 20, rfl⟩
abbrev main_v13 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v13.idx, main_arg1.idx], fun | 0 => main_v13.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

abbrev stage0_0 : Fin 2 → Memref sig .tc .vmem S32x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S160 : Shape := ⟨1, ![160]⟩
abbrev S1 : Shape := ⟨1, ![1]⟩
abbrev S40960x1024 : Shape := ⟨2, ![40960, 1024]⟩
abbrev S32x1024x512 : Shape := ⟨3, ![32, 1024, 512]⟩
abbrev S32x256x1024 : Shape := ⟨3, ![32, 256, 1024]⟩
abbrev S160x256 : Shape := ⟨2, ![160, 256]⟩
abbrev S40960 : Shape := ⟨1, ![40960]⟩
abbrev S40960x1 : Shape := ⟨2, ![40960, 1]⟩
abbrev S1x32 : Shape := ⟨2, ![1, 32]⟩
abbrev S40960x32 : Shape := ⟨2, ![40960, 32]⟩
abbrev S40960x32x512 : Shape := ⟨3, ![40960, 32, 512]⟩
abbrev S40960x32x256 : Shape := ⟨3, ![40960, 32, 256]⟩
abbrev S_ : Shape := ⟨0, ![]⟩
abbrev S40960x32x1 : Shape := ⟨3, ![40960, 32, 1]⟩
abbrev S5120x8x8x128 : Shape := ⟨4, ![5120, 8, 8, 128]⟩

abbrev nBuf : Space → Nat
  | .hbm => 41
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x1024, .f32⟩
  | .hbm, ⟨3, _⟩ => ⟨S32x1024x512, .f32⟩
  | .hbm, ⟨4, _⟩ => ⟨S32x256x1024, .f32⟩
  | .hbm, ⟨5, _⟩ => ⟨S160x256, .i32⟩
  | .hbm, ⟨6, _⟩ => ⟨S40960, .i32⟩
  | .hbm, ⟨7, _⟩ => ⟨S40960x1, .i32⟩
  | .hbm, ⟨8, _⟩ => ⟨S1x32, .i32⟩
  | .hbm, ⟨9, _⟩ => ⟨S40960x32, .i32⟩
  | .hbm, ⟨10, _⟩ => ⟨S40960x32, .i32⟩
  | .hbm, ⟨11, _⟩ => ⟨S40960x32, .i1⟩
  | .hbm, ⟨12, _⟩ => ⟨S40960x32, .f32⟩
  | .hbm, ⟨13, _⟩ => ⟨S40960x32x512, .f32⟩
  | .hbm, ⟨14, _⟩ => ⟨S40960x32x256, .f32⟩
  | .hbm, ⟨15, _⟩ => ⟨S40960x32x256, .f32⟩
  | .hbm, ⟨16, _⟩ => ⟨S40960x32x256, .f32⟩
  | .hbm, ⟨17, _⟩ => ⟨S40960x32x256, .f32⟩
  | .hbm, ⟨18, _⟩ => ⟨S_, .f32⟩
  | .hbm, ⟨19, _⟩ => ⟨S40960x32x256, .f32⟩
  | .hbm, ⟨20, _⟩ => ⟨S40960x32x256, .f32⟩
  | .hbm, ⟨21, _⟩ => ⟨S_, .f32⟩
  | .hbm, ⟨22, _⟩ => ⟨S40960x32x256, .f32⟩
  | .hbm, ⟨23, _⟩ => ⟨S40960x32x256, .f32⟩
  | .hbm, ⟨24, _⟩ => ⟨S40960x32x256, .f32⟩
  | .hbm, ⟨25, _⟩ => ⟨S40960x32x256, .f32⟩
  | .hbm, ⟨26, _⟩ => ⟨S40960x32x1, .f32⟩
  | .hbm, ⟨27, _⟩ => ⟨S40960x32x256, .f32⟩
  | .hbm, ⟨28, _⟩ => ⟨S40960x32x256, .f32⟩
  | .hbm, ⟨29, _⟩ => ⟨S40960x1024, .f32⟩
  | .hbm, ⟨30, _⟩ => ⟨S40960, .i32⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S40960, .i32⟩
  | .hbm, ⟨35, _⟩ => ⟨S40960, .i1⟩
  | .hbm, ⟨36, _⟩ => ⟨S40960x1, .i1⟩
  | .hbm, ⟨37, _⟩ => ⟨S40960x1024, .i1⟩
  | .hbm, ⟨38, _⟩ => ⟨S40960x1024, .f32⟩
  | .hbm, ⟨39, _⟩ => ⟨S5120x8x8x128, .f32⟩
  | .hbm, ⟨40, _⟩ => ⟨S5120x8x8x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024x5664 : Shape := ⟨2, ![1024, 5664]⟩
abbrev S16384x1024 : Shape := ⟨2, ![16384, 1024]⟩
abbrev S1024x2048 : Shape := ⟨2, ![1024, 2048]⟩
abbrev S1024x3584 : Shape := ⟨2, ![1024, 3584]⟩
abbrev S1024x5632 : Shape := ⟨2, ![1024, 5632]⟩
abbrev S1024x32 : Shape := ⟨2, ![1024, 32]⟩
abbrev S1024x4x2x4 : Shape := ⟨4, ![1024, 4, 2, 4]⟩
abbrev S2x1024x4x4 : Shape := ⟨4, ![2, 1024, 4, 4]⟩
abbrev S2x1024x16 : Shape := ⟨3, ![2, 1024, 16]⟩
abbrev S2x16x1024 : Shape := ⟨3, ![2, 16, 1024]⟩
abbrev S16384x5632 : Shape := ⟨2, ![16384, 5632]⟩
abbrev S2x16384x16 : Shape := ⟨3, ![2, 16384, 16]⟩
abbrev S2x16x16384 : Shape := ⟨3, ![2, 16, 16384]⟩
abbrev S512x1024 : Shape := ⟨2, ![512, 1024]⟩
abbrev S512x5632 : Shape := ⟨2, ![512, 5632]⟩
abbrev S2x512x16 : Shape := ⟨3, ![2, 512, 16]⟩
abbrev S2x16x512 : Shape := ⟨3, ![2, 16, 512]⟩
abbrev S1024x512 : Shape := ⟨2, ![1024, 512]⟩
abbrev S512x512 : Shape := ⟨2, ![512, 512]⟩
abbrev S1x1024x16 : Shape := ⟨3, ![1, 1024, 16]⟩
abbrev S1024x16 : Shape := ⟨2, ![1024, 16]⟩
abbrev S512x16 : Shape := ⟨2, ![512, 16]⟩
abbrev S1x512x16 : Shape := ⟨3, ![1, 512, 16]⟩
abbrev S1x16x1024 : Shape := ⟨3, ![1, 16, 1024]⟩
abbrev S16x1024 : Shape := ⟨2, ![16, 1024]⟩
abbrev S16x512 : Shape := ⟨2, ![16, 512]⟩
abbrev S1x16x512 : Shape := ⟨3, ![1, 16, 512]⟩

abbrev nBuf : Space → Nat
  | .hbm => 16
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024x5664, .f32⟩
  | .hbm, ⟨2, _⟩ => ⟨S16384x1024, .f32⟩
  | .hbm, ⟨3, _⟩ => ⟨S1024x2048, .f32⟩
  | .hbm, ⟨4, _⟩ => ⟨S1024x3584, .f32⟩
  | .hbm, ⟨5, _⟩ => ⟨S1024x5632, .f32⟩
  | .hbm, ⟨6, _⟩ => ⟨S1024x5632, .bf16⟩
  | .hbm, ⟨7, _⟩ => ⟨S1024x32, .f32⟩
  | .hbm, ⟨8, _⟩ => ⟨S1024x4x2x4, .f32⟩
  | .hbm, ⟨9, _⟩ => ⟨S2x1024x4x4, .f32⟩
  | .hbm, ⟨10, _⟩ => ⟨S2x1024x16, .f32⟩
  | .hbm, ⟨11, _⟩ => ⟨S2x1024x16, .bf16⟩
  | .hbm, ⟨12, _⟩ => ⟨S2x16x1024, .bf16⟩
  | .hbm, ⟨13, _⟩ => ⟨S16384x5632, .bf16⟩
  | .hbm, ⟨14, _⟩ => ⟨S2x16384x16, .f32⟩
  | .hbm, ⟨15, _⟩ => ⟨S2x16x16384, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2x1024x16, .bf16⟩
  | .local _ .vmem, ⟨4, _⟩ => ⟨S2x16x1024, .bf16⟩
  | .local _ .vmem, ⟨5, _⟩ => ⟨S512x5632, .bf16⟩
  | .local _ .vmem, ⟨6, _⟩ => ⟨S512x5632, .bf16⟩
  | .local _ .vmem, ⟨7, _⟩ => ⟨S2x512x16, .f32⟩
  | .local _ .vmem, ⟨8, _⟩ => ⟨S2x512x16, .f32⟩
  | .local _ .vmem, ⟨9, _⟩ => ⟨S2x16x512, .f32⟩
  | .local _ .vmem, ⟨10, _⟩ => ⟨S2x16x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11_0 : Ref sig .tc := ⟨.hbm, 13, rfl⟩
abbrev main_v11_1 : Ref sig .tc := ⟨.hbm, 14, rfl⟩
abbrev main_v11_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2048x1024 : Shape := ⟨3, ![8, 2048, 1024]⟩
abbrev S1024x5664 : Shape := ⟨2, ![1024, 5664]⟩
abbrev S8x2048x5664 : Shape := ⟨3, ![8, 2048, 5664]⟩
abbrev S16384x5664 : Shape := ⟨2, ![16384, 5664]⟩
abbrev S16384x3584 : Shape := ⟨2, ![16384, 3584]⟩
abbrev S16384x32 : Shape := ⟨2, ![16384, 32]⟩
abbrev S16384x2048 : Shape := ⟨2, ![16384, 2048]⟩
abbrev S16384x4x2x4 : Shape := ⟨4, ![16384, 4, 2, 4]⟩
abbrev S16384x5632 : Shape := ⟨2, ![16384, 5632]⟩
abbrev S2x16384x4x4 : Shape := ⟨4, ![2, 16384, 4, 4]⟩
abbrev S2x16384x16 : Shape := ⟨3, ![2, 16384, 16]⟩
abbrev S2x4x4x16384 : Shape := ⟨4, ![2, 4, 4, 16384]⟩
abbrev S2x16x16384 : Shape := ⟨3, ![2, 16, 16384]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x5664, .f32⟩
  | .hbm, ⟨2, _⟩ => ⟨S8x2048x5664, .f32⟩
  | .hbm, ⟨3, _⟩ => ⟨S16384x5664, .f32⟩
  | .hbm, ⟨4, _⟩ => ⟨S16384x3584, .f32⟩
  | .hbm, ⟨5, _⟩ => ⟨S16384x32, .f32⟩
  | .hbm, ⟨6, _⟩ => ⟨S16384x2048, .f32⟩
  | .hbm, ⟨7, _⟩ => ⟨S16384x4x2x4, .f32⟩
  | .hbm, ⟨8, _⟩ => ⟨S16384x5632, .f32⟩
  | .hbm, ⟨9, _⟩ => ⟨S16384x5632, .bf16⟩
  | .hbm, ⟨10, _⟩ => ⟨S2x16384x4x4, .f32⟩
  | .hbm, ⟨11, _⟩ => ⟨S2x16384x16, .f32⟩
  | .hbm, ⟨12, _⟩ => ⟨S2x4x4x16384, .f32⟩
  | .hbm, ⟨13, _⟩ => ⟨S2x16x16384, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel4.lean ====
abbrev S8x2048x1024 : Shape := ⟨3, ![8, 2048, 1024]⟩
abbrev S16384x512 : Shape := ⟨2, ![16384, 512]⟩
abbrev S16384x5632 : Shape := ⟨2, ![16384, 5632]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16384x1024 : Shape := ⟨2, ![16384, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S2048x8x8x128 : Shape := ⟨4, ![2048, 8, 8, 128]⟩
abbrev S16384x128 : Shape := ⟨2, ![16384, 128]⟩
abbrev S8x128 : Shape := ⟨2, ![8, 128]⟩
abbrev S512x512 : Shape := ⟨2, ![512, 512]⟩
abbrev S64x8x8x128 : Shape := ⟨4, ![64, 8, 8, 128]⟩
abbrev S512x128 : Shape := ⟨2, ![512, 128]⟩
abbrev S512 : Shape := ⟨1, ![512]⟩
abbrev S512x1 : Shape := ⟨2, ![512, 1]⟩
abbrev S64x8x1024 : Shape := ⟨3, ![64, 8, 1024]⟩
abbrev S64x8x128 : Shape := ⟨3, ![64, 8, 128]⟩
abbrev S64x1x8x128 : Shape := ⟨4, ![64, 1, 8, 128]⟩
abbrev S128 : Shape := ⟨1, ![128]⟩

abbrev nBuf : Space → Nat
  | .hbm => 44
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S16384x5632, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S16384x1024, .f32⟩
  | .hbm, ⟨14, _⟩ => ⟨S_, .f32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S_, .f32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S512x1024, .bf16⟩
  | .hbm, ⟨37, _⟩ => ⟨S512x1024, .bf16⟩
  | .hbm, ⟨38, _⟩ => ⟨S1024x1024, .bf16⟩
  | .hbm, ⟨39, _⟩ => ⟨S1x1024, .f32⟩
  | .hbm, ⟨40, _⟩ => ⟨S1x1024, .f32⟩
  | .hbm, ⟨41, _⟩ => ⟨S2048x8x8x128, .f32⟩
  | .hbm, ⟨42, _⟩ => ⟨S16384x128, .f32⟩
  | .hbm, ⟨43, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x128, .f32⟩
  | .local _ .vmem, ⟨16, _⟩ => ⟨S1x128, .f32⟩
  | .local _ .vmem, ⟨17, _⟩ => ⟨S64x8x8x128, .f32⟩
  | .local _ .vmem, ⟨18, _⟩ => ⟨S64x8x8x128, .f32⟩
  | .local _ .vmem, ⟨19, _⟩ => ⟨S512x128, .f32⟩
  | .local _ .vmem, ⟨20, _⟩ => ⟨S512x128, .f32⟩
  | .local _ .vmem, ⟨21, _⟩ => ⟨S8x128, .f32⟩
  | .local _ .vmem, ⟨22, _⟩ => ⟨S1x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_c_2 : Ref sig .tc := ⟨.hbm, 24, rfl⟩
abbrev main_v7 : Ref sig .tc := ⟨.hbm, 25, rfl⟩
abbrev main_c_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_v11 : Ref sig .tc := ⟨.hbm, 31, rfl⟩
abbrev main_c_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20_0 : Ref sig .tc := ⟨.hbm, 41, rfl⟩
abbrev main_v20_1 : Ref sig .tc := ⟨.hbm, 42, rfl⟩
abbrev main_v20_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x8x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S8x2048x1024 : Shape := ⟨3, ![8, 2048, 1024]⟩
abbrev S16384x512 : Shape := ⟨2, ![16384, 512]⟩
abbrev S16384x5632 : Shape := ⟨2, ![16384, 5632]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x2048x512 : Shape := ⟨3, ![8, 2048, 512]⟩
abbrev S8x2048x5632 : Shape := ⟨3, ![8, 2048, 5632]⟩
abbrev S8x2048x3584 : Shape := ⟨3, ![8, 2048, 3584]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S2048x8x8x128 : Shape := ⟨4, ![2048, 8, 8, 128]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S16384x5632, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S16384x512, .f32⟩
  | .hbm, ⟨14, _⟩ => ⟨S8x2048x512, .f32⟩
  | .hbm, ⟨15, _⟩ => ⟨S8x2048x1024, .f32⟩
  | .hbm, ⟨16, _⟩ => ⟨S16384x512, .f32⟩
  | .hbm, ⟨17, _⟩ => ⟨S8x2048x512, .f32⟩
  | .hbm, ⟨18, _⟩ => ⟨S8x2048x1024, .f32⟩
  | .hbm, ⟨19, _⟩ => ⟨S16384x5632, .f32⟩
  | .hbm, ⟨20, _⟩ => ⟨S8x2048x5632, .f32⟩
  | .hbm, ⟨21, _⟩ => ⟨S8x2048x1024, .f32⟩
  | .hbm, ⟨22, _⟩ => ⟨S8x2048x1024, .f32⟩
  | .hbm, ⟨23, _⟩ => ⟨S8x2048x3584, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x1024, .f32⟩
  | .hbm, ⟨70, _⟩ => ⟨S8x2048x1024, .f32⟩
  | .hbm, ⟨71, _⟩ => ⟨S1x1x1024, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S2048x8x8x128, .f32⟩
  | .hbm, ⟨78, _⟩ => ⟨S2048x8x8x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel5.lean ====
abbrev S16384x128 : Shape := ⟨2, ![16384, 128]⟩
abbrev S8x128 : Shape := ⟨2, ![8, 128]⟩
abbrev S8x16384 : Shape := ⟨2, ![8, 16384]⟩
abbrev S8x256 : Shape := ⟨2, ![8, 256]⟩
abbrev S512x128 : Shape := ⟨2, ![512, 128]⟩
abbrev S8x512 : Shape := ⟨2, ![8, 512]⟩
abbrev S128x8 : Shape := ⟨2, ![128, 8]⟩
abbrev S128x1 : Shape := ⟨2, ![128, 1]⟩
abbrev S128x128 : Shape := ⟨2, ![128, 128]⟩
abbrev S128x512 : Shape := ⟨2, ![128, 512]⟩
abbrev S1x512 : Shape := ⟨2, ![1, 512]⟩
abbrev S512 : Shape := ⟨1, ![512]⟩
abbrev S2x512 : Shape := ⟨2, ![2, 512]⟩
abbrev S128x256 : Shape := ⟨2, ![128, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S8x128, .f32⟩
  | .hbm, ⟨2, _⟩ => ⟨S8x16384, .i32⟩
  | .hbm, ⟨3, _⟩ => ⟨S8x256, .i32⟩
  | .local _ .vmem, ⟨0, _⟩ => ⟨S512x128, .f32⟩
  | .local _ .vmem, ⟨1, _⟩ => ⟨S512x128, .f32⟩
  | .local _ .vmem, ⟨2, _⟩ => ⟨S8x128, .f32⟩
  | .local _ .vmem, ⟨3, _⟩ => ⟨S8x512, .i32⟩
  | .local _ .vmem, ⟨4, _⟩ => ⟨S8x512, .i32⟩
  | .local _ .vmem, ⟨5, _⟩ => ⟨S8x256, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference5Ideal.lean ====
abbrev S16384x128 : Shape := ⟨2, ![16384, 128]⟩
abbrev S8x128 : Shape := ⟨2, ![8, 128]⟩
abbrev S16384x2 : Shape := ⟨2, ![16384, 2]⟩
abbrev S32 : Shape := ⟨1, ![32]⟩
abbrev S1x32 : Shape := ⟨2, ![1, 32]⟩
abbrev S_ : Shape := ⟨0, ![]⟩
abbrev S16384x2x1 : Shape := ⟨3, ![16384, 2, 1]⟩
abbrev S1x1x32 : Shape := ⟨3, ![1, 1, 32]⟩
abbrev S16384x2x32 : Shape := ⟨3, ![16384, 2, 32]⟩
abbrev S2x16384 : Shape := ⟨2, ![2, 16384]⟩
abbrev S32x1 : Shape := ⟨2, ![32, 1]⟩
abbrev S32x32 : Shape := ⟨2, ![32, 32]⟩
abbrev S256 : Shape := ⟨1, ![256]⟩
abbrev S256x1 : Shape := ⟨2, ![256, 1]⟩
abbrev S256x32 : Shape := ⟨2, ![256, 32]⟩
abbrev S1x256 : Shape := ⟨2, ![1, 256]⟩
abbrev S4 : Shape := ⟨1, ![4]⟩
abbrev S220 : Shape := ⟨1, ![220]⟩
abbrev S8x16384 : Shape := ⟨2, ![8, 16384]⟩
abbrev S5x256 : Shape := ⟨2, ![5, 256]⟩
abbrev S8x256 : Shape := ⟨2, ![8, 256]⟩

abbrev nBuf : Space → Nat
  | .hbm => 106
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8x128, .f32⟩
  | .hbm, ⟨2, _⟩ => ⟨S16384x2, .f32⟩
  | .hbm, ⟨3, _⟩ => ⟨S16384x2, .f32⟩
  | .hbm, ⟨4, _⟩ => ⟨S32, .i32⟩
  | .hbm, ⟨5, _⟩ => ⟨S32, .f32⟩
  | .hbm, ⟨6, _⟩ => ⟨S1x32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16384x2x1, .f32⟩
  | .hbm, ⟨16, _⟩ => ⟨S1x1x32, .f32⟩
  | .hbm, ⟨17, _⟩ => ⟨S16384x2x32, .f32⟩
  | .hbm, ⟨18, _⟩ => ⟨S16384x2x32, .f32⟩
  | .hbm, ⟨19, _⟩ => ⟨S16384x2x32, .i1⟩
  | .hbm, ⟨20, _⟩ => ⟨S_, .f32⟩
  | .hbm, ⟨21, _⟩ => ⟨S_, .f32⟩
  | .hbm, ⟨22, _⟩ => ⟨S16384x2x32, .f32⟩
  | .hbm, ⟨23, _⟩ => ⟨S16384x2x32, .f32⟩
  | .hbm, ⟨24, _⟩ => ⟨S16384x2x32, .f32⟩
  | .hbm, ⟨25, _⟩ => ⟨S_, .f32⟩
  | .hbm, ⟨26, _⟩ => ⟨S16384x2, .f32⟩
  | .hbm, ⟨27, _⟩ => ⟨S16384x2, .f32⟩
  | .hbm, ⟨28, _⟩ => ⟨S2x16384, .f32⟩
  | .hbm, ⟨29, _⟩ => ⟨S_, .f32⟩
  | .hbm, ⟨30, _⟩ => ⟨S2x16384, .f32⟩
  | .hbm, ⟨31, _⟩ => ⟨S2x16384, .f32⟩
  | .hbm, ⟨32, _⟩ => ⟨S2x16384, .f32⟩
  | .hbm, ⟨33, _⟩ => ⟨S32x1, .f32⟩
  | .hbm, ⟨34, _⟩ => ⟨S1x32, .f32⟩
  | .hbm, ⟨35, _⟩ => ⟨S32x32, .f32⟩
  | .hbm, ⟨36, _⟩ => ⟨S32x32, .f32⟩
  | .hbm, ⟨37, _⟩ => ⟨S32x32, .i1⟩
  | .hbm, ⟨38, _⟩ => ⟨S_, .f32⟩
  | .hbm, ⟨39, _⟩ => ⟨S_, .f32⟩
  | .hbm, ⟨40, _⟩ => ⟨S32x32, .f32⟩
  | .hbm, ⟨41, _⟩ => ⟨S32x32, .f32⟩
  | .hbm, ⟨42, _⟩ => ⟨S32x32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S256, .i32⟩
  | .hbm, ⟨47, _⟩ => ⟨S256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S256x1, .f32⟩
  | .hbm, ⟨52, _⟩ => ⟨S1x32, .f32⟩
  | .hbm, ⟨53, _⟩ => ⟨S256x32, .f32⟩
  | .hbm, ⟨54, _⟩ => ⟨S256x32, .f32⟩
  | .hbm, ⟨55, _⟩ => ⟨S256x32, .i1⟩
  | .hbm, ⟨56, _⟩ => ⟨S_, .f32⟩
  | .hbm, ⟨57, _⟩ => ⟨S_, .f32⟩
  | .hbm, ⟨58, _⟩ => ⟨S256x32, .f32⟩
  | .hbm, ⟨59, _⟩ => ⟨S256x32, .f32⟩
  | .hbm, ⟨60, _⟩ => ⟨S256x32, .f32⟩
  | .hbm, ⟨61, _⟩ => ⟨S256x32, .f32⟩
  | .hbm, ⟨62, _⟩ => ⟨S_, .f32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1x256, .f32⟩
  | .hbm, ⟨72, _⟩ => ⟨S_, .f32⟩
  | .hbm, ⟨73, _⟩ => ⟨S4, .f32⟩
  | .hbm, ⟨74, _⟩ => ⟨S_, .f32⟩
  | .hbm, ⟨75, _⟩ => ⟨S32, .f32⟩
  | .hbm, ⟨76, _⟩ => ⟨S32, .i1⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S_, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S_, .f32⟩
  | .hbm, ⟨88, _⟩ => ⟨S220, .f32⟩
  | .hbm, ⟨89, _⟩ => ⟨S4, .f32⟩
  | .hbm, ⟨90, _⟩ => ⟨S220, .f32⟩
  | .hbm, ⟨91, _⟩ => ⟨S256, .f32⟩
  | .hbm, ⟨92, _⟩ => ⟨S_, .f32⟩
  | .hbm, ⟨93, _⟩ => ⟨S2x16384, .f32⟩
  | .hbm, ⟨94, _⟩ => ⟨S2x16384, .f32⟩
  | .hbm, ⟨95, _⟩ => ⟨S2x16384, .f32⟩
  | .hbm, ⟨96, _⟩ => ⟨S_, .f32⟩
  | .hbm, ⟨97, _⟩ => ⟨S2x16384, .f32⟩
  | .hbm, ⟨98, _⟩ => ⟨S8x16384, .f32⟩
  | .hbm, ⟨99, _⟩ => ⟨S8x16384, .i32⟩
  | .hbm, ⟨100, _⟩ => ⟨S1x256, .f32⟩
  | .hbm, ⟨101, _⟩ => ⟨S1x256, .f32⟩
  | .hbm, ⟨102, _⟩ => ⟨S_, .f32⟩
  | .hbm, ⟨103, _⟩ => ⟨S5x256, .f32⟩
  | .hbm, ⟨104, _⟩ => ⟨S8x256, .f32⟩
  | .hbm, ⟨105, _⟩ => ⟨S8x256, .i32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_cst_8 : Ref sig .tc := ⟨.hbm, 57, rfl⟩
abbrev main_call2_v0 : Ref sig .tc := ⟨.hbm, 58, rfl⟩
abbrev main_call2_v1 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_v50 : Ref sig .tc := ⟨.hbm, 76, rfl⟩
abbrev main_cst_15 : Ref sig .tc := ⟨.hbm, 77, rfl⟩
abbrev main_v51 : Ref sig .tc := ⟨.hbm, 78, rfl⟩
abbrev main_v52 : Ref sig .tc := ⟨.hbm, 79, rfl⟩
abbrev main_cst_16 : Ref sig .tc := ⟨.hbm, 80, rfl⟩
abbrev main_v53 : Ref sig .tc := ⟨.hbm, 81, rfl⟩
abbrev main_v54 : Ref sig .tc := ⟨.hbm, 82, rfl⟩
abbrev main_cst_17 : Ref sig .tc := ⟨.hbm, 83, rfl⟩
abbrev main_call3_v0 : Ref sig .tc := ⟨.hbm, 84, rfl⟩
abbrev main_call3_v1 : Ref sig .tc := ⟨.hbm, 85, rfl⟩
abbrev main_v55 : Ref sig .tc := ⟨.hbm, 86, rfl⟩
abbrev main_cst_18 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_19 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_20 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_21 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]
-- ==== Proof.Batches.lean ====
/-
  One phase of copies on one DMA semaphore, as the dispatch kernel runs it twice: `n` copies issued one after the
  other, then `n` waits of one copy's credit. The state of the core between two statements is `St j u`: `j` copies
  issued, `u` waited for. The rules here advance it by one statement, each stated backwards: what the rest of the
  program needs, then what the statement and the rest need.
-/
module

public import proofs.«01_k».proof.Proof.Gen.KernelIdeal.Skeleton
public import Idealize.ShloMosaic.Lib.Batch
public import Idealize.ShloMosaic.Lib.Tactic
public import Idealize.ShloMosaic.Lib.Pipeline.Kit

@[expose] public section

noncomputable section

namespace Cert.Proof.Dispatch

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the staging cells' rounds, beside the counters the copies take their tokens from. -/
abbrev UU (nD : Nat) (τ : Topo) : Type := UR sig nD τ × Counters

local notation "𝕄" => MT nD τ sig Unit (Elt F) ℕ (UU nD τ) ℕ

/-- A program that has returned goes on with what follows it. -/
theorem ret_bind {E : Type → Type} {α β : Type} (a : α) (k : α → Prog E β) : (Prog.ret a).bind k = k a := rfl

/-- A one-word load and what follows it, as the element load carrying what follows. -/
theorem smemLoad_bind {s : Shape} {e : EltTy} {β : Type} (mr : Memref sig .tc .smem s e) (r : Rect s) (h1 : r.shape.numel = 1) (hp : e.packing = 1)
    (k : Elt F e → Prog (TpuEff nD τ sig (Elt F) Λ₀ .tc) β) :
    (smemLoad mr r h1 hp >>= k) = smemLoadElt mr r (View.loads_smem_one hp h1) (Shape.Idx.first (h1.symm ▸ Nat.one_pos)) k := rfl

section State

/-- The core with `j` of the `n` copies issued and `u` of them waited for: the batch, what the copies still to be
    issued need, what the statements between them read, and the core's record of its waits. -/
def St (c : Dev nD) (sm : DmaSem sig) (n N : ℕ) (D P : Fin n → sProp 𝕄) (T : sProp 𝕄) (j u : ℕ) : sProp 𝕄 :=
  iprop(Transfers.Batch (countersEmb (U := UU nD τ)) (c : Thread nD τ) (.dma sm) () N D j (u * N)
    ∗ bigSep (Transfers.pending j) P ∗ T ∗ ∃ W, owes (c : Thread nD τ) 0 W)

variable {c : Dev nD} {sm : DmaSem sig} {n N : ℕ} {D P : Fin n → sProp (MT nD τ sig Unit (Elt F) ℕ (UU nD τ) ℕ)} {T : sProp (MT nD τ sig Unit (Elt F) ℕ (UU nD τ) ℕ)}

/-- Issue copy `j`. -/
theorem st_issue {sp sp' : Space} {s : Shape} {e : EltTy} {src : Memref sig .tc sp s e} {dst : Memref sig .tc sp' s e}
    {hsrc hdst hsem} {β : Type} {k : PUnit → Prog (TpuEff nD τ sig (Elt F) Λ₀ .tc) β} {Q : β → sProp 𝕄} {j : ℕ}
    {q : PosShare TreeShare} {Sd : Finset (Idx (dst.view.loc (c : Thread nD τ)))}
    {fs : Buf (Elt F) (src.view.loc (c : Thread nD τ))} {fd : Buf (Elt F) (dst.view.loc (c : Thread nD τ))}
    (hj : j < n) (hN : dst.view.amount (.dma sm) = N) (hSd : dst.view.set ⊆ Sd)
    (hP : P ⟨j, hj⟩ ⊢ (src.view.loc (c : Thread nD τ) ↦[src.view.set]{q} fs) ∗ (dst.view.loc (c : Thread nD τ) ↦[Sd]{fullShare} fd))
    (hD : iprop((dst.view.loc (c : Thread nD τ) ↦[Sd]{fullShare} (dst.view.write (Elt F) fd (src.view.read (Elt F) fs) Finset.univ))
      ∗ (src.view.loc (c : Thread nD τ) ↦[src.view.set]{q} fs)) ⊢ D ⟨j, hj⟩)
    (h : St c sm n N D P T (j + 1) 0 ⊢ wp frame (wpE (defs₀ (F := F)) Variants.none (c : Thread nD τ) none) Set.univ (k ⟨⟩) Q) :
    St c sm n N D P T j 0
      ⊢ wp frame (wpE (defs₀ (F := F)) Variants.none (c : Thread nD τ) none) Set.univ
          (.op (.enqueueDma src (.here dst) (.dma sm) hsrc hdst hsem) k) Q := by
  unfold St
  unfold St at h
  rw [Transfers.bigSep_pending_step P j hj]
  iintro ⟨HB, ⟨HP, Hrest⟩, HT, HO⟩
  ihave Hsd := hP $$ HP
  icases Hsd with ⟨Hs, Hd⟩
  iapply (Transfers.wp_dmaBatch (countersEmb (U := UU nD τ)) Variants.none (c : Thread nD τ) none (src := src) (dst := dst) (via := .same) () N hN hSd
    (D := D) (j := j) (u := 0 * N) hj (by omega) hD) $$ [Hs Hd HB]
  · isplitl [Hs]; · iexact Hs
    isplitl [Hd]; · iexact Hd
    iexact HB
  iintro HB
  iapply h
  isplitl [HB]; · iexact HB
  isplitl [Hrest]; · iexact Hrest
  isplitl [HT]; · iexact HT
  iexact HO

/-- Wait for one copy's credit, all `n` issued. -/
theorem st_wait {sp sp' : Space} {s s' : Shape} {e e' : EltTy} {src : Memref sig .tc sp s e} {dst : Memref sig .tc sp' s' e'}
    {hsrc hdst} {β : Type} {k : PUnit → Prog (TpuEff nD τ sig (Elt F) Λ₀ .tc) β} {Q : β → sProp 𝕄} {u : ℕ}
    (hu : u < n) (hN : dst.view.dmaCredit = N)
    (h : St c sm n N D P T n (u + 1) ⊢ wp frame (wpE (defs₀ (F := F)) Variants.none (c : Thread nD τ) none) Set.univ (k ⟨⟩) Q) :
    St c sm n N D P T n u
      ⊢ wp frame (wpE (defs₀ (F := F)) Variants.none (c : Thread nD τ) none) Set.univ
          (.op (.waitDma2 sm src dst hsrc hdst) k) Q := by
  unfold St
  unfold St at h
  iintro ⟨HB, HP, HT, ⟨%W, HO⟩⟩
  iapply (Transfers.wp_waitBatchMul (countersEmb (U := UU nD τ)) Variants.none (c : Thread nD τ) none () (N := N) 1 (by rw [hN, Nat.one_mul])
    (D := D) (j := n) (u := u * N) (by have := Nat.mul_le_mul_left N (show u + 1 ≤ n from hu); rw [Nat.mul_add, Nat.mul_comm N u] at this; omega)) $$ [HB HO]
  · isplitl [HB] <;> iassumption
  iintro ⟨HB, HO⟩
  iapply h
  isplitl [HB]; · rw [show (u + 1) * N = u * N + 1 * N from Nat.add_mul _ _ _]; iexact HB
  isplitl [HP]; · iexact HP
  isplitl [HT]; · iexact HT
  iexists _
  iexact HO

/-- Read one word of a table among what the statements read. -/
theorem st_load {s : Shape} {e : EltTy} {β : Type} {mr : Memref sig .tc .smem s e} {r : Rect s} {h1 : r.shape.numel = 1} {hp : e.packing = 1}
    {k : Elt F e → Prog (TpuEff nD τ sig (Elt F) Λ₀ .tc) β} {Q : β → sProp 𝕄} {j u : ℕ} {q : PosShare TreeShare}
    {f : Buf (Elt F) (mr.view.loc (c : Thread nD τ))} {w : Elt F e} {T' : sProp 𝕄}
    (hT : T ⊢ iprop((mr.view.loc (c : Thread nD τ) ↦{q} f) ∗ T')) (hT' : iprop((mr.view.loc (c : Thread nD τ) ↦{q} f) ∗ T') ⊢ T)
    (hw : (mr.access r).read (Elt F) f (Shape.Idx.first (h1.symm ▸ Nat.one_pos)) = w)
    (h : St c sm n N D P T j u ⊢ wp frame (wpE (defs₀ (F := F)) Variants.none (c : Thread nD τ) none) Set.univ (k w) Q) :
    St c sm n N D P T j u
      ⊢ wp frame (wpE (defs₀ (F := F)) Variants.none (c : Thread nD τ) none) Set.univ (smemLoad mr r h1 hp >>= k) Q := by
  unfold St
  unfold St at h
  rw [smemLoad_bind]
  iintro ⟨HB, HP, HT, HO⟩
  ihave HT := hT $$ HT
  icases HT with ⟨HT, HT'⟩
  iapply (wp_smemLoadElt_named Variants.none (c : Thread nD τ) none Set.univ (m := mr) (r := r) (S := Finset.univ)) $$ HT
  iintro HT %w' %hw'
  rw [hw', hw]
  iapply h
  isplitl [HB]; · iexact HB
  isplitl [HP]; · iexact HP
  isplitl [HT HT']; · iapply hT' $$ [HT HT']; isplitl [HT] <;> iassumption
  iexact HO

/-- A stated check that holds. -/
theorem st_assume {p : Prop} {d : Decidable p} {β : Type} {k : PLift p → Prog (TpuEff nD τ sig (Elt F) Λ₀ .tc) β} {Q : β → sProp 𝕄} {R : sProp 𝕄} (hp : p)
    (h : R ⊢ wp frame (wpE (defs₀ (F := F)) Variants.none (c : Thread nD τ) none) Set.univ (k ⟨hp⟩) Q) :
    R ⊢ wp frame (wpE (defs₀ (F := F)) Variants.none (c : Thread nD τ) none) Set.univ (.op (.assume p d) k) Q :=
  h.trans (wp_assume Variants.none (c : Thread nD τ) none Set.univ hp)

end State

end Cert.Proof.Dispatch
-- ==== Proof.Zero.lean ====
/-
  The first grid point's zeroing phase: the tiles the dispatch kernel clears before it copies rows, listed from the
  tables, and the rules for the statements that clear one: the guarded issue for an expert's last tile and the guarded
  wait for it.
-/
module

public import proofs.«01_k».proof.Proof.Batches

@[expose] public section

noncomputable section

namespace Cert.Proof.Dispatch

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## What the tables hold -/

/-- A table's element `a`, and the words of the one-word tables. -/
def i32768 (a : ℕ) : S32768.Idx := fun | 0 => ⟨a % 32768, Nat.mod_lt a (by decide : 0 < 32768)⟩
def i32 (e : ℕ) : S32.Idx := fun | 0 => ⟨e % 32, Nat.mod_lt e (by decide : 0 < 32)⟩
def i1 : S1.Idx := fun | 0 => ⟨0, (by decide : 0 < 1)⟩

/-- The tables name a slot of their own for every copy of a token, and the tiles to clear are each named once. -/
structure Placed (hi lo : S32768.Idx → BitVec 32) (last : S32.Idx → BitVec 32) (nt : S1.Idx → BitVec 32) : Prop where
  hi_lt : ∀ a, (hi a).toNat < 5120
  lo_lt : ∀ a, (lo a).toNat < 8
  inj : ∀ a b, (hi a).toNat = (hi b).toNat → (lo a).toNat = (lo b).toNat → a = b
  nt_le : (nt i1).toNat ≤ 160
  last_lt : ∀ e, (last e).msb = false → (last e).toNat < (nt i1).toNat
  last_inj : ∀ e e', (last e).msb = false → last e = last e' → e = e'

/-- Expert `e` has a last tile. -/
def act (last : S32.Idx → BitVec 32) (e : ℕ) : Bool := !(last (i32 e)).msb
/-- The last tiles of the first `e` experts, in order; -/
def zl (last : S32.Idx → BitVec 32) (e : ℕ) : List ℕ := ((List.range e).filter (act last)).map fun e => (last (i32 e)).toNat
/-- and every tile cleared: those of the 32 experts and the tiles no expert has. -/
def zlist (last : S32.Idx → BitVec 32) (nt : ℕ) : List ℕ := zl last 32 ++ (List.range (160 - nt)).map (nt + ·)

theorem zl_succ (last : S32.Idx → BitVec 32) (e : ℕ) :
    zl last (e + 1) = zl last e ++ if act last e then [(last (i32 e)).toNat] else [] := by
  unfold zl
  rw [List.range_succ, List.filter_append, List.map_append]
  cases h : act last e <;> simp [h]

theorem zl_prefix (last : S32.Idx → BitVec 32) {e e' : ℕ} (h : e ≤ e') : zl last e <+: zl last e' := by
  induction e', h using Nat.le_induction with
  | base => exact List.prefix_rfl
  | succ k _ ih => exact ih.trans (by rw [zl_succ]; exact List.prefix_append _ _)

theorem zl_len_succ_act (last : S32.Idx → BitVec 32) {e : ℕ} (ha : act last e = true) :
    (zl last (e + 1)).length = (zl last e).length + 1 := by rw [zl_succ, if_pos ha]; simp

theorem zl_len_succ_not (last : S32.Idx → BitVec 32) {e : ℕ} (ha : ¬ act last e = true) :
    (zl last (e + 1)).length = (zl last e).length := by rw [zl_succ, if_neg ha]; simp

theorem zlist_at (last : S32.Idx → BitVec 32) (nt : ℕ) {e : ℕ} (he : e < 32) (ha : act last e = true) :
    ∃ h : (zl last e).length < (zlist last nt).length, (zlist last nt)[(zl last e).length]'h = (last (i32 e)).toNat := by
  have hp : zl last (e + 1) <+: zlist last nt := (zl_prefix last he).trans (List.prefix_append _ _)
  have hl := zl_len_succ_act last ha
  have h : (zl last e).length < (zlist last nt).length := lt_of_lt_of_le (by omega) hp.length_le
  refine ⟨h, ?_⟩
  rw [← hp.getElem (by omega)]
  simp only [zl_succ, if_pos ha]
  simp

theorem zlist_tail (last : S32.Idx → BitVec 32) (nt : ℕ) {k : ℕ} (hk : k < 160 - nt) :
    ∃ h : (zl last 32).length + k < (zlist last nt).length, (zlist last nt)[(zl last 32).length + k]'h = nt + k := by
  refine ⟨by simp [zlist]; omega, ?_⟩
  simp [zlist, List.getElem_append_right]

theorem zlist_len (last : S32.Idx → BitVec 32) (nt : ℕ) : (zlist last nt).length = (zl last 32).length + (160 - nt) := by simp [zlist]

section
variable {hi lo : S32768.Idx → BitVec 32} {last : S32.Idx → BitVec 32} {nt : S1.Idx → BitVec 32}

theorem i32_inj {e e' : ℕ} (he : e < 32) (he' : e' < 32) (h : i32 e = i32 e') : e = e' := by
  have := congrArg Fin.val (congrFun h 0)
  simp only [i32] at this
  omega

theorem Placed.zlist_lt (H : Placed hi lo last nt) : ∀ b ∈ zlist last (nt i1).toNat, b < 160 := by
  have := H.nt_le
  intro b hb
  simp only [zlist, zl, List.mem_append, List.mem_map, List.mem_filter, List.mem_range] at hb
  rcases hb with ⟨e, ⟨_, ha⟩, rfl⟩ | ⟨k, hk, rfl⟩
  · have := H.last_lt (i32 e) (by simpa [act] using ha)
    omega
  · omega

theorem Placed.zlist_nodup (H : Placed hi lo last nt) : (zlist last (nt i1).toNat).Nodup := by
  have := H.nt_le
  refine List.Nodup.append ?_ ?_ ?_
  · refine List.Nodup.map_on ?_ (List.nodup_range.filter _)
    intro x hx y hy hxy
    simp only [List.mem_filter, List.mem_range] at hx hy
    exact i32_inj hx.1 hy.1 (H.last_inj _ _ (by simpa [act] using hx.2) (BitVec.eq_of_toNat_eq hxy))
  · exact List.nodup_range.map (fun a b h => by simpa using h)
  · intro b hb hb'
    simp only [zl, List.mem_map, List.mem_filter, List.mem_range] at hb hb'
    obtain ⟨e, ⟨_, ha⟩, rfl⟩ := hb
    obtain ⟨k, hk, hk'⟩ := hb'
    have := H.last_lt (i32 e) (by simpa [act] using ha)
    omega

end

/-! ## One tile cleared -/

/-- Tile `b` of the result: 32 of its rows of tiles. -/
def tset (b : ℕ) : Finset S5120x8x8x128.Idx := Finset.univ.filter fun y => (y 0).val / 32 = b

theorem tset_disjoint {b b' : ℕ} (h : b ≠ b') : Disjoint (tset b) (tset b') := by
  rw [Finset.disjoint_left]
  intro y hy hy'
  simp only [tset, Finset.mem_filter, Finset.mem_univ, true_and] at hy hy'
  exact h (hy.symm.trans hy')

theorem rect_tset {off : Fin 4 → ℕ} {inb : ∀ a, off a + S32x8x8x128.size a ≤ S5120x8x8x128.size a} {b : ℕ} (h : off = ![b * 32, 0, 0, 0]) :
    (Rect.unit (s := S5120x8x8x128) off S32x8x8x128.size inb).set = tset b := by
  subst h
  ext y
  rw [Rect.mem_set_unit]
  simp only [tset, Finset.mem_filter, Finset.mem_univ, true_and]
  constructor
  · intro H
    have := H 0
    simp at this
    omega
  · intro H a
    have h1 := (y 1).isLt
    have h2 := (y 2).isLt
    have h3 := (y 3).isLt
    fin_cases a <;> simp at * <;> omega

variable (c : Dev nD)

/-- The copies of the phase: each writes one tile of the result from the cleared scratch. -/
def zP (l : List ℕ) (f : S5120x8x8x128.Idx → F .f32) (z : S32x8x8x128.Idx → F .f32) (t : Fin l.length) : sProp 𝕄 :=
  iprop(((Memref.whole cc0_scratch0).view.loc (c : Thread nD τ) ↦{Transfers.shareTokN fullShare t.val} z)
    ∗ ((Memref.whole main_v2).view.loc (c : Thread nD τ) ↦[tset l[t.val]]{fullShare} f))

/-- What a copy leaves: its tile at the scratch's value. -/
def zD (l : List ℕ) (z : S32x8x8x128.Idx → F .f32) (v : F .f32) (t : Fin l.length) : sProp 𝕄 :=
  iprop(((Memref.whole main_v2).view.loc (c : Thread nD τ) ↦[tset l[t.val]]{fullShare} (fun _ => v : S5120x8x8x128.Idx → F .f32))
    ∗ ((Memref.whole cc0_scratch0).view.loc (c : Thread nD τ) ↦{Transfers.shareTokN fullShare t.val} z))

/-- The two tables the phase reads, and what it leaves alone. -/
def zT (f2 : S32.Idx → BitVec 32) (f3 : S1.Idx → BitVec 32) (R : sProp 𝕄) : sProp 𝕄 :=
  iprop(((Memref.whole main_arg2).view.loc (c : Thread nD τ) ↦{fullShare} f2) ∗ ((Memref.whole main_arg3).view.loc (c : Thread nD τ) ↦{fullShare} f3) ∗ R)

/-- One tile's credit. -/
abbrev zN : ℕ := (((Memref.whole main_v2).slice (Rect.unit (s := S5120x8x8x128) ![0, 0, 0, 0] S32x8x8x128.size inb_S5120x8x8x128_S32x8x8x128_0_0_0_0) (fun _ => rfl)).view.dmaCredit : ℕ)

/-- The core in the zeroing phase, `j` copies issued and `u` waited for. -/
abbrev ZS (f2 : S32.Idx → BitVec 32) (f3 : S1.Idx → BitVec 32) (R : sProp 𝕄) (f : S5120x8x8x128.Idx → F .f32) (z : S32x8x8x128.Idx → F .f32) (v : F .f32) (j u : ℕ) : sProp 𝕄 :=
  St c cc0_scratch2.sem (zlist f2 (f3 i1).toNat).length zN (zD c _ z v) (zP c _ f z) (zT c f2 f3 R) j u

variable {c}
variable {f2 : S32.Idx → BitVec 32} {f3 : S1.Idx → BitVec 32} {f : S5120x8x8x128.Idx → F .f32} {z : S32x8x8x128.Idx → F .f32} {v : F .f32} {R : sProp (MT nD τ sig Unit (Elt F) ℕ (UU nD τ) ℕ)}

/-- Issue one tile's copy. -/
theorem z_issue {off : Fin 4 → ℕ} {inb : ∀ a, off a + S32x8x8x128.size a ≤ S5120x8x8x128.size a} {hr hsrc hdst hsem} {β : Type}
    {k : PUnit → Prog (TpuEff nD τ sig (Elt F) Λ₀ .tc) β} {Q : β → sProp 𝕄} {j : ℕ} (hz : z = fun _ => v)
    (hj : j < (zlist f2 (f3 i1).toNat).length) (hoff : off = ![(zlist f2 (f3 i1).toNat)[j] * 32, 0, 0, 0])
    (h : ZS c f2 f3 R f z v (j + 1) 0 ⊢ wp frame (wpE (defs₀ (F := F)) Variants.none (c : Thread nD τ) none) Set.univ (k ⟨⟩) Q) :
    ZS c f2 f3 R f z v j 0
      ⊢ wp frame (wpE (defs₀ (F := F)) Variants.none (c : Thread nD τ) none) Set.univ
          (.op (.enqueueDma (Memref.whole cc0_scratch0) (.here ((Memref.whole main_v2).slice (Rect.unit (s := S5120x8x8x128) off S32x8x8x128.size inb) hr)) (.dma cc0_scratch2.sem) hsrc hdst hsem) k) Q := by
  have hset : ((Memref.whole main_v2).slice (Rect.unit (s := S5120x8x8x128) off S32x8x8x128.size inb) hr).view.set = tset (zlist f2 (f3 i1).toNat)[j] := by
    exact (View.set_slice_whole main_v2 (Rect.unit (s := S5120x8x8x128) off S32x8x8x128.size inb)).trans (rect_tset hoff)
  refine st_issue (q := Transfers.shareTokN fullShare j) (Sd := tset (zlist f2 (f3 i1).toNat)[j]) (fs := z) (fd := f) hj rfl hset.subset ?_ ?_ h
  · rw [(Memref.isWhole_whole cc0_scratch0).set_eq_univ]
    exact .rfl
  · rw [(Memref.isWhole_whole cc0_scratch0).set_eq_univ]
    refine sep_mono (Entails.of_eq ?_) .rfl
    refine pointsTo_congr fun y hy => ?_
    rw [← hset] at hy
    obtain ⟨x, _, rfl⟩ := Finset.mem_map.mp hy
    rw [View.write_emb_of_mem _ _ (Finset.mem_univ x)]
    rw [hz]
    rfl

/-! ## The guarded statements -/

theorem ne_extui (b : BitVec 1) : Scalar.cmpi .ne (Scalar.extui b) 0#32 = b := by
  revert b; decide

theorem sge_zero (w : BitVec 32) : Scalar.cmpi .sge w 0#32 = 1#1 ↔ w.msb = false := by
  have : (0#32).sle w = !w.msb := by
    rw [BitVec.sle_eq_decide, BitVec.toInt_zero, BitVec.msb_eq_toInt]
    by_cases h : w.toInt < 0 <;> simp [h] <;> omega
  simp only [Scalar.cmpi, IntOp.cmpi, this]
  cases w.msb <;> decide

theorem cond_iff (w : BitVec 32) : k0_cond2 w = 1#1 ↔ w.msb = false :=
  (iff_of_eq (congrArg (· = 1#1) (ne_extui _))).trans (sge_zero w)

/-- Read expert `e`'s last tile. -/
theorem z_load {e : ℕ} {inb} (he : e < 32) {β : Type}
    {k : BitVec 32 → Prog (TpuEff nD τ sig (Elt F) Λ₀ .tc) β} {Q : β → sProp 𝕄} {j u : ℕ}
    (h : ZS c f2 f3 R f z v j u ⊢ wp frame (wpE (defs₀ (F := F)) Variants.none (c : Thread nD τ) none) Set.univ (k (f2 (i32 e))) Q) :
    ZS c f2 f3 R f z v j u
      ⊢ wp frame (wpE (defs₀ (F := F)) Variants.none (c : Thread nD τ) none) Set.univ
          (smemLoad (Memref.whole main_arg2) (Rect.unit (s := S32) ![e] S1.size inb) numel1_S1 rfl >>= k) Q := by
  refine st_load (e := .i32) (w := f2 (i32 e)) (q := fullShare) (f := f2) (T' := iprop(((Memref.whole main_arg3).view.loc (c : Thread nD τ) ↦{fullShare} f3) ∗ R)) (by exact .rfl) (by exact .rfl) ?_ h
  refine congrArg f2 (funext fun a => ?_)
  fin_cases a
  apply Fin.ext
  simp [i32, Rect.emb_apply]
  omega

/-- The guarded issue for expert `e`. -/
theorem z_guard {i : grid0.Coords} {e : ℕ} {inb} (h1 : k0_cond1 i = 1#1) (hz : z = fun _ => v) (he : e < 32)
    {hi lo : S32768.Idx → BitVec 32} (H : Placed hi lo f2 f3) {β : Type}
    {k : Prog (TpuEff nD τ sig (Elt F) Λ₀ .tc) β} {Q : β → sProp 𝕄}
    (h : ZS c f2 f3 R f z v (zl f2 (e + 1)).length 0 ⊢ wp frame (wpE (defs₀ (F := F)) Variants.none (c : Thread nD τ) none) Set.univ k Q) :
    ZS c f2 f3 R f z v (zl f2 e).length 0
      ⊢ wp frame (wpE (defs₀ (F := F)) Variants.none (c : Thread nD τ) none) Set.univ
          (if h2 : k0_cond2 (f2 (i32 e)) = 1#1 then do
            let v278 : Elt F .i32 ← smemLoad (Memref.whole main_arg2) (Rect.unit (s := S32) ![e] S1.size inb) numel1_S1 rfl
            have hw : k0_chk1 i (f2 (i32 e)) v278 := (← Prog.lift (TpuEff.assume (k0_chk1 i (f2 (i32 e)) v278) (k0_chk1.dec i (f2 (i32 e)) v278))).down
            Prog.lift (.enqueueDma (Memref.whole cc0_scratch0) (.here ((Memref.whole main_v2).slice (Rect.unit (s := S5120x8x8x128) (k0_off1 v278) S32x8x8x128.size (k0_off1_inb i (f2 (i32 e)) v278 hw h1 h2)) (fun _ => rfl))) (.dma cc0_scratch2.sem) (Memref.isWhole_whole cc0_scratch0).wordExact (View.wordExact_bits rfl) ⟨Or.inl rfl, trivial⟩)
            k
           else k) Q := by
  by_cases ha : act f2 e = true
  · have hm : (f2 (i32 e)).msb = false := by simpa [act] using ha
    obtain ⟨hj, hb⟩ := zlist_at f2 (f3 i1).toNat he ha
    have hlt : (f2 (i32 e)).toNat < 160 := by rw [← hb]; exact H.zlist_lt _ (List.getElem_mem hj)
    have hoff : k0_off1 (f2 (i32 e)) = ![(f2 (i32 e)).toNat * 32, 0, 0, 0] := by
      have : (Scalar.muli (f2 (i32 e)) 32#32).toNat = (f2 (i32 e)).toNat * 32 := by
        simp only [Scalar.muli, IntOp.muli, BitVec.toNat_mul]
        rw [Nat.mod_eq_of_lt] <;> simp <;> omega
      simp only [k0_off1, this]
    rw [dif_pos ((cond_iff _).mpr hm)]
    refine z_load he ?_
    refine st_assume (fun _ _ a => ?_) ?_
    · rw [hoff]
      fin_cases a <;> simp <;> omega
    · refine z_issue hz hj (hoff.trans (by rw [hb])) ?_
      rw [← zl_len_succ_act f2 ha]
      exact h
  · rw [dif_neg (fun hc => ha (by simpa [act] using (cond_iff _).mp hc))]
    rw [← zl_len_succ_not f2 ha]
    exact h

/-- The guarded wait for expert `e`. -/
theorem z_wait {cnd : BitVec 1} {e : ℕ} {b : Fin 4 → ℕ} {inb hr hsrc hdst} {β : Type} (he : e < 32) (hc : cnd = 1#1 ↔ act f2 e = true)
    {k : Prog (TpuEff nD τ sig (Elt F) Λ₀ .tc) β} {Q : β → sProp 𝕄}
    (h : ZS c f2 f3 R f z v (zlist f2 (f3 i1).toNat).length (zl f2 (e + 1)).length ⊢ wp frame (wpE (defs₀ (F := F)) Variants.none (c : Thread nD τ) none) Set.univ k Q) :
    ZS c f2 f3 R f z v (zlist f2 (f3 i1).toNat).length (zl f2 e).length
      ⊢ wp frame (wpE (defs₀ (F := F)) Variants.none (c : Thread nD τ) none) Set.univ
          (if cnd = 1#1 then do
            Prog.lift (.waitDma2 cc0_scratch2.sem (Memref.whole cc0_scratch0) ((Memref.whole main_v2).slice (Rect.unit (s := S5120x8x8x128) b S32x8x8x128.size inb) hr) hsrc hdst)
            k
           else k) Q := by
  by_cases ha : act f2 e = true
  · rw [if_pos (hc.mpr ha)]
    obtain ⟨hj, _⟩ := zlist_at f2 (f3 i1).toNat he ha
    refine st_wait hj rfl ?_
    rw [← zl_len_succ_act f2 ha]
    exact h
  · rw [if_neg (fun hc' => ha (hc.mp hc'))]
    rw [← zl_len_succ_not f2 ha]
    exact h

end Cert.Proof.Dispatch
-- ==== Proof.Parts.lean ====
/-
  The zeroing phase, part by part: the thirty-two guarded issues, the two counted loops over the tiles no expert has,
  the thirty-two guarded waits and the loops that wait for the rest.
-/
module

public import proofs.«01_k».proof.Proof.Zero

@[expose] public section

noncomputable section

namespace Cert.Proof.Dispatch

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The value the scratch is cleared to. -/
abbrev zero : F .f32 := Scalar.ofBits .f32 0x00000000#32

variable {c : Dev nD} {hi lo : S32768.Idx → BitVec 32} {f2 : S32.Idx → BitVec 32} {f3 : S1.Idx → BitVec 32} {f : S5120x8x8x128.Idx → F .f32} {R : sProp (MT nD τ sig Unit (Elt F) ℕ (UU nD τ) ℕ)}

/-- A counted loop without values, by an invariant, and what follows it. -/
theorem loop_back {l : Scf.Loop 32} {hok : l.OK} {body : Fin l.trips → Unit → Prog (TpuEff nD τ sig (Elt F) Λ₀ .tc) Unit} (I : ℕ → sProp 𝕄)
    {β : Type} {k : Unit → Prog (TpuEff nD τ sig (Elt F) Λ₀ .tc) β} {Q : β → sProp 𝕄}
    (hbody : ∀ (t : Fin l.trips) (a : Unit), I t.val ⊢ wp frame (wpE (defs₀ (F := F)) Variants.none (c : Thread nD τ) none) Set.univ (body t a) (fun _ => I (t.val + 1)))
    (h : I l.trips ⊢ wp frame (wpE (defs₀ (F := F)) Variants.none (c : Thread nD τ) none) Set.univ (k ⟨⟩) Q) :
    I 0 ⊢ wp frame (wpE (defs₀ (F := F)) Variants.none (c : Thread nD τ) none) Set.univ (Scf.Loop.for l hok ⟨⟩ body >>= k) Q := by
  iintro HI
  iapply (Scf.wp_for_bind frame (wpE (defs₀ (F := F)) Variants.none (c : Thread nD τ) none) Set.univ l.lb l.ub l.st hok ⟨⟩ body (fun n _ => I n) hbody) $$ HI
  iintro %a HI
  iapply h
  iexact HI

/-! ## The counted loops' trips -/

theorem loops_at : ∀ n : Fin 161, (k0_t1_loop (BitVec.ofNat 32 n.val)).trips = 160 - n.val ∧ (k0_t1_loop (BitVec.ofNat 32 n.val)).OK
    ∧ (k0_t2_loop (BitVec.ofNat 32 n.val)).trips = 0 ∧ (k0_t2_loop (BitVec.ofNat 32 n.val)).OK := by decide +kernel

theorem loops_of {w : BitVec 32} (hw : w.toNat ≤ 160) : (k0_t1_loop w).trips = 160 - w.toNat ∧ (k0_t1_loop w).OK
    ∧ (k0_t2_loop w).trips = 0 ∧ (k0_t2_loop w).OK := by
  have := loops_at ⟨w.toNat, by omega⟩
  simpa using this

theorem off33_eq {w : BitVec 32} (hw : w.toNat ≤ 160) (k : Fin (k0_t1_loop w).trips) : k0_off33 w k = ![(w.toNat + k.val) * 32, 0, 0, 0] := by
  have hk : k.val < 160 - w.toNat := (loops_of hw).1 ▸ k.isLt
  have h1 : (Scf.iv w 1#32 k.val).toNat = w.toNat + k.val := by
    have hk' : k.val < 2 ^ 32 := by omega
    rw [Scf.iv, BitVec.toNat_add, BitVec.toNat_mul, BitVec.toNat_ofNat, Nat.mod_eq_of_lt hk']
    simp
    omega
  have h2 : (Scalar.muli (Scf.iv w 1#32 k.val) 32#32).toNat = (w.toNat + k.val) * 32 := by
    simp only [Scalar.muli, IntOp.muli, BitVec.toNat_mul, h1]
    rw [Nat.mod_eq_of_lt] <;> simp <;> omega
  show ![(Scalar.muli (Scf.iv w 1#32 k.val) 32#32).toNat, 0, 0, 0] = _
  rw [h2]

/-- The check on the count of tiles in use. -/
theorem chk33_of {i : grid0.Coords} {w : BitVec 32} (hw : w.toNat ≤ 160) : k0_chk33 i w := by
  obtain ⟨ht1, ho1, ht2, ho2⟩ := loops_of hw
  refine ⟨fun _ => ho1, fun k _ a => ?_, fun _ => ho2, fun k _ a => absurd k.isLt (by omega)⟩
  have hk : k.val < 160 - w.toNat := ht1 ▸ k.isLt
  rw [off33_eq hw k]
  fin_cases a <;> simp <;> omega

/-- The phase's state, the scratch cleared. -/
abbrev ZZ (c : Dev nD) (f2 : S32.Idx → BitVec 32) (f3 : S1.Idx → BitVec 32) (R : sProp 𝕄) (f : S5120x8x8x128.Idx → F .f32) (j u : ℕ) : sProp 𝕄 :=
  ZS c f2 f3 R f (fun _ => zero) zero j u

theorem chk34_of {i : grid0.Coords} {w : BitVec 32} (hw : w.toNat ≤ 160) : k0_chk34 i w :=
  ⟨fun _ => (loops_of hw).2.1, fun _ => (loops_of hw).2.2.2⟩

/-- The scratch cleared. -/
theorem z_fill {R : sProp 𝕄} {z0 : S32x8x8x128.Idx → F .f32} {β : Type} {k : PUnit → Prog (TpuEff nD τ sig (Elt F) Λ₀ .tc) β} {Q : β → sProp 𝕄}
    (h : iprop(((Memref.whole cc0_scratch0).view.loc (c : Thread nD τ) ↦{fullShare} (fun _ => zero : S32x8x8x128.Idx → F .f32)) ∗ R)
      ⊢ wp frame (wpE (defs₀ (F := F)) Variants.none (c : Thread nD τ) none) Set.univ (k ⟨⟩) Q) :
    iprop(((Memref.whole cc0_scratch0).view.loc (c : Thread nD τ) ↦{fullShare} z0) ∗ R)
      ⊢ wp frame (wpE (defs₀ (F := F)) Variants.none (c : Thread nD τ) none) Set.univ
        (.op (.load (Memref.whole cc0_scratch0) (Rect.unit (s := S32x8x8x128) ![0, 0, 0, 0] S32x8x8x128.size inb_S32x8x8x128_S32x8x8x128_0_0_0_0).toLoadRect (View.loadsAt_vmem h_S32x8x8x128)) fun _ =>
         .op (.store (Memref.whole cc0_scratch0) (Rect.unit (s := S32x8x8x128) ![0, 0, 0, 0] S32x8x8x128.size inb_S32x8x8x128_S32x8x8x128_0_0_0_0) (k0_pay1 (F := F)) Finset.univ (View.stores_vmem_bits_univ h_S32x8x8x128 rfl) (.inl rfl)) k) Q := by
  iintro ⟨HZ, HR⟩
  sl_step
  sl_step
  iapply h
  isplitl [HZ]
  · iapply (Entails.of_eq (congrArg (fun g => ((Memref.whole cc0_scratch0).view.loc (c : Thread nD τ) ↦{fullShare} g : sProp 𝕄))
      (Memref.write_access_unit_zero_univ (Elt F) cc0_scratch0 (off := ![0, 0, 0, 0]) (by funext a; fin_cases a <;> rfl) inb_S32x8x8x128_S32x8x8x128_0_0_0_0 z0 (k0_pay1 (F := F)))))
    iexact HZ
  · iexact HR

/-- Read expert `e`'s last tile and return it. -/
theorem z_load_ret {e : ℕ} {inb} (he : e < 32) {Q : BitVec 32 → sProp 𝕄} {j u : ℕ} (h : ZZ c f2 f3 R f j u ⊢ Q (f2 (i32 e))) :
    ZZ c f2 f3 R f j u
      ⊢ wp frame (wpE (defs₀ (F := F)) Variants.none (c : Thread nD τ) none) Set.univ
          (smemLoad (Memref.whole main_arg2) (Rect.unit (s := S32) ![e] S1.size inb) numel1_S1 rfl) Q :=
  z_load (v := zero) he (k := .ret) (h.trans (by rw [wp_ret]; exact fupd_intro))

variable (arg5 : Memref sig .tc .vmem S256x8x8x128 .f32) (harg5 : arg5.IsWhole)

theorem part1 (i : grid0.Coords) (h1 : k0_cond1 i = 1#1) (H : Placed hi lo f2 f3) (R0 : sProp 𝕄) (z0 : S32x8x8x128.Idx → F .f32) {Q : BitVec 32 → sProp 𝕄}
    (h0 : iprop(((Memref.whole cc0_scratch0).view.loc (c : Thread nD τ) ↦{fullShare} (fun _ => zero : S32x8x8x128.Idx → F .f32)) ∗ R0) ⊢ |={Set.univ}=> ZZ c f2 f3 R f 0 0)
    (h : ZZ c f2 f3 R f (zl f2 6).length 0 ⊢ Q (f2 (i32 6))) :
    iprop(((Memref.whole cc0_scratch0).view.loc (c : Thread nD τ) ↦{fullShare} z0) ∗ R0)
      ⊢ wp frame (wpE (defs₀ (F := F)) Variants.none (c : Thread nD τ) none) Set.univ
        (k0_part1 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 h1) Q := by
  rw [k0_part1_eq_skeleton]
  unfold k0_part1_skel
  refine z_fill ?_
  refine h0.trans ?_
  refine (BI.fupd_mono (?_ : _ ⊢ wp frame (wpE (defs₀ (F := F)) Variants.none (c : Thread nD τ) none) Set.univ _ Q)).trans (Entails.of_eq (fupd_wp_eq ..))
  refine z_load (e := 0) (by decide) ?_
  refine z_guard (e := 0) h1 rfl (by decide) H ?_
  refine z_load (e := 1) (by decide) ?_
  refine z_guard (e := 1) h1 rfl (by decide) H ?_
  refine z_load (e := 2) (by decide) ?_
  refine z_guard (e := 2) h1 rfl (by decide) H ?_
  refine z_load (e := 3) (by decide) ?_
  refine z_guard (e := 3) h1 rfl (by decide) H ?_
  refine z_load (e := 4) (by decide) ?_
  refine z_guard (e := 4) h1 rfl (by decide) H ?_
  refine z_load (e := 5) (by decide) ?_
  refine z_guard (e := 5) h1 rfl (by decide) H ?_
  exact z_load_ret (by decide) h

/-- The wait's condition on a word of the table. -/
theorem wcond (e : ℕ) : Scalar.cmpi .ne (Scalar.extui (Scalar.cmpi .sge (f2 (i32 e)) 0#32)) 0#32 = 1#1 ↔ act f2 e = true := by
  rw [ne_extui, sge_zero]
  simp [act]

/-- A part that returns. -/
theorem z_pure {R : sProp 𝕄} {β : Type} {a : β} {Q : β → sProp 𝕄} (h : R ⊢ Q a) :
    R ⊢ wp frame (wpE (defs₀ (F := F)) Variants.none (c : Thread nD τ) none) Set.univ (pure a) Q :=
  h.trans (by show Q a ⊢ wp _ _ _ (.ret a) Q; rw [wp_ret]; exact fupd_intro)

/-- Read the count of tiles in use. -/
theorem z_load_nt {inb} {β : Type}
    {k : BitVec 32 → Prog (TpuEff nD τ sig (Elt F) Λ₀ .tc) β} {Q : β → sProp 𝕄} {j u : ℕ}
    (h : ZZ c f2 f3 R f j u ⊢ wp frame (wpE (defs₀ (F := F)) Variants.none (c : Thread nD τ) none) Set.univ (k (f3 i1)) Q) :
    ZZ c f2 f3 R f j u
      ⊢ wp frame (wpE (defs₀ (F := F)) Variants.none (c : Thread nD τ) none) Set.univ
          (smemLoad (Memref.whole main_arg3) (Rect.unit (s := S1) ![0] S1.size inb) numel1_S1 rfl >>= k) Q := by
  refine st_load (e := .i32) (w := f3 i1) (q := fullShare) (f := f3) (T' := iprop(((Memref.whole main_arg2).view.loc (c : Thread nD τ) ↦{fullShare} f2) ∗ R))
    (by unfold zT; iintro ⟨HA, HB, HR⟩; isplitl [HB]; · iexact HB
        isplitl [HA] <;> iassumption) (by unfold zT; iintro ⟨HA, HB, HR⟩; isplitl [HB]; · iexact HB
                                          isplitl [HA] <;> iassumption) ?_ h
  refine congrArg f3 (funext fun a => ?_)
  fin_cases a
  exact Fin.ext (Nat.lt_one_iff.mp (Fin.isLt _))

/-- The guarded issues of experts 6 to 12; -/
theorem part2 (i : grid0.Coords) (h1 : k0_cond1 i = 1#1) (H : Placed hi lo f2 f3) {Q : _ → sProp 𝕄}
    (h : ZZ c f2 f3 R f (zl f2 13).length 0 ⊢ Q ⟨f2 (i32 13), Scalar.extui (Scalar.cmpi .sge (f2 (i32 13)) 0#32), 0#32⟩) :
    ZZ c f2 f3 R f (zl f2 6).length 0
      ⊢ wp frame (wpE (defs₀ (F := F)) Variants.none (c : Thread nD τ) none) Set.univ
        (k0_part2 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 h1 (f2 (i32 6))) Q := by
  rw [k0_part2_eq_skeleton]
  unfold k0_part2_skel
  refine z_guard (e := 6) h1 rfl (by decide) H ?_
  refine z_load (e := 7) (by decide) ?_
  refine z_guard (e := 7) h1 rfl (by decide) H ?_
  refine z_load (e := 8) (by decide) ?_
  refine z_guard (e := 8) h1 rfl (by decide) H ?_
  refine z_load (e := 9) (by decide) ?_
  refine z_guard (e := 9) h1 rfl (by decide) H ?_
  refine z_load (e := 10) (by decide) ?_
  refine z_guard (e := 10) h1 rfl (by decide) H ?_
  refine z_load (e := 11) (by decide) ?_
  refine z_guard (e := 11) h1 rfl (by decide) H ?_
  refine z_load (e := 12) (by decide) ?_
  refine z_guard (e := 12) h1 rfl (by decide) H ?_
  refine z_load (e := 13) (by decide) ?_
  exact z_pure h

/-- of 13 to 20; -/
theorem part3 (i : grid0.Coords) (h1 : k0_cond1 i = 1#1) (H : Placed hi lo f2 f3) {Q : _ → sProp 𝕄}
    (h : ZZ c f2 f3 R f (zl f2 21).length 0 ⊢ Q (f2 (i32 21))) :
    ZZ c f2 f3 R f (zl f2 13).length 0
      ⊢ wp frame (wpE (defs₀ (F := F)) Variants.none (c : Thread nD τ) none) Set.univ
        (k0_part3 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 h1 (f2 (i32 13)) (Scalar.extui (Scalar.cmpi .sge (f2 (i32 13)) 0#32)) 0#32) Q := by
  rw [k0_part3_eq_skeleton]
  unfold k0_part3_skel
  refine z_guard (e := 13) h1 rfl (by decide) H ?_
  refine z_load (e := 14) (by decide) ?_
  refine z_guard (e := 14) h1 rfl (by decide) H ?_
  refine z_load (e := 15) (by decide) ?_
  refine z_guard (e := 15) h1 rfl (by decide) H ?_
  refine z_load (e := 16) (by decide) ?_
  refine z_guard (e := 16) h1 rfl (by decide) H ?_
  refine z_load (e := 17) (by decide) ?_
  refine z_guard (e := 17) h1 rfl (by decide) H ?_
  refine z_load (e := 18) (by decide) ?_
  refine z_guard (e := 18) h1 rfl (by decide) H ?_
  refine z_load (e := 19) (by decide) ?_
  refine z_guard (e := 19) h1 rfl (by decide) H ?_
  refine z_load (e := 20) (by decide) ?_
  refine z_guard (e := 20) h1 rfl (by decide) H ?_
  exact z_load_ret (by decide) h

/-- of 21 to 27; -/
theorem part4 (i : grid0.Coords) (h1 : k0_cond1 i = 1#1) (H : Placed hi lo f2 f3) {Q : _ → sProp 𝕄}
    (h : ZZ c f2 f3 R f (zl f2 28).length 0 ⊢ Q ⟨f2 (i32 28), Scalar.extui (Scalar.cmpi .sge (f2 (i32 28)) 0#32), 0#32⟩) :
    ZZ c f2 f3 R f (zl f2 21).length 0
      ⊢ wp frame (wpE (defs₀ (F := F)) Variants.none (c : Thread nD τ) none) Set.univ
        (k0_part4 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 h1 (f2 (i32 21))) Q := by
  rw [k0_part4_eq_skeleton]
  unfold k0_part4_skel
  refine z_guard (e := 21) h1 rfl (by decide) H ?_
  refine z_load (e := 22) (by decide) ?_
  refine z_guard (e := 22) h1 rfl (by decide) H ?_
  refine z_load (e := 23) (by decide) ?_
  refine z_guard (e := 23) h1 rfl (by decide) H ?_
  refine z_load (e := 24) (by decide) ?_
  refine z_guard (e := 24) h1 rfl (by decide) H ?_
  refine z_load (e := 25) (by decide) ?_
  refine z_guard (e := 25) h1 rfl (by decide) H ?_
  refine z_load (e := 26) (by decide) ?_
  refine z_guard (e := 26) h1 rfl (by decide) H ?_
  refine z_load (e := 27) (by decide) ?_
  refine z_guard (e := 27) h1 rfl (by decide) H ?_
  refine z_load (e := 28) (by decide) ?_
  exact z_pure h

/-- of 28 to 31 and of the tiles no expert has, and the first waits; -/
theorem part5 (i : grid0.Coords) (h1 : k0_cond1 i = 1#1) (H : Placed hi lo f2 f3) {Q : _ → sProp 𝕄}
    (h : ZZ c f2 f3 R f (zlist f2 (f3 i1).toNat).length (zl f2 2).length ⊢ Q ⟨f2 (i32 2), 0#32⟩) :
    ZZ c f2 f3 R f (zl f2 28).length 0
      ⊢ wp frame (wpE (defs₀ (F := F)) Variants.none (c : Thread nD τ) none) Set.univ
        (k0_part5 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 h1 (f2 (i32 28)) (Scalar.extui (Scalar.cmpi .sge (f2 (i32 28)) 0#32)) 0#32) Q := by
  rw [k0_part5_eq_skeleton]
  unfold k0_part5_skel
  refine z_guard (e := 28) h1 rfl (by decide) H ?_
  refine z_load (e := 29) (by decide) ?_
  refine z_guard (e := 29) h1 rfl (by decide) H ?_
  refine z_load (e := 30) (by decide) ?_
  refine z_guard (e := 30) h1 rfl (by decide) H ?_
  refine z_load (e := 31) (by decide) ?_
  refine z_guard (e := 31) h1 rfl (by decide) H ?_
  refine z_load_nt ?_
  refine st_assume (chk33_of H.nt_le) ?_
  obtain ⟨ht1, -, ht2, -⟩ := loops_of H.nt_le
  refine loop_back (fun k => ZZ c f2 f3 R f ((zl f2 32).length + k) 0) (fun k _ => ?_) ?_
  · obtain ⟨hj, hb⟩ := zlist_tail f2 (f3 i1).toNat (k := k.val) (ht1 ▸ k.isLt)
    refine z_issue rfl hj ((off33_eq H.nt_le k).trans (by rw [hb])) ?_
    exact z_pure .rfl
  rw [ht1, ← zlist_len]
  refine loop_back (fun _ => ZZ c f2 f3 R f (zlist f2 (f3 i1).toNat).length 0) (fun k _ => absurd k.isLt (by omega)) ?_
  refine z_load (e := 0) (by decide) ?_
  refine z_wait (e := 0) (by decide) (wcond _) ?_
  refine z_load (e := 1) (by decide) ?_
  refine z_wait (e := 1) (by decide) (wcond _) ?_
  refine z_load (e := 2) (by decide) ?_
  exact z_pure h

/-- the waits of experts 2 to 8; -/
theorem part6 (i : grid0.Coords)  {Q : _ → sProp 𝕄}
    (h : ZZ c f2 f3 R f (zlist f2 (f3 i1).toNat).length (zl f2 9).length ⊢ Q (Scalar.cmpi .ne (Scalar.extui (Scalar.cmpi .sge (f2 (i32 9)) 0#32)) 0#32)) :
    ZZ c f2 f3 R f (zlist f2 (f3 i1).toNat).length (zl f2 2).length
      ⊢ wp frame (wpE (defs₀ (F := F)) Variants.none (c : Thread nD τ) none) Set.univ
        (k0_part6 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 (f2 (i32 2)) 0#32) Q := by
  rw [k0_part6_eq_skeleton]
  unfold k0_part6_skel
  refine z_wait (e := 2) (by decide) (wcond _) ?_
  refine z_load (e := 3) (by decide) ?_
  refine z_wait (e := 3) (by decide) (wcond _) ?_
  refine z_load (e := 4) (by decide) ?_
  refine z_wait (e := 4) (by decide) (wcond _) ?_
  refine z_load (e := 5) (by decide) ?_
  refine z_wait (e := 5) (by decide) (wcond _) ?_
  refine z_load (e := 6) (by decide) ?_
  refine z_wait (e := 6) (by decide) (wcond _) ?_
  refine z_load (e := 7) (by decide) ?_
  refine z_wait (e := 7) (by decide) (wcond _) ?_
  refine z_load (e := 8) (by decide) ?_
  refine z_wait (e := 8) (by decide) (wcond _) ?_
  refine z_load (e := 9) (by decide) ?_
  exact z_pure h

/-- of 9 to 16; -/
theorem part7 (i : grid0.Coords)  {Q : _ → sProp 𝕄}
    (h : ZZ c f2 f3 R f (zlist f2 (f3 i1).toNat).length (zl f2 17).length ⊢ Q ⟨f2 (i32 17), 0#32⟩) :
    ZZ c f2 f3 R f (zlist f2 (f3 i1).toNat).length (zl f2 9).length
      ⊢ wp frame (wpE (defs₀ (F := F)) Variants.none (c : Thread nD τ) none) Set.univ
        (k0_part7 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 (Scalar.cmpi .ne (Scalar.extui (Scalar.cmpi .sge (f2 (i32 9)) 0#32)) 0#32)) Q := by
  rw [k0_part7_eq_skeleton]
  unfold k0_part7_skel
  refine z_wait (e := 9) (by decide) (wcond _) ?_
  refine z_load (e := 10) (by decide) ?_
  refine z_wait (e := 10) (by decide) (wcond _) ?_
  refine z_load (e := 11) (by decide) ?_
  refine z_wait (e := 11) (by decide) (wcond _) ?_
  refine z_load (e := 12) (by decide) ?_
  refine z_wait (e := 12) (by decide) (wcond _) ?_
  refine z_load (e := 13) (by decide) ?_
  refine z_wait (e := 13) (by decide) (wcond _) ?_
  refine z_load (e := 14) (by decide) ?_
  refine z_wait (e := 14) (by decide) (wcond _) ?_
  refine z_load (e := 15) (by decide) ?_
  refine z_wait (e := 15) (by decide) (wcond _) ?_
  refine z_load (e := 16) (by decide) ?_
  refine z_wait (e := 16) (by decide) (wcond _) ?_
  refine z_load (e := 17) (by decide) ?_
  exact z_pure h

/-- of 17 to 23; -/
theorem part8 (i : grid0.Coords)  {Q : _ → sProp 𝕄}
    (h : ZZ c f2 f3 R f (zlist f2 (f3 i1).toNat).length (zl f2 24).length ⊢ Q (Scalar.cmpi .ne (Scalar.extui (Scalar.cmpi .sge (f2 (i32 24)) 0#32)) 0#32)) :
    ZZ c f2 f3 R f (zlist f2 (f3 i1).toNat).length (zl f2 17).length
      ⊢ wp frame (wpE (defs₀ (F := F)) Variants.none (c : Thread nD τ) none) Set.univ
        (k0_part8 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 (f2 (i32 17)) 0#32) Q := by
  rw [k0_part8_eq_skeleton]
  unfold k0_part8_skel
  refine z_wait (e := 17) (by decide) (wcond _) ?_
  refine z_load (e := 18) (by decide) ?_
  refine z_wait (e := 18) (by decide) (wcond _) ?_
  refine z_load (e := 19) (by decide) ?_
  refine z_wait (e := 19) (by decide) (wcond _) ?_
  refine z_load (e := 20) (by decide) ?_
  refine z_wait (e := 20) (by decide) (wcond _) ?_
  refine z_load (e := 21) (by decide) ?_
  refine z_wait (e := 21) (by decide) (wcond _) ?_
  refine z_load (e := 22) (by decide) ?_
  refine z_wait (e := 22) (by decide) (wcond _) ?_
  refine z_load (e := 23) (by decide) ?_
  refine z_wait (e := 23) (by decide) (wcond _) ?_
  refine z_load (e := 24) (by decide) ?_
  exact z_pure h

/-- of 24 to 31. -/
theorem part9 (i : grid0.Coords) (H : Placed hi lo f2 f3) {Q : _ → sProp 𝕄}
    (h : ∀ hw, ZZ c f2 f3 R f (zlist f2 (f3 i1).toNat).length (zl f2 32).length ⊢ Q ⟨f3 i1, hw⟩) :
    ZZ c f2 f3 R f (zlist f2 (f3 i1).toNat).length (zl f2 24).length
      ⊢ wp frame (wpE (defs₀ (F := F)) Variants.none (c : Thread nD τ) none) Set.univ
        (k0_part9 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 (Scalar.cmpi .ne (Scalar.extui (Scalar.cmpi .sge (f2 (i32 24)) 0#32)) 0#32)) Q := by
  rw [k0_part9_eq_skeleton]
  unfold k0_part9_skel
  refine z_wait (e := 24) (by decide) (wcond _) ?_
  refine z_load (e := 25) (by decide) ?_
  refine z_wait (e := 25) (by decide) (wcond _) ?_
  refine z_load (e := 26) (by decide) ?_
  refine z_wait (e := 26) (by decide) (wcond _) ?_
  refine z_load (e := 27) (by decide) ?_
  refine z_wait (e := 27) (by decide) (wcond _) ?_
  refine z_load (e := 28) (by decide) ?_
  refine z_wait (e := 28) (by decide) (wcond _) ?_
  refine z_load (e := 29) (by decide) ?_
  refine z_wait (e := 29) (by decide) (wcond _) ?_
  refine z_load (e := 30) (by decide) ?_
  refine z_wait (e := 30) (by decide) (wcond _) ?_
  refine z_load (e := 31) (by decide) ?_
  refine z_wait (e := 31) (by decide) (wcond _) ?_
  refine z_load_nt ?_
  refine st_assume (chk34_of H.nt_le) ?_
  exact z_pure (h _)

/-- The waits for the tiles no expert has. -/
theorem z_rest {i : grid0.Coords} (h1 : k0_cond1 i = 1#1) (H : Placed hi lo f2 f3) (hw : k0_chk34 i (f3 i1)) {β : Type}
    {k : Unit → Prog (TpuEff nD τ sig (Elt F) Λ₀ .tc) β} {Q : β → sProp 𝕄}
    (h : ZZ c f2 f3 R f (zlist f2 (f3 i1).toNat).length (zlist f2 (f3 i1).toNat).length ⊢ wp frame (wpE (defs₀ (F := F)) Variants.none (c : Thread nD τ) none) Set.univ (k ⟨⟩) Q) :
    ZZ c f2 f3 R f (zlist f2 (f3 i1).toNat).length (zl f2 32).length
      ⊢ wp frame (wpE (defs₀ (F := F)) Variants.none (c : Thread nD τ) none) Set.univ
        (Scf.Loop.for (k0_t3_loop (f3 i1)) (k0_t3_ok i (f3 i1) hw h1) ⟨⟩ (k0_t3_body (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 h1 (f3 i1) hw) >>= fun _ =>
         Scf.Loop.for (k0_t4_loop (f3 i1)) (k0_t4_ok i (f3 i1) hw h1) ⟨⟩ (k0_t4_body (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 h1 (f3 i1) hw) >>= k) Q := by
  obtain ⟨ht1, -, ht2, -⟩ := loops_of H.nt_le
  refine loop_back (fun k => ZZ c f2 f3 R f (zlist f2 (f3 i1).toNat).length ((zl f2 32).length + k)) (fun k _ => ?_) ?_
  · obtain ⟨hj, hb⟩ := zlist_tail f2 (f3 i1).toNat (k := k.val) (lt_of_lt_of_eq k.isLt ht1)
    refine st_wait hj rfl ?_
    exact z_pure .rfl
  show ZZ c f2 f3 R f (zlist f2 (f3 i1).toNat).length ((zl f2 32).length + (k0_t1_loop (f3 i1)).trips) ⊢ _
  rw [ht1, ← zlist_len]
  exact loop_back (fun _ => ZZ c f2 f3 R f (zlist f2 (f3 i1).toNat).length (zlist f2 (f3 i1).toNat).length)
    (fun k _ => absurd (lt_of_lt_of_eq k.isLt ht2) (Nat.not_lt_zero _)) h

end Cert.Proof.Dispatch
-- ==== Proof.Rows.lean ====
/-
  The row phase of one grid point: the 2048 tokens of the point's block, each copied to its two slots of the result.
  Copy `t` of the phase is of the token at the block's row `t / 2`, to the slot the tables hold for it: the first for even
  `t`, the second for odd.
-/
module

public import proofs.«01_k».proof.Proof.Parts

@[expose] public section

noncomputable section

namespace Cert.Proof.Dispatch

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- A program that has returned. -/
theorem ret_back {c : Dev nD} {β : Type} {a : β} {Q : β → sProp 𝕄} {R : sProp 𝕄} (h : R ⊢ Q a) :
    R ⊢ wp frame (wpE (defs₀ (F := F)) Variants.none (c : Thread nD τ) none) Set.univ (.ret a) Q := h.trans (by rw [wp_ret]; exact fupd_intro)

/-! ## Where a copy reads and writes -/

/-- The table's index of copy `t` at grid point `p`. -/
def ra (p t : ℕ) : ℕ := t % 2 * 16384 + p * 2048 + t / 2

/-- A slot of the result: one sublane's row of its eight tiles. -/
def rset (a b : ℕ) : Finset S5120x8x8x128.Idx := Finset.univ.filter fun y => (y 0).val = a ∧ (y 2).val = b

theorem rset_disjoint {a b a' b' : ℕ} (h : ¬ (a = a' ∧ b = b')) : Disjoint (rset a b) (rset a' b') := by
  rw [Finset.disjoint_left]
  intro y hy hy'
  simp only [rset, Finset.mem_filter, Finset.mem_univ, true_and] at hy hy'
  exact h ⟨hy.1.symm.trans hy'.1, hy.2.symm.trans hy'.2⟩

/-- The block's index a slot's element is copied from. -/
def bi (t : ℕ) (y : S5120x8x8x128.Idx) : S256x8x8x128.Idx :=
  fun | 0 => ⟨t / 16 % 256, Nat.mod_lt _ (by decide : 0 < 256)⟩ | 1 => y 1 | 2 => ⟨t / 2 % 8, Nat.mod_lt _ (by decide : 0 < 8)⟩ | 3 => y 3

/-- The block's row copy `t` reads. -/
def srect_inb (t : ℕ) : ∀ a, (![t / 16 % 256, 0, t / 2 % 8, 0] : Fin 4 → ℕ) a + S1x8x1x128.size a ≤ S256x8x8x128.size a := by
  have h1 := Nat.mod_lt (t / 16) (by decide : 0 < 256)
  have h2 := Nat.mod_lt (t / 2) (by decide : 0 < 8)
  intro a
  fin_cases a <;> simp <;> omega

theorem row_set {off : Fin 4 → ℕ} {inb : ∀ a, off a + S1x8x1x128.size a ≤ S5120x8x8x128.size a} {a b : ℕ} (h : off = ![a, 0, b, 0]) :
    (Rect.unit (s := S5120x8x8x128) off S1x8x1x128.size inb).set = rset a b := by
  subst h
  ext y
  rw [Rect.mem_set_unit]
  simp only [rset, Finset.mem_filter, Finset.mem_univ, true_and]
  constructor
  · intro H
    have h0 := H 0
    have h2 := H 2
    simp at h0 h2
    omega
  · intro H a
    have h1 := (y 1).isLt
    have h3 := (y 3).isLt
    fin_cases a <;> simp at * <;> omega

theorem bi_emb {t a b : ℕ} {hi_inb} {q : S1x8x1x128.Idx} {inb} :
    (Rect.unit (s := S256x8x8x128) ![t / 16 % 256, 0, t / 2 % 8, 0] S1x8x1x128.size inb).emb q
      = bi t ((Rect.unit (s := S5120x8x8x128) ![a, 0, b, 0] S1x8x1x128.size hi_inb).emb q) := by
  have h0 : (q 0).val < 1 := (q 0).isLt
  have h2 : (q 2).val < 1 := (q 2).isLt
  funext a
  apply Fin.ext
  fin_cases a <;> simp [bi, Rect.emb_apply] <;> omega

theorem ra_lt {p t : ℕ} (hp : p < 8) (ht : t < 4096) : ra p t < 32768 := by unfold ra; omega

theorem row_inb {hi lo : S32768.Idx → BitVec 32} {f2 : S32.Idx → BitVec 32} {f3 : S1.Idx → BitVec 32} (H : Placed hi lo f2 f3) (e : S32768.Idx) :
    ∀ a, (![(hi e).toNat, 0, (lo e).toNat, 0] : Fin 4 → ℕ) a + S1x8x1x128.size a ≤ S5120x8x8x128.size a := by
  have h1 := H.hi_lt e
  have h2 := H.lo_lt e
  intro a
  fin_cases a <;> simp <;> omega

variable (c : Dev nD) (hi lo : S32768.Idx → BitVec 32) (f2 : S32.Idx → BitVec 32) (f3 : S1.Idx → BitVec 32)
variable (arg5 : Memref sig .tc .vmem S256x8x8x128 .f32) (harg5 : arg5.IsWhole) (p : ℕ)
variable (f : S5120x8x8x128.Idx → F .f32) (X : Buf (Elt F) (arg5.view.loc (c : Thread nD τ)))

/-- The block's row copy `t` reads, as the kernel names it. -/
abbrev srow (t : ℕ) : Memref sig .tc .vmem S8x128 .f32 :=
  (arg5.slice (Rect.unit (s := S256x8x8x128) ![t / 16 % 256, 0, t / 2 % 8, 0] S1x8x1x128.size (srect_inb t)) (fun _ => rfl)).squeeze S8x128 squeezes_S1x8x1x128_S8x128

/-- The copies of the phase: each writes one slot of the result from one row of the block. -/
def rP (t : Fin 4096) : sProp 𝕄 :=
  iprop((arg5.view.loc (c : Thread nD τ) ↦[(srow arg5 t.val).view.set]{Transfers.shareTokN fullShare t.val} X)
    ∗ ((Memref.whole main_v2).view.loc (c : Thread nD τ) ↦[rset (hi (i32768 (ra p t.val))).toNat (lo (i32768 (ra p t.val))).toNat]{fullShare} f))

/-- What a copy leaves: its slot at the row's values. -/
def rD (t : Fin 4096) : sProp 𝕄 :=
  iprop(((Memref.whole main_v2).view.loc (c : Thread nD τ) ↦[rset (hi (i32768 (ra p t.val))).toNat (lo (i32768 (ra p t.val))).toNat]{fullShare}
      (fun y => arg5.view.read (Elt F) X (bi t.val y) : S5120x8x8x128.Idx → F .f32))
    ∗ (arg5.view.loc (c : Thread nD τ) ↦[(srow arg5 t.val).view.set]{Transfers.shareTokN fullShare t.val} X))

/-- The two tables the phase reads, and what it leaves alone. -/
def rT (R : sProp 𝕄) : sProp 𝕄 :=
  iprop(((Memref.whole main_arg0).view.loc (c : Thread nD τ) ↦{fullShare} hi) ∗ ((Memref.whole main_arg1).view.loc (c : Thread nD τ) ↦{fullShare} lo) ∗ R)

/-- One row's credit. -/
abbrev rN : ℕ := ((((Memref.whole main_v2).slice (Rect.unit (s := S5120x8x8x128) ![0, 0, 0, 0] S1x8x1x128.size k0_off83_inb) (fun _ => rfl)).squeeze S8x128 squeezes_S1x8x1x128_S8x128).view.dmaCredit : ℕ)

/-- The core in the row phase, `j` copies issued and `u` waited for. -/
abbrev RS (R : sProp 𝕄) (j u : ℕ) : sProp 𝕄 :=
  St c cc0_scratch1.sem 4096 rN (rD c hi lo arg5 p X) (rP c hi lo arg5 p f X) (rT c hi lo R) j u

variable {c hi lo f2 f3 arg5 p f X} {R : sProp (MT nD τ sig Unit (Elt F) ℕ (UU nD τ) ℕ)}

/-- Read a copy's first table. -/
theorem r_hi {off : Fin 1 → ℕ} {inb} {e : ℕ} {β : Type} (he : e < 32768) (hoff : off = ![e])
    {k : BitVec 32 → Prog (TpuEff nD τ sig (Elt F) Λ₀ .tc) β} {Q : β → sProp 𝕄} {j u : ℕ}
    (h : RS c hi lo arg5 p f X R j u ⊢ wp frame (wpE (defs₀ (F := F)) Variants.none (c : Thread nD τ) none) Set.univ (k (hi (i32768 e))) Q) :
    RS c hi lo arg5 p f X R j u
      ⊢ wp frame (wpE (defs₀ (F := F)) Variants.none (c : Thread nD τ) none) Set.univ
          (smemLoad (Memref.whole main_arg0) (Rect.unit (s := S32768) off S1.size inb) numel1_S1 rfl >>= k) Q := by
  subst hoff
  refine st_load (e := .i32) (w := hi (i32768 e)) (q := fullShare) (f := hi) (T' := iprop(((Memref.whole main_arg1).view.loc (c : Thread nD τ) ↦{fullShare} lo) ∗ R)) (by exact .rfl) (by exact .rfl) ?_ h
  refine congrArg hi (funext fun a => ?_)
  fin_cases a
  apply Fin.ext
  simp [i32768, Rect.emb_apply]
  omega

/-- Read a copy's second table. -/
theorem r_lo {off : Fin 1 → ℕ} {inb} {e : ℕ} {β : Type} (he : e < 32768) (hoff : off = ![e])
    {k : BitVec 32 → Prog (TpuEff nD τ sig (Elt F) Λ₀ .tc) β} {Q : β → sProp 𝕄} {j u : ℕ}
    (h : RS c hi lo arg5 p f X R j u ⊢ wp frame (wpE (defs₀ (F := F)) Variants.none (c : Thread nD τ) none) Set.univ (k (lo (i32768 e))) Q) :
    RS c hi lo arg5 p f X R j u
      ⊢ wp frame (wpE (defs₀ (F := F)) Variants.none (c : Thread nD τ) none) Set.univ
          (smemLoad (Memref.whole main_arg1) (Rect.unit (s := S32768) off S1.size inb) numel1_S1 rfl >>= k) Q := by
  subst hoff
  refine st_load (e := .i32) (w := lo (i32768 e)) (q := fullShare) (f := lo) (T' := iprop(((Memref.whole main_arg0).view.loc (c : Thread nD τ) ↦{fullShare} hi) ∗ R)) ?_ ?_ ?_ h
  · unfold rT; iintro ⟨H1, H2, HR⟩; isplitl [H2]; · iexact H2
    isplitl [H1] <;> iassumption
  · unfold rT; iintro ⟨H1, H2, HR⟩; isplitl [H2]; · iexact H2
    isplitl [H1] <;> iassumption
  refine congrArg lo (funext fun a => ?_)
  fin_cases a
  apply Fin.ext
  simp [i32768, Rect.emb_apply]
  omega

/-- Issue one row's copy. -/
theorem r_issue {offd offs : Fin 4 → ℕ} {inbd : ∀ a, offd a + S1x8x1x128.size a ≤ S5120x8x8x128.size a} {inbs : ∀ a, offs a + S1x8x1x128.size a ≤ S256x8x8x128.size a}
    {hrd hrs hsrc hdst hsem} {β : Type}
    {k : PUnit → Prog (TpuEff nD τ sig (Elt F) Λ₀ .tc) β} {Q : β → sProp 𝕄} {j : ℕ}
    (hj : j < 4096) (hd : offd = ![(hi (i32768 (ra p j))).toNat, 0, (lo (i32768 (ra p j))).toNat, 0]) (hs : offs = ![j / 16 % 256, 0, j / 2 % 8, 0])
    (h : RS c hi lo arg5 p f X R (j + 1) 0 ⊢ wp frame (wpE (defs₀ (F := F)) Variants.none (c : Thread nD τ) none) Set.univ (k ⟨⟩) Q) :
    RS c hi lo arg5 p f X R j 0
      ⊢ wp frame (wpE (defs₀ (F := F)) Variants.none (c : Thread nD τ) none) Set.univ
          (.op (.enqueueDma ((arg5.slice (Rect.unit (s := S256x8x8x128) offs S1x8x1x128.size inbs) hrs).squeeze S8x128 squeezes_S1x8x1x128_S8x128)
            (.here (((Memref.whole main_v2).slice (Rect.unit (s := S5120x8x8x128) offd S1x8x1x128.size inbd) hrd).squeeze S8x128 squeezes_S1x8x1x128_S8x128)) (.dma cc0_scratch1.sem) hsrc hdst hsem) k) Q := by
  subst hs
  have hset : (((Memref.whole main_v2).slice (Rect.unit (s := S5120x8x8x128) offd S1x8x1x128.size inbd) hrd).squeeze S8x128 squeezes_S1x8x1x128_S8x128).view.set
      = rset (hi (i32768 (ra p j))).toNat (lo (i32768 (ra p j))).toNat :=
    ((View.set_reshape ..).trans (View.set_slice_whole main_v2 (Rect.unit (s := S5120x8x8x128) offd S1x8x1x128.size inbd))).trans (row_set hd)
  refine st_issue (q := Transfers.shareTokN fullShare j) (Sd := rset (hi (i32768 (ra p j))).toNat (lo (i32768 (ra p j))).toNat) (fs := X) (fd := f) hj rfl hset.subset ?_ ?_ h
  · exact .rfl
  · refine sep_mono (Entails.of_eq ?_) .rfl
    refine pointsTo_congr fun y hy => ?_
    rw [← hset] at hy
    obtain ⟨x, _, rfl⟩ := Finset.mem_map.mp hy
    rw [View.write_emb_of_mem _ _ (Finset.mem_univ x)]
    subst hd
    refine congrArg (arg5.view.read (Elt F) X) (funext fun a => ?_)
    exact congrFun (bi_emb (hi_inb := inbd) (q := Shape.reshapeEquiv squeezes_S1x8x1x128_S8x128.numel_eq x)) a

/-- One whole copy: both tables read, the slot checked, the row issued. -/
theorem r_copy {offt : Fin 1 → ℕ} {inbt inbt'} {o : BitVec 32 → BitVec 32 → Fin 4 → ℕ} {chk : BitVec 32 → BitVec 32 → Prop} {dec : ∀ v w, Decidable (chk v w)}
    {inbd : ∀ v w, chk v w → ∀ a, o v w a + S1x8x1x128.size a ≤ S5120x8x8x128.size a} {offs : Fin 4 → ℕ} {inbs : ∀ a, offs a + S1x8x1x128.size a ≤ S256x8x8x128.size a}
    {hrs}
    {β : Type} {k : PUnit → Prog (TpuEff nD τ sig (Elt F) Λ₀ .tc) β} {Q : β → sProp 𝕄} {j : ℕ}
    (H : Placed hi lo f2 f3) (hp : p < 8) (hj : j < 4096) (ht : offt = ![ra p j]) (ho : ∀ v w, o v w = ![v.toNat, 0, w.toNat, 0]) (hc : ∀ v w, chk v w = ∀ a, o v w a + S1x8x1x128.size a ≤ S5120x8x8x128.size a)
    (hs : offs = ![j / 16 % 256, 0, j / 2 % 8, 0])
    (h : RS c hi lo arg5 p f X R (j + 1) 0 ⊢ wp frame (wpE (defs₀ (F := F)) Variants.none (c : Thread nD τ) none) Set.univ (k ⟨⟩) Q) :
    RS c hi lo arg5 p f X R j 0
      ⊢ wp frame (wpE (defs₀ (F := F)) Variants.none (c : Thread nD τ) none) Set.univ
          (smemLoad (Memref.whole main_arg0) (Rect.unit (s := S32768) offt S1.size inbt) numel1_S1 rfl >>= fun v =>
           smemLoad (Memref.whole main_arg1) (Rect.unit (s := S32768) offt S1.size inbt') numel1_S1 rfl >>= fun w =>
           .op (.assume (chk v w) (dec v w)) fun hw =>
           .op (.enqueueDma ((arg5.slice (Rect.unit (s := S256x8x8x128) offs S1x8x1x128.size inbs) hrs).squeeze S8x128 squeezes_S1x8x1x128_S8x128)
            (.here (((Memref.whole main_v2).slice (Rect.unit (s := S5120x8x8x128) (o v w) S1x8x1x128.size (inbd v w hw.down)) (fun _ => rfl)).squeeze S8x128 squeezes_S1x8x1x128_S8x128)) (.dma cc0_scratch1.sem) ((View.wordExact_bits rfl).reshape _ _) ((View.wordExact_bits rfl).reshape _ _) ⟨Or.inl rfl, trivial⟩) k) Q := by
  have he : ra p j < 32768 := ra_lt hp hj
  refine r_hi he ht ?_
  refine r_lo he ht ?_
  refine st_assume ((hc _ _).mpr (by rw [ho]; exact row_inb H _)) ?_
  exact r_issue hj (ho _ _) hs h

/-! ## The tables' indices, as the kernel computes them -/

theorem t5_trips : k0_t5_loop.trips = 256 := by decide +kernel
theorem t6_trips : k0_t6_loop.trips = 2048 := by decide +kernel

theorem iv_val (k : ℕ) (hk : k < 256) : (Scf.iv 0#32 1#32 k).toNat = k := by
  rw [Scf.iv, BitVec.toNat_add, BitVec.toNat_mul, BitVec.toNat_ofNat k, Nat.mod_eq_of_lt (by omega : k < 2 ^ 32)]
  simp
  omega

theorem off_ra (i : grid0.Coords) (k : Fin k0_t5_loop.trips) (b r : ℕ) (hb : b < 2) (hr : r < 8) :
    ![(Scalar.indexCast (Scalar.addi (Scalar.addi (Scalar.addi (BitVec.ofNat 32 (b * 16384)) (Scalar.muli (BitVec.ofNat 32 (i 0).val) 2048#32)) (Scalar.muli (Scf.iv 0#32 1#32 k) 8#32)) (BitVec.ofNat 32 r))).toNat]
      = ![ra (i 0).val (16 * k.val + (2 * r + b))] := by
  have hi : (i 0).val < 8 := (i 0).isLt
  have hk : k.val < 256 := lt_of_lt_of_eq k.isLt t5_trips
  congr 1
  have hv := iv_val k.val hk
  rw [ra, show (16 * k.val + (2 * r + b)) % 2 = b by omega, show (16 * k.val + (2 * r + b)) / 2 = 8 * k.val + r by omega]
  simp only [Scalar.indexCast, Scalar.addi, Scalar.muli, IntOp.addi, IntOp.muli, BitVec.toNat_add, BitVec.toNat_mul, BitVec.toNat_ofNat, hv]
  omega

theorem src_off (k : Fin k0_t5_loop.trips) (n r : ℕ) (hn : n < 16) (hr : r = n / 2) :
    (![(Scf.iv 0#32 1#32 k.val).toNat, 0, r, 0] : Fin 4 → ℕ) = ![(16 * k.val + n) / 16 % 256, 0, (16 * k.val + n) / 2 % 8, 0] := by
  have hk : k.val < 256 := lt_of_lt_of_eq k.isLt t5_trips
  rw [iv_val _ hk, show (16 * k.val + n) / 16 % 256 = k.val by omega, show (16 * k.val + n) / 2 % 8 = r by omega]

theorem trip_lt (k : Fin k0_t5_loop.trips) (n : ℕ) (hn : n < 16) : 16 * k.val + n < 4096 := by
  have hk : k.val < 256 := lt_of_lt_of_eq k.isLt t5_trips
  omega

/-! ## One trip: the sixteen copies of the block's row `k` -/

section Parts

variable (harg5 : arg5.IsWhole) (i : grid0.Coords) (k : Fin k0_t5_loop.trips) (v3 : BitVec 32)

theorem part10 (H : Placed hi lo f2 f3) {Q : (Σ' (_ : BitVec 32) (v35 : Elt F .i32) (v37 : Elt F .i32), k0_chk37 v35 v37) → sProp 𝕄}
    (h : ∀ a hw, RS c hi lo arg5 (i 0).val f X R (16 * k.val + 2) 0 ⊢ Q ⟨a, (hi (i32768 (ra (i 0).val (16 * k.val + 2)))), (lo (i32768 (ra (i 0).val (16 * k.val + 2)))), hw⟩) :
    RS c hi lo arg5 (i 0).val f X R (16 * k.val + 0) 0 ⊢ wp frame (wpE (defs₀ (F := F)) Variants.none (c : Thread nD τ) none) Set.univ (k0_part10 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 v3 0#32 1#32 k) Q := by
  rw [k0_part10_eq_skeleton]
  unfold k0_part10_skel
  refine r_copy H (i 0).isLt (trip_lt k 0 (by decide)) (off_ra i k 0 0 (by decide) (by decide)) (fun _ _ => rfl) (fun _ _ => rfl) (src_off k 0 0 (by decide) rfl) ?_
  refine r_copy H (i 0).isLt (trip_lt k 1 (by decide)) (off_ra i k 1 0 (by decide) (by decide)) (fun _ _ => rfl) (fun _ _ => rfl) (src_off k 1 0 (by decide) rfl) ?_
  refine r_hi (e := ra (i 0).val (16 * k.val + 2)) (ra_lt (i 0).isLt (trip_lt k 2 (by decide))) (off_ra i k 0 1 (by decide) (by decide)) ?_
  refine r_lo (e := ra (i 0).val (16 * k.val + 2)) (ra_lt (i 0).isLt (trip_lt k 2 (by decide))) (off_ra i k 0 1 (by decide) (by decide)) ?_
  refine st_assume (row_inb H _) ?_
  exact ret_back (h _ _)

theorem part11 (H : Placed hi lo f2 f3) (a : BitVec 32) (hw : k0_chk37 (hi (i32768 (ra (i 0).val (16 * k.val + 2)))) (lo (i32768 (ra (i 0).val (16 * k.val + 2))))) {Q : (Σ' (_ : BitVec 32), Elt F .i32) → sProp 𝕄}
    (h : ∀ b, RS c hi lo arg5 (i 0).val f X R (16 * k.val + 5) 0 ⊢ Q ⟨b, (hi (i32768 (ra (i 0).val (16 * k.val + 5))))⟩) :
    RS c hi lo arg5 (i 0).val f X R (16 * k.val + 2) 0 ⊢ wp frame (wpE (defs₀ (F := F)) Variants.none (c : Thread nD τ) none) Set.univ (k0_part11 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 v3 k a (hi (i32768 (ra (i 0).val (16 * k.val + 2)))) (lo (i32768 (ra (i 0).val (16 * k.val + 2)))) hw) Q := by
  rw [k0_part11_eq_skeleton]
  unfold k0_part11_skel
  refine r_issue (trip_lt k 2 (by decide)) rfl (src_off k 2 1 (by decide) rfl) ?_
  refine r_copy H (i 0).isLt (trip_lt k 3 (by decide)) (off_ra i k 1 1 (by decide) (by decide)) (fun _ _ => rfl) (fun _ _ => rfl) (src_off k 3 1 (by decide) rfl) ?_
  refine r_copy H (i 0).isLt (trip_lt k 4 (by decide)) (off_ra i k 0 2 (by decide) (by decide)) (fun _ _ => rfl) (fun _ _ => rfl) (src_off k 4 2 (by decide) rfl) ?_
  refine r_hi (e := ra (i 0).val (16 * k.val + 5)) (ra_lt (i 0).isLt (trip_lt k 5 (by decide))) (off_ra i k 1 2 (by decide) (by decide)) ?_
  exact ret_back (h _)

theorem part12 (H : Placed hi lo f2 f3) (a b : BitVec 32) {Q : (Σ' (_ : BitVec 32), BitVec 32) → sProp 𝕄}
    (h : ∀ b b', RS c hi lo arg5 (i 0).val f X R (16 * k.val + 8) 0 ⊢ Q ⟨b, b'⟩) :
    RS c hi lo arg5 (i 0).val f X R (16 * k.val + 5) 0 ⊢ wp frame (wpE (defs₀ (F := F)) Variants.none (c : Thread nD τ) none) Set.univ (k0_part12 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 v3 k a b (hi (i32768 (ra (i 0).val (16 * k.val + 5))))) Q := by
  rw [k0_part12_eq_skeleton]
  unfold k0_part12_skel
  refine r_lo (e := ra (i 0).val (16 * k.val + 5)) (ra_lt (i 0).isLt (trip_lt k 5 (by decide))) (off_ra i k 1 2 (by decide) (by decide)) ?_
  refine st_assume (row_inb H _) ?_
  refine r_issue (trip_lt k 5 (by decide)) rfl (src_off k 5 2 (by decide) rfl) ?_
  refine r_copy H (i 0).isLt (trip_lt k 6 (by decide)) (off_ra i k 0 3 (by decide) (by decide)) (fun _ _ => rfl) (fun _ _ => rfl) (src_off k 6 3 (by decide) rfl) ?_
  refine r_copy H (i 0).isLt (trip_lt k 7 (by decide)) (off_ra i k 1 3 (by decide) (by decide)) (fun _ _ => rfl) (fun _ _ => rfl) (src_off k 7 3 (by decide) rfl) ?_
  exact ret_back (h _ _)

theorem part13 (H : Placed hi lo f2 f3) (a b b' : BitVec 32) {Q : (Σ' (v131 : Elt F .i32) (v133 : Elt F .i32), k0_chk45 v131 v133) → sProp 𝕄}
    (h : ∀ hw, RS c hi lo arg5 (i 0).val f X R (16 * k.val + 10) 0 ⊢ Q ⟨(hi (i32768 (ra (i 0).val (16 * k.val + 10)))), (lo (i32768 (ra (i 0).val (16 * k.val + 10)))), hw⟩) :
    RS c hi lo arg5 (i 0).val f X R (16 * k.val + 8) 0 ⊢ wp frame (wpE (defs₀ (F := F)) Variants.none (c : Thread nD τ) none) Set.univ (k0_part13 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 v3 k a b b') Q := by
  rw [k0_part13_eq_skeleton]
  unfold k0_part13_skel
  refine r_copy H (i 0).isLt (trip_lt k 8 (by decide)) (off_ra i k 0 4 (by decide) (by decide)) (fun _ _ => rfl) (fun _ _ => rfl) (src_off k 8 4 (by decide) rfl) ?_
  refine r_copy H (i 0).isLt (trip_lt k 9 (by decide)) (off_ra i k 1 4 (by decide) (by decide)) (fun _ _ => rfl) (fun _ _ => rfl) (src_off k 9 4 (by decide) rfl) ?_
  refine r_hi (e := ra (i 0).val (16 * k.val + 10)) (ra_lt (i 0).isLt (trip_lt k 10 (by decide))) (off_ra i k 0 5 (by decide) (by decide)) ?_
  refine r_lo (e := ra (i 0).val (16 * k.val + 10)) (ra_lt (i 0).isLt (trip_lt k 10 (by decide))) (off_ra i k 0 5 (by decide) (by decide)) ?_
  refine st_assume (row_inb H _) ?_
  exact ret_back (h _)

theorem part14 (H : Placed hi lo f2 f3) (a : BitVec 32) (hw : k0_chk45 (hi (i32768 (ra (i 0).val (16 * k.val + 10)))) (lo (i32768 (ra (i 0).val (16 * k.val + 10))))) {Q : (Σ' (v167 : Elt F .i32) (v169 : Elt F .i32), k0_chk48 v167 v169) → sProp 𝕄}
    (h : ∀ hw, RS c hi lo arg5 (i 0).val f X R (16 * k.val + 13) 0 ⊢ Q ⟨(hi (i32768 (ra (i 0).val (16 * k.val + 13)))), (lo (i32768 (ra (i 0).val (16 * k.val + 13)))), hw⟩) :
    RS c hi lo arg5 (i 0).val f X R (16 * k.val + 10) 0 ⊢ wp frame (wpE (defs₀ (F := F)) Variants.none (c : Thread nD τ) none) Set.univ (k0_part14 (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 v3 k a (hi (i32768 (ra (i 0).val (16 * k.val + 10)))) (lo (i32768 (ra (i 0).val (16 * k.val + 10)))) hw) Q := by
  rw [k0_part14_eq_skeleton]
  unfold k0_part14_skel
  refine r_issue (trip_lt k 10 (by decide)) rfl (src_off k 10 5 (by decide) rfl) ?_
  refine r_copy H (i 0).isLt (trip_lt k 11 (by decide)) (off_ra i k 1 5 (by decide) (by decide)) (fun _ _ => rfl) (fun _ _ => rfl) (src_off k 11 5 (by decide) rfl) ?_
  refine r_copy H (i 0).isLt (trip_lt k 12 (by decide)) (off_ra i k 0 6 (by decide) (by decide)) (fun _ _ => rfl) (fun _ _ => rfl) (src_off k 12 6 (by decide) rfl) ?_
  refine r_hi (e := ra (i 0).val (16 * k.val + 13)) (ra_lt (i 0).isLt (trip_lt k 13 (by decide))) (off_ra i k 1 6 (by decide) (by decide)) ?_
  refine r_lo (e := ra (i 0).val (16 * k.val + 13)) (ra_lt (i 0).isLt (trip_lt k 13 (by decide))) (off_ra i k 1 6 (by decide) (by decide)) ?_
  refine st_assume (row_inb H _) ?_
  exact ret_back (h _)

/-- The whole trip. -/
theorem trip (H : Placed hi lo f2 f3) (a : Unit) :
    RS c hi lo arg5 (i 0).val f X R (16 * k.val) 0 ⊢ wp frame (wpE (defs₀ (F := F)) Variants.none (c : Thread nD τ) none) Set.univ (k0_t5_body (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 v3 k a) (fun _ => RS c hi lo arg5 (i 0).val f X R (16 * (k.val + 1)) 0) := by
  unfold k0_t5_body
  dsimp only
  rw [wp_bind]
  refine part10 harg5 i k v3 H fun a hw => ?_
  dsimp only
  rw [wp_bind]
  refine part11 harg5 i k v3 H a hw fun b => ?_
  dsimp only
  rw [wp_bind]
  refine part12 harg5 i k v3 H a b fun b b' => ?_
  dsimp only
  rw [wp_bind]
  refine part13 harg5 i k v3 H a b b' fun hw => ?_
  dsimp only
  rw [wp_bind]
  refine part14 harg5 i k v3 H a hw fun hw => ?_
  refine r_issue (trip_lt k 13 (by decide)) rfl (src_off k 13 6 (by decide) rfl) ?_
  refine r_copy H (i 0).isLt (trip_lt k 14 (by decide)) (off_ra i k 0 7 (by decide) (by decide)) (fun _ _ => rfl) (fun _ _ => rfl) (src_off k 14 7 (by decide) rfl) ?_
  refine r_copy H (i 0).isLt (trip_lt k 15 (by decide)) (off_ra i k 1 7 (by decide) (by decide)) (fun _ _ => rfl) (fun _ _ => rfl) (src_off k 15 7 (by decide) rfl) ?_
  rw [show 16 * (k.val + 1) = 16 * k.val + 15 + 1 by omega]
  exact ret_back .rfl

/-- One trip of the waits. -/
theorem wtrip (k : Fin k0_t6_loop.trips) (a : Unit) :
    RS c hi lo arg5 (i 0).val f X R 4096 (2 * k.val) ⊢ wp frame (wpE (defs₀ (F := F)) Variants.none (c : Thread nD τ) none) Set.univ (k0_t6_body (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 k a) (fun _ => RS c hi lo arg5 (i 0).val f X R 4096 (2 * (k.val + 1))) := by
  have hk : k.val < 2048 := lt_of_lt_of_eq k.isLt t6_trips
  unfold k0_t6_body
  dsimp only
  refine st_wait (by omega) rfl ?_
  refine st_wait (by omega) rfl ?_
  rw [show 2 * (k.val + 1) = 2 * k.val + 1 + 1 by omega]
  exact ret_back .rfl

/-- The whole phase. -/
theorem rows (H : Placed hi lo f2 f3) {Q : Unit → sProp 𝕄} (h : RS c hi lo arg5 (i 0).val f X R 4096 4096 ⊢ Q ⟨⟩) :
    RS c hi lo arg5 (i 0).val f X R 0 0 ⊢ wp frame (wpE (defs₀ (F := F)) Variants.none (c : Thread nD τ) none) Set.univ (do
      Scf.Loop.for k0_t5_loop k0_t5_ok ⟨⟩ (k0_t5_body (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 v3)
      Scf.Loop.for k0_t6_loop k0_t6_ok ⟨⟩ (k0_t6_body (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2)
      pure ⟨⟩) Q := by
  refine loop_back (fun n => RS c hi lo arg5 (i 0).val f X R (16 * n) 0) (fun t a => trip harg5 i t v3 H a) ?_
  rw [t5_trips]
  refine loop_back (fun n => RS c hi lo arg5 (i 0).val f X R 4096 (2 * n)) (fun t a => wtrip harg5 i t a) ?_
  rw [t6_trips]
  exact ret_back h

end Parts

end Cert.Proof.Dispatch
-- ==== Proof.Body.lean ====
/-
  The dispatch kernel's body at one grid point: the zeroing phase at the first point, then the row phase, each opened
  from the buffers held whole and closed again, and what the result holds after it.
-/
module

public import proofs.«01_k».proof.Proof.Rows

@[expose] public section

noncomputable section

namespace Cert.Proof.Dispatch

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## What the result holds -/

/-- The token array's index a slot's element is copied from: token `a % 16384`. -/
def xi (a : ℕ) (y : S5120x8x8x128.Idx) : S2048x8x8x128.Idx :=
  fun | 0 => ⟨a % 16384 / 8 % 2048, Nat.mod_lt _ (by decide : 0 < 2048)⟩ | 1 => y 1 | 2 => ⟨a % 8, Nat.mod_lt _ (by decide : 0 < 8)⟩ | 3 => y 3

/-- Table entry `a` names the slot of `y`. -/
def slot (hi lo : S32768.Idx → BitVec 32) (a : ℕ) (y : S5120x8x8x128.Idx) : Prop :=
  a < 32768 ∧ y ∈ rset (hi (i32768 a)).toNat (lo (i32768 a)).toNat

open Classical in
/-- The result: a named slot holds its token's row, and zero stands everywhere else. -/
def fin (hi lo : S32768.Idx → BitVec 32) (x : S2048x8x8x128.Idx → F .f32) : S5120x8x8x128.Idx → F .f32 := fun y =>
  if h : ∃ a, slot hi lo a y then x (xi h.choose y) else zero

section
variable {hi lo : S32768.Idx → BitVec 32} {f2 : S32.Idx → BitVec 32} {f3 : S1.Idx → BitVec 32} {x : S2048x8x8x128.Idx → F .f32}

omit [FloatOps F] in
theorem Placed.slot_inj (H : Placed hi lo f2 f3) {a b : ℕ} {y : S5120x8x8x128.Idx} (ha : slot hi lo a y) (hb : slot hi lo b y) : a = b := by
  obtain ⟨ha, ha'⟩ := ha
  obtain ⟨hb, hb'⟩ := hb
  simp only [rset, Finset.mem_filter, Finset.mem_univ, true_and] at ha' hb'
  have := congrArg Fin.val (congrFun (H.inj _ _ (ha'.1.symm.trans hb'.1) (ha'.2.symm.trans hb'.2)) 0)
  simp only [i32768] at this
  omega

theorem fin_slot (H : Placed hi lo f2 f3) {a : ℕ} {y : S5120x8x8x128.Idx} (ha : slot hi lo a y) : fin hi lo x y = x (xi a y) := by
  have h : ∃ a, slot hi lo a y := ⟨a, ha⟩
  unfold fin
  rw [dif_pos h, H.slot_inj h.choose_spec ha]

theorem fin_none {y : S5120x8x8x128.Idx} (h : ¬ ∃ a, slot hi lo a y) : fin hi lo x y = zero := by
  unfold fin
  rw [dif_neg h]

end

/-- What is settled of the result's contents before grid point `p`: the cleared tiles hold zero wherever no slot is named, -/
def Clear (hi lo : S32768.Idx → BitVec 32) (f2 : S32.Idx → BitVec 32) (f3 : S1.Idx → BitVec 32) (f : S5120x8x8x128.Idx → F .f32) : Prop :=
  ∀ y, (y 0).val / 32 ∈ zlist f2 (f3 i1).toNat → (¬ ∃ a, slot hi lo a y) → f y = zero

/-- and the slots of the points before hold their rows. -/
def Rows (hi lo : S32768.Idx → BitVec 32) (x : S2048x8x8x128.Idx → F .f32) (p : ℕ) (f : S5120x8x8x128.Idx → F .f32) : Prop :=
  ∀ a y, slot hi lo a y → a % 16384 / 2048 < p → f y = fin hi lo x y

/-! ## A phase opened and closed -/

section
variable {c : Dev nD}

/-- A phase of copies opened: the semaphore at zero, what the copies need, the tables and the record of the waits. -/
theorem st_open {sm : DmaSem sig} {n N : ℕ} {D P : Fin n → sProp 𝕄} {T : sProp 𝕄} [∀ t, Storable (upEmb : UEmb _ 𝕄) (D t)] :
    iprop(semVal ((c : Thread nD τ), .dma sm) 0 ∗ bigSep Finset.univ P ∗ T ∗ ∃ W, owes (c : Thread nD τ) 0 W) ⊢ (|={Set.univ}=> St c sm n N D P T 0 0 : sProp 𝕄) := by
  unfold St
  iintro ⟨Hs, HP, HT, HO⟩
  imod (Transfers.batch_alloc' (Lvl := ℕ) (countersEmb (U := UU nD τ)) (c : Thread nD τ) () N D (sm := .dma sm) (E := Set.univ)) $$ Hs with HB
  imodintro
  rw [Nat.zero_mul, Transfers.pending_zero]
  isplitl [HB]; · iexact HB
  isplitl [HP]; · iexact HP
  isplitl [HT] <;> iassumption

/-- A phase of copies closed: what every copy left, the semaphore back at zero. -/
theorem st_close {sm : DmaSem sig} {n N : ℕ} {D P : Fin n → sProp 𝕄} {T : sProp 𝕄} (hN : 0 < N) :
    St c sm n N D P T n n ⊢ (|={Set.univ}=> iprop(bigSep Finset.univ D ∗ semVal ((c : Thread nD τ), .dma sm) 0 ∗ T ∗ ∃ W, owes (c : Thread nD τ) 0 W) : sProp 𝕄) := by
  unfold St
  iintro ⟨HB, -, HT, HO⟩
  rw [Nat.mul_comm n N]
  imod (Transfers.batch_collect' (Lvl := ℕ) (countersEmb (U := UU nD τ)) (c : Thread nD τ) (sm := .dma sm) hN) $$ HB with ⟨HD, Hs⟩
  imodintro
  isplitl [HD]; · iexact HD
  isplitl [Hs]; · iexact Hs
  isplitl [HT] <;> iassumption

/-! ### The zeroing phase -/

variable {hi lo : S32768.Idx → BitVec 32} {f2 : S32.Idx → BitVec 32} {f3 : S1.Idx → BitVec 32} {R : sProp (MT nD τ sig Unit (Elt F) ℕ (UU nD τ) ℕ)}
variable {f : S5120x8x8x128.Idx → F .f32}

/-- The tiles cleared, together. -/
def zall (l : List ℕ) : Finset S5120x8x8x128.Idx := (Finset.univ : Finset (Fin l.length)).biUnion fun t => tset l[t.val]

theorem mem_zall {l : List ℕ} {y : S5120x8x8x128.Idx} : y ∈ zall l ↔ (y 0).val / 32 ∈ l := by
  simp only [zall, tset, Finset.mem_biUnion, Finset.mem_univ, true_and, Finset.mem_filter]
  constructor
  · rintro ⟨t, ht⟩
    rw [ht]
    exact List.getElem_mem _
  · intro h
    obtain ⟨t, ht, h⟩ := List.getElem_of_mem h
    exact ⟨⟨t, ht⟩, h.symm⟩

theorem zall_disj {l : List ℕ} (h : l.Nodup) : ∀ t ∈ (Finset.univ : Finset (Fin l.length)), ∀ t' ∈ Finset.univ, t ≠ t' → Disjoint (tset l[t.val]) (tset l[t'.val]) :=
  fun t _ t' _ hne => tset_disjoint fun he => hne (Fin.ext ((h.getElem_inj_iff).mp he))

instance (l : List ℕ) (z : S32x8x8x128.Idx → F .f32) (v : F .f32) (t : Fin l.length) : Storable (upEmb : UEmb _ 𝕄) (zD c l z v t) := by unfold zD; infer_instance

/-- What the phase leaves alone: the rest of the result, and the share of the scratch no copy takes. -/
abbrev zR (c : Dev nD) (l : List ℕ) (f : S5120x8x8x128.Idx → F .f32) (R : sProp 𝕄) : sProp 𝕄 :=
  iprop(((Memref.whole main_v2).view.loc (c : Thread nD τ) ↦[Finset.univ \ zall l]{fullShare} f)
    ∗ ((Memref.whole cc0_scratch0).view.loc (c : Thread nD τ) ↦{Transfers.shareDrop fullShare l.length} (fun _ => zero : S32x8x8x128.Idx → F .f32)) ∗ R)

/-- The core outside the phase. -/
abbrev zO (c : Dev nD) (f2 : S32.Idx → BitVec 32) (f3 : S1.Idx → BitVec 32) (f : S5120x8x8x128.Idx → F .f32) (R : sProp 𝕄) : sProp 𝕄 :=
  iprop(((Memref.whole main_v2).view.loc (c : Thread nD τ) ↦{fullShare} f) ∗ semVal ((c : Thread nD τ), .dma cc0_scratch2.sem) 0
    ∗ ((Memref.whole main_arg2).view.loc (c : Thread nD τ) ↦{fullShare} f2) ∗ ((Memref.whole main_arg3).view.loc (c : Thread nD τ) ↦{fullShare} f3)
    ∗ (∃ W, owes (c : Thread nD τ) 0 W) ∗ R)

theorem z_open (H : Placed hi lo f2 f3) :
    iprop(((Memref.whole cc0_scratch0).view.loc (c : Thread nD τ) ↦{fullShare} (fun _ => zero : S32x8x8x128.Idx → F .f32)) ∗ zO c f2 f3 f R)
      ⊢ |={Set.univ}=> ZZ c f2 f3 (zR c (zlist f2 (f3 i1).toNat) f R) f 0 0 := by
  refine BIBase.Entails.trans ?_ st_open
  unfold zT zP
  rw [bigSep_sep']
  iintro ⟨HZ, HX, Hs, H2, H3, HO, HR⟩
  ihave HZ := (Transfers.pointsTo_toks fullShare (zlist f2 (f3 i1).toNat).length).1 $$ HZ
  icases HZ with ⟨HZ, HZs⟩
  ihave HX := (pointsTo_split_subset (Finset.subset_univ (zall (zlist f2 (f3 i1).toNat)))).1 $$ HX
  icases HX with ⟨HX, HXr⟩
  isplitl [Hs]; · iexact Hs
  isplitl [HX HZs]
  · isplitl [HZs]; · iexact HZs
    iapply (Entails.of_eq (pointsTo_biUnion (ℓ := (Memref.whole main_v2).view.loc (c : Thread nD τ)) _ (fun t : Fin (zlist f2 (f3 i1).toNat).length => tset (zlist f2 (f3 i1).toNat)[t.val]) (zall_disj H.zlist_nodup)))
    iexact HX
  isplitr [HO]
  · isplitl [H2]; · iexact H2
    isplitl [H3]; · iexact H3
    isplitl [HXr]; · iexact HXr
    isplitl [HZ] <;> iassumption
  iexact HO

theorem z_close (H : Placed hi lo f2 f3) :
    ZZ c f2 f3 (zR c (zlist f2 (f3 i1).toNat) f R) f (zlist f2 (f3 i1).toNat).length (zlist f2 (f3 i1).toNat).length
      ⊢ |={Set.univ}=> iprop(((Memref.whole cc0_scratch0).view.loc (c : Thread nD τ) ↦{fullShare} (fun _ => zero : S32x8x8x128.Idx → F .f32))
          ∗ zO c f2 f3 ((zall (zlist f2 (f3 i1).toNat)).piecewise (fun _ => zero) f) R) := by
  refine (st_close (View.dmaCredit_pos _ (by decide))).trans (BI.fupd_mono ?_)
  unfold zT zD
  rw [bigSep_sep']
  iintro ⟨⟨HX, HZs⟩, Hs, ⟨H2, H3, HXr, HZ, HR⟩, HO⟩
  isplitl [HZ HZs]
  · iapply (Transfers.pointsTo_toks fullShare (zlist f2 (f3 i1).toNat).length).2
    isplitl [HZ] <;> iassumption
  isplitl [HX HXr]
  · iapply (pointsTo_join_subset (ℓ := (Memref.whole main_v2).view.loc (c : Thread nD τ)) (Finset.subset_univ (zall (zlist f2 (f3 i1).toNat))))
    isplitl [HX]
    · iapply (Entails.of_eq (pointsTo_biUnion (ℓ := (Memref.whole main_v2).view.loc (c : Thread nD τ)) _ (fun t : Fin (zlist f2 (f3 i1).toNat).length => tset (zlist f2 (f3 i1).toNat)[t.val]) (zall_disj H.zlist_nodup)).symm)
      iexact HX
    · iexact HXr
  isplitl [Hs]; · iexact Hs
  isplitl [H2]; · iexact H2
  isplitl [H3]; · iexact H3
  isplitl [HO] <;> iassumption

/-! ### The row phase -/

variable {arg5 : Memref sig .tc .vmem S256x8x8x128 .f32} {p : ℕ} {X : Buf (Elt F) (arg5.view.loc (c : Thread nD τ))} {x : S2048x8x8x128.Idx → F .f32}

/-- The slots of the phase, together. -/
def rall (hi lo : S32768.Idx → BitVec 32) (p : ℕ) : Finset S5120x8x8x128.Idx :=
  (Finset.univ : Finset (Fin 4096)).biUnion fun t => rset (hi (i32768 (ra p t.val))).toNat (lo (i32768 (ra p t.val))).toNat

theorem rall_disj (H : Placed hi lo f2 f3) (hp : p < 8) : ∀ t ∈ (Finset.univ : Finset (Fin 4096)), ∀ t' ∈ Finset.univ, t ≠ t' →
    Disjoint (rset (hi (i32768 (ra p t.val))).toNat (lo (i32768 (ra p t.val))).toNat) (rset (hi (i32768 (ra p t'.val))).toNat (lo (i32768 (ra p t'.val))).toNat) := by
  intro t _ t' _ hne
  refine rset_disjoint fun he => hne (Fin.ext ?_)
  have := congrArg Fin.val (congrFun (H.inj _ _ he.1 he.2) 0)
  simp only [i32768] at this
  rw [Nat.mod_eq_of_lt (ra_lt hp t.isLt), Nat.mod_eq_of_lt (ra_lt hp t'.isLt)] at this
  have h1 := t.isLt
  have h2 := t'.isLt
  unfold ra at this
  omega

theorem mem_rall (hp : p < 8) {y : S5120x8x8x128.Idx} : y ∈ rall hi lo p ↔ ∃ a, slot hi lo a y ∧ a % 16384 / 2048 = p := by
  simp only [rall, Finset.mem_biUnion, Finset.mem_univ, true_and]
  constructor
  · rintro ⟨t, ht⟩
    have h1 := t.isLt
    refine ⟨ra p t.val, ⟨ra_lt hp t.isLt, ht⟩, ?_⟩
    rcases Nat.mod_two_eq_zero_or_one t.val with h | h <;> rw [ra, h] <;> omega
  · rintro ⟨a, ⟨ha, hy⟩, hap⟩
    have he : ra p (a % 2048 * 2 + a / 16384) = a := by
      rw [ra, show (a % 2048 * 2 + a / 16384) % 2 = a / 16384 by omega, show (a % 2048 * 2 + a / 16384) / 2 = a % 2048 by omega]
      omega
    exact ⟨⟨a % 2048 * 2 + a / 16384, by omega⟩, by simpa only [he] using hy⟩

instance (t : Fin 4096) : Storable (upEmb : UEmb _ 𝕄) (rD c hi lo arg5 p X t) := by unfold rD; infer_instance

/-- What the phase leaves alone: the rest of the result, and the shares of the block no copy takes. -/
abbrev rR (c : Dev nD) (hi lo : S32768.Idx → BitVec 32) (arg5 : Memref sig .tc .vmem S256x8x8x128 .f32) (p : ℕ) (f : S5120x8x8x128.Idx → F .f32)
    (X : Buf (Elt F) (arg5.view.loc (c : Thread nD τ))) (R : sProp 𝕄) : sProp 𝕄 :=
  iprop(((Memref.whole main_v2).view.loc (c : Thread nD τ) ↦[Finset.univ \ rall hi lo p]{fullShare} f)
    ∗ (arg5.view.loc (c : Thread nD τ) ↦{Transfers.shareDrop fullShare 4096} X)
    ∗ bigSep Finset.univ (fun t : Fin 4096 => (arg5.view.loc (c : Thread nD τ) ↦[Finset.univ \ (srow arg5 t.val).view.set]{Transfers.shareTokN fullShare t.val} X : sProp 𝕄)) ∗ R)

/-- The core outside the phase. -/
abbrev rO (c : Dev nD) (hi lo : S32768.Idx → BitVec 32) (arg5 : Memref sig .tc .vmem S256x8x8x128 .f32) (f : S5120x8x8x128.Idx → F .f32)
    (X : Buf (Elt F) (arg5.view.loc (c : Thread nD τ))) (R : sProp 𝕄) : sProp 𝕄 :=
  iprop(((Memref.whole main_v2).view.loc (c : Thread nD τ) ↦{fullShare} f) ∗ (arg5.view.loc (c : Thread nD τ) ↦{fullShare} X) ∗ semVal ((c : Thread nD τ), .dma cc0_scratch1.sem) 0
    ∗ ((Memref.whole main_arg0).view.loc (c : Thread nD τ) ↦{fullShare} hi) ∗ ((Memref.whole main_arg1).view.loc (c : Thread nD τ) ↦{fullShare} lo)
    ∗ (∃ W, owes (c : Thread nD τ) 0 W) ∗ R)

/-- The block, as the shares the copies take of their rows and the rest. -/
theorem block_split : (arg5.view.loc (c : Thread nD τ) ↦{fullShare} X : sProp 𝕄)
    ⊣⊢ iprop((arg5.view.loc (c : Thread nD τ) ↦{Transfers.shareDrop fullShare 4096} X)
      ∗ bigSep Finset.univ (fun t : Fin 4096 => (arg5.view.loc (c : Thread nD τ) ↦[(srow arg5 t.val).view.set]{Transfers.shareTokN fullShare t.val} X : sProp 𝕄))
      ∗ bigSep Finset.univ (fun t : Fin 4096 => (arg5.view.loc (c : Thread nD τ) ↦[Finset.univ \ (srow arg5 t.val).view.set]{Transfers.shareTokN fullShare t.val} X : sProp 𝕄))) := by
  rw [← bigSep_sep', show bigSep Finset.univ (fun t : Fin 4096 => iprop((arg5.view.loc (c : Thread nD τ) ↦[(srow arg5 t.val).view.set]{Transfers.shareTokN fullShare t.val} X)
      ∗ (arg5.view.loc (c : Thread nD τ) ↦[Finset.univ \ (srow arg5 t.val).view.set]{Transfers.shareTokN fullShare t.val} X : sProp 𝕄)))
    = bigSep Finset.univ (fun t : Fin 4096 => (arg5.view.loc (c : Thread nD τ) ↦{Transfers.shareTok fullShare 4096 t} X : sProp 𝕄)) from
      congrArg _ (funext fun t => (equiv_iff.mp ⟨(pointsTo_split_subset (Finset.subset_univ _)).1, (pointsTo_split_subset (Finset.subset_univ _)).2⟩).symm)]
  exact Transfers.pointsTo_toks fullShare 4096

theorem r_open (H : Placed hi lo f2 f3) (hp : p < 8) : rO c hi lo arg5 f X R ⊢ |={Set.univ}=> RS c hi lo arg5 p f X (rR c hi lo arg5 p f X R) 0 0 := by
  refine BIBase.Entails.trans ?_ st_open
  unfold rT rP
  rw [bigSep_sep']
  iintro ⟨HX, HB, Hs, H0, H1, HO, HR⟩
  ihave HB := block_split.1 $$ HB
  icases HB with ⟨HBd, HBs, HBr⟩
  ihave HX := (pointsTo_split_subset (Finset.subset_univ (rall hi lo p))).1 $$ HX
  icases HX with ⟨HX, HXr⟩
  isplitl [Hs]; · iexact Hs
  isplitl [HX HBs]
  · isplitl [HBs]; · iexact HBs
    iapply (Entails.of_eq (pointsTo_biUnion (ℓ := (Memref.whole main_v2).view.loc (c : Thread nD τ)) _ (fun t : Fin 4096 => rset (hi (i32768 (ra p t.val))).toNat (lo (i32768 (ra p t.val))).toNat) (rall_disj H hp)))
    iexact HX
  isplitr [HO]
  · isplitl [H0]; · iexact H0
    isplitl [H1]; · iexact H1
    isplitl [HXr]; · iexact HXr
    isplitl [HBd]; · iexact HBd
    isplitl [HBr] <;> iassumption
  iexact HO

theorem r_close (H : Placed hi lo f2 f3) (hp : p < 8) (g : S5120x8x8x128.Idx → F .f32)
    (hg : ∀ t < 4096, ∀ y ∈ rset (hi (i32768 (ra p t))).toNat (lo (i32768 (ra p t))).toNat, arg5.view.read (Elt F) X (bi t y) = g y) :
    RS c hi lo arg5 p f X (rR c hi lo arg5 p f X R) 4096 4096 ⊢ |={Set.univ}=> rO c hi lo arg5 ((rall hi lo p).piecewise g f) X R := by
  refine (st_close (View.dmaCredit_pos _ (by decide))).trans (BI.fupd_mono ?_)
  unfold rT rD
  rw [bigSep_sep']
  iintro ⟨⟨HX, HBs⟩, Hs, ⟨H0, H1, HXr, HBd, HBr, HR⟩, HO⟩
  isplitl [HX HXr]
  · iapply (pointsTo_join_subset (ℓ := (Memref.whole main_v2).view.loc (c : Thread nD τ)) (Finset.subset_univ (rall hi lo p)))
    isplitl [HX]
    · iapply (Entails.of_eq (pointsTo_biUnion (ℓ := (Memref.whole main_v2).view.loc (c : Thread nD τ)) _ (fun t : Fin 4096 => rset (hi (i32768 (ra p t.val))).toNat (lo (i32768 (ra p t.val))).toNat) (rall_disj H hp)).symm)
      iapply (Entails.of_eq (congrArg (bigSep Finset.univ) (funext fun t : Fin 4096 => pointsTo_congr (hg t.val t.isLt))))
      iexact HX
    · iexact HXr
  isplitl [HBd HBs HBr]
  · iapply block_split.2
    isplitl [HBd]; · iexact HBd
    isplitl [HBs] <;> iassumption
  isplitl [Hs]; · iexact Hs
  isplitl [H0]; · iexact H0
  isplitl [H1]; · iexact H1
  isplitl [HO] <;> iassumption

/-! ## The body -/

/-- The core between two grid points, and the point's block in its staging buffer. -/
abbrev Bod (c : Dev nD) (hi lo : S32768.Idx → BitVec 32) (f2 : S32.Idx → BitVec 32) (f3 : S1.Idx → BitVec 32) (arg5 : Memref sig .tc .vmem S256x8x8x128 .f32)
    (X : Buf (Elt F) (arg5.view.loc (c : Thread nD τ))) (f : S5120x8x8x128.Idx → F .f32) (z : S32x8x8x128.Idx → F .f32) : sProp 𝕄 :=
  iprop(((Memref.whole main_v2).view.loc (c : Thread nD τ) ↦{fullShare} f) ∗ (arg5.view.loc (c : Thread nD τ) ↦{fullShare} X)
    ∗ ((Memref.whole cc0_scratch0).view.loc (c : Thread nD τ) ↦{fullShare} z)
    ∗ semVal ((c : Thread nD τ), .dma cc0_scratch1.sem) 0 ∗ semVal ((c : Thread nD τ), .dma cc0_scratch2.sem) 0
    ∗ ((Memref.whole main_arg0).view.loc (c : Thread nD τ) ↦{fullShare} hi) ∗ ((Memref.whole main_arg1).view.loc (c : Thread nD τ) ↦{fullShare} lo)
    ∗ ((Memref.whole main_arg2).view.loc (c : Thread nD τ) ↦{fullShare} f2) ∗ ((Memref.whole main_arg3).view.loc (c : Thread nD τ) ↦{fullShare} f3)
    ∗ (∃ W, owes (c : Thread nD τ) 0 W))

variable (harg5 : arg5.IsWhole)

/-- The row phase, from the core between phases. -/
theorem body_rows (i : grid0.Coords) (v3 : BitVec 32) (H : Placed hi lo f2 f3) {z : S32x8x8x128.Idx → F .f32}
    (hX : ∀ t < 4096, ∀ y, arg5.view.read (Elt F) X (bi t y) = x (xi (ra (i 0).val t) y)) {Q : Unit → sProp 𝕄}
    (h : Bod c hi lo f2 f3 arg5 X ((rall hi lo (i 0).val).piecewise (fin hi lo x) f) z ⊢ Q ⟨⟩) :
    Bod c hi lo f2 f3 arg5 X f z ⊢ wp frame (wpE (defs₀ (F := F)) Variants.none (c : Thread nD τ) none) Set.univ (do
      Scf.Loop.for k0_t5_loop k0_t5_ok ⟨⟩ (k0_t5_body (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2 v3)
      Scf.Loop.for k0_t6_loop k0_t6_ok ⟨⟩ (k0_t6_body (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2)
      pure ⟨⟩) Q := by
  have hp : (i 0).val < 8 := (i 0).isLt
  have e : ∀ f, Bod c hi lo f2 f3 arg5 X f z ⊣⊢ rO c hi lo arg5 f X (iprop(((Memref.whole cc0_scratch0).view.loc (c : Thread nD τ) ↦{fullShare} z)
      ∗ semVal ((c : Thread nD τ), .dma cc0_scratch2.sem) 0
      ∗ ((Memref.whole main_arg2).view.loc (c : Thread nD τ) ↦{fullShare} f2) ∗ ((Memref.whole main_arg3).view.loc (c : Thread nD τ) ↦{fullShare} f3)) : sProp 𝕄) := by
    intro f
    constructor
    · iintro ⟨HX, HB, HZ, H8, H9, H0, H1, H2, H3, HO⟩
      isplitl [HX]; · iexact HX
      isplitl [HB]; · iexact HB
      isplitl [H8]; · iexact H8
      isplitl [H0]; · iexact H0
      isplitl [H1]; · iexact H1
      isplitl [HO]; · iexact HO
      isplitl [HZ]; · iexact HZ
      isplitl [H9]; · iexact H9
      isplitl [H2] <;> iassumption
    · iintro ⟨HX, HB, H8, H0, H1, HO, HZ, H9, H2, H3⟩
      isplitl [HX]; · iexact HX
      isplitl [HB]; · iexact HB
      isplitl [HZ]; · iexact HZ
      isplitl [H8]; · iexact H8
      isplitl [H9]; · iexact H9
      isplitl [H0]; · iexact H0
      isplitl [H1]; · iexact H1
      isplitl [H2]; · iexact H2
      isplitl [H3] <;> iassumption
  refine (e f).1.trans ((r_open H hp).trans ?_)
  refine (BI.fupd_mono (?_ : _ ⊢ wp frame (wpE (defs₀ (F := F)) Variants.none (c : Thread nD τ) none) Set.univ _ Q)).trans (Entails.of_eq (fupd_wp_eq ..))
  refine BIBase.Entails.trans ?_ (wp_fupd _ _ _ _ _)
  refine rows harg5 i v3 H ((r_close H hp (fin hi lo x) fun t ht y hy => (hX t ht y).trans (fin_slot H ⟨ra_lt hp ht, hy⟩).symm).trans (BI.fupd_mono ?_))
  exact (e _).2.trans h

attribute [local irreducible] rall zall

theorem cond1_iff : ∀ i : grid0.Coords, k0_cond1 i = 1#1 ↔ (i 0).val = 0 := by
  have h : ∀ n : Fin 8, Scalar.cmpi .ne (Scalar.extui (Scalar.cmpi .eq (BitVec.ofNat 32 n.val) 0#32) : BitVec 32) 0#32 = 1#1 ↔ n.val = 0 := by decide
  exact fun i => h (i 0)

theorem rows_step (hp : p < 8) (hf : Rows hi lo x p f) : Rows hi lo x (p + 1) ((rall hi lo p).piecewise (fin hi lo x) f) := by
  intro a y ha hap
  by_cases hy : y ∈ rall hi lo p
  · rw [Finset.piecewise_eq_of_mem _ _ _ hy]
  · rw [Finset.piecewise_eq_of_notMem _ _ _ hy]
    refine hf a y ha (Nat.lt_of_le_of_ne (by omega) fun h => hy ((mem_rall hp).mpr ⟨a, ha, h⟩))

theorem clear_step (hp : p < 8) (hf : Clear hi lo f2 f3 f) : Clear hi lo f2 f3 ((rall hi lo p).piecewise (fin hi lo x) f) := by
  intro y hy hn
  rw [Finset.piecewise_eq_of_notMem _ _ _ fun h => hn (by obtain ⟨a, ha, -⟩ := (mem_rall hp).mp h; exact ⟨a, ha⟩)]
  exact hf y hy hn

theorem clear_zero : Clear hi lo f2 f3 ((zall (zlist f2 (f3 i1).toNat)).piecewise (fun _ => zero) f) := by
  intro y hy _
  rw [Finset.piecewise_eq_of_mem _ _ _ (mem_zall.mpr hy)]

/-- The body at grid point `i`. -/
theorem body (i : grid0.Coords) (H : Placed hi lo f2 f3) {z : S32x8x8x128.Idx → F .f32}
    (hX : ∀ t < 4096, ∀ y, arg5.view.read (Elt F) X (bi t y) = x (xi (ra (i 0).val t) y))
    (hf : Rows hi lo x (i 0).val f) (hc : 0 < (i 0).val → Clear hi lo f2 f3 f) {Q : Unit → sProp 𝕄}
    (h : ∀ (f' : S5120x8x8x128.Idx → F .f32) (z' : S32x8x8x128.Idx → F .f32), Rows hi lo x ((i 0).val + 1) f' → Clear hi lo f2 f3 f' → Bod c hi lo f2 f3 arg5 X f' z' ⊢ Q ⟨⟩) :
    Bod c hi lo f2 f3 arg5 X f z ⊢ wp frame (wpE (defs₀ (F := F)) Variants.none (c : Thread nD τ) none) Set.univ
      (cc0_moe_dispatch (F := F) i (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2) Q := by
  have hp : (i 0).val < 8 := (i 0).isLt
  rw [cc0_moe_dispatch_eq_skeleton]
  unfold cc0_moe_dispatch_skel
  dsimp only
  by_cases h1 : k0_cond1 i = 1#1
  · rw [dif_pos h1]
    have h0 := (cond1_iff i).mp h1
    have e : ∀ f z, Bod c hi lo f2 f3 arg5 X f z ⊣⊢ iprop(((Memref.whole cc0_scratch0).view.loc (c : Thread nD τ) ↦{fullShare} z)
        ∗ zO c f2 f3 f (iprop((arg5.view.loc (c : Thread nD τ) ↦{fullShare} X)
      ∗ semVal ((c : Thread nD τ), .dma cc0_scratch1.sem) 0
      ∗ ((Memref.whole main_arg0).view.loc (c : Thread nD τ) ↦{fullShare} hi) ∗ ((Memref.whole main_arg1).view.loc (c : Thread nD τ) ↦{fullShare} lo)) : sProp 𝕄)) := by
      intro f z
      constructor
      · iintro ⟨HX, HB, HZ, H8, H9, H0, H1, H2, H3, HO⟩
        isplitl [HZ]; · iexact HZ
        isplitl [HX]; · iexact HX
        isplitl [H9]; · iexact H9
        isplitl [H2]; · iexact H2
        isplitl [H3]; · iexact H3
        isplitl [HO]; · iexact HO
        isplitl [HB]; · iexact HB
        isplitl [H8]; · iexact H8
        isplitl [H0] <;> iassumption
      · iintro ⟨HZ, HX, H9, H2, H3, HO, HB, H8, H0, H1⟩
        isplitl [HX]; · iexact HX
        isplitl [HB]; · iexact HB
        isplitl [HZ]; · iexact HZ
        isplitl [H8]; · iexact H8
        isplitl [H9]; · iexact H9
        isplitl [H0]; · iexact H0
        isplitl [H1]; · iexact H1
        isplitl [H2]; · iexact H2
        isplitl [H3] <;> iassumption
    refine (e f z).1.trans ?_
    rw [wp_bind]
    refine part1 (R := zR c (zlist f2 (f3 i1).toNat) f _) arg5 harg5 i h1 H _ z (z_open H) ?_
    try dsimp only
    rw [wp_bind]
    refine part2 arg5 harg5 i h1 H ?_
    try dsimp only
    rw [wp_bind]
    refine part3 arg5 harg5 i h1 H ?_
    try dsimp only
    rw [wp_bind]
    refine part4 arg5 harg5 i h1 H ?_
    try dsimp only
    rw [wp_bind]
    refine part5 arg5 harg5 i h1 H ?_
    try dsimp only
    rw [wp_bind]
    refine part6 arg5 harg5 i ?_
    try dsimp only
    rw [wp_bind]
    refine part7 arg5 harg5 i ?_
    try dsimp only
    rw [wp_bind]
    refine part8 arg5 harg5 i ?_
    try dsimp only
    rw [wp_bind]
    refine part9 arg5 harg5 i H fun hw => ?_
    try dsimp only
    refine z_rest arg5 harg5 h1 H hw ?_
    refine (z_close H).trans ?_
    refine (BI.fupd_mono (?_ : _ ⊢ wp frame (wpE (defs₀ (F := F)) Variants.none (c : Thread nD τ) none) Set.univ _ Q)).trans (Entails.of_eq (fupd_wp_eq ..))
    refine (e _ _).2.trans ?_
    refine body_rows harg5 i _ H hX (h _ _ (rows_step hp ?_) (clear_step hp clear_zero))
    intro a y _ ha
    omega
  · rw [dif_neg h1]
    have h0 : 0 < (i 0).val := Nat.pos_of_ne_zero fun h => h1 ((cond1_iff i).mpr h)
    exact body_rows harg5 i _ H hX (h _ _ (rows_step hp hf) (clear_step hp (hc h0)))

end

end Cert.Proof.Dispatch
-- ==== Proof.Run.lean ====
/-
  The dispatch program's run: two layout operations on the token rows, then the kernel's region over its grid of eight
  points, the four tables read in scalar memory and the result filled in place. From a launch memory whose tables name
  slots as `Placed` says, every execution ends with the arguments as they were, every counter at zero, and the result
  holding what `Rows` and `Clear` say after the last point.
-/
module

public import proofs.«01_k».proof.Proof.Body
public import proofs.«01_k».proof.Proof.Gen.KernelIdeal.Launch
public import Idealize.ShloMosaic.Lib.Pipeline.Regions
public import Idealize.ShloMosaic.Lib.Pipeline.FrameBody
public import Idealize.ShloMosaic.Lib.Pipeline.Value

@[expose] public section

noncomputable section

namespace Cert.Proof.Dispatch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra, in the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## Before the region -/

/-- The buffers at launch; -/
abbrev V₀ (c : Dev nD) : Valuation τ sig (Elt F) := fun b => (s₀ m ρ).mem ((c : Dev nD), b)
/-- and at the region, the token rows laid out. -/
abbrev V (c : Dev nD) (b : Ref sig .tc) : Buf (Elt F) ((c : Thread nD τ).loc b) := StableHlo.after hostOps0 (V₀ m ρ c) b

theorem not_written (b : Ref sig .tc) (hb : b ≠ main_v0 ∧ b ≠ main_v1) : ∀ op ∈ (hostOps0 (F := F)), Proc.devRef .tc b ∉ op.writes := by
  obtain ⟨h0, h1⟩ := hb
  intro op hop
  simp only [List.mem_cons, List.mem_nil_iff, or_false] at hop
  rcases hop with rfl | rfl
  · simp only [StableHlo.reshape, StableHlo.unary_writes, Finset.mem_singleton]; exact StableHlo.devRef_ne_of_ne h0
  · simp only [StableHlo.unary_writes, Finset.mem_singleton]; exact StableHlo.devRef_ne_of_ne h1

/-- A buffer neither operation writes is at the region as launched. -/
theorem V_kept (c : Dev nD) (b : Ref sig .tc) (hb : b ≠ main_v0 ∧ b ≠ main_v1) : V m ρ c b = m ((c : Thread nD τ).loc b) :=
  StableHlo.after_of_forall_not_mem (b := Proc.devRef .tc b) hostOps0 (V₀ m ρ c) (not_written b hb)

/-- The unscoped references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The region's data -/

/-- The first token table, -/
abbrev hiT (c : Dev nD) : S32768.Idx → BitVec 32 := m ((c : Thread nD τ).loc main_arg0)
/-- the second, -/
abbrev loT (c : Dev nD) : S32768.Idx → BitVec 32 := m ((c : Thread nD τ).loc main_arg1)
/-- the experts' last tiles, -/
abbrev laT (c : Dev nD) : S32.Idx → BitVec 32 := m ((c : Thread nD τ).loc main_arg2)
/-- the number of tiles in use, -/
abbrev ntT (c : Dev nD) : S1.Idx → BitVec 32 := m ((c : Thread nD τ).loc main_arg3)
/-- and the token rows at the region. -/
abbrev xT (c : Dev nD) : S2048x8x8x128.Idx → F .f32 := V m ρ c main_v1

/-- The tables' contents, those of the launch. -/
abbrev adm : (p : Fin 1) → (pcfgs (F := F) p).Adm := fun _ => ⟨fun k => m (((0 : Dev nD) : Thread nD τ).loc (pre0.ref k)), trivial⟩

/-- The four tables as launched. -/
abbrev tabs (c : Dev nD) : sProp 𝕄 :=
  iprop(((Memref.whole main_arg0).view.loc (c : Thread nD τ) ↦{fullShare} hiT m c) ∗ ((Memref.whole main_arg1).view.loc (c : Thread nD τ) ↦{fullShare} loT m c)
    ∗ ((Memref.whole main_arg2).view.loc (c : Thread nD τ) ↦{fullShare} laT m c) ∗ ((Memref.whole main_arg3).view.loc (c : Thread nD τ) ↦{fullShare} ntT m c))

/-- The kernel's own semaphores at zero. -/
abbrev sems0 (c : Dev nD) : sProp 𝕄 :=
  iprop(semVal ((c : Thread nD τ), .dma cc0_scratch1.sem) 0 ∗ semVal ((c : Thread nD τ), .dma cc0_scratch2.sem) 0)

/-- What is known of the result before point `n`. -/
def Known (c : Dev nD) (n : ℕ) (f : S5120x8x8x128.Idx → F .f32) : Prop :=
  Rows (hiT m c) (loT m c) (xT m ρ c) n f ∧ (0 < n → Clear (hiT m c) (loT m c) (laT m c) (ntT m c) f)

/-- The invariant before point `n`: the result at contents known so far, the zero tile at something, the two semaphores
    at zero, the tables. -/
def Φc (c : Dev nD) (n : ℕ) : sProp 𝕄 :=
  iprop(∃ (f : S5120x8x8x128.Idx → F .f32) (z : S32x8x8x128.Idx → F .f32), ⌜Known m ρ c n f⌝
    ∗ ((Memref.whole main_v2).view.loc (c : Thread nD τ) ↦{fullShare} f) ∗ ((Memref.whole cc0_scratch0).view.loc (c : Thread nD τ) ↦{fullShare} z)
    ∗ sems0 c ∗ tabs m c)

/-- The block of the token rows a point reads. -/
abbrev blkT (c : Dev nD) (t : Fin grid0.N) : S256x8x8x128.Idx → F .f32 :=
  (((cfg0 (adm m 0)).win 0).blk t).view.read (Elt F) (xT m ρ c)

def dats (p : Fin 1) (c : Dev nD) : Dat τ (Elt F) Unit ℕ (UU nD τ) ℕ (Pipeline.pin (pcfgs (F := F)) (adm m) p) c where
  A w := V m ρ c (Pipeline.arrRef spec0 w)
  after w t := match w with | ⟨0, _⟩ => blkT m ρ c t
  Φ t := Φc m ρ c t.val
  q _ := fullShare
  owed _ := 0

theorem A_eq (c : Dev nD) (w : Fin 1) : (dats m ρ 0 c).A w = V m ρ c (Pipeline.arrRef spec0 w) := by
  dsimp only [dats]

abbrev 𝒱₀ : Variants := Variants.none

/-- The staging buffer holds the point's block. -/
theorem before_in (c : Dev nD) (t : Fin grid0.N) (d) : (dats m ρ 0 c).before 0 t d = blkT m ρ c t :=
  (Pipeline.Dat.before_in_eq_fetched (dats m ρ 0 c) 0 rfl (fun _ => rfl) (fun _ _ _ => rfl) (fun _ => rfl) t d).trans rfl

/-- A point's coordinate is its number. -/
theorem coords_val (t : Fin grid0.N) : (grid0.coords t 0).val = t.val := by
  rcases fin_N0 t with rfl | rfl | rfl | rfl | rfl | rfl | rfl | rfl <;> rfl

/-- An element of the point's block, of the rows a copy reads. -/
theorem blkT_bi (c : Dev nD) (i : Fin grid0.N) {t : ℕ} (ht : t < 4096) (y : S5120x8x8x128.Idx) :
    blkT m ρ c i (bi t y) = xT m ρ c (xi (ra (grid0.coords i 0).val t) y) := by
  have hi : (grid0.coords i 0).val < 8 := (grid0.coords i 0).isLt
  have e := fun a : Fin 4 => Pipeline.Window.rect_emb_val ((cfg0 (adm m 0)).win 0) i (bi t y) a
  refine congrArg (xT m ρ c) (show (((cfg0 (adm m 0)).win 0).rect i).emb (bi t y) = xi (ra (grid0.coords i 0).val t) y from funext fun a : Fin 4 => Fin.ext ((e a).trans ?_))
  match a with
  | 0 =>
    show (BitVec.ofNat 32 (grid0.coords i 0).val).toNat * 256 + t / 16 % 256 = ra (grid0.coords i 0).val t % 16384 / 8 % 2048
    rw [BitVec.toNat_ofNat]
    unfold ra
    rcases Nat.mod_two_eq_zero_or_one t with h | h <;> rw [h] <;> omega
  | 1 => show 0 * 8 + (y 1).val = (y 1).val; omega
  | 2 =>
    show 0 * 8 + t / 2 % 8 = ra (grid0.coords i 0).val t % 8
    unfold ra
    rcases Nat.mod_two_eq_zero_or_one t with h | h <;> rw [h] <;> omega
  | 3 => show 0 * 128 + (y 3).val = (y 3).val; omega

/-- The body at a point, from the invariant and the point's block to the next invariant. -/
theorem point (hpl : ∀ c, Placed (hiT m c) (loT m c) (laT m c) (ntT m c)) (c : Dev nD) (t : Fin grid0.N) (arg5 : Memref sig .tc .vmem S256x8x8x128 .f32) (harg5 : arg5.IsWhole) :
    iprop(Φc m ρ c t.val ∗ (dats m ρ 0 c).owesAt () t.castSucc ∗ owns (c : Thread nD τ) arg5 fullShare (blkT m ρ c t))
      ⊢ wp frame (wpE (defs₀ (F := F)) Variants.none (c : Thread nD τ) none) Set.univ
        (cc0_moe_dispatch (F := F) (grid0.coords t) (Memref.whole main_arg0) (Memref.isWhole_whole _) (Memref.whole main_arg1) (Memref.isWhole_whole _) (Memref.whole main_arg2) (Memref.isWhole_whole _) (Memref.whole main_arg3) (Memref.isWhole_whole _) arg5 harg5 (Memref.whole main_v2) (Memref.isWhole_whole _) (Memref.whole cc0_scratch0) (Memref.isWhole_whole _) cc0_scratch1 cc0_scratch2)
        fun _ => iprop(Φc m ρ c (t.val + 1) ∗ (dats m ρ 0 c).owesAt () t.succ ∗ owns (c : Thread nD τ) arg5 fullShare (blkT m ρ c t)) := by
  unfold Φc Dat.owesAt Pipeline.owesWithin owns
  rw [show (dats m ρ 0 c).owed t.castSucc = 0 from rfl, show (dats m ρ 0 c).owed t.succ = 0 from rfl, harg5.set_eq_univ]
  iintro ⟨⟨%f, %z, %hk, Hf, Hz, ⟨Hs1, Hs2⟩, ⟨Ha0, Ha1, Ha2, Ha3⟩⟩, ⟨%W, %hW, HO⟩, ⟨%f0, %hX, H0⟩⟩
  unfold Known at hk ⊢
  rw [← coords_val t] at hk ⊢
  iapply (body harg5 (grid0.coords t) (X := f0) (x := xT m ρ c) (z := z) (hpl c)
    (fun t' ht' y => (congrFun hX _).trans (blkT_bi m ρ c t ht' y)) hk.1 hk.2 ?_)
  swap
  · isplitl [Hf]; · iexact Hf
    isplitl [H0]; · iexact H0
    isplitl [Hz]; · iexact Hz
    isplitl [Hs1]; · iexact Hs1
    isplitl [Hs2]; · iexact Hs2
    isplitl [Ha0]; · iexact Ha0
    isplitl [Ha1]; · iexact Ha1
    isplitl [Ha2]; · iexact Ha2
    isplitl [Ha3]; · iexact Ha3
    iexists W; iexact HO
  intro f' z' hr hc
  iintro ⟨Hf, H0, Hz, Hs1, Hs2, Ha0, Ha1, Ha2, Ha3, ⟨%W', HO⟩⟩
  isplitl [Hf Hz Hs1 Hs2 Ha0 Ha1 Ha2 Ha3]
  · iexists f'; iexists z'
    isplitr; · ipureintro; exact ⟨hr, fun _ => hc⟩
    isplitl [Hf]; · iexact Hf
    isplitl [Hz]; · iexact Hz
    isplitl [Hs1 Hs2]
    · isplitl [Hs1] <;> iassumption
    isplitl [Ha0]; · iexact Ha0
    isplitl [Ha1]; · iexact Ha1
    isplitl [Ha2] <;> iassumption
  isplitl [HO]
  · iexists W'; isplitr; · ipureintro; exact fun _ _ => Or.inl trivial
    iexact HO
  iexists f0
  isplitr; · ipureintro; exact hX
  iexact H0

theorem body_obligation (hpl : ∀ c, Placed (hiT m c) (loT m c) (laT m c) (ntT m c)) (c : Dev nD) :
    BodyObligation (dats m ρ 0 c) (defs₀ (F := F)) 𝒱₀ () Set.univ := fun t => by
  rw [bigSep_W0, bigSep_W0]
  refine BIBase.Entails.trans (sep_mono .rfl (sep_mono .rfl ?_)) (point m ρ hpl c t _ (hstage0_0 (((Pipeline.pin pcfgs (adm m) 0).slots t 0).cast nbuf0_0)))
  exact exists_elim fun d => Entails.of_eq (congrArg (owns (c : Thread nD τ) _ fullShare) (before_in m ρ c t d))

/-! ## The launch -/

/-- The kernel's own semaphores. -/
abbrev osem : Fin 2 → SemLoc sig := ![.dma cc0_scratch1.sem, .dma cc0_scratch2.sem]

theorem ownSemFacts : Pipeline.OwnSemFacts spec0 osem := by decide

/-- The launch element: the pipeline library's, and no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

omit [FloatOps F] in
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1] (by decide) (by decide)

abbrev L : GSem nD τ sig → Finset Unit := fun _ => ∅
abbrev lv : GSem nD τ sig → Unit → ℕ := fun _ _ => 0

/-- What rides beside the buffers. -/
abbrev R (c : Dev nD) : sProp 𝕄 := iprop(∃ W, owes (c : Thread nD τ) (0 : CellTallies nD τ sig Unit) W)

/-- The two layout operations. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- The tables one by one. -/
theorem prefHeld_eq (c : Dev nD) :
    (Pipeline.prefHeld (Ix := Unit) (Name := ℕ) (U := UU nD τ) (Lvl := ℕ) pre0 c (fun _ => fullShare) (adm m 0).1 : sProp 𝕄) = tabs m c := by
  obtain rfl : c = 0 := Subsingleton.elim _ _
  unfold Pipeline.prefHeld
  exact bigSep_univ_eq_bigSepL [(0 : Fin 4), 1, 2, 3] (by decide) (by decide) _

/-- What is left at the end: the tables, the token rows and the result at contents known after the last point. -/
abbrev Tₙ (c : Dev nD) : sProp 𝕄 :=
  iprop(tabs m c ∗ (((c : Thread nD τ).loc main_arg4) ↦{fullShare} m ((c : Thread nD τ).loc main_arg4))
    ∗ ∃ f : S5120x8x8x128.Idx → F .f32, ⌜Known m ρ c 8 f⌝ ∗ ((Memref.whole main_v2).view.loc (c : Thread nD τ) ↦{fullShare} f))

/-- What the region takes of the buffers at launch: its array, the tables, the token rows as given and the result. -/
theorem entry_split (c : Dev nD) :
    (StableHlo.held (c : Thread nD τ) ucRefs (StableHlo.after hostOps0 (V₀ m ρ c)) : sProp 𝕄)
      ⊢ iprop((dats m ρ 0 c).arrays ((dats m ρ 0 c).arrAt · 0) ∗ tabs m c
        ∗ (((c : Thread nD τ).loc main_arg4) ↦{fullShare} m ((c : Thread nD τ).loc main_arg4))
        ∗ ((Memref.whole main_v2).view.loc (c : Thread nD τ) ↦{fullShare} V m ρ c main_v2)) := by
  rw [show StableHlo.held (c : Thread nD τ) ucRefs (StableHlo.after hostOps0 (V₀ m ρ c)) = unscopedBufs c (V m ρ c) from (unscopedBufs_held (F := F) c _).symm]
  have h := Pipeline.arrays_of_unscopedBufs (pcfgs (F := F)) (adm m) (dats m ρ) (launch0 (F := F)).win (launch0 (F := F)).arr_whole c
    ((dats m ρ 0 c).share_full fun _ => rfl) (V m ρ c) (A_eq m ρ c)
  have ht : (fun k => V m ρ c (pre0.ref k)) = (adm m 0).1 := by
    obtain rfl : c = 0 := Subsingleton.elim _ _
    funext k
    exact V_kept m ρ 0 (pre0.ref k) (by revert k; decide)
  refine h.trans (sep_mono .rfl ?_)
  rw [Pipeline.unscopedRest_split preFacts0 c (V m ρ c), unscopedRestP0_eq, ht, prefHeld_eq m c, V_kept m ρ c main_arg4 (by decide)]
  iintro ⟨Ht, H4, -, H2⟩
  isplitl [Ht]; · iexact Ht
  isplitl [H4] <;> iassumption

set_option backward.isDefEq.respectTransparency.types false in
/-- The kernel's region: the tables, the result and the two semaphores into the invariant, the token rows as given
    riding past it. -/
def reg0 (hpl : ∀ c, Placed (hiT m c) (loT m c) (laT m c) (ntT m c)) : Pipeline.RegionSeg (pcfgs (F := F)) (adm m) (dats m ρ) () defs₀ 𝒱₀ L lv 0 where
  win := (launch0 (F := F)).win.to₀
  block_pos := (launch0 (F := F)).block_pos
  stage_whole := (launch0 (F := F)).stage_whole
  K := Fin 2
  osem := osem
  ho := ownSemFacts
  hbody c := (body_obligation m ρ hpl c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ c ∗ R c)
  X c := iprop(((Memref.whole main_v2).view.loc (c : Thread nD τ) ↦{fullShare} V m ρ c main_v2) ∗ sems0 c)
  Y c := iprop(tabs m c ∗ ∃ f : S5120x8x8x128.Idx → F .f32, ⌜Known m ρ c 8 f⌝ ∗ ((Memref.whole main_v2).view.loc (c : Thread nD τ) ↦{fullShare} f))
  Z c := ((c : Thread nD τ).loc main_arg4) ↦{fullShare} m ((c : Thread nD τ).loc main_arg4)
  hentry c := by
    rw [ownSems0_eq (F := F), show Pipeline.prefHeld (Ix := Unit) (Name := ℕ) (U := UU nD τ) (Lvl := ℕ) (pcfgs (F := F) 0).pre c (fun _ => fullShare) (adm m 0).1 = tabs m c from prefHeld_eq m c]
    iintro ⟨⟨Hub, HO⟩, Hos, -⟩
    ihave H := (entry_split m ρ c) $$ Hub
    icases H with ⟨Ha, Ht, H4, H2⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [H2 Hos]
    · isplitl [H2] <;> iassumption
    iexact H4
  hin c := by
    rw [show Pipeline.prefHeld (Ix := Unit) (Name := ℕ) (U := UU nD τ) (Lvl := ℕ) (pcfgs (F := F) 0).pre c (fun _ => fullShare) (adm m 0).1 = tabs m c from prefHeld_eq m c,
      show Pipeline.scopedRest (pcfgs (F := F) 0).spec c = _ from scopedRest0_eq c, show (dats m ρ 0 c).Φ 0 = Φc m ρ c 0 from rfl]
    unfold Φc
    iintro ⟨⟨H2, Hos⟩, Ht, ⟨%z, Hz⟩⟩
    iexists (V m ρ c main_v2); iexists z
    isplitr; · ipureintro; exact ⟨fun _ _ _ h => absurd h (Nat.not_lt_zero _), fun h => absurd h (Nat.lt_irrefl _)⟩
    isplitl [H2]; · iexact H2
    isplitl [Hz]; · iexact Hz
    isplitl [Hos] <;> iassumption
  hout c := by
    rw [ownSems0_eq (F := F), show Pipeline.scopedRest (pcfgs (F := F) 0).spec c = _ from scopedRest0_eq c,
      show (dats m ρ 0 c).Φ (Fin.last _) = Φc m ρ c 8 from congrArg (Φc m ρ c) N_0]
    unfold Φc
    iintro ⟨%f, %z, %hk, H2, Hz, Hos, Ht⟩
    isplitl [H2 Ht]
    · isplitl [Ht]; · iexact Ht
      iexists f; isplitr; · ipureintro; exact hk
      iexact H2
    isplitl [Hos]; · iexact Hos
    iexists z; iexact Hz
  hexit c := by
    iintro ⟨-, HO, ⟨Ht, HY⟩, HZ⟩
    imodintro
    isplitr [HO]
    · isplitl [Ht]; · iexact Ht
      isplitl [HZ] <;> iassumption
    · unfold Pipeline.Dat.owesAt Pipeline.owesWithin
      icases HO with ⟨%W, -, HO⟩; iexists W; iexact HO

abbrev segs (hpl : ∀ c, Placed (hiT m c) (loT m c) (laT m c) (ntT m c)) : List (Pipeline.Seg (pcfgs (F := F)) (adm m) (dats m ρ) () defs₀ 𝒱₀ L lv) :=
  [.host (seg0 m ρ), .region (reg0 m ρ hpl)]

/-- What a core's memory holds at the end: its arguments as launched, and the result at contents known after the last point. -/
def Done (c : Dev nD) (s : (ℓ : Loc nD τ sig) → Buf (Elt F) ℓ) : Prop :=
  (s ((c : Thread nD τ).loc main_arg0) = m ((c : Thread nD τ).loc main_arg0) ∧ s ((c : Thread nD τ).loc main_arg1) = m ((c : Thread nD τ).loc main_arg1)
    ∧ s ((c : Thread nD τ).loc main_arg2) = m ((c : Thread nD τ).loc main_arg2) ∧ s ((c : Thread nD τ).loc main_arg3) = m ((c : Thread nD τ).loc main_arg3)
    ∧ s ((c : Thread nD τ).loc main_arg4) = m ((c : Thread nD τ).loc main_arg4)) ∧ Known m ρ c 8 (s ((c : Thread nD τ).loc main_v2))

set_option backward.isDefEq.respectTransparency.types false in
/-- The run, at any float values. -/
theorem run_main (hpl : ∀ c, Placed (hiT m c) (loT m c) (laT m c) (ntT m c)) :
    θ_run defs (onTc (τ := τ) (main (F := F))) (s₀ m ρ) (fun r => (∀ c, Done m ρ c r.2.mem) ∧ r.2.sem = fun _ => 0) :=
  Pipeline.θ_run_regions_kit_sems (pcfgs (F := F)) (adm m) (dats m ρ) () (cellOf_inj (adm m)) EP defs₀ 𝒱₀ L lv m ρ main (segs m ρ hpl)
    (fun c Q => by rw [main_segs (adm m) (dats m ρ) () 𝒱₀ L lv (seg0 m ρ) (reg0 m ρ hpl) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => Done m ρ c s.mem)
    (hfin := fun c s' => by
      dsimp only [Tₙ]
      iintro ⟨⟨⟨H0, H1, H2, H3⟩, H4, ⟨%f, %hk, Hf⟩⟩, HSI⟩
      icombine HSI H0 gives %h0
      icombine HSI H1 gives %h1
      icombine HSI H2 gives %h2
      icombine HSI H3 gives %h3
      icombine HSI H4 gives %h4
      icombine HSI Hf gives %hf
      imodintro
      isplitr
      · ipureintro
        refine ⟨⟨Buf.eq_of_forall_mem_univ h0, Buf.eq_of_forall_mem_univ h1, Buf.eq_of_forall_mem_univ h2, Buf.eq_of_forall_mem_univ h3, Buf.eq_of_forall_mem_univ h4⟩, ?_⟩
        rw [show s'.mem.mem ((c : Thread nD τ).loc main_v2) = f from Buf.eq_of_forall_mem_univ hf]
        exact hk
      iexact HSI)
    (hQ := fun _ h hz => ⟨h, funext fun g => hz g (.inr (by revert g; decide))⟩)

end Cert.Proof.Dispatch

end
-- ==== Proof.Host.lean ====
/-
  What the precondition and the mask say of the words they test: the tables are `Placed`, and an entry of the result that
  the mask holds lies in a slot of some copy or in a cleared tile.
-/
module

public import proofs.«01_k».proof.Proof.Body
public import proofs.«01_k».proof.Pre_placed
public import proofs.«01_k».proof.On_written
public import Idealize.ShloMosaic.Lib.ReduceAll
public import Idealize.ShloMosaic.Lib.ValueIdx
public import Idealize.ShloMosaic.Lib.Pipeline.Value

@[expose] public section

noncomputable section

namespace Cert.Proof.Dispatch

open Idealize.ShloMosaic Idealize.ShloMosaic.ValueIdx

/-- The precondition's operations are well formed; -/
instance facts_placed : Cert.Pre_placed.Facts where
  bcast_S_S32768 := by decide
  reducesTo_S32768_S_d0 := by decide
  h_S_ := by decide
  bcast_S32768_S32768x1_0 := by decide
  bcast_S32768_S1x32768_1 := by decide
  bcast_S32768x1_S32768x32768_0_1 := by decide
  bcast_S1x32768_S32768x32768_0_1 := by decide
  reducesTo_S32768x32768_S_d0_1 := by decide
  bcast_S_S1 := by decide
  reducesTo_S1_S_d0 := by decide
  bcast_S1_S32_0 := by decide
  reducesTo_S32_S_d0 := by decide
  bcast_S_S32 := by decide
  bcast_S32_S32x1_0 := by decide
  bcast_S32_S1x32_1 := by decide
  bcast_S32x1_S32x32_0_1 := by decide
  bcast_S1x32_S32x32_0_1 := by decide
  reducesTo_S32x32_S_d0_1 := by decide

/-- and the mask's. -/
instance facts_written : Cert.On_written.Facts where
  bcast_S_S40960 := by decide
  bcast_S_S32768 := by decide
  bcast_S40960_S40960x1_0 := by decide
  bcast_S32768_S1x32768_1 := by decide
  bcast_S40960x1_S40960x32768_0_1 := by decide
  bcast_S1x32768_S40960x32768_0_1 := by decide
  reducesTo_S40960x32768_S40960_d1 := by decide
  h_S_ := by decide
  bcast_S32_S1x32_1 := by decide
  bcast_S40960x1_S40960x32_0_1 := by decide
  bcast_S1x32_S40960x32_0_1 := by decide
  reducesTo_S40960x32_S40960_d1 := by decide
  bcast_S1_S40960_0 := by decide
  shapeCasts_S40960_S5120x1x8x1 := by decide
  bcast_S5120x1x8x1_S5120x8x8x128_0_1_2_3 := by decide

/-! ## Words -/

/-- A word that reads nonnegative and below `n` is below `n`. -/
theorem word_lt {x : BitVec 32} {n : ℕ} (h0 : 0 ≤ x.toInt) (h1 : x.toInt < n) : x.toNat < n := by
  rw [BitVec.toInt_eq_toNat_cond] at h0 h1
  split at h0 <;> omega

/-- A word with a clear sign reads as it counts. -/
theorem toInt_msb {x : BitVec 32} (h : x.msb = false) : x.toInt = x.toNat := by
  rw [BitVec.toInt_eq_msb_cond, h]; rfl

/-- A table row spread down the columns of a matrix, -/
theorem spread_col {α : Type} {n m : ℕ} {h h'} (x : (⟨1, ![n]⟩ : Shape).Idx → α) (a : Fin n) (b : Fin m) :
    broadcastInDim ⟨2, ![n, m]⟩ ![0, 1] h' (broadcastInDim ⟨2, ![n, 1]⟩ ![0] h x) (ix2 a b) = x (ix1 a) := by
  refine congrArg x (funext fun d => ?_)
  obtain rfl : d = 0 := Subsingleton.elim _ _
  have ha := a.isLt
  apply Fin.ext
  by_cases hn : n = 1
  · subst hn
    show 0 = a.val
    omega
  · exact (congrArg Fin.val (dif_neg hn)).trans (congrArg Fin.val (dif_neg (c := n = 1) hn))

/-- and along its rows. -/
theorem spread_row {α : Type} {n m : ℕ} {h h'} (x : (⟨1, ![m]⟩ : Shape).Idx → α) (a : Fin n) (b : Fin m) :
    broadcastInDim ⟨2, ![n, m]⟩ ![0, 1] h' (broadcastInDim ⟨2, ![1, m]⟩ ![1] h x) (ix2 a b) = x (ix1 b) := by
  refine congrArg x (funext fun d => ?_)
  obtain rfl : d = 0 := Subsingleton.elim _ _
  have hb := b.isLt
  apply Fin.ext
  by_cases hn : m = 1
  · subst hn
    show 0 = b.val
    omega
  · exact (congrArg Fin.val (dif_neg hn)).trans (congrArg Fin.val (dif_neg (c := m = 1) hn))

/-- A one-word table spread over a row. -/
theorem spread_one {α : Type} {n : ℕ} {h} (x : (⟨1, ![1]⟩ : Shape).Idx → α) (j : (⟨1, ![n]⟩ : Shape).Idx) :
    broadcastInDim ⟨1, ![n]⟩ ![0] h x j = x i1 :=
  congrArg x (funext fun d => by
    obtain rfl : d = 0 := Subsingleton.elim _ _
    exact Subsingleton.elim (α := Fin 1) _ _)

/-- Two counts below the number of rows that are the same word are the same. -/
theorem iota_inj {n : ℕ} (hn : n < 2 ^ 32) (a b : Fin n)
    (h : iotaInDim (⟨1, ![n]⟩ : Shape) 32 0 (ix1 a) = iotaInDim (⟨1, ![n]⟩ : Shape) 32 0 (ix1 b)) : a = b := by
  have h' : BitVec.ofNat 32 a.val = BitVec.ofNat 32 b.val := h
  have h'' := congrArg BitVec.toNat h'
  rw [BitVec.toNat_ofNat, BitVec.toNat_ofNat, Nat.mod_eq_of_lt (by omega), Nat.mod_eq_of_lt (by omega)] at h''
  exact Fin.ext h''

variable {F : FTy → Type} [FloatOps F]

/-! ## The precondition read -/

/-- The precondition says that the tables are `Placed`. -/
theorem placed_of {hi lo : IVec Cert.Pre_placed.S32768 32} {la : IVec Cert.Pre_placed.S32 32} {nt : IVec Cert.Pre_placed.S1 32}
    {x : FVec F Cert.Pre_placed.S16384x1024 .f32} (h : Cert.Pre_placed.fn (F := F) hi lo la nt x = fun _ => 1#1) :
    Placed hi lo la nt := by
  have h0 := congrFun h ix0
  haveI : Subsingleton Cert.Pre_placed.S_.Idx := ⟨fun i j => (eq_ix0 i).trans (eq_ix0 j).symm⟩
  unfold Cert.Pre_placed.fn Cert.Pre_placed.fn_part1 Cert.Pre_placed.fn_part2 Cert.Pre_placed.fn_part3 at h0
  dsimp only at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  have z0 : (0#32 : BitVec 32).toInt = 0 := by decide
  have z1 : (5120#32 : BitVec 32).toInt = (5120 : ℕ) := by decide
  have z2 : (8#32 : BitVec 32).toInt = (8 : ℕ) := by decide
  have z3 : (160#32 : BitVec 32).toInt = (160 : ℕ) := by decide
  have hnt : 0 ≤ (nt i1).toInt ∧ (nt i1).toInt ≤ (160 : ℕ) := by
    obtain ⟨q1, q2⟩ := IntOp.andi_eq_one.1 (Host.reduce_andi_all _ _ _ _ _ e4 i1)
    have q1 : (0#32 : BitVec 32).toInt ≤ (nt i1).toInt := IntOp.cmpi_sge.1 q1
    have q2 : (nt i1).toInt ≤ (160#32 : BitVec 32).toInt := IntOp.cmpi_sle.1 q2
    exact ⟨z0 ▸ q1, z3 ▸ q2⟩
  refine ⟨fun a => ?_, fun a => ?_, fun a b hh hl => ?_, ?_, fun e he => ?_, fun e e' he hee => ?_⟩
  · obtain ⟨q1, q2⟩ := IntOp.andi_eq_one.1 (Host.reduce_andi_all _ _ _ _ _ e1 a)
    have q1 : (0#32 : BitVec 32).toInt ≤ (hi a).toInt := IntOp.cmpi_sge.1 q1
    have q2 : (hi a).toInt < (5120#32 : BitVec 32).toInt := IntOp.cmpi_slt.1 q2
    exact word_lt (z0 ▸ q1) (z1 ▸ q2)
  · obtain ⟨q1, q2⟩ := IntOp.andi_eq_one.1 (Host.reduce_andi_all _ _ _ _ _ e2 a)
    have q1 : (0#32 : BitVec 32).toInt ≤ (lo a).toInt := IntOp.cmpi_sge.1 q1
    have q2 : (lo a).toInt < (8#32 : BitVec 32).toInt := IntOp.cmpi_slt.1 q2
    exact word_lt (z0 ▸ q1) (z2 ▸ q2)
  · obtain ⟨a, rfl⟩ : ∃ k : Fin 32768, a = ix1 k := ⟨a 0, eq_ix1 a⟩
    obtain ⟨b, rfl⟩ : ∃ k : Fin 32768, b = ix1 k := ⟨b 0, eq_ix1 b⟩
    have hab : hi (ix1 a) = hi (ix1 b) := BitVec.eq_of_toNat_eq hh
    have hlb : lo (ix1 a) = lo (ix1 b) := BitVec.eq_of_toNat_eq hl
    rcases IntOp.ori_eq_one.1 (Host.reduce_andi_all _ _ _ _ _ e3 (ix2 a b)) with q | q
    · refine absurd ((spread_col _ _ _).trans (Eq.trans ?_ (spread_row _ _ _).symm)) (IntOp.cmpi_ne.1 q)
      show hi (ix1 a) * 8#32 + lo (ix1 a) = hi (ix1 b) * 8#32 + lo (ix1 b)
      rw [hab, hlb]
    · have q := (spread_col _ _ _).symm.trans ((IntOp.cmpi_eq.1 q).trans (spread_row _ _ _))
      exact congrArg ix1 (iota_inj (by decide) _ _ q)
  · have := word_lt (n := 161) hnt.1 (by have := hnt.2; omega)
    omega
  · have q : (la e).toInt < (broadcastInDim Cert.Pre_placed.S32 ![0] Cert.Pre_placed.Facts.bcast_S1_S32_0 nt e).toInt :=
      IntOp.cmpi_slt.1 (Host.reduce_andi_all _ _ _ _ _ e5 e)
    rw [spread_one, toInt_msb he] at q
    have := hnt.1
    rw [BitVec.toInt_eq_toNat_cond] at q this
    split at q <;> omega
  · obtain ⟨e, rfl⟩ : ∃ k : Fin 32, e = ix1 k := ⟨e 0, eq_ix1 e⟩
    obtain ⟨e', rfl⟩ : ∃ k : Fin 32, e' = ix1 k := ⟨e' 0, eq_ix1 e'⟩
    rcases IntOp.ori_eq_one.1 (Host.reduce_andi_all _ _ _ _ _ e6 (ix2 e e')) with q | q
    · rcases IntOp.ori_eq_one.1 q with q | q
      · have q : (la (ix1 e)).toInt < (0#32 : BitVec 32).toInt := IntOp.cmpi_slt.1 ((spread_col _ _ _).symm.trans q)
        have := toInt_msb he
        omega
      · exact absurd ((spread_col _ _ _).trans (hee.trans (spread_row _ _ _).symm)) (IntOp.cmpi_ne.1 q)
    · have q := (spread_col _ _ _).symm.trans ((IntOp.cmpi_eq.1 q).trans (spread_row _ _ _))
      exact congrArg ix1 (iota_inj (by decide) _ _ q)

/-! ## The mask read -/

omit [FloatOps F] in
/-- A row whose every entry is not one has an entry that is not. -/
theorem reduce_row_not {n m : ℕ} {u : Shape} (p : IVec (⟨2, ![n, m]⟩ : Shape) 1) (v : IVec u 1)
    (h : (⟨2, ![n, m]⟩ : Shape).ReducesTo [1] ⟨1, ![n]⟩) (hu : 0 < u.numel) (hv : v (Shape.Idx.first hu) = 1#1) (r : Fin n)
    (hr : ¬ Host.reduce IntOp.andi p v h hu (ix1 r) = 1#1) : ∃ a, ¬ p (ix2 r a) = 1#1 := by
  by_contra hc
  refine hr ?_
  rw [Host.reduce_eq_foldl]
  refine IntOp.foldl_andi_one p _ _ hv fun j hj => ?_
  have hd : h.drop j = ix1 r := of_decide_eq_true (List.mem_filter.1 hj).2
  have h0 : (j 0).val = r.val := congrArg (fun i : (⟨1, ![n]⟩ : Shape).Idx => (i 0).val) hd
  have he : j = ix2 r (j 1) := (eq_ix2 j).trans (congrArg (fun i : Fin n => ix2 i (j 1)) (Fin.ext h0))
  rw [he]
  by_contra hq
  exact hc ⟨_, hq⟩

/-- A small count shifted right by 8 is its 256th part. -/
theorem tile_word {r : ℕ} (h : r < 40960) : IntOp.shrsi .host (BitVec.ofNat 32 r) 8#32 = BitVec.ofNat 32 (r / 256) := by
  have hm : (BitVec.ofNat 32 r).msb = false := by
    rw [BitVec.msb_eq_false_iff_two_mul_lt, BitVec.toNat_ofNat, Nat.mod_eq_of_lt (by omega)]
    omega
  unfold IntOp.shrsi
  rw [if_pos (by decide), BitVec.sshiftRight', BitVec.sshiftRight_eq_of_msb_false hm]
  apply BitVec.eq_of_toNat_eq
  have h1 : (BitVec.ofNat 32 r).toNat = r := (BitVec.toNat_ofNat ..).trans (Nat.mod_eq_of_lt (by omega))
  have h2 : (BitVec.ofNat 32 (r / 256)).toNat = r / 256 := (BitVec.toNat_ofNat ..).trans (Nat.mod_eq_of_lt (by omega))
  rw [BitVec.toNat_ushiftRight, h1, h2]
  exact Nat.shiftRight_eq_div_pow r 8

/-- The words of a slot, as the row they name. -/
theorem slot_word {u v : BitVec 32} (hu : u.toNat < 5120) (hv : v.toNat < 8) : (u * 8#32 + v).toNat = u.toNat * 8 + v.toNat := by
  have h8 : (8#32 : BitVec 32).toNat = 8 := rfl
  rw [BitVec.toNat_add, BitVec.toNat_mul, h8]
  omega

/-- An entry that the mask holds lies in a slot of some copy or in a cleared tile. -/
theorem written_cases {hi lo : IVec Cert.On_written.S32768 32} {la : IVec Cert.On_written.S32 32} {nt : IVec Cert.On_written.S1 32}
    {x : FVec F Cert.On_written.S16384x1024 .f32} (H : Placed hi lo la nt) (y : Cert.On_written.S5120x8x8x128.Idx)
    (h : Cert.On_written.fn (F := F) hi lo la nt x y = 1#1) :
    (∃ a, slot hi lo a y) ∨ (y 0).val / 32 ∈ zlist la (nt i1).toNat := by
  have hy0 : (y 0).val < 5120 := (y 0).isLt
  have hy2 : (y 2).val < 8 := (y 2).isLt
  have hr : (y 0).val * 8 + (y 2).val < 40960 := by omega
  unfold Cert.On_written.fn Cert.On_written.fn_part1 at h
  dsimp only at h
  have h := (shapeCast_apply _ _ _ (ix1 ⟨_, hr⟩) (by
    rw [Shape.rowMajor_val_one, Shape.rowMajor_val_four]
    show (y 0).val * 8 + (y 2).val = (((y 0).val * 1 + 0) * 8 + (y 2).val) * 1 + 0
    omega)).symm.trans h
  rcases IntOp.ori_eq_one.1 h with h | h
  · rcases IntOp.ori_eq_one.1 h with h | h
    · obtain ⟨a, ha⟩ := reduce_row_not _ _ _ _ rfl _ (IntOp.not_eq_one.1 h)
      have ha := not_not.1 fun hn => ha (IntOp.cmpi_ne.2 hn)
      have ha : BitVec.ofNat 32 ((y 0).val * 8 + (y 2).val) = hi (ix1 a) * 8#32 + lo (ix1 a) :=
        (spread_col _ _ _).symm.trans (ha.trans (spread_row _ _ _))
      have ha := congrArg BitVec.toNat ha
      have h1 := H.hi_lt (ix1 a)
      have h2 := H.lo_lt (ix1 a)
      rw [slot_word h1 h2, BitVec.toNat_ofNat, Nat.mod_eq_of_lt (by omega)] at ha
      have hi32 : i32768 a.val = ix1 a := by
        funext d
        obtain rfl : d = 0 := Subsingleton.elim _ _
        exact Fin.ext (Nat.mod_eq_of_lt a.isLt)
      refine Or.inl ⟨a.val, a.isLt, ?_⟩
      unfold rset
      rw [hi32, Finset.mem_filter]
      exact ⟨Finset.mem_univ _, by omega, by omega⟩
    · obtain ⟨e, he⟩ := reduce_row_not _ _ _ _ rfl _ (IntOp.not_eq_one.1 h)
      have he := not_not.1 fun hn => he (IntOp.cmpi_ne.2 hn)
      have he : IntOp.shrsi .host (BitVec.ofNat 32 ((y 0).val * 8 + (y 2).val)) 8#32 = la (ix1 e) :=
        (spread_col _ _ _).symm.trans (he.trans (spread_row _ _ _))
      rw [tile_word hr] at he
      have hi32 : i32 e.val = ix1 e := by
        funext d
        obtain rfl : d = 0 := Subsingleton.elim _ _
        exact Fin.ext (Nat.mod_eq_of_lt e.isLt)
      have ht := congrArg BitVec.toNat he
      rw [BitVec.toNat_ofNat, Nat.mod_eq_of_lt (by omega)] at ht
      refine Or.inr (List.mem_append_left _ (List.mem_map.2 ⟨e.val, List.mem_filter.2 ⟨List.mem_range.2 e.isLt, ?_⟩, ?_⟩))
      · unfold act
        rw [hi32, Bool.not_eq_true', BitVec.msb_eq_false_iff_two_mul_lt]
        omega
      · rw [hi32]
        omega
  · have h : (nt i1).toInt ≤ (IntOp.shrsi .host (BitVec.ofNat 32 ((y 0).val * 8 + (y 2).val)) 8#32).toInt :=
      (congrArg BitVec.toInt (spread_one _ _)).symm.trans_le (IntOp.cmpi_sge.1 h)
    have hnt := H.nt_le
    rw [tile_word hr, BitVec.toInt_eq_toNat_cond, if_pos (by omega), BitVec.toInt_eq_toNat_cond,
      if_pos (by rw [BitVec.toNat_ofNat]; omega), BitVec.toNat_ofNat] at h
    refine Or.inr (List.mem_append_right _ (List.mem_map.2 ⟨(y 0).val / 32 - (nt i1).toNat, List.mem_range.2 ?_, ?_⟩)) <;> omega

end Cert.Proof.Dispatch

end
-- ==== Proof.Value.lean ====
/-
  The reference's result at an index: the row of the copy whose slot the index lies in, and zero where no copy's slot does.
-/
module

public import proofs.«01_k».proof.Proof.Host
public import proofs.«01_k».proof.Proof.Gen.Reference
public import Idealize.ShloMosaic.Lib.Routing.OpsSet
public import Idealize.ShloMosaic.Lib.Routing.OpsPair
public import Idealize.ShloMosaic.Lib.Routing.OpsOne

@[expose] public section

noncomputable section

namespace Cert.Proof.Dispatch

open Cert.Reference Cert.Reference.Gen
open Idealize.ShloMosaic Idealize.ShloMosaic.ValueIdx Idealize.ShloMosaic.Routing

/-! ## Where an update lands -/

/-- Row `a` of the updates lands in the row that its index word names, in its own column. -/
theorem lands_row (idx : IVec S32768x1 32) (a : Fin 32768) (k : Fin 1024) (r : Fin 40960) (e : Fin 1024) :
    scatter_S40960x1024_S32768x1_S32768x1024_1_0_0_1.resultIdx? (ix2 a k) idx = some (ix2 r e)
      ↔ (idx (ix2 a 0)).toInt = (r.val : Int) ∧ k = e := by
  have hsi : scatter_S40960x1024_S32768x1_S32768x1024_1_0_0_1.siIdx (ix2 a k) ⟨0, Nat.zero_lt_one⟩ = ix2 a (0 : Fin 1) := by
    funext b
    match b with
    | ⟨0, _⟩ => rfl
    | ⟨1, _⟩ => rfl
  have hs0 : scatter_S40960x1024_S32768x1_S32768x1024_1_0_0_1.start (ix2 a k) idx 0 = (idx (ix2 a 0)).toInt :=
    congrArg (fun i => (idx i).toInt) hsi
  have hs1 : scatter_S40960x1024_S32768x1_S32768x1024_1_0_0_1.start (ix2 a k) idx 1 = 0 := rfl
  have hw0 : scatter_S40960x1024_S32768x1_S32768x1024_1_0_0_1.window (ix2 a k) 0 = 0 := rfl
  have hw1 : scatter_S40960x1024_S32768x1_S32768x1024_1_0_0_1.window (ix2 a k) 1 = k.val := rfl
  rw [resultIdx?_ix2, hs0, hs1, hw0, hw1, Fin.ext_iff]
  omega

variable {F : FTy → Type} [FloatOps F]

/-! ## The two layouts of the tokens -/

/-- The tokens as the dispatch call is given them: eight tokens to a block, split into eight column groups. -/
def moved {α : Type} (x : S16384x1024.Idx → α) : Cert.KernelIdeal.S2048x8x8x128.Idx → α :=
  transpose Cert.KernelIdeal.S2048x8x8x128 [0, 2, 1, 3]
    (shapeCast Cert.KernelIdeal.S2048x8x8x128 x Cert.KernelIdeal.Facts₀.shapeCasts_S16384x1024_S2048x8x8x128)
    Cert.KernelIdeal.Facts₀.transposes_S2048x8x8x128_S2048x8x8x128_0_2_1_3

theorem col_lt (y : S5120x8x8x128.Idx) : (y 1).val * 128 + (y 3).val < 1024 := by
  have h1 : (y 1).val < 8 := (y 1).isLt
  have h3 : (y 3).val < 128 := (y 3).isLt
  omega

/-- Copy `a`'s entry for the index `y`: its token's, in the column that `y` names. -/
theorem moved_apply {α : Type} (x : S16384x1024.Idx → α) (a : ℕ) (y : S5120x8x8x128.Idx) :
    moved x (xi a y) = x (ix2 ⟨a % 16384, Nat.mod_lt a (by decide)⟩ ⟨(y 1).val * 128 + (y 3).val, col_lt y⟩) := by
  have h1 : (y 1).val < 8 := (y 1).isLt
  have h3 : (y 3).val < 128 := (y 3).isLt
  have ha : a % 16384 < 16384 := Nat.mod_lt a (by decide)
  unfold moved
  rw [transpose_apply _ _ _ _ (ix4 (⟨a % 16384 / 8, by omega⟩ : Fin 2048) (⟨a % 8, by omega⟩ : Fin 8) (⟨(y 1).val, h1⟩ : Fin 8) (⟨(y 3).val, h3⟩ : Fin 128))
    (fun b => by
      match b with
      | ⟨0, _⟩ => show a % 16384 / 8 = a % 16384 / 8 % 2048; omega
      | ⟨1, _⟩ => rfl
      | ⟨2, _⟩ => rfl
      | ⟨3, _⟩ => rfl)]
  refine shapeCast_apply _ _ _ _ ?_
  rw [Shape.rowMajor_val_two, Shape.rowMajor_val_four]
  show a % 16384 * 1024 + ((y 1).val * 128 + (y 3).val) = ((a % 16384 / 8 * 8 + a % 8) * 8 + (y 1).val) * 128 + (y 3).val
  omega

/-! ## The reference -/

/-- The words that the reference's scatter is given: each copy's row, -/
def rowWord (hi lo : IVec S32768 32) : IVec S32768 32 :=
  addi (muli hi (broadcastInDim S32768 ![] bcast_S_S32768 (constantI S_ 32 8#32))) lo

/-- as jax wraps an index that may be negative. -/
def rowIdx (hi lo : IVec S32768 32) : IVec S32768x1 32 :=
  broadcastInDim S32768x1 ![0] bcast_S32768_S32768x1_0
    (select (cmpi .slt (rowWord hi lo) (broadcastInDim S32768 ![] bcast_S_S32768 (constantI S_ 32 0#32)))
      (addi (rowWord hi lo) (broadcastInDim S32768 ![] bcast_S_S32768 (constantI S_ 32 40960#32))) (rowWord hi lo))

/-- The tokens, each copied twice. -/
def twice (x : FVec F S16384x1024 .f32) : FVec F S32768x1024 .f32 :=
  concatenate S32768x1024 0 [⟨S16384x1024, x⟩, ⟨S16384x1024, x⟩] concatenates_S16384x1024_S16384x1024_S32768x1024_d0

/-- The reference's result. -/
def refTerm (hi lo : IVec S32768 32) (x : FVec F S16384x1024 .f32) : FVec F S5120x8x8x128 .f32 :=
  transpose S5120x8x8x128 [0, 2, 1, 3]
    (shapeCast S5120x8x8x128
      (Host.scatter scatter_S40960x1024_S32768x1_S32768x1024_1_0_0_1 (fun _ b => b)
        (broadcastInDim S40960x1024 ![] bcast_S_S40960x1024 (constant S_ .f32 0x00000000#32)) (rowIdx hi lo) (twice x))
      shapeCasts_S40960x1024_S5120x8x8x128) transposes_S5120x8x8x128_S5120x8x8x128_0_2_1_3

/-- Copy `a` reads its token's row. -/
theorem twice_apply (x : FVec F S16384x1024 .f32) (a : Fin 32768) (k : Fin 1024) :
    twice x (ix2 a k) = x (ix2 ⟨a.val % 16384, Nat.mod_lt _ (by decide)⟩ k) := by
  have ha := a.isLt
  unfold twice
  by_cases h : a.val < 16384
  · refine concatenate_pair_apply_left (t := S32768x1024) 0 x x _ _ rfl _ fun b => ?_
    match b with
    | ⟨0, _⟩ => show a.val % 16384 = a.val; omega
    | ⟨1, _⟩ => rfl
  · refine concatenate_pair_apply_right (t := S32768x1024) 0 x x _ _ rfl rfl _ (fun b hb => ?_) ?_
    · match b, hb with
      | ⟨0, _⟩, hb => exact absurd rfl hb
      | ⟨1, _⟩, _ => rfl
    · show a.val % 16384 + 16384 = a.val
      omega

/-- The index word of copy `a` reads as the row of its slot. -/
theorem rowIdx_apply {hi lo : IVec S32768 32} {la : IVec Cert.KernelIdeal.S32 32} {nt : IVec Cert.KernelIdeal.S1 32} (H : Placed hi lo la nt)
    (a : Fin 32768) : (rowIdx hi lo (ix2 a 0)).toInt = (((hi (ix1 a)).toNat * 8 + (lo (ix1 a)).toNat : ℕ) : Int) := by
  have h1 := H.hi_lt (ix1 a)
  have h2 := H.lo_lt (ix1 a)
  have hw := slot_word h1 h2
  have hn : (rowWord hi lo (ix1 a)).toInt = (((hi (ix1 a)).toNat * 8 + (lo (ix1 a)).toNat : ℕ) : Int) := by
    show (hi (ix1 a) * 8#32 + lo (ix1 a)).toInt = _
    rw [BitVec.toInt_eq_toNat_cond, hw, if_pos (by omega)]
  have hs : rowIdx hi lo (ix2 a 0) = Scalar.select (IntOp.cmpi .slt (rowWord hi lo (ix1 a)) 0#32) (rowWord hi lo (ix1 a) + 40960#32) (rowWord hi lo (ix1 a)) := by
    have he : ∀ z : IVec S32768 32, broadcastInDim S32768x1 ![0] bcast_S32768_S32768x1_0 z (ix2 a 0) = z (ix1 a) := fun z =>
      congrArg z (funext fun d => by
        obtain rfl : d = 0 := Subsingleton.elim _ _
        rfl)
    exact he _
  have hc : IntOp.cmpi .slt (rowWord hi lo (ix1 a)) 0#32 = 0#1 := by
    apply eq_zero_of_ne_one
    intro h
    have h := IntOp.cmpi_slt.1 h
    rw [hn, show (0#32 : BitVec 32).toInt = 0 from by decide] at h
    omega
  rw [hs, hc, select_zero, hn]

/-- The reference's result is the rows the slots name, and zero elsewhere. -/
theorem ref_eq {hi lo : IVec S32768 32} {la : IVec Cert.KernelIdeal.S32 32} {nt : IVec Cert.KernelIdeal.S1 32} (H : Placed hi lo la nt)
    (x : FVec F S16384x1024 .f32) (y : S5120x8x8x128.Idx) : refTerm hi lo x y = fin hi lo (moved x) y := by
  have h0 : (y 0).val < 5120 := (y 0).isLt
  have h1 : (y 1).val < 8 := (y 1).isLt
  have h2 : (y 2).val < 8 := (y 2).isLt
  have h3 : (y 3).val < 128 := (y 3).isLt
  have hr : (y 0).val * 8 + (y 2).val < 40960 := by omega
  have hat : ∀ a : Fin 32768, i32768 a.val = ix1 a := fun a => by
    funext d
    obtain rfl : d = 0 := Subsingleton.elim _ _
    exact Fin.ext (Nat.mod_eq_of_lt a.isLt)
  have hslot : ∀ a : Fin 32768, (rowIdx hi lo (ix2 a 0)).toInt = (((y 0).val * 8 + (y 2).val : ℕ) : Int) ↔ slot hi lo a.val y := fun a => by
    have q1 := H.hi_lt (ix1 a)
    have q2 := H.lo_lt (ix1 a)
    unfold slot rset
    rw [rowIdx_apply H, hat, Finset.mem_filter]
    constructor
    · intro h
      exact ⟨a.isLt, Finset.mem_univ _, by omega, by omega⟩
    · rintro ⟨-, -, e1, e2⟩
      omega
  unfold refTerm
  rw [transpose_apply _ _ _ _ (ix4 (⟨(y 0).val, h0⟩ : Fin 5120) (⟨(y 2).val, h2⟩ : Fin 8) (⟨(y 1).val, h1⟩ : Fin 8) (⟨(y 3).val, h3⟩ : Fin 128))
    (fun b => by
      match b with
      | ⟨0, _⟩ => rfl
      | ⟨1, _⟩ => rfl
      | ⟨2, _⟩ => rfl
      | ⟨3, _⟩ => rfl),
    shapeCast_apply _ _ _ (ix2 (⟨_, hr⟩ : Fin 40960) (⟨(y 1).val * 128 + (y 3).val, col_lt y⟩ : Fin 1024)) (by
      rw [Shape.rowMajor_val_two, Shape.rowMajor_val_four]
      show ((y 0).val * 8 + (y 2).val) * 1024 + ((y 1).val * 128 + (y 3).val) = (((y 0).val * 8 + (y 2).val) * 8 + (y 1).val) * 128 + (y 3).val
      omega)]
  by_cases hy : ∃ a, slot hi lo a y
  · obtain ⟨a, ha⟩ := hy
    rw [fin_slot H ha, moved_apply]
    have hk := (lands_row (rowIdx hi lo) ⟨a, ha.1⟩ ⟨_, col_lt y⟩ ⟨_, hr⟩ ⟨_, col_lt y⟩).2 ⟨(hslot ⟨a, ha.1⟩).2 ha, rfl⟩
    refine scatter_set_hit _ _ _ _ _ _ (fun k hk' => ?_) _ hk
    obtain ⟨b, e, rfl⟩ : ∃ (b : Fin 32768) (e : Fin 1024), k = ix2 b e := ⟨k 0, k 1, eq_ix2 k⟩
    obtain ⟨q1, q2⟩ := (lands_row (rowIdx hi lo) b e ⟨_, hr⟩ ⟨_, col_lt y⟩).1 hk'
    have hb : b.val = a := H.slot_inj ((hslot b).1 q1) ha
    rw [twice_apply, q2]
    subst hb
    rfl
  · rw [fin_none hy]
    refine scatter_set_miss _ _ _ _ _ fun k hk' => hy ?_
    obtain ⟨b, e, rfl⟩ : ∃ (b : Fin 32768) (e : Fin 1024), k = ix2 b e := ⟨k 0, k 1, eq_ix2 k⟩
    exact ⟨b.val, (hslot b).1 ((lands_row (rowIdx hi lo) b e ⟨_, hr⟩ ⟨_, col_lt y⟩).1 hk').1⟩

end Cert.Proof.Dispatch

end
-- ==== Proof.Same.lean ====
module
public import proofs.«01_k».proof.Proof.Gen.Kernel
public import proofs.«01_k».proof.Proof.Gen.KernelIdeal
public import proofs.«01_k».proof.Defs
public import Idealize.ShloMosaic.Adequacy

/-!
The kernel at the machine's numbers and the kernel over any numbers have the same text.  Their
bodies, their tables of bodies and their host programs are therefore equal, and a run of the
second at `Bits` is a run of the first.
-/

@[expose] public section

namespace Cert.Proof.Dispatch

open Idealize.ShloMosaic Idealize.SL.Sem

variable [Cert.Kernel.Facts] [Cert.KernelIdeal.Facts] {F : FTy → Type} [FloatOps F]

set_option maxHeartbeats 2000000 in
/-- The two bodies are one function. -/
theorem body_same :
    @Cert.Kernel.cc0_moe_dispatch F _ _ = @Cert.KernelIdeal.cc0_moe_dispatch F _ _ := rfl

/-- The two tables of bodies are one table. -/
theorem defs0_same : Cert.Kernel.defs₀ (F := F) = Cert.KernelIdeal.defs₀ (F := F) := by
  unfold Cert.Kernel.defs₀ Cert.KernelIdeal.defs₀
  refine congrArg (Defs.onTc (Λ := Cert.Kernel.Λ₀)) ?_
  funext l x
  match l, x with
  | 0, (t, s) => rw [body_same]; rfl
  | ⟨_ + 1, h⟩, _ => exact absurd h (Nat.not_lt.2 (Nat.le_add_left _ _))

set_option maxHeartbeats 2000000 in
/-- The two tables with the pipeline added are one table. -/
theorem defs_same : Cert.Kernel.defs (F := F) = Cert.KernelIdeal.defs (F := F) :=
  congrArg (Pipeline.defs (Cert.Kernel.pcfgs (F := F))) defs0_same

set_option maxHeartbeats 2000000 in
/-- The two host programs are one program. -/
theorem main_same : Cert.Kernel.main (F := F) = Cert.KernelIdeal.main (F := F) := rfl

/-- A run may be read at an equal table and an equal program. -/
theorem run_congr {nD : Nat} {τ : Topo} {sig : RefSig} {Λ : Labels} {D D' : Defs nD τ sig (Elt F) Λ}
    {p p' : Dev nD → Prog (TpuEff nD τ sig (Elt F) Λ .tc) PUnit} (hD : D = D') (hp : p = p') (s) (Q)
    (h : θ_run D' (onTc (τ := τ) p') s Q) : θ_run D (onTc (τ := τ) p) s Q := by
  subst hD hp
  exact h

end Cert.Proof.Dispatch
-- ==== Proof.ExpertsBody.lean ====
/-
  The experts' kernel at one grid point. At a point below the number of tiles in use it reads the tile's rows and the
  tile's expert's two weight matrices and writes the tile's result; at any other point it does nothing.
-/
module

public import proofs.«01_k».proof.Proof.Gen.Kernel2Ideal
public import proofs.«01_k».proof.Proof.Gen.Kernel2Ideal.Skeleton
public import Idealize.ShloMosaic.Lib.Tactic
public import Idealize.ShloMosaic.Lib.Pipeline.TableIdle
public import Idealize.ShloMosaic.Lib.Pipeline.Value

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the run: the pipeline library's. -/
abbrev UU (nD : Nat) (τ : Topo) : Type := UR sig nD τ × Counters

local notation "𝕄" => MT nD τ sig Unit (Elt F) ℕ (UU nD τ) ℕ

/-- A memref held whole, reading `X`. -/
abbrev pt (c : Dev nD) {S : Shape} {e : EltTy} (M : Memref sig .tc .vmem S e) (X : S.Idx → Elt F e) : sProp 𝕄 :=
  M.view.loc (c : Thread nD τ) ↦[M.view.set]{fullShare} M.view.rep X

/-- The number of tiles in use, held in scalar memory. -/
abbrev ptn (c : Dev nD) (nt : S1.Idx → BitVec 32) : sProp 𝕄 :=
  (Memref.whole main_arg1).view.loc (c : Thread nD τ) ↦{fullShare} nt

/-- The one entry of the number of tiles in use. -/
def i1 : S1.Idx := fun | 0 => ⟨0, (by decide : 0 < 1)⟩

/-! ## The tile's result -/

/-- Lanes group `k` of a tile's rows. -/
def slab (X : S32x8x8x128.Idx → F .f32) (k : Fin 8) : S32x1x8x128.Idx → F .f32 := fun z =>
  X (fun | 0 => z 0 | 1 => k | 2 => z 2 | 3 => z 3)

/-- The first product: the tile's rows by the expert's gate and up columns, -/
def hidden (X : S32x8x8x128.Idx → F .f32) (G : S1x1024x512.Idx → F .f32) : FVec F S256x512 .f32 :=
  k0_pay6 (slab X 0) (slab X 1) (slab X 2) (slab X 3) (slab X 4) (slab X 5) (slab X 6) (slab X 7) G

/-- its gate half, -/
def gate (X : S32x8x8x128.Idx → F .f32) (G : S1x1024x512.Idx → F .f32) : FVec F S256x256 .f32 :=
  k0_pay7 (slab X 0) (slab X 1) (slab X 2) (slab X 3) (slab X 4) (slab X 5) (slab X 6) (slab X 7) G

/-- the second product, its rows eight by eight, -/
def result (X : S32x8x8x128.Idx → F .f32) (G : S1x1024x512.Idx → F .f32) (D : S1x256x1024.Idx → F .f32) : FVec F S32x8x1024 .f32 :=
  k0_pay8 (hidden X G) (gate X G) D

/-- A row's column of a lane of a lanes group. -/
def col (y : S32x8x8x128.Idx) : S32x8x1024.Idx :=
  fun | 0 => y 0 | 1 => y 2 | 2 => ⟨(y 1).val * 128 + (y 3).val, by
    have h1 : (y 1).val < 8 := (y 1).isLt
    have h3 : (y 3).val < 128 := (y 3).isLt
    show _ < 1024
    omega⟩

/-- and the tile it leaves, lanes group by lanes group. -/
def out (X : S32x8x8x128.Idx → F .f32) (G : S1x1024x512.Idx → F .f32) (D : S1x256x1024.Idx → F .f32) : S32x8x8x128.Idx → F .f32 :=
  fun y => result X G D (col y)

omit [FloatOps F] in
/-- A lanes group cut from the rows, as stored, is that group of the tile. -/
theorem piece (U : FVec F S32x8x1024 .f32) (k : ℕ) {off : Fin 3 → ℕ} (hoff : off = ![0, 0, k * 128]) (h : S32x8x1024.Slices off S32x8x128)
    (inb : ∀ a, (![0, k, 0, 0] : Fin 4 → ℕ) a + S32x1x8x128.size a ≤ S32x8x8x128.size a) (z : S32x1x8x128.Idx) :
    shapeCast S32x1x8x128 (extractStridedSlice S32x8x128 off U h) shapeCasts_S32x8x128_S32x1x8x128 z
      = U (col ((Rect.unit (s := S32x8x8x128) ![0, k, 0, 0] S32x1x8x128.size inb).emb z)) := by
  subst hoff
  have h1 : (z 1).val = 0 := Nat.lt_one_iff.mp (z 1).isLt
  rw [shapeCast_apply _ _ z ((fun | 0 => z 0 | 1 => z 2 | 2 => z 3) : S32x8x128.Idx) (by
    rw [Shape.rowMajor_val_three, Shape.rowMajor_val_four]
    show ((z 0).val * 8 + (z 2).val) * 128 + (z 3).val = (((z 0).val * 1 + (z 1).val) * 8 + (z 2).val) * 128 + (z 3).val
    omega)]
  refine extractStridedSlice_apply _ U h _ _ fun a => ?_
  match a with
  | 0 => show 0 + 1 * (z 0).val = 0 + (z 0).val; omega
  | 1 => show 0 + 1 * (z 2).val = 0 + (z 2).val; omega
  | 2 => show (k + 1 * (z 1).val) * 128 + (0 + 1 * (z 3).val) = k * 128 + (z 3).val; omega

/-- Every entry of the tile lies in its lanes group. -/
theorem mem_group (y : S32x8x8x128.Idx) (k : ℕ) (hk : (y 1).val = k)
    (inb : ∀ a, (![0, k, 0, 0] : Fin 4 → ℕ) a + S32x1x8x128.size a ≤ S32x8x8x128.size a) :
    y ∈ (Rect.unit (s := S32x8x8x128) ![0, k, 0, 0] S32x1x8x128.size inb).set := by
  subst hk
  rw [← Rect.map_emb_univ]
  refine Finset.mem_map.mpr ⟨fun | 0 => y 0 | 1 => ⟨0, (by decide : 0 < 1)⟩ | 2 => y 2 | 3 => y 3, Finset.mem_univ _, funext fun a => Fin.ext ?_⟩
  match a with
  | 0 => show 0 + 1 * (y 0).val = (y 0).val; omega
  | 1 => show (y 1).val + 1 * 0 = (y 1).val; omega
  | 2 => show 0 + 1 * (y 2).val = (y 2).val; omega
  | 3 => show 0 + 1 * (y 3).val = (y 3).val; omega

/-- A lanes group read from a tile. -/
theorem slab_eq (M : Memref sig .tc .vmem S32x8x8x128 .f32) (X : S32x8x8x128.Idx → Elt F .f32) (k : Fin 8)
    (inb : ∀ a, (![0, k.val, 0, 0] : Fin 4 → ℕ) a + S32x1x8x128.size a ≤ S32x8x8x128.size a) :
    M.view.readAt (Elt F) (Rect.unit (s := S32x8x8x128) ![0, k.val, 0, 0] S32x1x8x128.size inb).toLoadRect (M.view.rep X) = slab X k := by
  rw [View.readAt_rep]
  funext z
  have h1 : (z 1).val = 0 := Nat.lt_one_iff.mp (z 1).isLt
  refine congrArg X (funext fun a => Fin.ext ?_)
  match a with
  | 0 => show 0 + 1 * (z 0).val = (z 0).val; omega
  | 1 => show k.val + 1 * (z 1).val = k.val; omega
  | 2 => show 0 + 1 * (z 2).val = (z 2).val; omega
  | 3 => show 0 + 1 * (z 3).val = (z 3).val; omega

/-- A matrix read whole. -/
theorem readAt_whole {n0 n1 n2 : ℕ} (M : Memref sig .tc .vmem ⟨3, ![n0, n1, n2]⟩ .f32) (G : (⟨3, ![n0, n1, n2]⟩ : Shape).Idx → Elt F .f32)
    {inb : ∀ a, (![0, 0, 0] : Fin 3 → ℕ) a + (⟨3, ![n0, n1, n2]⟩ : Shape).size a ≤ (⟨3, ![n0, n1, n2]⟩ : Shape).size a} :
    M.view.readAt (Elt F) (Rect.unit (s := ⟨3, ![n0, n1, n2]⟩) ![0, 0, 0] (⟨3, ![n0, n1, n2]⟩ : Shape).size inb).toLoadRect (M.view.rep G) = G := by
  rw [View.readAt_rep]
  funext z
  refine congrArg G (funext fun a => Fin.ext ?_)
  match a with
  | 0 => show 0 + 1 * (z 0).val = (z 0).val; omega
  | 1 => show 0 + 1 * (z 1).val = (z 1).val; omega
  | 2 => show 0 + 1 * (z 2).val = (z 2).val; omega

omit [FloatOps F] in
/-- The number of tiles in use, as the body reads it. -/
theorem word_eq (nt : S1.Idx → BitVec 32) {inb : ∀ a, (![0] : Fin 1 → ℕ) a + S1.size a ≤ S1.size a} {h : 0 < S1.numel} :
    (Memref.whole main_arg1).view.readAt (Elt F) (Rect.unit (s := S1) ![0] S1.size inb).toLoadRect nt (Shape.Idx.first h) = nt i1 := by
  refine congrArg nt ((?_ : ∀ b : S1.Idx, b = i1) _)
  refine fun b => funext fun a : Fin 1 => ?_
  obtain rfl : a = 0 := Subsingleton.elim _ _
  exact Fin.ext (Nat.lt_one_iff.mp (b 0).isLt)

/-- The eight lanes groups stored, the tile reads as its result. -/
theorem read_tile (M6 : Memref sig .tc .vmem S32x8x8x128 .f32) (X : S32x8x8x128.Idx → Elt F .f32) (G : S1x1024x512.Idx → Elt F .f32)
    (D : S1x256x1024.Idx → Elt F .f32) (f) :
    M6.view.read (Elt F) (M6.view.writes (Elt F) f
      [⟨(Rect.unit (s := S32x8x8x128) ![0, 7, 0, 0] S32x1x8x128.size inb_S32x8x8x128_S32x1x8x128_0_7_0_0), k0_pay5 (k0_pay13 (hidden X G) (gate X G) D)⟩,
        ⟨(Rect.unit (s := S32x8x8x128) ![0, 6, 0, 0] S32x1x8x128.size inb_S32x8x8x128_S32x1x8x128_0_6_0_0), k0_pay4 (k0_pay12 (hidden X G) (gate X G) D)⟩,
        ⟨(Rect.unit (s := S32x8x8x128) ![0, 5, 0, 0] S32x1x8x128.size inb_S32x8x8x128_S32x1x8x128_0_5_0_0), k0_pay3 (k0_pay11 (hidden X G) (gate X G) D)⟩,
        ⟨(Rect.unit (s := S32x8x8x128) ![0, 4, 0, 0] S32x1x8x128.size inb_S32x8x8x128_S32x1x8x128_0_4_0_0), k0_pay2 (k0_pay10 (hidden X G) (gate X G) D)⟩,
        ⟨(Rect.unit (s := S32x8x8x128) ![0, 3, 0, 0] S32x1x8x128.size inb_S32x8x8x128_S32x1x8x128_0_3_0_0), k0_pay1 (k0_pay9 (hidden X G) (gate X G) D)⟩,
        ⟨(Rect.unit (s := S32x8x8x128) ![0, 2, 0, 0] S32x1x8x128.size inb_S32x8x8x128_S32x1x8x128_0_2_0_0), k0_pay16 (hidden X G) (gate X G) D⟩,
        ⟨(Rect.unit (s := S32x8x8x128) ![0, 1, 0, 0] S32x1x8x128.size inb_S32x8x8x128_S32x1x8x128_0_1_0_0), k0_pay15 (hidden X G) (gate X G) D⟩,
        ⟨(Rect.unit (s := S32x8x8x128) ![0, 0, 0, 0] S32x1x8x128.size inb_S32x8x8x128_S32x1x8x128_0_0_0_0), k0_pay14 (hidden X G) (gate X G) D⟩]) = out X G D := by
  funext y
  refine View.read_writes_apply_of_pieces _ _ _ _ ?_ y ?_
  · intro p hp x
    simp only [List.mem_cons, List.mem_nil_iff, or_false] at hp
    rcases hp with rfl | rfl | rfl | rfl | rfl | rfl | rfl | rfl
    · exact piece (result X G D) 7 rfl slices_S32x8x1024_o0_0_896_S32x8x128 inb_S32x8x8x128_S32x1x8x128_0_7_0_0 x
    · exact piece (result X G D) 6 rfl slices_S32x8x1024_o0_0_768_S32x8x128 inb_S32x8x8x128_S32x1x8x128_0_6_0_0 x
    · exact piece (result X G D) 5 rfl slices_S32x8x1024_o0_0_640_S32x8x128 inb_S32x8x8x128_S32x1x8x128_0_5_0_0 x
    · exact piece (result X G D) 4 rfl slices_S32x8x1024_o0_0_512_S32x8x128 inb_S32x8x8x128_S32x1x8x128_0_4_0_0 x
    · exact piece (result X G D) 3 rfl slices_S32x8x1024_o0_0_384_S32x8x128 inb_S32x8x8x128_S32x1x8x128_0_3_0_0 x
    · exact piece (result X G D) 2 rfl slices_S32x8x1024_o0_0_256_S32x8x128 inb_S32x8x8x128_S32x1x8x128_0_2_0_0 x
    · exact piece (result X G D) 1 rfl slices_S32x8x1024_o0_0_128_S32x8x128 inb_S32x8x8x128_S32x1x8x128_0_1_0_0 x
    · exact piece (result X G D) 0 rfl slices_S32x8x1024_o0_0_0_S32x8x128 inb_S32x8x8x128_S32x1x8x128_0_0_0_0 x
  · have hk : (y 1).val < 8 := (y 1).isLt
    simp only [List.exists_mem_cons_iff, List.not_mem_nil, false_and, exists_false, or_false]
    rcases (by omega : (y 1).val = 7 ∨ (y 1).val = 6 ∨ (y 1).val = 5 ∨ (y 1).val = 4 ∨ (y 1).val = 3 ∨ (y 1).val = 2 ∨ (y 1).val = 1 ∨ (y 1).val = 0)
      with h | h | h | h | h | h | h | h
    · exact .inl (mem_group y _ h _)
    · exact .inr (.inl (mem_group y _ h _))
    · exact .inr (.inr (.inl (mem_group y _ h _)))
    · exact .inr (.inr (.inr (.inl (mem_group y _ h _))))
    · exact .inr (.inr (.inr (.inr (.inl (mem_group y _ h _)))))
    · exact .inr (.inr (.inr (.inr (.inr (.inl (mem_group y _ h _))))))
    · exact .inr (.inr (.inr (.inr (.inr (.inr (.inl (mem_group y _ h _)))))))
    · exact .inr (.inr (.inr (.inr (.inr (.inr (.inr (mem_group y _ h _)))))))

/-! ## The run -/

/-- The body at a point: in use, it leaves the tile's result; otherwise everything as it was. -/
theorem body {i : grid0.Coords} {nt : S1.Idx → BitVec 32}
    {M3 : Memref sig .tc .vmem S32x8x8x128 .f32} {h3 : M3.IsWhole} {M4 : Memref sig .tc .vmem S1x1024x512 .f32} {h4 : M4.IsWhole}
    {M5 : Memref sig .tc .vmem S1x256x1024 .f32} {h5 : M5.IsWhole} {M6 : Memref sig .tc .vmem S32x8x8x128 .f32} {h6 : M6.IsWhole}
    {X : S32x8x8x128.Idx → Elt F .f32} {G : S1x1024x512.Idx → Elt F .f32} {D : S1x256x1024.Idx → Elt F .f32}
    {c : Dev nD} {Y : S32x8x8x128.Idx → Elt F .f32} {K : PUnit → sProp 𝕄} :
    iprop(ptn c nt ∗ pt c M3 X ∗ pt c M4 G ∗ pt c M5 D ∗ pt c M6 Y
        ∗ (iprop(ptn c nt ∗ pt c M3 X ∗ pt c M4 G ∗ pt c M5 D ∗ owns (c : Thread nD τ) M6 fullShare (if k0_cond1 i (nt i1) = 1#1 then out X G D else Y)) -∗ K ⟨⟩))
      ⊢ wp frame (wpE (defs₀ (F := F)) Variants.none c none) Set.univ
        (cc0_moe_experts i (Memref.whole main_v13) (Memref.isWhole_whole _) (Memref.whole main_arg1) (Memref.isWhole_whole _) M3 h3 M4 h4 M5 h5 M6 h6) K := by
  iintro ⟨Hn, H3, H4, H5, H6, Hk⟩
  sl_exec!
  sl_step
  iapply Hk
  isplitl [Hn]; · iexact Hn
  isplitl [H3]; · iexact H3
  isplitl [H4]; · iexact H4
  isplitl [H5]; · iexact H5
  unfold owns
  iexists _
  isplitr
  swap
  · iexact H6
  ipureintro
  sl_unfold_run_names
  rw [
    show M3.view.readAt (Elt F) (Rect.unit (s := S32x8x8x128) ![0, 0, 0, 0] S32x1x8x128.size inb_S32x8x8x128_S32x1x8x128_0_0_0_0).toLoadRect (M3.view.rep X) = slab X 0 from slab_eq M3 X 0 _,
    show M3.view.readAt (Elt F) (Rect.unit (s := S32x8x8x128) ![0, 1, 0, 0] S32x1x8x128.size inb_S32x8x8x128_S32x1x8x128_0_1_0_0).toLoadRect (M3.view.rep X) = slab X 1 from slab_eq M3 X 1 _,
    show M3.view.readAt (Elt F) (Rect.unit (s := S32x8x8x128) ![0, 2, 0, 0] S32x1x8x128.size inb_S32x8x8x128_S32x1x8x128_0_2_0_0).toLoadRect (M3.view.rep X) = slab X 2 from slab_eq M3 X 2 _,
    show M3.view.readAt (Elt F) (Rect.unit (s := S32x8x8x128) ![0, 3, 0, 0] S32x1x8x128.size inb_S32x8x8x128_S32x1x8x128_0_3_0_0).toLoadRect (M3.view.rep X) = slab X 3 from slab_eq M3 X 3 _,
    show M3.view.readAt (Elt F) (Rect.unit (s := S32x8x8x128) ![0, 4, 0, 0] S32x1x8x128.size inb_S32x8x8x128_S32x1x8x128_0_4_0_0).toLoadRect (M3.view.rep X) = slab X 4 from slab_eq M3 X 4 _,
    show M3.view.readAt (Elt F) (Rect.unit (s := S32x8x8x128) ![0, 5, 0, 0] S32x1x8x128.size inb_S32x8x8x128_S32x1x8x128_0_5_0_0).toLoadRect (M3.view.rep X) = slab X 5 from slab_eq M3 X 5 _,
    show M3.view.readAt (Elt F) (Rect.unit (s := S32x8x8x128) ![0, 6, 0, 0] S32x1x8x128.size inb_S32x8x8x128_S32x1x8x128_0_6_0_0).toLoadRect (M3.view.rep X) = slab X 6 from slab_eq M3 X 6 _,
    show M3.view.readAt (Elt F) (Rect.unit (s := S32x8x8x128) ![0, 7, 0, 0] S32x1x8x128.size inb_S32x8x8x128_S32x1x8x128_0_7_0_0).toLoadRect (M3.view.rep X) = slab X 7 from slab_eq M3 X 7 _,
    readAt_whole M4 G, readAt_whole M5 D]
  rw [word_eq nt]
  by_cases hc : k0_cond1 i (nt i1) = 1#1
  · rw [dif_pos hc, if_pos hc]
    exact read_tile M6 X G D _
  · rw [dif_neg hc, if_neg hc, View.read_rep]

end Cert.Proof.Experts

end
-- ==== Proof.ExpertsTables.lean ====
/-
  The two tables of the experts' call: each tile's expert, and the number of tiles in use. What the call's index maps read
  in them, the side condition on their contents, and what the operations before the call leave in the first.
-/
module

public import proofs.«01_k».proof.Proof.ExpertsBody
public import proofs.«01_k».proof.Proof.Gen.Kernel2Ideal.Launch
public import Idealize.ShloMosaic.Lib.WordArith
public import Idealize.ShloMosaic.Lib.Pipeline.Kit
public import Idealize.ShloMosaic.Lib.ValueIdx

@[expose] public section

noncomputable section

namespace Cert.Proof.Experts

open Cert.Kernel2Ideal Cert.Kernel2Ideal.Gen

open Idealize.ShloMosaic Idealize.ShloMosaic.ValueIdx

variable {F : FTy → Type} [FloatOps F]

/-- Tile `t`, or the last one in use. -/
def clampT (nt : S1.Idx → BitVec 32) (t : Fin 160) : Fin 160 := ⟨min t.val ((nt i1).toNat - 1), Nat.lt_of_le_of_lt (Nat.min_le_left _ _) t.isLt⟩

/-- What the two tables satisfy: at least one tile is in use, each tile names an expert, and a tile that is not in use
    repeats the last one in use. -/
structure Tabs (tt : S160.Idx → BitVec 32) (nt : S1.Idx → BitVec 32) : Prop where
  pos : 0 < (nt i1).toNat
  le : (nt i1).toNat ≤ 160
  lt : ∀ j, (tt j).toNat < 32
  tail : ∀ t : Fin 160, tt (ix1 t) = tt (ix1 (clampT nt t))

theorem eq_i1 (b : S1.Idx) : b = i1 := funext fun a : Fin 1 => by
  obtain rfl : a = 0 := Subsingleton.elim _ _
  exact Fin.ext (Nat.lt_one_iff.mp (b 0).isLt)

/-- The smaller of a tile and the last tile in use, as words. -/
theorem clamp_word {n : BitVec 32} (h0 : 0 < n.toNat) (h1 : n.toNat ≤ 160) {t : ℕ} (ht : t < 160) :
    (Scalar.minsi (BitVec.ofNat 32 t) (Scalar.subi n 1#32)).toNat = min t (n.toNat - 1) := by
  have ht' : (BitVec.ofNat 32 t).toNat = t := (BitVec.toNat_ofNat ..).trans (Nat.mod_eq_of_lt (by omega))
  have hs : (Scalar.subi n 1#32).toNat = n.toNat - 1 := by
    show (n - 1#32).toNat = _
    rw [BitVec.toNat_sub]
    have : (1#32 : BitVec 32).toNat = 1 := rfl
    omega
  rw [show ∀ a b : BitVec 32, Scalar.minsi a b = IntOp.minsi a b from fun _ _ => rfl, WordArith.toNat_minsi_of_lt _ _ (by omega) (by omega), ht', hs]

/-- A grid point's tile. -/
def gi (i : grid0.Coords) : Fin 160 := ⟨(i 0).val, (i 0).isLt⟩

variable {pf : pre0.Contents (Elt F)} (H : Tabs (pf 0) (pf 1))
include H

theorem tr0 (i : grid0.Coords) : ix0 pf 0 i = ![min (i 0).val ((pf 1 i1 : BitVec 32).toNat - 1), 0, 0, 0] := by
  have hi : (i 0).val < 160 := (i 0).isLt
  have e : pf.at 1 (Rect.unit (s := S1) ![0] S1.size Facts₀.inb_S1_S1_0) Facts₀.numel1_S1 = pf 1 i1 := congrArg (pf 1) (eq_i1 _)
  show cc0_transform_0 _ _ pf i = _
  unfold cc0_transform_0
  dsimp only
  rw [e, clamp_word H.pos H.le hi]
  rfl

theorem tr3 (i : grid0.Coords) : ix0 pf 3 i = ![min (i 0).val ((pf 1 i1 : BitVec 32).toNat - 1), 0, 0, 0] := tr0 H i

omit H in
theorem tab_at (i : grid0.Coords) : pf.at 0 (Rect.unit (s := S160) (k0_off1 i) S1.size (Facts₀.k0_off1_inb i)) Facts₀.numel1_S1 = pf 0 (ix1 (gi i)) :=
  congrArg (pf 0) (funext fun a : Fin 1 => by
    obtain rfl : a = 0 := Subsingleton.elim _ _
    have hi : (i 0).val < 160 := (i 0).isLt
    refine Fin.ext ?_
    show (BitVec.ofNat 32 (i 0).val).toNat + 1 * 0 = (i 0).val
    rw [BitVec.toNat_ofNat, Nat.mod_eq_of_lt (by omega)]; omega)

omit H in
theorem tr1 (i : grid0.Coords) : ix0 pf 1 i = ![(pf 0 (ix1 (gi i)) : BitVec 32).toNat, 0, 0] := by
  have h := tab_at (pf := pf) i
  exact congrArg (fun w : BitVec 32 => (![w.toNat, 0, 0] : Fin 3 → ℕ)) h

omit H in
theorem tr2 (i : grid0.Coords) : ix0 pf 2 i = ![(pf 0 (ix1 (gi i)) : BitVec 32).toNat, 0, 0] := by
  have h := tab_at (pf := pf) i
  exact congrArg (fun w : BitVec 32 => (![w.toNat, 0, 0] : Fin 3 → ℕ)) h

omit H in
theorem coords_val (t : Fin grid0.N) : (grid0.coords t 0).val = t.val := by
  have h := Pipeline.Grid.coords_val t (0 : Fin 1) (S := 1) (B := 160) (by decide) rfl
  have := t.isLt
  have hN := N_0
  rw [h]; omega

/-- The tables satisfy the call's side condition. -/
theorem ok : ok0 pf := by
  have hp := H.pos
  have hl := H.le
  have hb : ∀ i : grid0.Coords, ∀ a, (ix0 pf 0 i a + 1) * S32x8x8x128.size a ≤ S5120x8x8x128.size a := by
    intro i a
    rw [tr0 H i]
    match a with
    | 0 => show (min (i 0).val ((pf 1 i1 : BitVec 32).toNat - 1) + 1) * 32 ≤ 5120; omega
    | 1 => show (0 + 1) * 8 ≤ 8; omega
    | 2 => show (0 + 1) * 8 ≤ 8; omega
    | 3 => show (0 + 1) * 128 ≤ 128; omega
  refine ⟨fun i => ⟨hb i, Or.inl rfl⟩, fun i => ⟨?_, Or.inl rfl⟩, fun i => ⟨?_, Or.inl rfl⟩, fun i => ⟨hb i, Or.inl rfl⟩, ?_⟩
  · intro a
    have := H.lt (ix1 (gi i))
    show (ix0 pf 1 i a + 1) * _ ≤ _
    rw [tr1 i]
    match a with
    | 0 => show ((pf 0 (ix1 (gi i)) : BitVec 32).toNat + 1) * 1 ≤ 32; omega
    | 1 => show (0 + 1) * 1024 ≤ 1024; omega
    | 2 => show (0 + 1) * 512 ≤ 512; omega
  · intro a
    have := H.lt (ix1 (gi i))
    show (ix0 pf 2 i a + 1) * _ ≤ _
    rw [tr2 i]
    match a with
    | 0 => show ((pf 0 (ix1 (gi i)) : BitVec 32).toNat + 1) * 1 ≤ 32; omega
    | 1 => show (0 + 1) * 256 ≤ 256; omega
    | 2 => show (0 + 1) * 1024 ≤ 1024; omega
  · refine ⟨rfl, rfl, rfl, ?_, ?_, ?_⟩
    · intro a a' h
      obtain rfl : a = a' := Fin.ext h
      rfl
    · intro c a a' h
      obtain rfl : a = a' := Fin.ext h
      rfl
    · intro u u' hlt hf _ he
      have hu := u.isLt
      have hN := N_0
      unfold Pipeline.WinSpec.fetchAt at hf
      have hf := (Bool.and_eq_true_iff.mp hf).2
      have h0 : u.val ≠ 0 := by omega
      rw [Bool.or_eq_true, decide_eq_true_eq, decide_eq_true_eq] at hf
      obtain ⟨hpos, hne⟩ := hf.resolve_left h0
      have he0 := congrFun he 0
      rw [tr3 H, tr3 H] at he0
      rw [tr0 H, tr0 H] at hne
      have he0 : min (grid0.coords u' 0).val ((pf 1 i1 : BitVec 32).toNat - 1) = min (grid0.coords u 0).val ((pf 1 i1 : BitVec 32).toNat - 1) := he0
      rw [coords_val, coords_val] at he0
      refine hne ?_
      rw [coords_val, coords_val]
      have : min u.val ((pf 1 i1 : BitVec 32).toNat - 1) = min (u.val - 1) ((pf 1 i1 : BitVec 32).toNat - 1) := by omega
      show ![min u.val ((pf 1 i1 : BitVec 32).toNat - 1), 0, 0, 0] = ![min (u.val - 1) ((pf 1 i1 : BitVec 32).toNat - 1), 0, 0, 0]
      rw [this]

end Cert.Proof.Experts

end
-- ==== Proof.ExpertsHost.lean ====
/-
  The operations before the experts' call: what they leave in the table of the tiles' experts and in the rows, and the
  tables' conditions out of the precondition.
-/
module

public import proofs.«01_k».proof.Proof.ExpertsTables
public import proofs.«01_k».proof.Proof.Host
public import proofs.«01_k».proof.Pre_routed

@[expose] public section

noncomputable section

namespace Cert.Proof.Experts

open Cert.Kernel2Ideal Cert.Kernel2Ideal.Gen

open Idealize.ShloMosaic Idealize.ShloMosaic.ValueIdx Idealize.ShloMosaic.TcCoe

variable {F : FTy → Type} [FloatOps F]

/-- The precondition's operations are well formed. -/
instance facts_routed : Cert.Pre_routed.Facts where
  bcast_S_S160 := by decide
  reducesTo_S160_S_d0 := by decide
  h_S_ := by decide
  bcast_S_S1 := by decide
  reducesTo_S1_S_d0 := by decide

/-- What the precondition says of the two tables it is given. -/
theorem routed_of {te : IVec Cert.Pre_routed.S160 32} {nt : IVec Cert.Pre_routed.S1 32} {x : FVec F Cert.Pre_routed.S40960x1024 .f32}
    {g : FVec F Cert.Pre_routed.S32x1024x512 .f32} {d : FVec F Cert.Pre_routed.S32x256x1024 .f32}
    (h : Cert.Pre_routed.fn (F := F) te nt x g d = fun _ => 1#1) :
    (∀ j, (te j).toNat < 32) ∧ 0 < (nt i1).toNat ∧ (nt i1).toNat ≤ 160 := by
  have h0 := congrFun h ix0
  haveI : Subsingleton Cert.Pre_routed.S_.Idx := ⟨fun i j => (eq_ix0 i).trans (eq_ix0 j).symm⟩
  unfold Cert.Pre_routed.fn at h0
  dsimp only at h0
  obtain ⟨e1, e2⟩ := IntOp.andi_eq_one.1 h0
  have z0 : (0#32 : BitVec 32).toInt = 0 := by decide
  have z1 : (1#32 : BitVec 32).toInt = 1 := by decide
  have z2 : (32#32 : BitVec 32).toInt = (32 : ℕ) := by decide
  have z3 : (160#32 : BitVec 32).toInt = 160 := by decide
  refine ⟨fun j => ?_, ?_⟩
  · obtain ⟨q1, q2⟩ := IntOp.andi_eq_one.1 (Host.reduce_andi_all _ _ _ _ _ e1 j)
    have q1 : (0#32 : BitVec 32).toInt ≤ (te j).toInt := IntOp.cmpi_sge.1 q1
    have q2 : (te j).toInt < (32#32 : BitVec 32).toInt := IntOp.cmpi_slt.1 q2
    exact Dispatch.word_lt (z0 ▸ q1) (z2 ▸ q2)
  · obtain ⟨q1, q2⟩ := IntOp.andi_eq_one.1 (Host.reduce_andi_all _ _ _ _ _ e2 i1)
    have q1 : (1#32 : BitVec 32).toInt ≤ (nt i1).toInt := IntOp.cmpi_sge.1 q1
    have q2 : (nt i1).toInt ≤ (160#32 : BitVec 32).toInt := IntOp.cmpi_sle.1 q2
    rw [z1, BitVec.toInt_eq_toNat_cond] at q1
    rw [z3, BitVec.toInt_eq_toNat_cond] at q2
    constructor <;> split at q1 <;> split at q2 <;> omega

/-! ## The table of the tiles' experts -/

/-- The tile the table repeats, as a word, -/
def lastWord (nt : IVec S1 32) : IVec S160 32 :=
  minsi (iotaInDim S160 32 0) (broadcastInDim S160 ![] Facts₀.bcast_S_S160 (subi (shapeCast S_ nt Facts₀.shapeCasts_S1_S_) (constantI S_ 32 1#32)))

/-- as jax wraps an index that may be negative; -/
def lastIdx (nt : IVec S1 32) : IVec S160x1 32 :=
  broadcastInDim S160x1 ![0] Facts₀.bcast_S160_S160x1_0
    (select (cmpi .slt (lastWord nt) (broadcastInDim S160 ![] Facts₀.bcast_S_S160 (constantI S_ 32 0#32)))
      (addi (lastWord nt) (broadcastInDim S160 ![] Facts₀.bcast_S_S160 (constantI S_ 32 160#32))) (lastWord nt))

/-- and each tile's expert, the last tile in use repeated. -/
def teStep (te : IVec S160 32) (nt : IVec S1 32) : IVec S160 32 := Host.gather gather_S160_S160x1_S160_n_0_n_n_0_1_1 te (lastIdx nt)

theorem lastIdx_apply {nt : IVec S1 32} (h0 : 0 < (nt i1).toNat) (h1 : (nt i1).toNat ≤ 160) (t : Fin 160) :
    (lastIdx nt (ix2 t (0 : Fin 1))).toInt = ((clampT nt t).val : Int) := by
  have ht := t.isLt
  have hw : (lastWord nt (ix1 t)).toNat = (clampT nt t).val := by
    have hs : shapeCast S_ nt Facts₀.shapeCasts_S1_S_ = fun _ => nt i1 := funext fun _ => congrArg nt (eq_i1 _)
    have e := clamp_word h0 h1 ht
    have : lastWord nt (ix1 t) = Scalar.minsi (BitVec.ofNat 32 t.val) (Scalar.subi (nt i1) 1#32) := by
      unfold lastWord
      rw [hs]
      rfl
    rw [this]
    exact e
  have hi : (lastWord nt (ix1 t)).toInt = ((clampT nt t).val : Int) := by
    have := (clampT nt t).isLt
    rw [BitVec.toInt_eq_toNat_cond, hw, if_pos (by omega)]
  have hs : lastIdx nt (ix2 t (0 : Fin 1)) = Scalar.select (IntOp.cmpi .slt (lastWord nt (ix1 t)) 0#32) (lastWord nt (ix1 t) + 160#32) (lastWord nt (ix1 t)) := by
    have he : ∀ z : IVec S160 32, broadcastInDim S160x1 ![0] Facts₀.bcast_S160_S160x1_0 z (ix2 t (0 : Fin 1)) = z (ix1 t) := fun z =>
      congrArg z (funext fun d => by
        obtain rfl : d = 0 := Subsingleton.elim _ _
        rfl)
    exact he _
  have hc : IntOp.cmpi .slt (lastWord nt (ix1 t)) 0#32 = 0#1 := by
    apply eq_zero_of_ne_one
    intro h
    have h := IntOp.cmpi_slt.1 h
    rw [hi, show (0#32 : BitVec 32).toInt = 0 from by decide] at h
    omega
  rw [hs, hc, select_zero, hi]

/-- The table at a tile: the expert of the tile, or of the last one in use. -/
theorem teStep_apply {te : IVec S160 32} {nt : IVec S1 32} (h0 : 0 < (nt i1).toNat) (h1 : (nt i1).toNat ≤ 160) (t : Fin 160) :
    teStep te nt (ix1 t) = te (ix1 (clampT nt t)) := by
  refine congrArg te (funext fun d => ?_)
  obtain rfl : d = 0 := Subsingleton.elim _ _
  refine Fin.ext ?_
  have hsi : gather_S160_S160x1_S160_n_0_n_n_0_1_1.siIdx (ix1 t) ⟨0, Nat.zero_lt_one⟩ = ix2 t (0 : Fin 1) := by
    funext b
    match b with
    | ⟨0, _⟩ => rfl
    | ⟨1, _⟩ => rfl
  have hst : gather_S160_S160x1_S160_n_0_n_n_0_1_1.start (ix1 t) (lastIdx nt) 0 = min (lastIdx nt (ix2 t (0 : Fin 1))).toInt.toNat 159 :=
    congrArg (fun i => min (lastIdx nt i).toInt.toNat 159) hsi
  have hb : gather_S160_S160x1_S160_n_0_n_n_0_1_1.batchCoord (ix1 t) 0 = 0 := rfl
  have ho : gather_S160_S160x1_S160_n_0_n_n_0_1_1.offCoord (ix1 t) 0 = 0 := rfl
  show gather_S160_S160x1_S160_n_0_n_n_0_1_1.start (ix1 t) (lastIdx nt) 0 + gather_S160_S160x1_S160_n_0_n_n_0_1_1.batchCoord (ix1 t) 0
    + gather_S160_S160x1_S160_n_0_n_n_0_1_1.offCoord (ix1 t) 0 = (clampT nt t).val
  have := (clampT nt t).isLt
  rw [hst, hb, ho, lastIdx_apply h0 h1 t]
  omega

/-- The tables the call is given. -/
theorem tabs_of {te : IVec S160 32} {nt : IVec S1 32} (ht : ∀ j, (te j).toNat < 32) (h0 : 0 < (nt i1).toNat) (h1 : (nt i1).toNat ≤ 160) :
    Tabs (teStep te nt) nt where
  pos := h0
  le := h1
  lt j := by
    obtain ⟨t, rfl⟩ : ∃ k : Fin 160, j = ix1 k := ⟨j 0, eq_ix1 j⟩
    rw [teStep_apply h0 h1]
    exact ht _
  tail t := by
    rw [teStep_apply h0 h1, teStep_apply h0 h1]
    refine congrArg (fun k => te (ix1 k)) (Fin.ext ?_)
    show min t.val ((nt i1).toNat - 1) = min (min t.val ((nt i1).toNat - 1)) ((nt i1).toNat - 1)
    omega

/-! ## The rows -/

/-- The sorted rows as the call is given them: eight rows to a block, split into eight column groups. -/
def movedRows {α : Type} (x : S40960x1024.Idx → α) : S5120x8x8x128.Idx → α :=
  transpose S5120x8x8x128 [0, 2, 1, 3] (shapeCast S5120x8x8x128 x Facts₀.shapeCasts_S40960x1024_S5120x8x8x128)
    Facts₀.transposes_S5120x8x8x128_S5120x8x8x128_0_2_1_3

section
variable (W : Valuation τ sig (Elt F))
open StableHlo

theorem after_v13 : after hostOps0 W main_v13 = teStep (W main_arg0) (W main_arg1) := by
  after_results <;> rfl

theorem after_v1 : after hostOps0 W main_v1 = movedRows (W main_arg2) := by
  after_results <;> rfl

theorem after_v14 : after hostOps0 W main_v14 = movedRows (W main_arg2) := by
  after_results <;> rfl

end

end Cert.Proof.Experts

end
-- ==== Proof.ExpertsDat.lean ====
/-
  The experts' call over its grid of 160 points. A point's blocks are its tile's rows, its tile's expert's weights and its
  tile's place in the result; a point past the tiles in use keeps the blocks of the last tile in use and writes nothing, so
  what its place in the result holds stays that tile's result until the last point writes it back.
-/
module

public import proofs.«01_k».proof.Proof.ExpertsHost
public import Idealize.ShloMosaic.Lib.Pipeline.Regions
public import Idealize.ShloMosaic.Lib.Pipeline.FrameBody
public import Idealize.ShloMosaic.Lib.Pipeline.Value
public import Idealize.ShloMosaic.Lib.Pipeline.Cells

@[expose] public section

noncomputable section

namespace Cert.Proof.Experts

open Cert.Kernel2Ideal Cert.Kernel2Ideal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## Before the region -/

/-- The buffers at launch; -/
abbrev V₀ (c : Dev nD) : Valuation τ sig (Elt F) := fun b => (s₀ m ρ).mem ((c : Dev nD), b)
/-- and at the region, after the operations before it. -/
@[irreducible] def V (c : Dev nD) (b : Ref sig .tc) : Buf (Elt F) ((c : Thread nD τ).loc b) := StableHlo.after hostOps0 (V₀ m ρ c) b

theorem V_def (c : Dev nD) (b : Ref sig .tc) : V m ρ c b = StableHlo.after hostOps0 (V₀ m ρ c) b := by unfold V; rfl

section
open StableHlo

theorem V_arg0 (c : Dev nD) : V m ρ c main_arg0 = m ((c : Thread nD τ).loc main_arg0) := by
  rw [V_def]
  after_results <;> rfl

theorem V_arg1 (c : Dev nD) : V m ρ c main_arg1 = m ((c : Thread nD τ).loc main_arg1) := by
  rw [V_def]
  after_results <;> rfl

theorem V_arg2 (c : Dev nD) : V m ρ c main_arg2 = m ((c : Thread nD τ).loc main_arg2) := by
  rw [V_def]
  after_results <;> rfl

theorem V_arg3 (c : Dev nD) : V m ρ c main_arg3 = m ((c : Thread nD τ).loc main_arg3) := by
  rw [V_def]
  after_results <;> rfl

theorem V_arg4 (c : Dev nD) : V m ρ c main_arg4 = m ((c : Thread nD τ).loc main_arg4) := by
  rw [V_def]
  after_results <;> rfl

end

/-- The unscoped references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The region's data -/

/-- The tables at the region, as the call's contents. -/
abbrev tabC (c : Dev nD) : pre0.Contents (Elt F) := fun k => V m ρ c (pre0.ref k)

/-- The two tables one by one. -/
abbrev teC (c : Dev nD) : S160.Idx → BitVec 32 := V m ρ c main_v13
abbrev ntC (c : Dev nD) : S1.Idx → BitVec 32 := V m ρ c main_arg1

variable (H : Tabs (teC m ρ 0) (ntC m ρ 0))

/-- The tables' contents. -/
abbrev adm : (p : Fin 1) → (pcfgs (F := F) p).Adm := fun _ => ⟨tabC m ρ 0, ok (pf := tabC m ρ 0) H⟩

/-- The two tables held. -/
abbrev tabs (c : Dev nD) : sProp 𝕄 :=
  iprop(((Memref.whole main_v13).view.loc (c : Thread nD τ) ↦{fullShare} teC m ρ c) ∗ ptn c (ntC m ρ c))

/-- A point's blocks: its rows, -/
abbrev blkX (c : Dev nD) (t : Fin grid0.N) : S32x8x8x128.Idx → F .f32 :=
  (((cfg0 (adm m ρ H 0)).win 0).blk t).view.read (Elt F) (V m ρ c main_v1)
/-- the first weights of its expert, -/
abbrev blkG (c : Dev nD) (t : Fin grid0.N) : S1x1024x512.Idx → F .f32 :=
  (((cfg0 (adm m ρ H 0)).win 1).blk t).view.read (Elt F) (V m ρ c main_arg3)
/-- and the second. -/
abbrev blkD (c : Dev nD) (t : Fin grid0.N) : S1x256x1024.Idx → F .f32 :=
  (((cfg0 (adm m ρ H 0)).win 2).blk t).view.read (Elt F) (V m ρ c main_arg4)

/-- The result of a point's tile. -/
abbrev tileOut (c : Dev nD) (t : Fin grid0.N) : S32x8x8x128.Idx → F .f32 :=
  out (blkX m ρ H c t) (blkG m ρ H c t) (blkD m ρ H c t)

def dats (p : Fin 1) (c : Dev nD) : Dat τ (Elt F) Unit ℕ (UU nD τ) ℕ (Pipeline.pin (pcfgs (F := F)) (adm m ρ H) p) c where
  A w := V m ρ c (Pipeline.arrRef spec0 w)
  after w t := match w with
    | ⟨0, _⟩ => blkX m ρ H c t
    | ⟨1, _⟩ => blkG m ρ H c t
    | ⟨2, _⟩ => blkD m ρ H c t
    | ⟨3, _⟩ => tileOut m ρ H c t
  Φ _ := tabs m ρ c
  q _ := fullShare
  owed _ := 0

theorem A_eq (c : Dev nD) (w : Fin 4) : (dats m ρ H 0 c).A w = V m ρ c (Pipeline.arrRef spec0 w) := by
  dsimp only [dats]

abbrev 𝒱₀ : Variants := Variants.none

theorem before0 (c : Dev nD) (t : Fin grid0.N) (d) : (dats m ρ H 0 c).before 0 t d = blkX m ρ H c t :=
  (Pipeline.Dat.before_in_eq_fetched (dats m ρ H 0 c) 0 rfl (fun _ => rfl) (fun _ _ _ => rfl) (fun _ => rfl) t d).trans rfl

theorem before1 (c : Dev nD) (t : Fin grid0.N) (d) : (dats m ρ H 0 c).before 1 t d = blkG m ρ H c t :=
  (Pipeline.Dat.before_in_eq_fetched (dats m ρ H 0 c) 1 rfl (fun _ => rfl) (fun _ _ _ => rfl) (fun _ => rfl) t d).trans rfl

theorem before2 (c : Dev nD) (t : Fin grid0.N) (d) : (dats m ρ H 0 c).before 2 t d = blkD m ρ H c t :=
  (Pipeline.Dat.before_in_eq_fetched (dats m ρ H 0 c) 2 rfl (fun _ => rfl) (fun _ _ _ => rfl) (fun _ => rfl) t d).trans rfl

/-! ## Where the blocks are -/

/-- The tile a point works on: its own, or the last one in use. -/
abbrev tl (t : ℕ) : ℕ := min t ((ntC m ρ 0 i1).toNat - 1)

theorem idx0 (t : Fin grid0.N) : ((cfg0 (adm m ρ H 0)).win 0).index t = ![tl m ρ t.val, 0, 0, 0] := by
  show ix0 (tabC m ρ 0) 0 (grid0.coords t) = _
  rw [tr0 (pf := tabC m ρ 0) H, coords_val]
  rfl

theorem idx3 (t : Fin grid0.N) : ((cfg0 (adm m ρ H 0)).win 3).index t = ![tl m ρ t.val, 0, 0, 0] := by
  show ix0 (tabC m ρ 0) 3 (grid0.coords t) = _
  rw [tr3 (pf := tabC m ρ 0) H, coords_val]
  rfl

/-- A grid point among the table's entries. -/
abbrev gt (t : Fin grid0.N) : Fin 160 := ⟨t.val, N_0 ▸ t.isLt⟩

omit H in
theorem gi_coords (t : Fin grid0.N) : gi (grid0.coords t) = gt t := Fin.ext (coords_val t)

theorem idx1 (t : Fin grid0.N) : ((cfg0 (adm m ρ H 0)).win 1).index t = ![(teC m ρ 0 (ix1 (clampT (ntC m ρ 0) (gt t)))).toNat, 0, 0] := by
  rw [← H.tail]
  exact (tr1 (pf := tabC m ρ 0) (grid0.coords t)).trans (by rw [gi_coords]; rfl)

theorem idx2 (t : Fin grid0.N) : ((cfg0 (adm m ρ H 0)).win 2).index t = ![(teC m ρ 0 (ix1 (clampT (ntC m ρ 0) (gt t)))).toNat, 0, 0] := by
  rw [← H.tail]
  exact (tr2 (pf := tabC m ρ 0) (grid0.coords t)).trans (by rw [gi_coords]; rfl)

/-- Points that work on one tile compute one result. -/
theorem tileOut_congr (c : Dev nD) (t t' : Fin grid0.N) (h : tl m ρ t.val = tl m ρ t'.val) : tileOut m ρ H c t = tileOut m ρ H c t' := by
  have hc : clampT (ntC m ρ 0) (gt t) = clampT (ntC m ρ 0) (gt t') := Fin.ext h
  have e0 : blkX m ρ H c t = blkX m ρ H c t' := funext fun j =>
    congrArg (V m ρ c main_v1) (show (((cfg0 (adm m ρ H 0)).win 0).rect t).emb j = (((cfg0 (adm m ρ H 0)).win 0).rect t').emb j from
      funext fun a : Fin 4 => Fin.ext (by
        have e := Pipeline.Window.rect_emb_val ((cfg0 (adm m ρ H 0)).win 0) t j a
        have e' := Pipeline.Window.rect_emb_val ((cfg0 (adm m ρ H 0)).win 0) t' j a
        refine e.trans (Eq.trans ?_ e'.symm)
        rw [idx0, idx0, h]))
  have e1 : blkG m ρ H c t = blkG m ρ H c t' := funext fun j =>
    congrArg (V m ρ c main_arg3) (show (((cfg0 (adm m ρ H 0)).win 1).rect t).emb j = (((cfg0 (adm m ρ H 0)).win 1).rect t').emb j from
      funext fun a : Fin 3 => Fin.ext (by
        have e := Pipeline.Window.rect_emb_val ((cfg0 (adm m ρ H 0)).win 1) t j a
        have e' := Pipeline.Window.rect_emb_val ((cfg0 (adm m ρ H 0)).win 1) t' j a
        refine e.trans (Eq.trans ?_ e'.symm)
        rw [idx1, idx1, hc]))
  have e2 : blkD m ρ H c t = blkD m ρ H c t' := funext fun j =>
    congrArg (V m ρ c main_arg4) (show (((cfg0 (adm m ρ H 0)).win 2).rect t).emb j = (((cfg0 (adm m ρ H 0)).win 2).rect t').emb j from
      funext fun a : Fin 3 => Fin.ext (by
        have e := Pipeline.Window.rect_emb_val ((cfg0 (adm m ρ H 0)).win 2) t j a
        have e' := Pipeline.Window.rect_emb_val ((cfg0 (adm m ρ H 0)).win 2) t' j a
        refine e.trans (Eq.trans ?_ e'.symm)
        rw [idx2, idx2, hc]))
  show out (blkX m ρ H c t) (blkG m ρ H c t) (blkD m ρ H c t) = out (blkX m ρ H c t') (blkG m ρ H c t') (blkD m ρ H c t')
  rw [e0, e1, e2]

/-! ## The points past the tiles in use -/

omit H in
/-- The kernel's test at a point: whether its tile is in use. -/
theorem cond_iff {n : BitVec 32} (h1 : n.toNat ≤ 160) (t : Fin grid0.N) : k0_cond1 (grid0.coords t) n = 1#1 ↔ t.val < n.toNat := by
  have ht : t.val < 160 := N_0 ▸ t.isLt
  have hz : ∀ b : BitVec 1, Scalar.cmpi .ne (Scalar.extui b : BitVec 32) 0#32 = b := by decide
  have hv : (BitVec.ofNat 32 t.val).toNat = t.val := (BitVec.toNat_ofNat ..).trans (Nat.mod_eq_of_lt (by omega))
  unfold k0_cond1
  dsimp only
  rw [hz, coords_val]
  refine IntOp.cmpi_slt.trans ?_
  rw [BitVec.toInt_eq_toNat_cond, BitVec.toInt_eq_toNat_cond, hv, if_pos (by omega), if_pos (by omega)]
  omega

omit H in
theorem idle_pf (pf : pre0.Contents (Elt F)) (i : grid0.Coords) : idle0 pf 3 i = !(k0_cond1 i (pf 1 i1) == 1#1) := by
  have e : pf.atD 1 ![0] = pf 1 i1 :=
    (dif_pos (show ∀ a : Fin 1, (![0] : Fin 1 → ℕ) a + 1 ≤ S1.size a by decide)).trans (congrArg (pf 1) (eq_i1 _))
  exact congrArg (fun w => !(k0_cond1 i w == 1#1)) e

theorem idle_eq (t : Fin grid0.N) : (cfg0 (adm m ρ H 0)).idle 3 (grid0.coords t) = !(k0_cond1 (grid0.coords t) (ntC m ρ 0 i1) == 1#1) :=
  idle_pf (tabC m ρ 0) (grid0.coords t)

theorem flush_iff (t : Fin grid0.N) : ((cfg0 (adm m ρ H 0)).win 3).flush t = true ↔ t.val + 1 = 160 ∨ t.val + 1 < (ntC m ρ 0 i1).toNat := by
  have hp := H.pos
  have hl := H.le
  refine (Pipeline.Window.flush_out ((cfg0 (adm m ρ H 0)).win 3) rfl t).trans ?_
  have hN : (cfg0 (adm m ρ H 0)).grid.N = 160 := N_0
  refine or_congr ⟨fun h => h.trans hN, fun h => h.trans hN.symm⟩ ⟨fun ⟨h, hne⟩ => ?_, fun h => ⟨by omega, fun he => ?_⟩⟩
  · by_contra hc
    refine hne ?_
    rw [idx3, idx3, show tl m ρ (t.val + 1) = tl m ρ t.val from by unfold tl; omega]
  · rw [idx3, idx3] at he
    have he : tl m ρ (t.val + 1) = tl m ρ t.val := congrFun he 0
    unfold tl at he
    omega

theorem before3 (c : Dev nD) (t : Fin grid0.N) (ht : (ntC m ρ 0 i1).toNat ≤ t.val) (d) : (dats m ρ H 0 c).before 3 t d = tileOut m ρ H c t := by
  have hp := H.pos
  have hl := H.le
  have htN : t.val < 160 := N_0 ▸ t.isLt
  have hN := N_0
  have hidle : ∀ j : Fin grid0.N, (ntC m ρ 0 i1).toNat ≤ j.val → (cfg0 (adm m ρ H 0)).idle 3 (grid0.coords j) = true := fun j hj => by
    rw [idle_eq, Bool.not_eq_true', beq_eq_false_iff_ne]
    exact fun h => absurd ((cond_iff hl j).1 h) (by omega)
  have hflush : ∀ j : Fin grid0.N, (ntC m ρ 0 i1).toNat ≤ j.val + 1 → j.val + 1 < 160 → ((cfg0 (adm m ρ H 0)).win 3).flush j = false := fun j hj hj' =>
    Bool.eq_false_iff.2 fun h => by
      have := (flush_iff m ρ H j).1 h
      omega
  have hrun := Pipeline.Dat.before_idle_run (dats m ρ H 0 c) 3 (fun t => Pipeline.Window.fetch_out _ rfl t) d (t.val - (ntC m ρ 0 i1).toNat) t (Nat.sub_le _ _)
    (fun j h1 h2 => ⟨hidle j (by omega), hflush j (by omega) (by omega)⟩)
  rw [hrun]
  unfold Dat.before
  rw [if_neg (by rw [Pipeline.Window.fetch_out _ rfl]; exact Bool.false_ne_true), if_neg (by show ¬ t.val - (t.val - (ntC m ρ 0 i1).toNat) = 0; omega)]
  dsimp only
  rw [if_neg (by rw [hflush _ (by show _ ≤ t.val - (t.val - (ntC m ρ 0 i1).toNat) - 1 + 1; omega) (by show t.val - (t.val - (ntC m ρ 0 i1).toNat) - 1 + 1 < 160; omega)]; exact Bool.false_ne_true)]
  have hlive : (cfg0 (adm m ρ H 0)).idle 3 (grid0.coords ⟨t.val - (t.val - (ntC m ρ 0 i1).toNat) - 1, by omega⟩) = false := by
    rw [idle_eq, (cond_iff hl _).2 (by show t.val - (t.val - (ntC m ρ 0 i1).toNat) - 1 < _; omega)]
    rfl
  split
  · rename_i hx
    exact absurd ((show true = (cfg0 (adm m ρ H 0)).idle 3 _ from hx.symm).trans hlive) (by decide)
  · refine Eq.trans (b := tileOut m ρ H c ⟨t.val - (t.val - (ntC m ρ 0 i1).toNat) - 1, by omega⟩) ?_ (tileOut_congr m ρ H c _ _ (by show min (t.val - (t.val - (ntC m ρ 0 i1).toNat) - 1) ((ntC m ρ 0 i1).toNat - 1) = min t.val ((ntC m ρ 0 i1).toNat - 1); omega))
    rfl

end Cert.Proof.Experts

end
-- ==== Proof.ExpertsRun.lean ====
/-
  The experts' program's run: the operations before the call, then the call's region over its grid. From a launch memory
  whose tables satisfy `Tabs`, every execution ends with the arguments as they were, every counter at zero, and the result
  at what the points have written back over the rows it was given.
-/
module

public import proofs.«01_k».proof.Proof.ExpertsDat

@[expose] public section

noncomputable section

namespace Cert.Proof.Experts

open Cert.Kernel2Ideal Cert.Kernel2Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra, in the certificate's. -/
abbrev EP : Emb (UR sig nD τ) (MT nD τ sig Unit (Elt F) ℕ (UU nD τ) ℕ) := embL

variable (m : (ℓ : Loc nD τ sig) → Buf (Elt F) ℓ) (ρ : Dev nD → PrngReg)
variable (H : Tabs (teC m ρ 0) (ntC m ρ 0))

/-! ## A point -/

/-- The kernel at a point, from the point's blocks. -/
theorem point (c : Dev nD) (t : Fin grid0.N) {M3 : Memref sig .tc .vmem S32x8x8x128 .f32} {h3 : M3.IsWhole} {M4 : Memref sig .tc .vmem S1x1024x512 .f32} {h4 : M4.IsWhole}
    {M5 : Memref sig .tc .vmem S1x256x1024 .f32} {h5 : M5.IsWhole} {M6 : Memref sig .tc .vmem S32x8x8x128 .f32} {h6 : M6.IsWhole} (Y : S32x8x8x128.Idx → F .f32) :
    iprop(tabs m ρ c ∗ (dats m ρ H 0 c).owesAt () t.castSucc ∗ owns (c : Thread nD τ) M3 fullShare (blkX m ρ H c t) ∗ owns (c : Thread nD τ) M4 fullShare (blkG m ρ H c t)
        ∗ owns (c : Thread nD τ) M5 fullShare (blkD m ρ H c t) ∗ owns (c : Thread nD τ) M6 fullShare Y)
      ⊢ wp frame (wpE (defs₀ (F := F)) Variants.none (c : Thread nD τ) none) Set.univ
        (cc0_moe_experts (F := F) (grid0.coords t) (Memref.whole main_v13) (Memref.isWhole_whole _) (Memref.whole main_arg1) (Memref.isWhole_whole _) M3 h3 M4 h4 M5 h5 M6 h6)
        fun _ => iprop(tabs m ρ c ∗ (dats m ρ H 0 c).owesAt () t.succ ∗ owns (c : Thread nD τ) M3 fullShare (blkX m ρ H c t) ∗ owns (c : Thread nD τ) M4 fullShare (blkG m ρ H c t)
          ∗ owns (c : Thread nD τ) M5 fullShare (blkD m ρ H c t)
          ∗ owns (c : Thread nD τ) M6 fullShare (if k0_cond1 (grid0.coords t) (ntC m ρ c i1) = 1#1 then tileOut m ρ H c t else Y)) := by
  rw [show (dats m ρ H 0 c).owesAt () t.succ = (dats m ρ H 0 c).owesAt () t.castSucc from rfl]
  iintro ⟨⟨Ht, Hn⟩, HO, H3, H4, H5, H6⟩
  ihave H3 := (rep_of_owns (c : Thread nD τ) M3 fullShare (blkX m ρ H c t)) $$ H3
  ihave H4 := (rep_of_owns (c : Thread nD τ) M4 fullShare (blkG m ρ H c t)) $$ H4
  ihave H5 := (rep_of_owns (c : Thread nD τ) M5 fullShare (blkD m ρ H c t)) $$ H5
  ihave H6 := (rep_of_owns (c : Thread nD τ) M6 fullShare Y) $$ H6
  iapply body
  isplitl [Hn]; · iexact Hn
  isplitl [H3]; · iexact H3
  isplitl [H4]; · iexact H4
  isplitl [H5]; · iexact H5
  isplitl [H6]; · iexact H6
  iintro ⟨Hn, H3, H4, H5, H6⟩
  isplitl [Ht Hn]
  · isplitl [Ht] <;> iassumption
  isplitl [HO]; · iexact HO
  isplitl [H3]; · iapply (owns_of_rep (c : Thread nD τ) M3 fullShare (blkX m ρ H c t)); iexact H3
  isplitl [H4]; · iapply (owns_of_rep (c : Thread nD τ) M4 fullShare (blkG m ρ H c t)); iexact H4
  isplitl [H5]; · iapply (owns_of_rep (c : Thread nD τ) M5 fullShare (blkD m ρ H c t)); iexact H5
  iexact H6

/-- What the pipeline finds in the result's place at a point. -/
def Found (c : Dev nD) (t : Fin grid0.N) (Y : S32x8x8x128.Idx → F .f32) : Prop := ∃ d, Y = (dats m ρ H 0 c).before 3 t d

/-- What the pipeline asks of the result's place after a point. -/
abbrev leave3 (c : Dev nD) (t : Fin grid0.N) (M : Memref sig .tc .vmem S32x8x8x128 .f32) : sProp 𝕄 :=
  match (cfg0 (adm m ρ H 0)).idle 3 (grid0.coords t) with
        | true =>
          match ((cfg0 (adm m ρ H 0)).win 3).flush t with
          | false => iprop(∃ d, owns (c : Thread nD τ) M fullShare ((dats m ρ H 0 c).before 3 t d))
          | true => owns (c : Thread nD τ) M fullShare ((dats m ρ H 0 c).after 3 t)
        | false => owns (c : Thread nD τ) M fullShare ((dats m ρ H 0 c).after 3 t)

/-- What a point leaves in the result's place is what the pipeline asks for. -/
theorem leaves3 (c : Dev nD) (t : Fin grid0.N) (M : Memref sig .tc .vmem S32x8x8x128 .f32) :
    iprop(∃ Y, ⌜Found m ρ H c t Y⌝ ∗ owns (c : Thread nD τ) M fullShare (if k0_cond1 (grid0.coords t) (ntC m ρ c i1) = 1#1 then tileOut m ρ H c t else Y))
      ⊢ leave3 m ρ H c t M := by
  unfold leave3
  obtain rfl : c = 0 := Subsingleton.elim _ _
  rw [idle_eq]
  iintro ⟨%Y, %hY, HM⟩
  obtain ⟨d, hY⟩ := hY
  by_cases hc : k0_cond1 (grid0.coords t) (ntC m ρ 0 i1) = 1#1
  · rw [if_pos hc, show (!(k0_cond1 (grid0.coords t) (ntC m ρ 0 i1) == 1#1)) = false from by rw [hc]; rfl]
    iexact HM
  · rw [if_neg hc, show (!(k0_cond1 (grid0.coords t) (ntC m ρ 0 i1) == 1#1)) = true from by rw [Bool.not_eq_true', beq_eq_false_iff_ne]; exact hc]
    dsimp only
    split
    · iexists d
      rw [hY]
      iexact HM
    · rw [show Y = (dats m ρ H 0 0).after 3 t from hY.trans (before3 m ρ H 0 t (Nat.le_of_not_lt fun h => hc ((cond_iff H.le t).2 h)) d)]
      iexact HM

theorem give (c : Dev nD) (t : Fin grid0.N) (M : Memref sig .tc .vmem S32x8x8x128 .f32) (Y : S32x8x8x128.Idx → F .f32) (hY : Found m ρ H c t Y) :
    (owns (c : Thread nD τ) M fullShare (if k0_cond1 (grid0.coords t) (ntC m ρ c i1) = 1#1 then tileOut m ρ H c t else Y) : sProp 𝕄)
      ⊢ iprop(∃ Y, ⌜Found m ρ H c t Y⌝ ∗ owns (c : Thread nD τ) M fullShare (if k0_cond1 (grid0.coords t) (ntC m ρ c i1) = 1#1 then tileOut m ρ H c t else Y)) := by
  iintro HM
  iexists Y
  isplitr; · ipureintro; exact hY
  iexact HM

/-- The kernel at a point, from what the pipeline finds. -/
theorem point' (c : Dev nD) (t : Fin grid0.N) {M3 : Memref sig .tc .vmem S32x8x8x128 .f32} {h3 : M3.IsWhole} {M4 : Memref sig .tc .vmem S1x1024x512 .f32} {h4 : M4.IsWhole}
    {M5 : Memref sig .tc .vmem S1x256x1024 .f32} {h5 : M5.IsWhole} {M6 : Memref sig .tc .vmem S32x8x8x128 .f32} {h6 : M6.IsWhole} :
    iprop(tabs m ρ c ∗ (dats m ρ H 0 c).owesAt () t.castSucc ∗ owns (c : Thread nD τ) M3 fullShare (blkX m ρ H c t) ∗ owns (c : Thread nD τ) M4 fullShare (blkG m ρ H c t)
        ∗ owns (c : Thread nD τ) M5 fullShare (blkD m ρ H c t) ∗ ∃ d, owns (c : Thread nD τ) M6 fullShare ((dats m ρ H 0 c).before 3 t d))
      ⊢ wp frame (wpE (defs₀ (F := F)) Variants.none (c : Thread nD τ) none) Set.univ
        (cc0_moe_experts (F := F) (grid0.coords t) (Memref.whole main_v13) (Memref.isWhole_whole _) (Memref.whole main_arg1) (Memref.isWhole_whole _) M3 h3 M4 h4 M5 h5 M6 h6)
        fun _ => iprop(tabs m ρ c ∗ (dats m ρ H 0 c).owesAt () t.succ ∗ owns (c : Thread nD τ) M3 fullShare (blkX m ρ H c t) ∗ owns (c : Thread nD τ) M4 fullShare (blkG m ρ H c t)
          ∗ owns (c : Thread nD τ) M5 fullShare (blkD m ρ H c t)
          ∗ leave3 m ρ H c t M6) := by
  iintro ⟨HΦ, HO, H3, H4, H5, ⟨%d, H6⟩⟩
  have hw := point m ρ H c t (h3 := h3) (h4 := h4) (h5 := h5) (h6 := h6) ((dats m ρ H 0 c).before 3 t d)
  iapply (hw.trans (wp_mono _ _ _ fun _ => sep_mono .rfl (sep_mono .rfl (sep_mono .rfl (sep_mono .rfl (sep_mono .rfl ((give m ρ H c t M6 _ ⟨d, rfl⟩).trans (leaves3 m ρ H c t M6))))))))
  isplitl [HΦ]; · iexact HΦ
  isplitl [HO]; · iexact HO
  isplitl [H3]; · iexact H3
  isplitl [H4]; · iexact H4
  isplitl [H5]; · iexact H5
  iexact H6

theorem body_obligation (c : Dev nD) : BodyObligation (dats m ρ H 0 c) (defs₀ (F := F)) 𝒱₀ () Set.univ := fun t => by
  rw [bigSep_W0, bigSep_W0]
  refine Entails.trans (sep_mono .rfl (sep_mono .rfl (sep_mono ?_ (sep_mono ?_ (sep_mono ?_ .rfl)))))
    (point' m ρ H c t (h3 := hstage0_0 (((Pipeline.pin pcfgs (adm m ρ H) 0).slots t 0).cast nbuf0_0)) (h4 := hstage0_1 (((Pipeline.pin pcfgs (adm m ρ H) 0).slots t 1).cast nbuf0_1)) (h5 := hstage0_2 (((Pipeline.pin pcfgs (adm m ρ H) 0).slots t 2).cast nbuf0_2)) (h6 := hstage0_3 (((Pipeline.pin pcfgs (adm m ρ H) 0).slots t 3).cast nbuf0_3)))
  · exact exists_elim fun d => Entails.of_eq (congrArg (owns (c : Thread nD τ) _ fullShare) (before0 m ρ H c t d))
  · exact exists_elim fun d => Entails.of_eq (congrArg (owns (c : Thread nD τ) _ fullShare) (before1 m ρ H c t d))
  · exact exists_elim fun d => Entails.of_eq (congrArg (owns (c : Thread nD τ) _ fullShare) (before2 m ρ H c t d))

/-! ## The launch -/

/-- The launch element: the pipeline library's, and no counter. -/
def u₀ : UU nD τ := (initOf (Pipeline.cells (Pipeline.pin (pcfgs (F := F)) (adm m ρ H)) (cellOf_inj (adm m ρ H))) (Pipeline.launchToks (Pipeline.pin (pcfgs (F := F)) (adm m ρ H)) (cellOf_inj (adm m ρ H))), 1)

abbrev L : GSem nD τ sig → Finset Unit := fun _ => ∅
abbrev lv : GSem nD τ sig → Unit → ℕ := fun _ _ => 0

/-- What rides beside the buffers. -/
abbrev R (c : Dev nD) : sProp 𝕄 := iprop(∃ W, owes (c : Thread nD τ) (0 : CellTallies nD τ sig Unit) W)

/-- The operations before the call. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- The tables one by one. -/
theorem prefHeld_eq (c : Dev nD) :
    (Pipeline.prefHeld (Ix := Unit) (Name := ℕ) (U := UU nD τ) (Lvl := ℕ) pre0 c (fun _ => fullShare) (adm m ρ H 0).1 : sProp 𝕄) = tabs m ρ c := by
  obtain rfl : c = 0 := Subsingleton.elim _ _
  unfold Pipeline.prefHeld
  exact bigSep_univ_eq_bigSepL [(0 : Fin 2), 1] (by decide) (by decide) _

/-- A whole array of the call held at contents `f`. -/
abbrev held1 (c : Dev nD) (b : Ref sig .tc) (f : Buf (Elt F) ((c : Thread nD τ).loc b)) : sProp 𝕄 := ((c : Thread nD τ).loc b) ↦{fullShare} f

/-- The windows' arrays one by one. -/
theorem arrays_one (c : Dev nD) (G : (w : Fin 4) → Buf (Elt F) (((cfg0 (adm m ρ H 0)).win w).arr.view.loc (c : Thread nD τ))) :
    ((dats m ρ H 0 c).arrays G : sProp 𝕄)
      = iprop(held1 c main_v1 (G 0) ∗ held1 c main_arg3 (G 1) ∗ held1 c main_arg4 (G 2) ∗ held1 c main_v14 (G 3)) := by
  refine (Pipeline.arrays_eq (Pipeline.pin (pcfgs (F := F)) (adm m ρ H)) (dats m ρ H) 0 c (launch0 (F := F)).arr_whole ((dats m ρ H 0 c).share_full fun _ => rfl) G).trans ?_
  exact bigSep_univ_eq_bigSepL [(0 : Fin 4), 1, 2, 3] (by decide) (by decide) _

/-- What is left at the end: the arguments, and the result at what the points wrote back. -/
abbrev Tₙ (c : Dev nD) : sProp 𝕄 :=
  iprop(held1 c main_arg0 (V m ρ c main_arg0) ∗ held1 c main_arg1 (V m ρ c main_arg1) ∗ held1 c main_arg2 (V m ρ c main_arg2)
    ∗ held1 c main_arg3 (V m ρ c main_arg3) ∗ held1 c main_arg4 (V m ρ c main_arg4)
    ∗ held1 c main_v14 ((dats m ρ H 0 c).arrAt 3 (cfg0 (adm m ρ H 0)).N))

/-- What the region takes of the buffers at launch: its arrays, the tables and the two arguments it does not touch. -/
theorem entry_split (c : Dev nD) :
    (StableHlo.held (c : Thread nD τ) ucRefs (StableHlo.after hostOps0 (V₀ m ρ c)) : sProp 𝕄)
      ⊢ iprop((dats m ρ H 0 c).arrays ((dats m ρ H 0 c).arrAt · 0) ∗ tabs m ρ c
        ∗ held1 c main_arg0 (V m ρ c main_arg0) ∗ held1 c main_arg2 (V m ρ c main_arg2)) := by
  rw [show StableHlo.held (c : Thread nD τ) ucRefs (StableHlo.after hostOps0 (V₀ m ρ c)) = unscopedBufs c (V m ρ c) from
    (unscopedBufs_held (F := F) c _).symm.trans (congrArg (unscopedBufs c) (funext fun b => (V_def m ρ c b).symm))]
  have h := Pipeline.arrays_of_unscopedBufs (pcfgs (F := F)) (adm m ρ H) (dats m ρ H) (launch0 (F := F)).win (launch0 (F := F)).arr_whole c
    ((dats m ρ H 0 c).share_full fun _ => rfl) (V m ρ c) (A_eq m ρ H c)
  have ht : (fun k => V m ρ c (pre0.ref k)) = (adm m ρ H 0).1 := by
    obtain rfl : c = 0 := Subsingleton.elim _ _
    rfl
  refine h.trans (sep_mono .rfl ?_)
  rw [Pipeline.unscopedRest_split preFacts0 c (V m ρ c), unscopedRestP0_eq, ht, prefHeld_eq m ρ H c]
  iintro ⟨Ht, H0, H2, -⟩
  isplitl [Ht]; · iexact Ht
  isplitl [H0] <;> iassumption

set_option backward.isDefEq.respectTransparency.types false in
/-- The kernel's region: the tables into the invariant, the two arguments it does not touch riding past it. -/
def reg0 : Pipeline.RegionSeg (pcfgs (F := F)) (adm m ρ H) (dats m ρ H) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation m ρ H c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ H c ∗ R c)
  X _ := BI.emp
  Y c := tabs m ρ c
  Z c := iprop(held1 c main_arg0 (V m ρ c main_arg0) ∗ held1 c main_arg2 (V m ρ c main_arg2))
  hentry c := by
    rw [Pipeline.ownSems0_none, show Pipeline.prefHeld (Ix := Unit) (Name := ℕ) (U := UU nD τ) (Lvl := ℕ) (pcfgs (F := F) 0).pre c (fun _ => fullShare) (adm m ρ H 0).1 = tabs m ρ c from prefHeld_eq m ρ H c]
    iintro ⟨⟨Hub, HO⟩, -, -⟩
    ihave Hs := (entry_split m ρ H c) $$ Hub
    icases Hs with ⟨Ha, Ht, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show Pipeline.prefHeld (Ix := Unit) (Name := ℕ) (U := UU nD τ) (Lvl := ℕ) (pcfgs (F := F) 0).pre c (fun _ => fullShare) (adm m ρ H 0).1 = tabs m ρ c from prefHeld_eq m ρ H c,
      show (dats m ρ H 0 c).Φ 0 = tabs m ρ c from rfl]
    iintro ⟨-, Ht, -⟩
    iexact Ht
  hout c := by
    rw [Pipeline.ownSems0_none, show Pipeline.scopedRest (pcfgs (F := F) 0).spec c = _ from scopedRest0_eq c,
      show (dats m ρ H 0 c).Φ (Fin.last _) = tabs m ρ c from rfl]
    iintro Ht
    isplitl [Ht]; · iexact Ht
    isplitr <;> iempintro
  hexit c := by
    rw [show (dats m ρ H 0 c).arrays ((dats m ρ H 0 c).arrAt · (cfg0 (adm m ρ H 0)).N) = _ from arrays_one m ρ H c _,
      show (dats m ρ H 0 c).arrAt 1 (cfg0 (adm m ρ H 0)).N = V m ρ c main_arg3 from ((dats m ρ H 0 c).arrAt_in 1 rfl _).trans (A_eq m ρ H c 1),
      show (dats m ρ H 0 c).arrAt 2 (cfg0 (adm m ρ H 0)).N = V m ρ c main_arg4 from ((dats m ρ H 0 c).arrAt_in 2 rfl _).trans (A_eq m ρ H c 2)]
    iintro ⟨⟨-, H3, H4, H14⟩, HO, ⟨-, H1⟩, ⟨H0, H2⟩⟩
    imodintro
    isplitr [HO]
    · isplitl [H0]; · iexact H0
      isplitl [H1]; · obtain rfl : c = 0 := Subsingleton.elim _ _; iexact H1
      isplitl [H2]; · iexact H2
      isplitl [H3]; · iexact H3
      isplitl [H4]; · iexact H4
      iexact H14
    · unfold Pipeline.Dat.owesAt Pipeline.owesWithin
      icases HO with ⟨%W, -, HO⟩; iexists W; iexact HO

abbrev segs : List (Pipeline.Seg (pcfgs (F := F)) (adm m ρ H) (dats m ρ H) () defs₀ 𝒱₀ L lv) :=
  [.host (seg0 m ρ), .region (reg0 m ρ H)]

/-- What a core's memory holds at the end: its arguments as launched, and the result at what the points wrote back. -/
def Done (c : Dev nD) (s : (ℓ : Loc nD τ sig) → Buf (Elt F) ℓ) : Prop :=
  (s ((c : Thread nD τ).loc main_arg0) = m ((c : Thread nD τ).loc main_arg0) ∧ s ((c : Thread nD τ).loc main_arg1) = m ((c : Thread nD τ).loc main_arg1)
    ∧ s ((c : Thread nD τ).loc main_arg2) = m ((c : Thread nD τ).loc main_arg2) ∧ s ((c : Thread nD τ).loc main_arg3) = m ((c : Thread nD τ).loc main_arg3)
    ∧ s ((c : Thread nD τ).loc main_arg4) = m ((c : Thread nD τ).loc main_arg4))
    ∧ s ((c : Thread nD τ).loc main_v14) = (dats m ρ H 0 c).arrAt 3 (cfg0 (adm m ρ H 0)).N

set_option backward.isDefEq.respectTransparency.types false in
/-- The run, at any float values. -/
theorem run_main :
    θ_run defs (onTc (τ := τ) (main (F := F))) (s₀ m ρ) (fun r => (∀ c, Done m ρ H c r.2.mem) ∧ r.2.sem = fun _ => 0) :=
  Pipeline.θ_run_regions_kit_sems (pcfgs (F := F)) (adm m ρ H) (dats m ρ H) () (cellOf_inj (adm m ρ H)) EP defs₀ 𝒱₀ L lv m ρ main (segs m ρ H)
    (fun c Q => by rw [main_segs (adm m ρ H) (dats m ρ H) () 𝒱₀ L lv (seg0 m ρ) (reg0 m ρ H) rfl c])
    (by simp only [Pipeline.Seg.pipes_host, Pipeline.Seg.pipes_region, Pipeline.Seg.pipes_nil]; decide) (O₀ := 0) (hL := fun _ _ => rfl) (G := fun _ => iprop(emp)) (u₀ := u₀ m ρ H)
    (hu₀ := by
      unfold u₀
      iintro Hu
      ihave Hp := (ownU_pair _ _) $$ Hu
      icases Hp with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ H)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => Done m ρ H c s.mem)
    (hfin := fun c s' => by
      dsimp only [Tₙ, held1]
      rw [V_arg0, V_arg1, V_arg2, V_arg3, V_arg4]
      iintro ⟨⟨H0, H1, H2, H3, H4, Hf⟩, HSI⟩
      icombine HSI H0 gives %h0
      icombine HSI H1 gives %h1
      icombine HSI H2 gives %h2
      icombine HSI H3 gives %h3
      icombine HSI H4 gives %h4
      icombine HSI Hf gives %hf
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4⟩,
          Buf.eq_of_forall_mem_univ hf⟩
      iexact HSI)
    (hQ := fun _ h hz => ⟨h, funext fun g => hz g (.inr (by revert g; decide))⟩)

end Cert.Proof.Experts

end
-- ==== Proof.ExpertsFinal.lean ====
/-
  What the experts' call leaves in the result: in a tile in use, the tile's result; in the other tiles, the row it was given.
-/
module

public import proofs.«01_k».proof.Proof.ExpertsRun

@[expose] public section

noncomputable section

namespace Cert.Proof.Experts

open Cert.Kernel2Ideal Cert.Kernel2Ideal.Gen

open Idealize.ShloMosaic Idealize.ShloMosaic.ValueIdx
open Idealize.ShloMosaic.TcCoe
open Idealize.ShloMosaic.Pipeline (Dat Cfg Window)

variable {F : FTy → Type} [FloatOps F]

variable (m : (ℓ : Loc nD τ sig) → Buf (Elt F) ℓ) (ρ : Dev nD → PrngReg)
variable (H : Tabs (teC m ρ 0) (ntC m ρ 0))

/-- The point of an index's tile; -/
def tpt (y : S5120x8x8x128.Idx) : Fin grid0.N := ⟨(y 0).val / 32, by
  have h : (y 0).val < 5120 := (y 0).isLt
  have hN := N_0
  omega⟩

/-- the index within the tile. -/
def yin (y : S5120x8x8x128.Idx) : S32x8x8x128.Idx := ix4 ⟨(y 0).val % 32, Nat.mod_lt _ (by decide)⟩ ⟨(y 1).val, (y 1).isLt⟩ ⟨(y 2).val, (y 2).isLt⟩ ⟨(y 3).val, (y 3).isLt⟩

/-- Where a block's entry lies in the result. -/
theorem emb3 (t : Fin grid0.N) (z : S32x8x8x128.Idx) (a : Fin 4) :
    (((((cfg0 (adm m ρ H 0)).win 3).rect t).emb z a : Fin _) : ℕ) = (![tl m ρ t.val, 0, 0, 0] : Fin 4 → ℕ) a * S32x8x8x128.size a + (z a).val := by
  have e := Pipeline.Window.rect_emb_val ((cfg0 (adm m ρ H 0)).win 3) t z a
  rw [idx3] at e
  exact e

theorem emb3_0 (t : Fin grid0.N) (z : S32x8x8x128.Idx) :
    (((((cfg0 (adm m ρ H 0)).win 3).rect t).emb z (0 : Fin 4) : Fin _) : ℕ) = tl m ρ t.val * 32 + (z 0).val := emb3 m ρ H t z 0

/-- Every tile's result, as one array. -/
def whole (c : Dev nD) (y : S5120x8x8x128.Idx) : F .f32 := tileOut m ρ H c (tpt y) (yin y)

theorem whole_emb (c : Dev nD) (t : Fin grid0.N) (z : S32x8x8x128.Idx) :
    whole m ρ H c ((((cfg0 (adm m ρ H 0)).win 3).rect t).emb z) = tileOut m ρ H c t z := by
  have e0 := emb3_0 m ρ H t z
  have hz0 : (z 0).val < 32 := (z 0).isLt
  unfold whole
  have et : (tpt ((((cfg0 (adm m ρ H 0)).win 3).rect t).emb z)).val = tl m ρ t.val := by
    show (((((cfg0 (adm m ρ H 0)).win 3).rect t).emb z (0 : Fin 4) : Fin _) : ℕ) / 32 = _
    rw [e0]; omega
  have ey : yin ((((cfg0 (adm m ρ H 0)).win 3).rect t).emb z) = z := by
    funext a
    match a with
    | ⟨0, _⟩ =>
      refine Fin.ext ?_
      show (((((cfg0 (adm m ρ H 0)).win 3).rect t).emb z (0 : Fin 4) : Fin _) : ℕ) % 32 = (z 0).val
      rw [e0]; omega
    | ⟨1, _⟩ => exact Fin.ext ((emb3 m ρ H t z 1).trans (by show 0 * 8 + (z 1).val = (z 1).val; omega))
    | ⟨2, _⟩ => exact Fin.ext ((emb3 m ρ H t z 2).trans (by show 0 * 8 + (z 2).val = (z 2).val; omega))
    | ⟨3, _⟩ => exact Fin.ext ((emb3 m ρ H t z 3).trans (by show 0 * 128 + (z 3).val = (z 3).val; omega))
  rw [ey]
  refine congrFun (tileOut_congr m ρ H c _ t ?_) z
  rw [et]
  unfold tl
  omega

theorem flushed_whole (c : Dev nD) (t : Fin grid0.N) :
    (dats m ρ H 0 c).flushed 3 t = (((cfg0 (adm m ρ H 0)).win 3).blk t).view.read (Elt F) (whole m ρ H c) :=
  funext fun z => Eq.trans (b := tileOut m ρ H c t z) rfl (whole_emb m ρ H c t z).symm

/-- In a tile in use the result is the tile's. -/
theorem final_in (c : Dev nD) (y : S5120x8x8x128.Idx) (h : (y 0).val / 32 < (ntC m ρ 0 i1).toNat) :
    (dats m ρ H 0 c).arrAt 3 (cfg0 (adm m ρ H 0)).N y = whole m ρ H c y := by
  have hp := H.pos
  have hl := H.le
  have hN := N_0
  obtain ⟨t, ht, htl⟩ : ∃ t : Fin grid0.N, ((cfg0 (adm m ρ H 0)).win 3).flush t = true ∧ tl m ρ t.val = (y 0).val / 32 := by
    by_cases hc : (y 0).val / 32 + 1 < (ntC m ρ 0 i1).toNat
    · refine ⟨tpt y, (flush_iff m ρ H _).2 (.inr hc), ?_⟩
      show min ((y 0).val / 32) _ = _
      omega
    · refine ⟨⟨159, by omega⟩, (flush_iff m ρ H _).2 (.inl rfl), ?_⟩
      show min 159 _ = _
      omega
  refine (dats m ρ H 0 c).arrAt_apply_of_mem 3 (whole m ρ H c) (fun t _ => flushed_whole m ρ H c t) _ t y t.isLt ht ?_
  have ey : y = (((cfg0 (adm m ρ H 0)).win 3).rect t).emb (yin y) := by
    funext a
    match a with
    | ⟨0, _⟩ => exact Fin.ext (Eq.symm ((emb3_0 m ρ H t (yin y)).trans (by rw [htl]; show (y 0).val / 32 * 32 + (y 0).val % 32 = (y 0).val; omega)))
    | ⟨1, _⟩ => exact Fin.ext (Eq.symm ((emb3 m ρ H t (yin y) 1).trans (by show 0 * 8 + (y 1).val = (y 1).val; omega)))
    | ⟨2, _⟩ => exact Fin.ext (Eq.symm ((emb3 m ρ H t (yin y) 2).trans (by show 0 * 8 + (y 2).val = (y 2).val; omega)))
    | ⟨3, _⟩ => exact Fin.ext (Eq.symm ((emb3 m ρ H t (yin y) 3).trans (by show 0 * 128 + (y 3).val = (y 3).val; omega)))
  have hm := (((cfg0 (adm m ρ H 0)).win 3).blk t).view.emb_mem_set (yin y)
  have hv : (((cfg0 (adm m ρ H 0)).win 3).blk t).view.emb (yin y) = y := ey.symm
  rw [hv] at hm
  exact hm

/-- In a tile not in use it is the row given. -/
theorem final_out (c : Dev nD) (y : S5120x8x8x128.Idx) (h : ¬ (y 0).val / 32 < (ntC m ρ 0 i1).toNat) :
    (dats m ρ H 0 c).arrAt 3 (cfg0 (adm m ρ H 0)).N y = V m ρ c main_v14 y := by
  have hp := H.pos
  refine ((dats m ρ H 0 c).arrAt_apply_of_forall_not_mem 3 _ y fun t _ _ hi => h ?_).trans (congrFun (A_eq m ρ H c 3) y)
  have key : ∀ z : S32x8x8x128.Idx, (((cfg0 (adm m ρ H 0)).win 3).rect t).emb z = y → (y 0).val / 32 < (ntC m ρ 0 i1).toNat := fun z hz => by
    have e0 := emb3_0 m ρ H t z
    rw [hz] at e0
    have hz0 : (z 0).val < 32 := (z 0).isLt
    have e0 : (y 0).val = tl m ρ t.val * 32 + (z 0).val := e0
    unfold tl at e0
    omega
  obtain ⟨z, -, hz⟩ := Finset.mem_map.mp hi
  exact key z hz

end Cert.Proof.Experts

end
-- ==== Proof.ExpertsTile.lean ====
/-
  A tile's result over the extended reals, entry by entry: a row of the tile by the expert's gate and up columns, the gated
  products, and their sum by the expert's second weights.
-/
module

public import proofs.«01_k».proof.Proof.ExpertsBody
public import Idealize.ShloMosaic.Lib.Pointwise

@[expose] public section

noncomputable section

namespace Cert.Proof.Experts

open Cert.Kernel2Ideal Cert.Kernel2Ideal.Gen

open Idealize.ShloMosaic Idealize.ShloMosaic.Pointwise

/-- The tile's entry in row `r` and column `d`: its lane of its lanes group. -/
abbrev atRow (r : Fin 256) (d : Fin 1024) : S32x8x8x128.Idx :=
  ix4 ⟨r.val / 8, by omega⟩ ⟨d.val / 128, by omega⟩ ⟨r.val % 8, by omega⟩ ⟨d.val % 128, by omega⟩

theorem slab_at (X : FVec Ideal S32x8x8x128 .f32) (k : Fin 8) (r : Fin 256) (d : Fin 1024) (a : Fin 32) (b : Fin 8) (l : Fin 128)
    (ha : a.val = r.val / 8) (hb : b.val = r.val % 8) (hk : k.val = d.val / 128) (hl : l.val = d.val % 128) :
    slab (F := Ideal) X k (ix4 a 0 b l) = X (atRow r d) :=
  congrArg X (funext fun i => Fin.ext (by
    match i with
    | ⟨0, _⟩ => exact ha
    | ⟨1, _⟩ => exact hk
    | ⟨2, _⟩ => exact hb
    | ⟨3, _⟩ => exact hl))

theorem hidden_apply (X : FVec Ideal S32x8x8x128 .f32) (G : FVec Ideal S1x1024x512 .f32) (r : Fin 256) (f : Fin 512) :
    hidden (F := Ideal) X G (ix2 r f) = ∑ d : Fin 1024, X (atRow r d) * G (ix3 0 d f) := by
  pointwise [hidden, k0_pay6]
  refine Finset.sum_congr rfl fun d _ => ?_
  have hd := d.isLt
  refine congrArg (· * G (ix3 0 d f)) ?_
  split_ifs
  all_goals
    refine slab_at X _ r d _ _ _ rfl rfl ?_ ?_
    · simp only [Fin.val_natCast, Fin.isValue, Fin.val_zero, Fin.val_one, Fin.val_two, Fin.coe_ofNat_eq_mod]
      omega
    · dsimp only
      omega

theorem gate_apply (X : FVec Ideal S32x8x8x128 .f32) (G : FVec Ideal S1x1024x512 .f32) (r : Fin 256) (f : Fin 256) :
    gate (F := Ideal) X G (ix2 r f) = ∑ d : Fin 1024, X (atRow r d) * G (ix3 0 d ⟨f.val, by omega⟩) := by
  refine Eq.trans ?_ (hidden_apply X G r ⟨f.val, by omega⟩)
  pointwise [gate, k0_pay7]
  rfl

/-- The gated product of a gate value and an up value. -/
def gated (g u : EReal) : EReal := g * Ideal.div 1 (1 + Ideal.exp (0 - g)) * u

theorem result_apply (X : FVec Ideal S32x8x8x128 .f32) (G : FVec Ideal S1x1024x512 .f32) (D : FVec Ideal S1x256x1024 .f32) (a : Fin 32) (b : Fin 8) (c : Fin 1024) :
    result (F := Ideal) X G D (ix3 a b c)
      = ∑ f : Fin 256, gated (∑ d : Fin 1024, X (atRow ⟨a.val * 8 + b.val, by omega⟩ d) * G (ix3 0 d ⟨f.val, by omega⟩))
          (∑ d : Fin 1024, X (atRow ⟨a.val * 8 + b.val, by omega⟩ d) * G (ix3 0 d ⟨256 + f.val, by omega⟩)) * D (ix3 0 f c) := by
  unfold result
  pointwise [k0_pay8]
  refine Finset.sum_congr rfl fun f _ => ?_
  rw [hidden_apply, gate_apply]
  rfl

end Cert.Proof.Experts

end
-- ==== Proof.ExpertsRef.lean ====
/-
  The experts' reference over the extended reals, entry by entry: in a tile in use, the tile's expert's products; in the
  other tiles, the row given. The other experts' share of a row is zero times something, which is zero.
-/
module

public import proofs.«01_k».proof.Proof.Gen.Reference2Ideal
public import proofs.«01_k».proof.Proof.ExpertsTile
public import Idealize.ShloMosaic.Lib.Pointwise

@[expose] public section

noncomputable section

namespace Cert.Proof.Experts.Ref

open Cert.Reference2Ideal Cert.Reference2Ideal.Gen

open Idealize.ShloMosaic Idealize.ShloMosaic.Pointwise

/-- Every row's products with every expert's gate and up columns. -/
def prods (x : FVec Ideal S40960x1024 .f32) (G : FVec Ideal S32x1024x512 .f32) : FVec Ideal S40960x32x512 .f32 :=
  Host.dotGeneral dot_S40960x1024_S32x1024x512_S40960x32x512_1_1_0_02_n_n none x G

theorem prods_apply (x : FVec Ideal S40960x1024 .f32) (G : FVec Ideal S32x1024x512 .f32) (r : Fin 40960) (e : Fin 32) (f : Fin 512) :
    prods x G (ix3 r e f) = ∑ d : Fin 1024, x (ix2 r d) * G (ix3 e d f) := by
  pointwise [prods]

/-- The gate half, -/
def gates (x : FVec Ideal S40960x1024 .f32) (G : FVec Ideal S32x1024x512 .f32) : FVec Ideal S40960x32x256 .f32 :=
  extractStridedSlice S40960x32x256 ![0, 0, 0] (prods x G) slices_S40960x32x512_S40960x32x256_0_0_0

/-- the up half. -/
def ups (x : FVec Ideal S40960x1024 .f32) (G : FVec Ideal S32x1024x512 .f32) : FVec Ideal S40960x32x256 .f32 :=
  extractStridedSlice S40960x32x256 ![0, 0, 256] (prods x G) slices_S40960x32x512_S40960x32x256_0_0_256

/-- The float of a test: one where it holds, zero where it does not. -/
theorem one_word : (FloatOps.uitofp (F := Ideal) FTy.f32 (1#1 : BitVec 1) : EReal) = 1 := by
  show (((1#1 : BitVec 1).toNat : ℝ) : EReal) = 1
  simp

theorem zero_word : (FloatOps.uitofp (F := Ideal) FTy.f32 (0#1 : BitVec 1) : EReal) = 0 := by
  show (((0#1 : BitVec 1).toNat : ℝ) : EReal) = 0
  simp

theorem cmpi_ne {n : ℕ} {a b : BitVec n} (h : a ≠ b) : IntOp.cmpi .eq a b = 0#1 := by
  rcases (by decide : ∀ z : BitVec 1, z = 0#1 ∨ z = 1#1) (IntOp.cmpi .eq a b) with h' | h'
  · exact h'
  · exact absurd (IntOp.cmpi_eq.1 h') h

/-- Every row's expert, -/
def experts (te : IVec S160 32) : IVec S40960 32 :=
  shapeCast _ (broadcastInDim S160x256 ![0] bcast_S160_S160x256_0 te) shapeCasts_S160x256_S40960

/-- as one choice among all, -/
def chosen (te : IVec S160 32) : FVec Ideal S40960x32 .f32 :=
  uitofp .f32 (cmpi .eq (broadcastInDim S40960x32 ![0, 1] bcast_S40960x1_S40960x32_0_1 (broadcastInDim S40960x1 ![0] bcast_S40960_S40960x1_0 (experts te)))
    (broadcastInDim S40960x32 ![0, 1] bcast_S1x32_S40960x32_0_1 (iotaInDim S1x32 32 1)))

theorem chosen_apply (te : IVec S160 32) (r : Fin 40960) (e : Fin 32) :
    chosen te (ix2 r e) = if (te (ix1 ⟨r.val / 256, by omega⟩)).toNat = e.val then 1 else 0 := by
  pointwise [chosen, experts]
  have he := e.isLt
  have hv : (BitVec.ofNat 32 e.val).toNat = e.val := (BitVec.toNat_ofNat ..).trans (Nat.mod_eq_of_lt (by omega))
  by_cases h : (te (ix1 ⟨r.val / 256, by omega⟩)).toNat = e.val
  · rw [if_pos h, show te (ix1 ⟨r.val / 256, _⟩) = BitVec.ofNat 32 e.val from BitVec.eq_of_toNat_eq (h.trans hv.symm), IntOp.cmpi_eq_self]
    exact one_word
  · rw [if_neg h, cmpi_ne fun h' => h (by rw [h', hv])]
    exact zero_word

/-- every row's gated products with every expert, the chosen one's kept, -/
def hid (te : IVec S160 32) (x : FVec Ideal S40960x1024 .f32) (G : FVec Ideal S32x1024x512 .f32) : FVec Ideal S40960x32x256 .f32 :=
  mulf (mulf (mulf (gates x G) (Host.divf (broadcastInDim S40960x32x256 ![] bcast_S_S40960x32x256 (constant S_ .f32 0x3F800000#32))
      (addf (broadcastInDim S40960x32x256 ![] bcast_S_S40960x32x256 (constant S_ .f32 0x3F800000#32)) (Host.exp (Host.negf (gates x G)))))) (ups x G))
    (broadcastInDim S40960x32x256 ![0, 1, 2] bcast_S40960x32x1_S40960x32x256_0_1_2 (broadcastInDim S40960x32x1 ![0, 1] bcast_S40960x32_S40960x32x1_0_1 (chosen te)))

theorem hid_apply (te : IVec S160 32) (x : FVec Ideal S40960x1024 .f32) (G : FVec Ideal S32x1024x512 .f32) (r : Fin 40960) (e : Fin 32) (f : Fin 256) :
    hid te x G (ix3 r e f) = gated (prods x G (ix3 r e ⟨f.val, by omega⟩)) (prods x G (ix3 r e ⟨256 + f.val, by omega⟩)) * chosen te (ix2 r e) := by
  pointwise [hid, gates, ups]
  unfold gated
  rw [zero_sub]

/-- their sum by the experts' second weights, -/
def ys (te : IVec S160 32) (x : FVec Ideal S40960x1024 .f32) (G : FVec Ideal S32x1024x512 .f32) (D : FVec Ideal S32x256x1024 .f32) : FVec Ideal S40960x1024 .f32 :=
  Host.dotGeneral dot_S40960x32x256_S32x256x1024_S40960x1024_12_01_0_2_n_n none (hid te x G) D

theorem ys_apply (te : IVec S160 32) (x : FVec Ideal S40960x1024 .f32) (G : FVec Ideal S32x1024x512 .f32) (D : FVec Ideal S32x256x1024 .f32) (r : Fin 40960) (c : Fin 1024) :
    ys te x G D (ix2 r c) = ∑ e : Fin 32, ∑ f : Fin 256, hid te x G (ix3 r e f) * D (ix3 e f c) := by
  pointwise [ys]

/-- A row's result is its expert's alone. -/
theorem ys_eq (te : IVec S160 32) (x : FVec Ideal S40960x1024 .f32) (G : FVec Ideal S32x1024x512 .f32) (D : FVec Ideal S32x256x1024 .f32) (r : Fin 40960) (c : Fin 1024)
    (E : Fin 32) (hE : (te (ix1 ⟨r.val / 256, by omega⟩)).toNat = E.val) :
    ys te x G D (ix2 r c) = ∑ f : Fin 256, gated (∑ d : Fin 1024, x (ix2 r d) * G (ix3 E d ⟨f.val, by omega⟩))
      (∑ d : Fin 1024, x (ix2 r d) * G (ix3 E d ⟨256 + f.val, by omega⟩)) * D (ix3 E f c) := by
  rw [ys_apply, Finset.sum_eq_single E]
  · refine Finset.sum_congr rfl fun f _ => ?_
    rw [hid_apply, chosen_apply, if_pos hE, mul_one, prods_apply, prods_apply]
  · intro e _ he
    refine Finset.sum_eq_zero fun f _ => ?_
    rw [hid_apply, chosen_apply, if_neg (fun h => he (Fin.ext (h.symm.trans hE))), mul_zero, zero_mul]
  · exact fun h => absurd (Finset.mem_univ E) h

/-- and the rows of the tiles not in use as given. -/
def kept (te : IVec S160 32) (nt : IVec S1 32) (x : FVec Ideal S40960x1024 .f32) (G : FVec Ideal S32x1024x512 .f32) (D : FVec Ideal S32x256x1024 .f32) : FVec Ideal S40960x1024 .f32 :=
  select (broadcastInDim S40960x1024 ![0, 1] bcast_S40960x1_S40960x1024_0_1 (broadcastInDim S40960x1 ![0] bcast_S40960_S40960x1_0 (cmpi .slt (iotaInDim S40960 32 0)
    (broadcastInDim S40960 ![0] bcast_S1_S40960_0 (muli (broadcastInDim S1 ![] bcast_S_S1 (constantI S_ 32 256#32)) nt))))) (ys te x G D) x

theorem kept_apply (te : IVec S160 32) (nt : IVec S1 32) (h1 : (nt (ix1 0)).toNat ≤ 160) (x : FVec Ideal S40960x1024 .f32) (G : FVec Ideal S32x1024x512 .f32) (D : FVec Ideal S32x256x1024 .f32)
    (r : Fin 40960) (c : Fin 1024) : kept te nt x G D (ix2 r c) = if r.val / 256 < (nt (ix1 0)).toNat then ys te x G D (ix2 r c) else x (ix2 r c) := by
  pointwise [kept]
  have hr := r.isLt
  have hv : (BitVec.ofNat 32 r.val).toNat = r.val := (BitVec.toNat_ofNat ..).trans (Nat.mod_eq_of_lt (by omega))
  have hn : (IntOp.muli 256#32 (nt (ix1 0))).toNat = 256 * (nt (ix1 0)).toNat :=
    (BitVec.toNat_mul ..).trans (Nat.mod_eq_of_lt (by show 256 * (nt (ix1 0)).toNat < _; omega))
  have hs : IntOp.cmpi .slt (BitVec.ofNat 32 r.val) (IntOp.muli 256#32 (nt (ix1 0))) = 1#1 ↔ r.val / 256 < (nt (ix1 0)).toNat := by
    refine IntOp.cmpi_slt.trans ?_
    rw [BitVec.toInt_eq_toNat_cond, BitVec.toInt_eq_toNat_cond, hv, hn, if_pos (by omega), if_pos (by omega)]
    omega
  by_cases h : r.val / 256 < (nt (ix1 0)).toNat
  · rw [if_pos h, hs.2 h]
    rfl
  · rw [if_neg h]
    exact (if_neg (fun h' => h (hs.1 h')))

end Cert.Proof.Experts.Ref

end
-- ==== Proof.ExpertsValue.lean ====
/-
  The experts' call and its reference compute one array over the extended reals.
-/
module

public import proofs.«01_k».proof.Proof.ExpertsFinal
public import proofs.«01_k».proof.Proof.ExpertsRef

@[expose] public section

noncomputable section

namespace Cert.Proof.Experts

open Cert.Kernel2Ideal Cert.Kernel2Ideal.Gen

open Idealize.ShloMosaic Idealize.ShloMosaic.Pointwise
open Idealize.ShloMosaic.TcCoe

/-! ## The rows, as the call is given them -/

/-- An index's row, -/
abbrev rowOf (y : S5120x8x8x128.Idx) : Fin 40960 := ⟨(y 0).val * 8 + (y 2).val, by
  have h0 : (y 0).val < 5120 := (y 0).isLt
  have h2 : (y 2).val < 8 := (y 2).isLt
  omega⟩

/-- and its column. -/
abbrev colOf (y : S5120x8x8x128.Idx) : Fin 1024 := ⟨(y 1).val * 128 + (y 3).val, by
  have h1 : (y 1).val < 8 := (y 1).isLt
  have h3 : (y 3).val < 128 := (y 3).isLt
  omega⟩

theorem movedRows_apply {α : Type} (x : S40960x1024.Idx → α) (y : S5120x8x8x128.Idx) : movedRows x y = x (ix2 (rowOf y) (colOf y)) := by
  have h0 : (y 0).val < 5120 := (y 0).isLt
  have h1 : (y 1).val < 8 := (y 1).isLt
  have h2 : (y 2).val < 8 := (y 2).isLt
  have h3 : (y 3).val < 128 := (y 3).isLt
  unfold movedRows
  rw [Idealize.ShloMosaic.transpose_apply _ _ _ _ (ix4 (⟨(y 0).val, h0⟩ : Fin 5120) (⟨(y 2).val, h2⟩ : Fin 8) (⟨(y 1).val, h1⟩ : Fin 8) (⟨(y 3).val, h3⟩ : Fin 128))
    (fun b => by
      match b with
      | ⟨0, _⟩ => rfl
      | ⟨1, _⟩ => rfl
      | ⟨2, _⟩ => rfl
      | ⟨3, _⟩ => rfl)]
  refine Idealize.ShloMosaic.shapeCast_apply _ _ _ _ ?_
  rw [Shape.rowMajor_val_two, Shape.rowMajor_val_four]
  show ((y 0).val * 8 + (y 2).val) * 1024 + ((y 1).val * 128 + (y 3).val) = (((y 0).val * 8 + (y 2).val) * 8 + (y 1).val) * 128 + (y 3).val
  omega

variable {F : FTy → Type} [FloatOps F]
variable (m : (ℓ : Loc nD τ sig) → Buf (Elt F) ℓ) (ρ : Dev nD → PrngReg)

/-! ## The tables -/

theorem teC_eq (c : Dev nD) : teC m ρ c = teStep (m ((c : Thread nD τ).loc main_arg0)) (m ((c : Thread nD τ).loc main_arg1)) :=
  (V_def m ρ c main_v13).trans (after_v13 _)

theorem tabs_ok (ht : ∀ j, ((m (((0 : Dev nD) : Thread nD τ).loc main_arg0) : IVec S160 32) j).toNat < 32)
    (h0 : 0 < ((m (((0 : Dev nD) : Thread nD τ).loc main_arg1) : IVec S1 32) i1).toNat) (h1 : ((m (((0 : Dev nD) : Thread nD τ).loc main_arg1) : IVec S1 32) i1).toNat ≤ 160) :
    Tabs (teC m ρ 0) (ntC m ρ 0) := by
  rw [teC_eq m ρ 0, show ntC m ρ 0 = m (((0 : Dev nD) : Thread nD τ).loc main_arg1) from V_arg1 m ρ 0]
  exact tabs_of ht h0 h1

variable (H : Tabs (teC m ρ 0) (ntC m ρ 0))

/-! ## A point's blocks -/

/-- A row of a point's tile, as a row of the call's. -/
theorem blkX_at (c : Dev nD) (t : Fin grid0.N) (r : Fin 256) (d : Fin 1024) (q : Fin 40960) (hq : q.val = tl m ρ t.val * 256 + r.val) :
    blkX m ρ H c t (atRow r d) = (m ((c : Thread nD τ).loc main_arg2) : S40960x1024.Idx → F .f32) (ix2 q d) := by
  have hr := r.isLt
  have hd := d.isLt
  have e : ∀ a : Fin 4, (((((cfg0 (adm m ρ H 0)).win 0).rect t).emb (atRow r d) a : Fin _) : ℕ) = (![tl m ρ t.val, 0, 0, 0] : Fin 4 → ℕ) a * S32x8x8x128.size a + (atRow r d a).val := fun a => by
    have e := Pipeline.Window.rect_emb_val ((cfg0 (adm m ρ H 0)).win 0) t (atRow r d) a
    rw [idx0] at e
    exact e
  refine Eq.trans (b := V m ρ c main_v1 ((((cfg0 (adm m ρ H 0)).win 0).rect t).emb (atRow r d))) rfl ?_
  rw [show V m ρ c main_v1 = movedRows (m ((c : Thread nD τ).loc main_arg2)) from (V_def m ρ c main_v1).trans (after_v1 _)]
  refine (movedRows_apply _ _).trans (congrArg _ (funext fun b => Fin.ext ?_))
  match b with
  | ⟨0, _⟩ =>
    have e0 := e 0
    have e2 := e 2
    refine Eq.trans (congrArg₂ (fun u v => u * 8 + v) e0 e2) ?_
    show (tl m ρ t.val * 32 + r.val / 8) * 8 + (0 * 8 + r.val % 8) = q.val
    omega
  | ⟨1, _⟩ =>
    have e1 := e 1
    have e3 := e 3
    refine Eq.trans (congrArg₂ (fun u v => u * 128 + v) e1 e3) ?_
    show (0 * 8 + d.val / 128) * 128 + (0 * 128 + d.val % 128) = d.val
    omega

/-- An entry of a point's first weights. -/
theorem blkG_at (c : Dev nD) (t : Fin grid0.N) (E : Fin 32) (hE : (teC m ρ 0 (ValueIdx.ix1 (clampT (ntC m ρ 0) (gt t)))).toNat = E.val) (d : Fin 1024) (f : Fin 512) :
    blkG m ρ H c t (ix3 0 d f) = (m ((c : Thread nD τ).loc main_arg3) : S32x1024x512.Idx → F .f32) (ix3 E d f) := by
  have e : ∀ a : Fin 3, (((((cfg0 (adm m ρ H 0)).win 1).rect t).emb (ix3 0 d f) a : Fin _) : ℕ) = (![E.val, 0, 0] : Fin 3 → ℕ) a * S1x1024x512.size a + ((ix3 0 d f : S1x1024x512.Idx) a).val := fun a => by
    have e := Pipeline.Window.rect_emb_val ((cfg0 (adm m ρ H 0)).win 1) t (ix3 0 d f) a
    rw [idx1, hE] at e
    exact e
  refine Eq.trans (b := V m ρ c main_arg3 ((((cfg0 (adm m ρ H 0)).win 1).rect t).emb (ix3 0 d f))) rfl ?_
  rw [V_arg3]
  refine congrArg _ (funext fun b => Fin.ext ((e b).trans ?_))
  match b with
  | ⟨0, _⟩ => show E.val * 1 + 0 = E.val; omega
  | ⟨1, _⟩ => show 0 * 1024 + d.val = d.val; omega
  | ⟨2, _⟩ => show 0 * 512 + f.val = f.val; omega

/-- An entry of its second. -/
theorem blkD_at (c : Dev nD) (t : Fin grid0.N) (E : Fin 32) (hE : (teC m ρ 0 (ValueIdx.ix1 (clampT (ntC m ρ 0) (gt t)))).toNat = E.val) (f : Fin 256) (d : Fin 1024) :
    blkD m ρ H c t (ix3 0 f d) = (m ((c : Thread nD τ).loc main_arg4) : S32x256x1024.Idx → F .f32) (ix3 E f d) := by
  have e : ∀ a : Fin 3, (((((cfg0 (adm m ρ H 0)).win 2).rect t).emb (ix3 0 f d) a : Fin _) : ℕ) = (![E.val, 0, 0] : Fin 3 → ℕ) a * S1x256x1024.size a + ((ix3 0 f d : S1x256x1024.Idx) a).val := fun a => by
    have e := Pipeline.Window.rect_emb_val ((cfg0 (adm m ρ H 0)).win 2) t (ix3 0 f d) a
    rw [idx2, hE] at e
    exact e
  refine Eq.trans (b := V m ρ c main_arg4 ((((cfg0 (adm m ρ H 0)).win 2).rect t).emb (ix3 0 f d))) rfl ?_
  rw [V_arg4]
  refine congrArg _ (funext fun b => Fin.ext ((e b).trans ?_))
  match b with
  | ⟨0, _⟩ => show E.val * 1 + 0 = E.val; omega
  | ⟨1, _⟩ => show 0 * 256 + f.val = f.val; omega
  | ⟨2, _⟩ => show 0 * 1024 + d.val = d.val; omega

/-! ## The two results -/

section
variable (m : (ℓ : Loc nD τ sig) → Buf (Elt Ideal) ℓ) (ρ : Dev nD → PrngReg)
variable (H : Tabs (teC m ρ 0) (ntC m ρ 0))

/-- The call's result is the reference's, at an index; -/
theorem final_at (ht : ∀ j, ((m (((0 : Dev nD) : Thread nD τ).loc main_arg0) : IVec S160 32) j).toNat < 32)
    (h0 : 0 < ((m (((0 : Dev nD) : Thread nD τ).loc main_arg1) : IVec S1 32) i1).toNat) (h1 : ((m (((0 : Dev nD) : Thread nD τ).loc main_arg1) : IVec S1 32) i1).toNat ≤ 160) (y : S5120x8x8x128.Idx) :
    (dats m ρ H 0 0).arrAt 3 (cfg0 (adm m ρ H 0)).N y
      = movedRows (Ref.kept (m (((0 : Dev nD) : Thread nD τ).loc main_arg0)) (m (((0 : Dev nD) : Thread nD τ).loc main_arg1)) (m (((0 : Dev nD) : Thread nD τ).loc main_arg2))
          (m (((0 : Dev nD) : Thread nD τ).loc main_arg3)) (m (((0 : Dev nD) : Thread nD τ).loc main_arg4))) y := by
  have q0 : (y 0).val < 5120 := (y 0).isLt
  have q1 : (y 1).val < 8 := (y 1).isLt
  have q2 : (y 2).val < 8 := (y 2).isLt
  have q3 : (y 3).val < 128 := (y 3).isLt
  have hn : ntC m ρ 0 = m (((0 : Dev nD) : Thread nD τ).loc main_arg1) := V_arg1 m ρ 0
  have hi : (ix1 0 : S1.Idx) = i1 := eq_i1 _
  have hrow : (rowOf y).val / 256 = (y 0).val / 32 := by
    show ((y 0).val * 8 + (y 2).val) / 256 = _
    omega
  rw [movedRows_apply, Ref.kept_apply _ _ (by rw [hi]; exact h1), hi, hrow]
  by_cases h : (y 0).val / 32 < ((m (((0 : Dev nD) : Thread nD τ).loc main_arg1) : IVec S1 32) i1).toNat
  · rw [if_pos h, final_in m ρ H 0 y (by rw [hn]; exact h)]
    have htl : tl m ρ (tpt y).val = (y 0).val / 32 := by
      show min ((y 0).val / 32) ((ntC m ρ 0 i1).toNat - 1) = _
      rw [hn]; omega
    have hE := ht (ValueIdx.ix1 (clampT (ntC m ρ 0) (gt (tpt y))))
    have hc : clampT (ntC m ρ 0) (clampT (ntC m ρ 0) (gt (tpt y))) = clampT (ntC m ρ 0) (gt (tpt y)) :=
      Fin.ext (by show min (min _ ((ntC m ρ 0 i1).toNat - 1)) ((ntC m ρ 0 i1).toNat - 1) = min _ ((ntC m ρ 0 i1).toNat - 1); omega)
    have hte : teC m ρ 0 (ValueIdx.ix1 (clampT (ntC m ρ 0) (gt (tpt y)))) = (m (((0 : Dev nD) : Thread nD τ).loc main_arg0) : IVec S160 32) (ValueIdx.ix1 (clampT (ntC m ρ 0) (gt (tpt y)))) := by
      rw [teC_eq, hn, teStep_apply h0 h1, ← hn, hc]
    have hidx : (ix1 ⟨(rowOf y).val / 256, by omega⟩ : S160.Idx) = ValueIdx.ix1 (clampT (ntC m ρ 0) (gt (tpt y))) := by
      rw [ix1_eq_valueIdx]
      exact congrArg ValueIdx.ix1 (Fin.ext (hrow.trans htl.symm))
    rw [Ref.ys_eq _ _ _ _ (rowOf y) (colOf y) ⟨_, hE⟩ (by rw [hidx])]
    have hcol : col (yin y) = ix3 ⟨(y 0).val % 32, Nat.mod_lt _ (by decide)⟩ ⟨(y 2).val, q2⟩ (colOf y) := by
      funext a
      match a with
      | ⟨0, _⟩ => rfl
      | ⟨1, _⟩ => rfl
      | ⟨2, _⟩ => rfl
    refine Eq.trans (b := result (F := Ideal) (blkX m ρ H 0 (tpt y)) (blkG m ρ H 0 (tpt y)) (blkD m ρ H 0 (tpt y)) (col (yin y))) rfl ?_
    rw [hcol, result_apply]
    have hX : ∀ d, blkX m ρ H 0 (tpt y) (atRow ⟨(y 0).val % 32 * 8 + (y 2).val, by omega⟩ d)
        = (m (((0 : Dev nD) : Thread nD τ).loc main_arg2) : S40960x1024.Idx → Ideal .f32) (ix2 (rowOf y) d) := fun d =>
      blkX_at m ρ H 0 (tpt y) _ d (rowOf y) (by
        rw [htl]
        show (y 0).val * 8 + (y 2).val = (y 0).val / 32 * 256 + ((y 0).val % 32 * 8 + (y 2).val)
        omega)
    have hG : ∀ d f, blkG m ρ H 0 (tpt y) (ix3 0 d f) = (m (((0 : Dev nD) : Thread nD τ).loc main_arg3) : S32x1024x512.Idx → Ideal .f32) (ix3 ⟨_, hE⟩ d f) := fun d f =>
      blkG_at m ρ H 0 (tpt y) ⟨_, hE⟩ (by rw [hte]) d f
    have hD : ∀ f d, blkD m ρ H 0 (tpt y) (ix3 0 f d) = (m (((0 : Dev nD) : Thread nD τ).loc main_arg4) : S32x256x1024.Idx → Ideal .f32) (ix3 ⟨_, hE⟩ f d) := fun f d =>
      blkD_at m ρ H 0 (tpt y) ⟨_, hE⟩ (by rw [hte]) f d
    refine Finset.sum_congr rfl fun f _ => congrArg₂ (· * ·) (congrArg₂ gated ?_ ?_) (hD f (colOf y))
    · exact Finset.sum_congr rfl fun d _ => congrArg₂ (· * ·) (hX d) (hG d _)
    · exact Finset.sum_congr rfl fun d _ => congrArg₂ (· * ·) (hX d) (hG d _)
  · rw [if_neg h, final_out m ρ H 0 y (by rw [hn]; exact h), show V m ρ 0 main_v14 = movedRows (m (((0 : Dev nD) : Thread nD τ).loc main_arg2)) from (V_def m ρ 0 main_v14).trans (after_v14 _)]
    exact movedRows_apply _ y
/-- the call's result is the reference's, moved to the call's layout. -/
theorem final_eq (ht : ∀ j, ((m (((0 : Dev nD) : Thread nD τ).loc main_arg0) : IVec S160 32) j).toNat < 32)
    (h0 : 0 < ((m (((0 : Dev nD) : Thread nD τ).loc main_arg1) : IVec S1 32) i1).toNat) (h1 : ((m (((0 : Dev nD) : Thread nD τ).loc main_arg1) : IVec S1 32) i1).toNat ≤ 160) :
    (dats m ρ H 0 0).arrAt 3 (cfg0 (adm m ρ H 0)).N
      = movedRows (Ref.kept (m (((0 : Dev nD) : Thread nD τ).loc main_arg0)) (m (((0 : Dev nD) : Thread nD τ).loc main_arg1)) (m (((0 : Dev nD) : Thread nD τ).loc main_arg2))
          (m (((0 : Dev nD) : Thread nD τ).loc main_arg3)) (m (((0 : Dev nD) : Thread nD τ).loc main_arg4))) :=
  funext fun y => final_at m ρ H ht h0 h1 y

end

end Cert.Proof.Experts

end
-- ==== Proof.ExpertsSame.lean ====
/-
  The experts' program at the machine's numbers and over any numbers is one text, as `Same` says of the dispatch's.
-/
module

public import proofs.«01_k».proof.Proof.Gen.Kernel2
public import proofs.«01_k».proof.Proof.Gen.Kernel2Ideal
public import proofs.«01_k».proof.Proof.Same

@[expose] public section

namespace Cert.Proof.Experts

open Idealize.ShloMosaic Idealize.SL.Sem

variable [Cert.Kernel2.Facts] [Cert.Kernel2Ideal.Facts] {F : FTy → Type} [FloatOps F]

set_option maxHeartbeats 2000000 in
/-- The two bodies are one function. -/
theorem body_same : @Cert.Kernel2.cc0_moe_experts F _ _ = @Cert.Kernel2Ideal.cc0_moe_experts F _ _ := rfl

/-- The two tables of bodies are one table. -/
theorem defs0_same : Cert.Kernel2.defs₀ (F := F) = Cert.Kernel2Ideal.defs₀ (F := F) := by
  unfold Cert.Kernel2.defs₀ Cert.Kernel2Ideal.defs₀
  refine congrArg (Defs.onTc (Λ := Cert.Kernel2.Λ₀)) ?_
  funext l x
  match l, x with
  | 0, (t, s) => rw [body_same]; rfl
  | ⟨_ + 1, h⟩, _ => exact absurd h (Nat.not_lt.2 (Nat.le_add_left _ _))

set_option maxHeartbeats 2000000 in
/-- The two tables with the pipeline added are one table. -/
theorem defs_same : Cert.Kernel2.defs (F := F) = Cert.Kernel2Ideal.defs (F := F) :=
  congrArg (Pipeline.defs (Cert.Kernel2.pcfgs (F := F))) defs0_same

set_option maxHeartbeats 2000000 in
/-- The two host programs are one program. -/
theorem main_same : Cert.Kernel2.main (F := F) = Cert.Kernel2Ideal.main (F := F) := rfl

end Cert.Proof.Experts
-- ==== Proof.ExpertsClaims.lean ====
/-
  The claims of the experts' call: its run and its result, from the precondition.
-/
module

public import proofs.«01_k».proof.Defs
public import proofs.«01_k».proof.Proof.ExpertsValue
public import proofs.«01_k».proof.Proof.ExpertsSame
public import proofs.«01_k».proof.Proof.Gen.Reference2Ideal.Run
public import Idealize.ShloMosaic.Adequacy
public import Idealize.ShloMosaic.Init

@[expose] public section

noncomputable section

namespace Cert.Proof.Experts

open Idealize.ShloMosaic Idealize.ShloMosaic.TcCoe Idealize.SL.Sem Idealize.ShloMosaic.StableHlo

section
open Cert.Kernel2Ideal Cert.Kernel2Ideal.Gen

variable {F : FTy → Type} [FloatOps F]
variable (m : (ℓ : Loc nD τ sig) → Buf (Elt F) ℓ) (ρ : Dev nD → PrngReg)

/-- What the precondition says of the launch memory. -/
def Pre (m : (ℓ : Loc nD τ sig) → Buf (Elt F) ℓ) : Prop :=
  ∀ c : Dev nD, Cert.Pre_routed.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1

theorem Pre.tabs {m : (ℓ : Loc nD τ sig) → Buf (Elt F) ℓ} (h : Pre m) : Tabs (teC m ρ 0) (ntC m ρ 0) :=
  have q := routed_of (h 0)
  tabs_ok m ρ q.1 q.2.1 q.2.2

/-- The frame's conjuncts. -/
theorem frame_main (h : Pre m) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ q => ⟨fun c => (q.1 c).1, q.2⟩) (run_main m ρ (h.tabs ρ))

end

/-- The reference's result, from its arguments. -/
abbrev refOut (te : IVec Cert.Kernel2Ideal.S160 32) (nt : IVec Cert.Kernel2Ideal.S1 32) (x : FVec Ideal Cert.Kernel2Ideal.S40960x1024 .f32)
    (G : FVec Ideal Cert.Kernel2Ideal.S32x1024x512 .f32) (D : FVec Ideal Cert.Kernel2Ideal.S32x256x1024 .f32) : FVec Ideal Cert.Kernel2Ideal.S5120x8x8x128 .f32 :=
  movedRows (Ref.kept te nt x G D)

section
open Cert.Kernel2Ideal Cert.Kernel2Ideal.Gen

variable (m : (ℓ : Loc nD τ sig) → Buf (Elt Ideal) ℓ) (ρ : Dev nD → PrngReg)

/-- The result over the extended reals: the reference's. -/
theorem value_main (h : Pre m) :
    θ_run defs (onTc (τ := τ) (main (F := Ideal))) ⟨m, fun _ => 0, ρ⟩ (fun r => ∀ c : Dev nD,
      r.2.mem ((c : Thread nD τ).loc main_v14) = refOut (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  have q := routed_of (h 0)
  refine (θ_run defs _ _).mono (fun r hr c => ⟨?_, (hr.1 c).1⟩) (run_main m ρ (h.tabs ρ))
  have e := (hr.1 c).2
  obtain rfl : c = 0 := Subsingleton.elim _ _
  exact e.trans (final_eq m ρ (h.tabs ρ) q.1 q.2.1 q.2.2)

end

theorem refOut_congr {te te' : IVec Cert.Kernel2Ideal.S160 32} {nt nt' : IVec Cert.Kernel2Ideal.S1 32} {x x' : FVec Ideal Cert.Kernel2Ideal.S40960x1024 .f32}
    {G G' : FVec Ideal Cert.Kernel2Ideal.S32x1024x512 .f32} {D D' : FVec Ideal Cert.Kernel2Ideal.S32x256x1024 .f32}
    (e0 : te = te') (e1 : nt = nt') (e2 : x = x') (e3 : G = G') (e4 : D = D') : refOut te nt x G D = refOut te' nt' x' G' D' := by
  rw [e0, e1, e2, e3, e4]

/-! ## The claims -/

set_option maxHeartbeats 6000000 in
theorem frame_p : Cert.quiescent_Kernel2 := fun m ρ h =>
  Dispatch.run_congr defs_same main_same _ _ ((θ_run Cert.Kernel2Ideal.defs _ _).mono (fun _ h => h) (frame_main (F := Bits) m ρ h))

theorem frame_pi : Cert.quiescent_Kernel2Ideal := fun m ρ h => frame_main (F := Ideal) m ρ h

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ri_routed : Cert.quiescent_Reference2Ideal_pre_routed := fun m ρ _ => frame_ri m ρ trivial

theorem algebraic : Cert.algebraic_Kernel2Ideal_Reference2Ideal := by
  intro m ρ m' ρ' hpre hag
  refine ⟨fun c => refOut (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4)), value_main m ρ hpre, ?_⟩
  refine (θ_run Cert.Reference2Ideal.defs _ _).mono (fun r h c => ⟨?_, (h c).2⟩) (Cert.Reference2Ideal.Value.run (F := Ideal) m' ρ')
  obtain ⟨e0, e1, e2, e3, e4⟩ := hag c
  exact (h c).1.trans (refOut_congr e0 e1 e2 e3 e4)

end Cert.Proof.Experts

end
-- ==== Proof.ProjTile.lean ====
/-
  The projection's kernel at one grid point, over the extended reals: each of its stores is a product of the point's rows
  and some of the weights' columns, so what it leaves is the product with all of them.
-/
module

public import proofs.«01_k».proof.Proof.Gen.Kernel3Ideal.Value
public import Idealize.ShloMosaic.Lib.Pointwise

@[expose] public section

noncomputable section

namespace Cert.Proof.Proj

open Cert.Kernel3Ideal Cert.Kernel3Ideal.Gen

open Idealize.ShloMosaic Idealize.ShloMosaic.Pointwise

variable (x : Vec Ideal S512x1024 .f32) (W : Vec Ideal S1024x5632 .bf16) (A : Vec Ideal S2x1024x16 .bf16) (B : Vec Ideal S2x16x1024 .bf16)

/-! ## The wide result -/

/-- A row of the point's by a column of the weights. -/
def wide (y : S512x5632.Idx) : EReal := ∑ d : Fin 1024, (x (ix2 (y 0) d) : EReal) * (W (ix2 d (y 1)) : EReal)

theorem pay_apply (w : Vec Ideal S1024x512 .bf16) (r : Fin 512) (f : Fin 512) :
    k0_pay8 (F := Ideal) (k0_pay2 (F := Ideal) x) w (ix2 r f) = (∑ d : Fin 1024, (x (ix2 r d) : EReal) * (w (ix2 d f) : EReal) : EReal) := by
  pointwise [k0_pay8, k0_pay2]

/-- The store at columns `o` to `o + 511`. -/
theorem piece (o : ℕ) (h : ∀ a, (![0, o] : Fin 2 → ℕ) a + S1024x512.size a ≤ S1024x5632.size a) (h' : ∀ a, (![0, o] : Fin 2 → ℕ) a + S512x512.size a ≤ S512x5632.size a) (z : S512x512.Idx) :
    k0_pay8 (F := Ideal) (k0_pay2 (F := Ideal) x) (View.ld W (Rect.unit (s := S1024x5632) ![0, o] S1024x512.size h)) z = wide x W ((Rect.unit (s := S512x5632) ![0, o] S512x512.size h').emb z) := by
  have ez : z = ix2 (z 0) (z 1) := funext fun a => by
    match a with
    | ⟨0, _⟩ => rfl
    | ⟨1, _⟩ => rfl
  refine (congrArg _ ez).trans ((pay_apply x _ (z 0) (z 1)).trans ?_)
  refine Finset.sum_congr rfl fun d _ => congrArg₂ (· * ·) (congrArg x ?_) (congrArg W ?_)
  all_goals
    funext a
    refine Fin.ext ?_
    match a with
    | ⟨0, _⟩ => first | rfl | (show 0 + 1 * d.val = d.val; omega) | (show (z 0).val = 0 + 1 * (z 0).val; omega)
    | ⟨1, _⟩ => rfl

theorem rows_eq : k0_pay19 (F := Ideal) x W A B = k0_pay2 (F := Ideal) x := by
  exact congrArg (k0_pay2 (F := Ideal)) (View.ld_unit_zero (funext fun a => by match a with | ⟨0, _⟩ => rfl | ⟨1, _⟩ => rfl) _ x)

theorem ld_rows : View.ld x r0_0 = x :=
  View.ld_unit_zero (funext fun a => by match a with | ⟨0, _⟩ => rfl | ⟨1, _⟩ => rfl) _ x

theorem out4 : out0_4 (F := Ideal) x W A B = wide x W := by
  funext y
  unfold out0_4
  rw [rows_eq, ld_rows]
  refine View.canon_apply_of_pieces (Val := Elt Ideal) (wide x W) _ ?_ y (cover0_4 ..)
  intro p hp
  simp only [List.mem_cons, List.not_mem_nil, or_false] at hp
  rcases hp with rfl | rfl | rfl | rfl | rfl | rfl | rfl | rfl | rfl | rfl | rfl
  all_goals exact fun z => piece x W _ _ (by decide) z

/-! ## The gates' columns, by head group -/

/-- A row of the point's by a column of a head group's weights, -/
def narrow (y : S2x512x16.Idx) : EReal := ∑ d : Fin 1024, (x (ix2 (y 1) d) : EReal) * (A (ix3 (y 0) d (y 2)) : EReal)

/-- and with the two exchanged. -/
def flipped (y : S2x16x512.Idx) : EReal := ∑ d : Fin 1024, (B (ix3 (y 0) (y 1) d) : EReal) * (x (ix2 (y 2) d) : EReal)

theorem pay_narrow (w : Vec Ideal S1x1024x16 .bf16) (r : Fin 512) (f : Fin 16) :
    k0_pay15 (F := Ideal) (k0_pay2 (F := Ideal) x) w (ix3 0 r f) = (∑ d : Fin 1024, (x (ix2 r d) : EReal) * (w (ix3 0 d f) : EReal) : EReal) := by
  pointwise [k0_pay15, k0_pay2]

theorem pay_flipped (w : Vec Ideal S1x16x1024 .bf16) (f : Fin 16) (r : Fin 512) :
    k0_pay16 (F := Ideal) (k0_pay2 (F := Ideal) x) w (ix3 0 f r) = (∑ d : Fin 1024, (w (ix3 0 f d) : EReal) * (x (ix2 r d) : EReal) : EReal) := by
  pointwise [k0_pay16, k0_pay2]

theorem piece_narrow (o : ℕ) (h : ∀ a, (![o, 0, 0] : Fin 3 → ℕ) a + S1x1024x16.size a ≤ S2x1024x16.size a) (h' : ∀ a, (![o, 0, 0] : Fin 3 → ℕ) a + S1x512x16.size a ≤ S2x512x16.size a) (z : S1x512x16.Idx) :
    k0_pay15 (F := Ideal) (k0_pay2 (F := Ideal) x) (View.ld A (Rect.unit (s := S2x1024x16) ![o, 0, 0] S1x1024x16.size h)) z = narrow x A ((Rect.unit (s := S2x512x16) ![o, 0, 0] S1x512x16.size h').emb z) := by
  have hz : (z 0).val = 0 := by have : (z 0).val < 1 := (z 0).isLt; omega
  have ez : z = ix3 0 (z 1) (z 2) := funext fun a => by
    match a with
    | ⟨0, _⟩ => exact Fin.ext hz
    | ⟨1, _⟩ => rfl
    | ⟨2, _⟩ => rfl
  refine (congrArg _ ez).trans ((pay_narrow x _ (z 1) (z 2)).trans ?_)
  refine Finset.sum_congr rfl fun d _ => congrArg₂ (· * ·) (congrArg x ?_) (congrArg A ?_)
  · funext a
    refine Fin.ext ?_
    match a with
    | ⟨0, _⟩ => show (z 1).val = 0 + 1 * (z 1).val; omega
    | ⟨1, _⟩ => rfl
  · funext a
    refine Fin.ext ?_
    match a with
    | ⟨0, _⟩ => show o + 1 * 0 = o + 1 * (z 0).val; rw [hz]
    | ⟨1, _⟩ => show 0 + 1 * d.val = d.val; omega
    | ⟨2, _⟩ => rfl

theorem piece_flipped (o : ℕ) (h : ∀ a, (![o, 0, 0] : Fin 3 → ℕ) a + S1x16x1024.size a ≤ S2x16x1024.size a) (h' : ∀ a, (![o, 0, 0] : Fin 3 → ℕ) a + S1x16x512.size a ≤ S2x16x512.size a) (z : S1x16x512.Idx) :
    k0_pay16 (F := Ideal) (k0_pay2 (F := Ideal) x) (View.ld B (Rect.unit (s := S2x16x1024) ![o, 0, 0] S1x16x1024.size h)) z = flipped x B ((Rect.unit (s := S2x16x512) ![o, 0, 0] S1x16x512.size h').emb z) := by
  have hz : (z 0).val = 0 := by have : (z 0).val < 1 := (z 0).isLt; omega
  have ez : z = ix3 0 (z 1) (z 2) := funext fun a => by
    match a with
    | ⟨0, _⟩ => exact Fin.ext hz
    | ⟨1, _⟩ => rfl
    | ⟨2, _⟩ => rfl
  refine (congrArg _ ez).trans ((pay_flipped x _ (z 1) (z 2)).trans ?_)
  refine Finset.sum_congr rfl fun d _ => congrArg₂ (· * ·) (congrArg B ?_) (congrArg x ?_)
  · funext a
    refine Fin.ext ?_
    match a with
    | ⟨0, _⟩ => show o + 1 * 0 = o + 1 * (z 0).val; rw [hz]
    | ⟨1, _⟩ => rfl
    | ⟨2, _⟩ => show 0 + 1 * d.val = d.val; omega
  · funext a
    refine Fin.ext ?_
    match a with
    | ⟨0, _⟩ => show (z 2).val = 0 + 1 * (z 2).val; omega
    | ⟨1, _⟩ => rfl

theorem out5 : out0_5 (F := Ideal) x W A B = narrow x A := by
  funext y
  unfold out0_5
  rw [rows_eq]
  refine View.canon_apply_of_pieces (Val := Elt Ideal) (narrow x A) _ ?_ y (cover0_5 ..)
  intro p hp
  simp only [List.mem_cons, List.not_mem_nil, or_false] at hp
  rcases hp with rfl | rfl
  all_goals exact fun z => piece_narrow x A _ _ (by decide) z

theorem out6 : out0_6 (F := Ideal) x W A B = flipped x B := by
  funext y
  unfold out0_6
  rw [rows_eq]
  refine View.canon_apply_of_pieces (Val := Elt Ideal) (flipped x B) _ ?_ y (cover0_6 ..)
  intro p hp
  simp only [List.mem_cons, List.not_mem_nil, or_false] at hp
  rcases hp with rfl | rfl
  all_goals exact fun z => piece_flipped x B _ _ (by decide) z

end Cert.Proof.Proj

end
-- ==== Proof.ProjLayout.lean ====
/-
  Where the projection's columns go: the merge's columns before the activations', and the gates' columns gathered by head
  group. Stated for an array of any number of rows, since the call gathers the weights and the reference the product.
-/
module

public import Idealize.ShloMosaic.Lib.Pipeline.Value
public import Idealize.ShloMosaic.Lib.Pointwise

@[expose] public section

noncomputable section

namespace Cert.Proof.Proj

open Idealize.ShloMosaic Idealize.ShloMosaic.Pointwise

/-- The projection's column behind a column of the wide result, -/
abbrev wideCol (f : Fin 5632) : Fin 5664 := ⟨if f.val < 2048 then 3616 + f.val else f.val - 2048, by
  have := f.isLt
  split <;> omega⟩

/-- and behind a head group's gate. -/
abbrev gateCol (h : Fin 2) (k : Fin 16) : Fin 5664 := ⟨3584 + (8 * (k.val / 4) + 4 * h.val + k.val % 4), by
  have := h.isLt
  have := k.isLt
  omega⟩

variable {α : Type} {n : ℕ} (x : (⟨2, ![n, 5664]⟩ : Shape).Idx → α)

theorem wide_apply (h₁ : (⟨2, ![n, 5664]⟩ : Shape).Slices ![0, 3616] ⟨2, ![n, 2048]⟩) (h₂ : (⟨2, ![n, 5664]⟩ : Shape).Slices ![0, 0] ⟨2, ![n, 3584]⟩)
    (h : Shape.Concatenates [⟨2, ![n, 2048]⟩, ⟨2, ![n, 3584]⟩] ⟨2, ![n, 5632]⟩ 1) (r : Fin n) (f : Fin 5632) :
    concatenate (⟨2, ![n, 5632]⟩ : Shape) 1 [⟨⟨2, ![n, 2048]⟩, extractStridedSlice ⟨2, ![n, 2048]⟩ ![0, 3616] x h₁⟩,
      ⟨⟨2, ![n, 3584]⟩, extractStridedSlice ⟨2, ![n, 3584]⟩ ![0, 0] x h₂⟩] h (ix2 r f) = x (ix2 r (wideCol f)) := by
  by_cases hf : f.val < 2048
  · refine (concatenate_pair_apply_left 1 _ _ h (ix2 r f) rfl (ix2 r (⟨f.val, hf⟩ : Fin 2048)) fun b => ?_).trans ?_
    · match b with
      | ⟨0, _⟩ => rfl
      | ⟨1, _⟩ => rfl
    · refine extractStridedSlice_apply _ _ _ _ _ fun a => ?_
      match a with
      | ⟨0, _⟩ => exact (Nat.zero_add _).symm
      | ⟨1, _⟩ =>
        show (if f.val < 2048 then 3616 + f.val else f.val - 2048) = 3616 + f.val
        rw [if_pos hf]
  · obtain ⟨g, hg⟩ : ∃ g : Fin 3584, g.val + 2048 = f.val := ⟨⟨f.val - 2048, by have := f.isLt; omega⟩, by show f.val - 2048 + 2048 = f.val; omega⟩
    refine (concatenate_pair_apply_right 1 _ _ h (ix2 r f) rfl rfl (ix2 r g) (fun b hb => ?_) hg).trans ?_
    · match b, hb with
      | ⟨0, _⟩, _ => rfl
      | ⟨1, _⟩, hb => exact absurd rfl hb
    · refine extractStridedSlice_apply _ _ _ _ _ fun a => ?_
      match a with
      | ⟨0, _⟩ => exact (Nat.zero_add _).symm
      | ⟨1, _⟩ =>
        show (if f.val < 2048 then 3616 + f.val else f.val - 2048) = 0 + g.val
        rw [if_neg hf]
        omega

section
variable (hs : (⟨2, ![n, 5664]⟩ : Shape).Slices ![0, 3584] ⟨2, ![n, 32]⟩) (hc : (⟨2, ![n, 32]⟩ : Shape).ShapeCasts ⟨4, ![n, 4, 2, 4]⟩)

/-- The gates' columns, four to a group of two head groups. -/
theorem four_apply (r : Fin n) (a : Fin 4) (h : Fin 2) (b : Fin 4) (k : Fin 16) (hk : k.val = 4 * a.val + b.val) :
    shapeCast ⟨4, ![n, 4, 2, 4]⟩ (extractStridedSlice ⟨2, ![n, 32]⟩ ![0, 3584] x hs) hc (ix4 r a h b) = x (ix2 r (gateCol h k)) := by
  have ha := a.isLt
  have hh := h.isLt
  have hb := b.isLt
  refine (shapeCast_apply _ hc (ix4 r a h b) (ix2 r (⟨8 * a.val + 4 * h.val + b.val, by omega⟩ : Fin 32)) ?_).trans ?_
  · rw [Shape.rowMajor_val_two, Shape.rowMajor_val_four]
    show r.val * 32 + (8 * a.val + 4 * h.val + b.val) = ((r.val * 4 + a.val) * 2 + h.val) * 4 + b.val
    omega
  · refine extractStridedSlice_apply _ _ _ _ _ fun c => ?_
    match c with
    | ⟨0, _⟩ => exact (Nat.zero_add _).symm
    | ⟨1, _⟩ =>
      show 3584 + (8 * (k.val / 4) + 4 * h.val + k.val % 4) = 3584 + (8 * a.val + 4 * h.val + b.val)
      omega

/-- Head group, row, gate. -/
theorem narrow_apply (ht : (⟨4, ![n, 4, 2, 4]⟩ : Shape).Transposes [2, 0, 1, 3] ⟨4, ![2, n, 4, 4]⟩) (hc' : (⟨4, ![2, n, 4, 4]⟩ : Shape).ShapeCasts ⟨3, ![2, n, 16]⟩)
    (h : Fin 2) (r : Fin n) (k : Fin 16) :
    shapeCast ⟨3, ![2, n, 16]⟩ (transpose ⟨4, ![2, n, 4, 4]⟩ [2, 0, 1, 3] (shapeCast ⟨4, ![n, 4, 2, 4]⟩ (extractStridedSlice ⟨2, ![n, 32]⟩ ![0, 3584] x hs) hc) ht) hc' (ix3 h r k)
      = x (ix2 r (gateCol h k)) := by
  have hk := k.isLt
  refine (shapeCast_apply _ hc' (ix3 h r k) (ix4 h r (⟨k.val / 4, by omega⟩ : Fin 4) (⟨k.val % 4, by omega⟩ : Fin 4)) ?_).trans ?_
  · rw [Shape.rowMajor_val_three, Shape.rowMajor_val_four]
    show ((h.val * n + r.val) * 4 + k.val / 4) * 4 + k.val % 4 = (h.val * n + r.val) * 16 + k.val
    omega
  · refine (transpose_apply _ _ ht _ (ix4 r (⟨k.val / 4, by omega⟩ : Fin 4) h (⟨k.val % 4, by omega⟩ : Fin 4)) fun b => ?_).trans ?_
    · match b with
      | ⟨0, _⟩ => rfl
      | ⟨1, _⟩ => rfl
      | ⟨2, _⟩ => rfl
      | ⟨3, _⟩ => rfl
    · exact four_apply x hs hc r _ h _ k (by show k.val = 4 * (k.val / 4) + k.val % 4; omega)

/-- Head group, gate, row. -/
theorem flipped_apply (ht : (⟨4, ![n, 4, 2, 4]⟩ : Shape).Transposes [2, 1, 3, 0] ⟨4, ![2, 4, 4, n]⟩) (hc' : (⟨4, ![2, 4, 4, n]⟩ : Shape).ShapeCasts ⟨3, ![2, 16, n]⟩)
    (h : Fin 2) (k : Fin 16) (r : Fin n) :
    shapeCast ⟨3, ![2, 16, n]⟩ (transpose ⟨4, ![2, 4, 4, n]⟩ [2, 1, 3, 0] (shapeCast ⟨4, ![n, 4, 2, 4]⟩ (extractStridedSlice ⟨2, ![n, 32]⟩ ![0, 3584] x hs) hc) ht) hc' (ix3 h k r)
      = x (ix2 r (gateCol h k)) := by
  have hk := k.isLt
  refine (shapeCast_apply _ hc' (ix3 h k r) (ix4 h (⟨k.val / 4, by omega⟩ : Fin 4) (⟨k.val % 4, by omega⟩ : Fin 4) r) ?_).trans ?_
  · rw [Shape.rowMajor_val_three, Shape.rowMajor_val_four]
    show ((h.val * 4 + k.val / 4) * 4 + k.val % 4) * n + r.val = (h.val * 16 + k.val) * n + r.val
    rw [show (h.val * 4 + k.val / 4) * 4 + k.val % 4 = h.val * 16 + k.val by omega]
  · refine (transpose_apply _ _ ht _ (ix4 r (⟨k.val / 4, by omega⟩ : Fin 4) h (⟨k.val % 4, by omega⟩ : Fin 4)) fun b => ?_).trans ?_
    · match b with
      | ⟨0, _⟩ => rfl
      | ⟨1, _⟩ => rfl
      | ⟨2, _⟩ => rfl
      | ⟨3, _⟩ => rfl
    · exact four_apply x hs hc r _ h _ k (by show k.val = 4 * (k.val / 4) + k.val % 4; omega)

end

/-! ## The product -/

/-- A token's row by a column of the weights. -/
def prod (x : (⟨3, ![8, 2048, 1024]⟩ : Shape).Idx → EReal) (w : (⟨2, ![1024, 5664]⟩ : Shape).Idx → EReal) (r : Fin 16384) (j : Fin 5664) : EReal :=
  ∑ d : Fin 1024, x (ix3 (⟨r.val / 2048, by have := r.isLt; omega⟩ : Fin 8) (⟨r.val % 2048, Nat.mod_lt _ (by decide)⟩ : Fin 2048) d) * w (ix2 d j)

/-- A batch's rows one after another. -/
theorem rows_apply {l : ℕ} (x : (⟨3, ![8, 2048, l]⟩ : Shape).Idx → α) (h : (⟨3, ![8, 2048, l]⟩ : Shape).ShapeCasts ⟨2, ![16384, l]⟩) (r : Fin 16384) (d : Fin l) :
    shapeCast ⟨2, ![16384, l]⟩ x h (ix2 r d) = x (ix3 (⟨r.val / 2048, by have := r.isLt; omega⟩ : Fin 8) (⟨r.val % 2048, Nat.mod_lt _ (by decide)⟩ : Fin 2048) d) := by
  refine shapeCast_apply _ h _ _ ?_
  rw [Shape.rowMajor_val_two, Shape.rowMajor_val_three]
  show (r.val / 2048 * 2048 + r.val % 2048) * l + d.val = r.val * l + d.val
  rw [Nat.div_add_mod']

end Cert.Proof.Proj

end
-- ==== Proof.ProjValue.lean ====
/-
  The projection's call and its reference compute the same arrays over the extended reals: a point's rows are the tokens'
  rows it is given, its weights are the columns the host gathered, so each point leaves its part of the product.
-/
module

public import proofs.«01_k».proof.Proof.ProjTile
public import proofs.«01_k».proof.Proof.ProjLayout
public import Idealize.ShloMosaic.Lib.Pipeline.ValueKit.Geometry

@[expose] public section

noncomputable section

namespace Cert.Proof.Proj

open Cert.Kernel3Ideal Cert.Kernel3Ideal.Gen

open Idealize.ShloMosaic Idealize.ShloMosaic.Pointwise
open Idealize.ShloMosaic.TcCoe

/-! ## What the host hands the call -/

section
variable (U : Valuation τ sig (Elt Ideal))
open StableHlo

theorem after_v0 : after hostOps0 U main_v0 = shapeCast S16384x1024 (U main_arg0) Facts₀.shapeCasts_S8x2048x1024_S16384x1024 := by
  after_results <;> rfl

theorem after_v4 : after hostOps0 U main_v4 = truncf (F := Ideal) (s := S1024x5632) (φ := .f32) .bf16 (concatenate S1024x5632 1
    [⟨S1024x2048, extractStridedSlice S1024x2048 ![0, 3616] (U main_arg1) Facts₀.slices_S1024x5664_S1024x2048_0_3616⟩,
      ⟨S1024x3584, extractStridedSlice S1024x3584 ![0, 0] (U main_arg1) Facts₀.slices_S1024x5664_S1024x3584_0_0⟩]
      Facts₀.concatenates_S1024x2048_S1024x3584_S1024x5632_d1) Facts₀.bitsLt_bf16_f32 := by
  after_results <;> rfl

/-- The gates' columns of the weights, by head group. -/
def gathered (w : FVec Ideal S1024x5664 .f32) : FVec Ideal S2x1024x16 .f32 :=
  shapeCast S2x1024x16 (transpose S2x1024x4x4 [2, 0, 1, 3] (shapeCast S1024x4x2x4 (extractStridedSlice S1024x32 ![0, 3584] w Facts₀.slices_S1024x5664_S1024x32_0_3584)
    Facts₀.shapeCasts_S1024x32_S1024x4x2x4) Facts₀.transposes_S1024x4x2x4_S2x1024x4x4_2_0_1_3) Facts₀.shapeCasts_S2x1024x4x4_S2x1024x16

theorem after_v9 : after hostOps0 U main_v9 = truncf .bf16 (gathered (U main_arg1)) Facts₀.bitsLt_bf16_f32 := by
  after_results <;> rfl

theorem after_v10 : after hostOps0 U main_v10 = transpose S2x16x1024 [0, 2, 1] (truncf .bf16 (gathered (U main_arg1)) Facts₀.bitsLt_bf16_f32) Facts₀.transposes_S2x1024x16_S2x16x1024_0_2_1 := by
  after_results <;> rfl

end

theorem gathered_apply (w : FVec Ideal S1024x5664 .f32) (h : Fin 2) (d : Fin 1024) (k : Fin 16) : gathered w (ix3 h d k) = w (ix2 d (gateCol h k)) :=
  narrow_apply w _ _ _ _ h d k

variable (m : (ℓ : Loc nD τ sig) → Buf (Elt Ideal) ℓ) (c : Dev nD)

/-- The layer's input, -/
abbrev inX : S8x2048x1024.Idx → EReal := m ((c : Thread nD τ).loc main_arg0)

/-- the projection's weights. -/
abbrev inW : S1024x5664.Idx → EReal := m ((c : Thread nD τ).loc main_arg1)

/-! ## A point's blocks -/

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, t.val, 0] := (by decide +kernel : ∀ t : Fin grid0.N, win0_5.index t = ![0, t.val, 0])
theorem idx6 : ∀ t : Fin cfg0.N, win0_6.index t = ![0, 0, t.val] := (by decide +kernel : ∀ t : Fin grid0.N, win0_6.index t = ![0, 0, t.val])

/-- A point's rows, -/
abbrev bX (t : Fin cfg0.N) : Vec Ideal S512x1024 .f32 := iblk m c 0 t
/-- its wide weights, -/
abbrev bW (t : Fin cfg0.N) : Vec Ideal S1024x5632 .bf16 := iblk m c 1 t
/-- its gates' weights, -/
abbrev bA (t : Fin cfg0.N) : Vec Ideal S2x1024x16 .bf16 := iblk m c 2 t
/-- and the same turned. -/
abbrev bB (t : Fin cfg0.N) : Vec Ideal S2x16x1024 .bf16 := iblk m c 3 t

theorem bX_at (t : Fin cfg0.N) (r : Fin 512) (d : Fin 1024) (q : Fin 16384) (hq : q.val = t.val * 512 + r.val) :
    (bX m c t (ix2 r d) : EReal) = inX m c (ix3 (⟨q.val / 2048, by have := q.isLt; omega⟩ : Fin 8) (⟨q.val % 2048, Nat.mod_lt _ (by decide)⟩ : Fin 2048) d) := by
  have e : ∀ a : Fin 2, (((win0_0.rect t).emb (ix2 r d) a : Fin _) : ℕ) = (![t.val, 0] : Fin 2 → ℕ) a * S512x1024.size a + ((ix2 r d : S512x1024.Idx) a).val := fun a => by
    have e := Pipeline.Window.rect_emb_val win0_0 t (ix2 r d) a
    rw [idx0] at e
    exact e
  refine Eq.trans (b := V m c main_v0 ((win0_0.rect t).emb (ix2 r d))) rfl ?_
  rw [show V m c main_v0 = _ from after_v0 _]
  refine Eq.trans (congrArg _ (?_ : ((win0_0.rect t).emb (ix2 r d) : S16384x1024.Idx) = ix2 q d)) (rows_apply (inX m c) _ q d)
  funext b
  refine Fin.ext ((e b).trans ?_)
  match b with
  | ⟨0, _⟩ => exact hq.symm
  | ⟨1, _⟩ => show 0 * 1024 + d.val = d.val; omega

theorem bW_at (t : Fin cfg0.N) (d : Fin 1024) (f : Fin 5632) : (bW m c t (ix2 d f) : EReal) = inW m c (ix2 d (wideCol f)) := by
  have e : ∀ a : Fin 2, (((win0_1.rect t).emb (ix2 d f) a : Fin _) : ℕ) = (![0, 0] : Fin 2 → ℕ) a * S1024x5632.size a + ((ix2 d f : S1024x5632.Idx) a).val := fun a => by
    have e := Pipeline.Window.rect_emb_val win0_1 t (ix2 d f) a
    rw [idx1] at e
    exact e
  refine Eq.trans (b := V m c main_v4 ((win0_1.rect t).emb (ix2 d f))) rfl ?_
  rw [show V m c main_v4 = _ from after_v4 _]
  refine Eq.trans (congrArg _ (?_ : ((win0_1.rect t).emb (ix2 d f) : S1024x5632.Idx) = ix2 d f)) (wide_apply (inW m c) Facts₀.slices_S1024x5664_S1024x2048_0_3616 Facts₀.slices_S1024x5664_S1024x3584_0_0 Facts₀.concatenates_S1024x2048_S1024x3584_S1024x5632_d1 d f)
  funext b
  refine Fin.ext ((e b).trans ?_)
  match b with
  | ⟨0, _⟩ => show 0 * 1024 + d.val = d.val; omega
  | ⟨1, _⟩ => show 0 * 5632 + f.val = f.val; omega

theorem bA_at (t : Fin cfg0.N) (h : Fin 2) (d : Fin 1024) (k : Fin 16) : (bA m c t (ix3 h d k) : EReal) = inW m c (ix2 d (gateCol h k)) := by
  have e : ∀ a : Fin 3, (((win0_2.rect t).emb (ix3 h d k) a : Fin _) : ℕ) = (![0, 0, 0] : Fin 3 → ℕ) a * S2x1024x16.size a + ((ix3 h d k : S2x1024x16.Idx) a).val := fun a => by
    have e := Pipeline.Window.rect_emb_val win0_2 t (ix3 h d k) a
    rw [idx2] at e
    exact e
  refine Eq.trans (b := V m c main_v9 ((win0_2.rect t).emb (ix3 h d k))) rfl ?_
  rw [show V m c main_v9 = _ from after_v9 _]
  refine Eq.trans (congrArg _ (?_ : ((win0_2.rect t).emb (ix3 h d k) : S2x1024x16.Idx) = ix3 h d k)) (gathered_apply (inW m c) h d k)
  funext b
  refine Fin.ext ((e b).trans ?_)
  match b with
  | ⟨0, _⟩ => show 0 * 2 + h.val = h.val; omega
  | ⟨1, _⟩ => show 0 * 1024 + d.val = d.val; omega
  | ⟨2, _⟩ => show 0 * 16 + k.val = k.val; omega

theorem bB_at (t : Fin cfg0.N) (h : Fin 2) (k : Fin 16) (d : Fin 1024) : (bB m c t (ix3 h k d) : EReal) = inW m c (ix2 d (gateCol h k)) := by
  have e : ∀ a : Fin 3, (((win0_3.rect t).emb (ix3 h k d) a : Fin _) : ℕ) = (![0, 0, 0] : Fin 3 → ℕ) a * S2x16x1024.size a + ((ix3 h k d : S2x16x1024.Idx) a).val := fun a => by
    have e := Pipeline.Window.rect_emb_val win0_3 t (ix3 h k d) a
    rw [idx3] at e
    exact e
  refine Eq.trans (b := V m c main_v10 ((win0_3.rect t).emb (ix3 h k d))) rfl ?_
  rw [show V m c main_v10 = _ from after_v10 _]
  refine Eq.trans (congrArg _ (?_ : ((win0_3.rect t).emb (ix3 h k d) : S2x16x1024.Idx) = ix3 h k d)) ((Idealize.ShloMosaic.transpose_apply _ _ _ _ (ix3 h d k) fun b => ?_).trans (gathered_apply (inW m c) h d k))
  · funext b
    refine Fin.ext ((e b).trans ?_)
    match b with
    | ⟨0, _⟩ => show 0 * 2 + h.val = h.val; omega
    | ⟨1, _⟩ => show 0 * 16 + k.val = k.val; omega
    | ⟨2, _⟩ => show 0 * 1024 + d.val = d.val; omega
  · match b with
    | ⟨0, _⟩ => rfl
    | ⟨1, _⟩ => rfl
    | ⟨2, _⟩ => rfl

/-! ## The three results -/

theorem row_lt (t : Fin cfg0.N) (r : Fin 512) : t.val * 512 + r.val < 16384 := by
  have h : t.val < 32 := t.isLt
  have := r.isLt
  omega

/-- The wide result, -/
def G4 (y : S16384x5632.Idx) : EReal := prod (inX m c) (inW m c) (y 0) (wideCol (y 1))
/-- the gates' columns, -/
def G5 (y : S2x16384x16.Idx) : EReal := prod (inX m c) (inW m c) (y 1) (gateCol (y 0) (y 2))
/-- and their rows. -/
def G6 (y : S2x16x16384.Idx) : EReal := prod (inX m c) (inW m c) (y 2) (gateCol (y 0) (y 1))

theorem wide_at (t : Fin cfg0.N) (z : S512x5632.Idx) : wide (bX m c t) (bW m c t) z = G4 m c ((win0_4.rect t).emb z) := by
  have e : ∀ a : Fin 2, (((win0_4.rect t).emb z a : Fin _) : ℕ) = (![t.val, 0] : Fin 2 → ℕ) a * S512x5632.size a + (z a).val := fun a => by
    have e := Pipeline.Window.rect_emb_val win0_4 t z a
    rw [idx4] at e
    exact e
  have e1 : (((win0_4.rect t).emb z : S16384x5632.Idx) 1) = z 1 := Fin.ext ((e 1).trans (by show 0 * 5632 + (z 1).val = (z 1).val; omega))
  unfold wide G4 prod
  refine Finset.sum_congr rfl fun d _ => congrArg₂ (· * ·) (bX_at m c t (z 0) d _ (e 0)) ((bW_at m c t d (z 1)).trans ?_)
  rw [e1]

theorem narrow_at (t : Fin cfg0.N) (z : S2x512x16.Idx) : narrow (bX m c t) (bA m c t) z = G5 m c ((win0_5.rect t).emb z) := by
  have e : ∀ a : Fin 3, (((win0_5.rect t).emb z a : Fin _) : ℕ) = (![0, t.val, 0] : Fin 3 → ℕ) a * S2x512x16.size a + (z a).val := fun a => by
    have e := Pipeline.Window.rect_emb_val win0_5 t z a
    rw [idx5] at e
    exact e
  have e0 : (((win0_5.rect t).emb z : S2x16384x16.Idx) 0) = z 0 := Fin.ext ((e 0).trans (by show 0 * 2 + (z 0).val = (z 0).val; omega))
  have e2 : (((win0_5.rect t).emb z : S2x16384x16.Idx) 2) = z 2 := Fin.ext ((e 2).trans (by show 0 * 16 + (z 2).val = (z 2).val; omega))
  unfold narrow G5 prod
  refine Finset.sum_congr rfl fun d _ => congrArg₂ (· * ·) (bX_at m c t (z 1) d _ (e 1)) ((bA_at m c t (z 0) d (z 2)).trans ?_)
  rw [e0, e2]

theorem flipped_at (t : Fin cfg0.N) (z : S2x16x512.Idx) : flipped (bX m c t) (bB m c t) z = G6 m c ((win0_6.rect t).emb z) := by
  have e : ∀ a : Fin 3, (((win0_6.rect t).emb z a : Fin _) : ℕ) = (![0, 0, t.val] : Fin 3 → ℕ) a * S2x16x512.size a + (z a).val := fun a => by
    have e := Pipeline.Window.rect_emb_val win0_6 t z a
    rw [idx6] at e
    exact e
  have e0 : (((win0_6.rect t).emb z : S2x16x16384.Idx) 0) = z 0 := Fin.ext ((e 0).trans (by show 0 * 2 + (z 0).val = (z 0).val; omega))
  have e1 : (((win0_6.rect t).emb z : S2x16x16384.Idx) 1) = z 1 := Fin.ext ((e 1).trans (by show 0 * 16 + (z 1).val = (z 1).val; omega))
  unfold flipped G6 prod
  refine Finset.sum_congr rfl fun d _ => (EReal.mul_comm _ _).trans (congrArg₂ (· * ·) (bX_at m c t (z 2) d _ (e 2)) ((bB_at m c t (z 0) (z 1) d).trans ?_))
  rw [e0, e1]

theorem final4 : (dats m 0 c).arrAt 4 cfg0.N = G4 m c :=
  (dats m 0 c).arrAt_eq_of_covers 4 _ (by decide +kernel) fun t _ y =>
    (congrFun ((after0_4 m c t).trans (out4 (bX m c t) (bW m c t) (bA m c t) (bB m c t))) y).trans (wide_at m c t y)

theorem final5 : (dats m 0 c).arrAt 5 cfg0.N = G5 m c :=
  (dats m 0 c).arrAt_eq_of_covers 5 _ (by decide +kernel) fun t _ y =>
    (congrFun ((after0_5 m c t).trans (out5 (bX m c t) (bW m c t) (bA m c t) (bB m c t))) y).trans (narrow_at m c t y)

theorem final6 : (dats m 0 c).arrAt 6 cfg0.N = G6 m c :=
  (dats m 0 c).arrAt_eq_of_covers 6 _ (by decide +kernel) fun t _ y =>
    (congrFun ((after0_6 m c t).trans (out6 (bX m c t) (bW m c t) (bA m c t) (bB m c t))) y).trans (flipped_at m c t y)

end Cert.Proof.Proj

end
-- ==== Proof.ProjRef.lean ====
/-
  The projection's reference over the extended reals, entry by entry: each result is the product at the column it keeps.
-/
module

public import proofs.«01_k».proof.Proof.Gen.Reference3Ideal
public import proofs.«01_k».proof.Proof.ProjLayout

@[expose] public section

noncomputable section

namespace Cert.Proof.Proj.Ref

open Cert.Reference3Ideal Cert.Reference3Ideal.Gen

open Idealize.ShloMosaic Idealize.ShloMosaic.Pointwise

variable (x : FVec Ideal S8x2048x1024 .f32) (w : FVec Ideal S1024x5664 .f32)

/-- Every token's products with every column, -/
def full : FVec Ideal S8x2048x5664 .f32 := Host.dotGeneral dot_S8x2048x1024_S1024x5664_S8x2048x5664_2_0_01_1_n_n none x w

theorem full_apply (b : Fin 8) (t : Fin 2048) (j : Fin 5664) : full x w (ix3 b t j) = (∑ d : Fin 1024, (x (ix3 b t d) : EReal) * (w (ix2 d j) : EReal) : EReal) := by
  pointwise [full]

/-- one token after another. -/
def rows : FVec Ideal S16384x5664 .f32 := shapeCast _ (full x w) shapeCasts_S8x2048x5664_S16384x5664

theorem rows_eq (r : Fin 16384) (j : Fin 5664) : rows x w (ix2 r j) = prod x w r j :=
  (rows_apply (full x w) shapeCasts_S8x2048x5664_S16384x5664 r j).trans (full_apply x w _ _ _)

/-- The first result, -/
def res0 : FVec Ideal S16384x5632 .bf16 :=
  truncf .bf16 (concatenate S16384x5632 1 [⟨S16384x2048, extractStridedSlice S16384x2048 ![0, 3616] (rows x w) slices_S16384x5664_S16384x2048_0_3616⟩,
    ⟨S16384x3584, extractStridedSlice S16384x3584 ![0, 0] (rows x w) slices_S16384x5664_S16384x3584_0_0⟩] concatenates_S16384x2048_S16384x3584_S16384x5632_d1) bitsLt_bf16_f32

/-- the second, -/
def res1 : FVec Ideal S2x16384x16 .f32 :=
  shapeCast _ (transpose S2x16384x4x4 [2, 0, 1, 3] (shapeCast _ (extractStridedSlice S16384x32 ![0, 3584] (rows x w) slices_S16384x5664_S16384x32_0_3584)
    shapeCasts_S16384x32_S16384x4x2x4) transposes_S16384x4x2x4_S2x16384x4x4_2_0_1_3) shapeCasts_S2x16384x4x4_S2x16384x16

/-- the third. -/
def res2 : FVec Ideal S2x16x16384 .f32 :=
  shapeCast _ (transpose S2x4x4x16384 [2, 1, 3, 0] (shapeCast _ (extractStridedSlice S16384x32 ![0, 3584] (rows x w) slices_S16384x5664_S16384x32_0_3584)
    shapeCasts_S16384x32_S16384x4x2x4) transposes_S16384x4x2x4_S2x4x4x16384_2_1_3_0) shapeCasts_S2x4x4x16384_S2x16x16384

theorem res0_apply (r : Fin 16384) (f : Fin 5632) : res0 x w (ix2 r f) = prod x w r (wideCol f) :=
  (wide_apply (rows x w) slices_S16384x5664_S16384x2048_0_3616 slices_S16384x5664_S16384x3584_0_0 concatenates_S16384x2048_S16384x3584_S16384x5632_d1 r f).trans (rows_eq x w _ _)

theorem res1_apply (h : Fin 2) (r : Fin 16384) (k : Fin 16) : res1 x w (ix3 h r k) = prod x w r (gateCol h k) :=
  (narrow_apply (rows x w) slices_S16384x5664_S16384x32_0_3584 shapeCasts_S16384x32_S16384x4x2x4 transposes_S16384x4x2x4_S2x16384x4x4_2_0_1_3
    shapeCasts_S2x16384x4x4_S2x16384x16 h r k).trans (rows_eq x w _ _)

theorem res2_apply (h : Fin 2) (k : Fin 16) (r : Fin 16384) : res2 x w (ix3 h k r) = prod x w r (gateCol h k) :=
  (flipped_apply (rows x w) slices_S16384x5664_S16384x32_0_3584 shapeCasts_S16384x32_S16384x4x2x4 transposes_S16384x4x2x4_S2x4x4x16384_2_1_3_0
    shapeCasts_S2x4x4x16384_S2x16x16384 h k r).trans (rows_eq x w _ _)

end Cert.Proof.Proj.Ref

end
-- ==== Proof.ProjClaims.lean ====
/-
  The claims of the projection's call: its run and its three results.
-/
module

public import proofs.«01_k».proof.Defs
public import proofs.«01_k».proof.Proof.ProjValue
public import proofs.«01_k».proof.Proof.ProjRef
public import proofs.«01_k».proof.Proof.Gen.Kernel3.Frame
public import proofs.«01_k».proof.Proof.Gen.Reference3Ideal.Run
public import Idealize.ShloMosaic.Adequacy
public import Idealize.ShloMosaic.Init

@[expose] public section

noncomputable section

namespace Cert.Proof.Proj

open Idealize.ShloMosaic Idealize.ShloMosaic.TcCoe Idealize.SL.Sem Idealize.ShloMosaic.Pointwise

/-! ## The reference's results are the call's -/

section
open Cert.Kernel3Ideal

variable (m : (ℓ : Loc nD τ sig) → Buf (Elt Ideal) ℓ) (c : Dev nD)

theorem ref0 : Ref.res0 (inX m c) (inW m c) = G4 m c := funext fun y => by
  rw [eq_ix2 y]
  exact Ref.res0_apply _ _ _ _

theorem ref1 : Ref.res1 (inX m c) (inW m c) = G5 m c := funext fun y => by
  rw [eq_ix3 y]
  exact Ref.res1_apply _ _ _ _ _

theorem ref2 : Ref.res2 (inX m c) (inW m c) = G6 m c := funext fun y => by
  rw [eq_ix3 y]
  exact Ref.res2_apply _ _ _ _ _

end

/-! ## The claims -/

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem algebraic : Cert.algebraic_Kernel3Ideal_Reference3Ideal := by
  intro m ρ m' ρ' _ hag
  refine ⟨fun c => G4 m c, fun c => G5 m c, fun c => G6 m c, ?_, ?_⟩
  · refine (θ_run Cert.Kernel3Ideal.defs _ _).mono (fun r h c => ?_) (Cert.Kernel3Ideal.Value.run_blocks (F := Ideal) m ρ)
    obtain ⟨h0, h1, h2, h3⟩ := h c
    exact ⟨h0.trans (final4 m c), h1.trans (final5 m c), h2.trans (final6 m c), h3⟩
  · refine (θ_run Cert.Reference3Ideal.defs _ _).mono (fun r h c => ?_) (Cert.Reference3Ideal.Value.run (F := Ideal) m' ρ')
    obtain ⟨h0, h1, h2, h3⟩ := h c
    obtain ⟨e0, e1⟩ := hag c
    exact ⟨h0.trans ((congrArg₂ Ref.res0 e0 e1).trans (ref0 m c)), h1.trans ((congrArg₂ Ref.res1 e0 e1).trans (ref1 m c)),
      h2.trans ((congrArg₂ Ref.res2 e0 e1).trans (ref2 m c)), h3⟩

end Cert.Proof.Proj

end
-- ==== Proof.MergeRow.lean ====
/-
  The gated merge of one token over the extended reals: its two branches' products with their weights, each under its gate's
  sigmoid, through the output weights, added to the token and normalised.
-/
module

public import Idealize.ShloMosaic.Lib.Pointwise

@[expose] public section

noncomputable section

namespace Cert.Proof.Merge

open Idealize.ShloMosaic

/-- A gate's sigmoid, -/
def sigm (g : EReal) : EReal := Ideal.div 1 (1 + Ideal.exp (0 - g))

/-- the merged value of two branches in one column, -/
def merged (yn yd : Fin 512 → EReal) (gn gd : Fin 1024 → EReal) (Wn Wd : Fin 512 → Fin 1024 → EReal) (k : Fin 1024) : EReal :=
  sigm (gn k) * (∑ i : Fin 512, yn i * Wn i k) + sigm (gd k) * (∑ i : Fin 512, yd i * Wd i k)

/-- the merged row through the output weights, -/
def mixed (yn yd : Fin 512 → EReal) (gn gd : Fin 1024 → EReal) (Wn Wd : Fin 512 → Fin 1024 → EReal) (Wo : Fin 1024 → Fin 1024 → EReal) (j : Fin 1024) : EReal :=
  ∑ k : Fin 1024, merged yn yd gn gd Wn Wd k * Wo k j

/-- the token's weight beside the branches', -/
def alpha : EReal := Scalar.ofBits (F := Ideal) .f32 0x3F9837F0#32
/-- the row's length, -/
def len : EReal := Scalar.ofBits (F := Ideal) .f32 0x44800000#32
/-- what is added to the variance, -/
def eps : EReal := Scalar.ofBits (F := Ideal) .f32 0x3727C5AC#32

/-- a row's mean, -/
def mean (u : Fin 1024 → EReal) : EReal := Ideal.div (∑ j : Fin 1024, u j) len

/-- a row normalised, -/
def norm (u g b : Fin 1024 → EReal) (j : Fin 1024) : EReal :=
  (u j - mean u) * Ideal.rsqrt (mean (fun k => (u k - mean u) * (u k - mean u)) + eps) * g j + b j

/-- the token's whole row. -/
def row (x : Fin 1024 → EReal) (yn yd : Fin 512 → EReal) (gn gd : Fin 1024 → EReal) (Wn Wd : Fin 512 → Fin 1024 → EReal) (Wo : Fin 1024 → Fin 1024 → EReal)
    (g b : Fin 1024 → EReal) : Fin 1024 → EReal :=
  norm (fun j => alpha * x j + mixed yn yd gn gd Wn Wd Wo j) g b

end Cert.Proof.Merge

end
-- ==== Proof.MergeTile.lean ====
/-
  The merge's kernel at one grid point, over the extended reals: what it stores of its first result is its tokens' rows.
-/
module

public import proofs.«01_k».proof.Proof.Gen.Kernel4Ideal.Skeleton
public import proofs.«01_k».proof.Proof.MergeRow
public import Idealize.ShloMosaic.Lib.Pipeline.Value

@[expose] public section

noncomputable section

namespace Cert.Proof.Merge

open Cert.Kernel4Ideal Cert.Kernel4Ideal.Gen

open Idealize.ShloMosaic Idealize.ShloMosaic.Pointwise

theorem pay_mixed (yn yd : Vec Ideal S512x512 .bf16) (gn gd Wn Wd : Vec Ideal S512x1024 .bf16) (Wo : Vec Ideal S1024x1024 .bf16) (r : Fin 512) (j : Fin 1024) :
    k0_pay2 (F := Ideal) yn Wn yd Wd gn gd Wo (ix2 r j)
      = mixed (fun i => yn (ix2 r i)) (fun i => yd (ix2 r i)) (fun k => gn (ix2 r k)) (fun k => gd (ix2 r k)) (fun i k => Wn (ix2 i k)) (fun i k => Wd (ix2 i k)) (fun k j => Wo (ix2 k j)) j := by
  unfold mixed merged sigm
  pointwise [k0_pay2]

theorem pay_norm (u x : FVec Ideal S512x1024 .f32) (g b : FVec Ideal S1x1024 .f32) (r : Fin 512) (j : Fin 1024) :
    k0_pay3 (F := Ideal) u x g b (ix2 r j) = norm (fun j => alpha * x (ix2 r j) + u (ix2 r j)) (fun j => g (ix2 0 j)) (fun j => b (ix2 0 j)) j := by
  unfold norm mean alpha len eps
  pointwise [k0_pay3]

/-! ## The slabs stored -/

/-- Eight rows to a tile, and a tile's columns by lanes groups. -/
def tiled {α : Type} (v : S512x1024.Idx → α) (y : S64x8x8x128.Idx) : α :=
  v (ix2 (⟨(y 0).val * 8 + (y 2).val, by have h0 : (y 0).val < 64 := (y 0).isLt; have h2 : (y 2).val < 8 := (y 2).isLt; omega⟩ : Fin 512)
    (⟨(y 1).val * 128 + (y 3).val, by have h1 : (y 1).val < 8 := (y 1).isLt; have h3 : (y 3).val < 128 := (y 3).isLt; omega⟩ : Fin 1024))

theorem slab_at {α : Type} (v : S512x1024.Idx → α) (k : ℕ) (o : ℕ) (ho : o = k * 128) (hs : S64x8x1024.Slices ![0, 0, o] S64x8x128)
    (h : ∀ a, (![0, k, 0, 0] : Fin 4 → ℕ) a + S64x1x8x128.size a ≤ S64x8x8x128.size a) (a : Fin 64) (e : Fin 1) (s : Fin 8) (l : Fin 128) :
    shapeCast S64x1x8x128 (extractStridedSlice S64x8x128 ![0, 0, o] (shapeCast S64x8x1024 v shapeCasts_S512x1024_S64x8x1024) hs) shapeCasts_S64x8x128_S64x1x8x128 (ix4 a e s l)
      = tiled v ((Rect.unit (s := S64x8x8x128) ![0, k, 0, 0] S64x1x8x128.size h).emb (ix4 a e s l)) := by
  have ha := a.isLt
  have he := e.isLt
  have hs' := s.isLt
  have hl := l.isLt
  have hk : k + 1 ≤ 8 := h 1
  refine (shapeCast_apply _ _ _ (ix3 a s l) ?_).trans ?_
  · rw [Shape.rowMajor_val_three, Shape.rowMajor_val_four]
    show (a.val * 8 + s.val) * 128 + l.val = ((a.val * 1 + e.val) * 8 + s.val) * 128 + l.val
    omega
  · obtain ⟨q, hq⟩ : ∃ q : Fin 1024, q.val = o + l.val := ⟨⟨o + l.val, by omega⟩, rfl⟩
    obtain ⟨p, hp⟩ : ∃ p : Fin 512, p.val = a.val * 8 + s.val := ⟨⟨a.val * 8 + s.val, by omega⟩, rfl⟩
    refine (extractStridedSlice_apply _ _ _ _ (ix3 a s q) fun b => ?_).trans ?_
    · match b with
      | ⟨0, _⟩ => exact (Nat.zero_add _).symm
      | ⟨1, _⟩ => exact (Nat.zero_add _).symm
      | ⟨2, _⟩ => exact hq
    · refine (shapeCast_apply _ _ _ (ix2 p q) ?_).trans ?_
      · rw [Shape.rowMajor_val_two, Shape.rowMajor_val_three]
        show p.val * 1024 + q.val = (a.val * 8 + s.val) * 1024 + q.val
        rw [hp]
      · refine congrArg v (funext fun b => Fin.ext ?_)
        match b with
        | ⟨0, _⟩ => show p.val = (0 + 1 * a.val) * 8 + (0 + 1 * s.val); omega
        | ⟨1, _⟩ => show q.val = (k + 1 * e.val) * 128 + (0 + 1 * l.val); omega

theorem slab {α : Type} (v : S512x1024.Idx → α) (k : ℕ) (o : ℕ) (ho : o = k * 128) (hs : S64x8x1024.Slices ![0, 0, o] S64x8x128)
    (h : ∀ a, (![0, k, 0, 0] : Fin 4 → ℕ) a + S64x1x8x128.size a ≤ S64x8x8x128.size a) (z : S64x1x8x128.Idx) :
    shapeCast S64x1x8x128 (extractStridedSlice S64x8x128 ![0, 0, o] (shapeCast S64x8x1024 v shapeCasts_S512x1024_S64x8x1024) hs) shapeCasts_S64x8x128_S64x1x8x128 z
      = tiled v ((Rect.unit (s := S64x8x8x128) ![0, k, 0, 0] S64x1x8x128.size h).emb z) := by
  have ez : z = ix4 (z 0) (z 1) (z 2) (z 3) := funext fun a => by
    match a with
    | ⟨0, _⟩ => rfl
    | ⟨1, _⟩ => rfl
    | ⟨2, _⟩ => rfl
    | ⟨3, _⟩ => rfl
  exact (congrArg _ ez).trans ((slab_at v k o ho hs h (z 0) (z 1) (z 2) (z 3)).trans
    (congrArg (fun w => tiled v ((Rect.unit (s := S64x8x8x128) ![0, k, 0, 0] S64x1x8x128.size h).emb w)) ez.symm))

/-- A tile's rows. -/
def rows (x : S512x1024.Idx → EReal) (yn yd : S512x512.Idx → EReal) (gn gd Wn Wd : S512x1024.Idx → EReal) (Wo : S1024x1024.Idx → EReal) (g b : S1x1024.Idx → EReal) (p : S512x1024.Idx) : EReal :=
  row (fun j => x (ix2 (p 0) j)) (fun i => yn (ix2 (p 0) i)) (fun i => yd (ix2 (p 0) i)) (fun k => gn (ix2 (p 0) k)) (fun k => gd (ix2 (p 0) k)) (fun i k => Wn (ix2 i k)) (fun i k => Wd (ix2 i k))
    (fun k j => Wo (ix2 k j)) (fun j => g (ix2 0 j)) (fun j => b (ix2 0 j)) (p 1)

theorem pay_rows (x : Vec Ideal S512x1024 .f32) (yn yd : Vec Ideal S512x512 .bf16) (gn gd Wn Wd : Vec Ideal S512x1024 .bf16) (Wo : Vec Ideal S1024x1024 .bf16) (g b : Vec Ideal S1x1024 .f32) :
    k0_pay3 (F := Ideal) (k0_pay2 (F := Ideal) yn Wn yd Wd gn gd Wo) x g b = rows x yn yd gn gd Wn Wd Wo g b := funext fun p => by
  refine (congrArg _ (eq_ix2 p)).trans ((pay_norm _ x g b (p 0) (p 1)).trans ?_)
  exact congrArg (fun u => norm u (fun j => g (ix2 0 j)) (fun j => b (ix2 0 j)) (p 1))
    (funext fun j => congrArg (alpha * x (ix2 (p 0) j) + ·) (pay_mixed yn yd gn gd Wn Wd Wo (p 0) j))

end Cert.Proof.Merge

end
-- ==== Proof.MergeOut.lean ====
/-
  What each grid point of the merge leaves of its first result: its tokens' rows, in tiles of eight.
-/
module

public import proofs.«01_k».proof.Proof.MergeTile
public import proofs.«01_k».proof.Proof.Gen.Kernel4Ideal.Value

@[expose] public section

noncomputable section

namespace Cert.Proof.Merge

open Cert.Kernel4Ideal Cert.Kernel4Ideal.Gen

open Idealize.ShloMosaic Idealize.ShloMosaic.Pointwise

variable (m : (ℓ : Loc nD τ sig) → Buf (Elt Ideal) ℓ) (c : Dev nD)

theorem at_zero : (![0, 0] : Fin 2 → ℕ) = fun _ => 0 := funext fun a => by
  match a with
  | ⟨0, _⟩ => rfl
  | ⟨1, _⟩ => rfl

/-- A point's rows, before they are cut. -/
def made (t : Fin cfg0.N) : FVec Ideal S512x1024 .f32 :=
  k0_pay3 (F := Ideal) (k0_pay2 (F := Ideal) (iblk m c 1 t) (iblk m c 5 t) (iblk m c 2 t) (iblk m c 6 t) (X0_3 m c t) (X0_4 m c t) (iblk m c 7 t)) (iblk m c 0 t) (iblk m c 8 t) (iblk m c 9 t)

theorem first (t : Fin cfg0.N) (h0 : t.val % 32 = 0) (y : S64x8x8x128.Idx) : (outsAt0 m c t.val t.isLt).1 y = tiled (made m c t) y := by
  rw [outsAt0_A m c t h0]
  dsimp only
  unfold out0_A_12
  refine (congrFun (View.read_writes_eq_canon _ _ _ fun y => cover0_A_12 (y := y) ..) y).trans ?_
  refine View.canon_apply_of_pieces (Val := Elt Ideal) (tiled (made m c t)) _ ?_ y (cover0_A_12 (y := y) ..)
  unfold kernelRun0_A
  dsimp only
  sl_unfold_words
  simp only [View.readAt_eq_ld, Memref.IsWhole.read_unread, View.ld_unit_zero (S := S512x1024) at_zero, View.ld_unit_zero (S := S512x512) at_zero, View.ld_unit_zero (S := S1024x1024) at_zero,
    View.ld_unit_zero (S := S1x1024) at_zero]
  intro p hp
  simp only [List.mem_cons, List.not_mem_nil, or_false] at hp
  rcases hp with rfl | rfl | rfl | rfl | rfl | rfl | rfl | rfl
  · exact fun z => slab (made m c t) 7 896 rfl slices_S64x8x1024_o0_0_896_S64x8x128 inb_S64x8x8x128_S64x1x8x128_0_7_0_0 z
  · exact fun z => slab (made m c t) 6 768 rfl slices_S64x8x1024_o0_0_768_S64x8x128 inb_S64x8x8x128_S64x1x8x128_0_6_0_0 z
  · exact fun z => slab (made m c t) 5 640 rfl slices_S64x8x1024_o0_0_640_S64x8x128 inb_S64x8x8x128_S64x1x8x128_0_5_0_0 z
  · exact fun z => slab (made m c t) 4 512 rfl slices_S64x8x1024_o0_0_512_S64x8x128 inb_S64x8x8x128_S64x1x8x128_0_4_0_0 z
  · exact fun z => slab (made m c t) 3 384 rfl slices_S64x8x1024_o0_0_384_S64x8x128 inb_S64x8x8x128_S64x1x8x128_0_3_0_0 z
  · exact fun z => slab (made m c t) 2 256 rfl slices_S64x8x1024_o0_0_256_S64x8x128 inb_S64x8x8x128_S64x1x8x128_0_2_0_0 z
  · exact fun z => slab (made m c t) 1 128 rfl slices_S64x8x1024_o0_0_128_S64x8x128 inb_S64x8x8x128_S64x1x8x128_0_1_0_0 z
  · exact fun z => slab (made m c t) 0 0 rfl slices_S64x8x1024_o0_0_0_S64x8x128 inb_S64x8x8x128_S64x1x8x128_0_0_0_0 z

theorem later (t : Fin cfg0.N) (h0 : ¬t.val % 32 = 0) (y : S64x8x8x128.Idx) : (outsAt0 m c t.val t.isLt).1 y = tiled (made m c t) y := by
  rw [outsAt0_B m c t h0]
  dsimp only
  unfold out0_B_12
  refine (congrFun (View.read_writes_eq_canon _ _ _ fun y => cover0_B_12 (y := y) ..) y).trans ?_
  refine View.canon_apply_of_pieces (Val := Elt Ideal) (tiled (made m c t)) _ ?_ y (cover0_B_12 (y := y) ..)
  unfold kernelRun0_B
  dsimp only
  sl_unfold_words
  simp only [View.readAt_eq_ld, Memref.IsWhole.read_unread, View.ld_unit_zero (S := S512x1024) at_zero, View.ld_unit_zero (S := S512x512) at_zero, View.ld_unit_zero (S := S1024x1024) at_zero,
    View.ld_unit_zero (S := S1x1024) at_zero]
  intro p hp
  simp only [List.mem_cons, List.not_mem_nil, or_false] at hp
  rcases hp with rfl | rfl | rfl | rfl | rfl | rfl | rfl | rfl
  · exact fun z => slab (made m c t) 7 896 rfl slices_S64x8x1024_o0_0_896_S64x8x128 inb_S64x8x8x128_S64x1x8x128_0_7_0_0 z
  · exact fun z => slab (made m c t) 6 768 rfl slices_S64x8x1024_o0_0_768_S64x8x128 inb_S64x8x8x128_S64x1x8x128_0_6_0_0 z
  · exact fun z => slab (made m c t) 5 640 rfl slices_S64x8x1024_o0_0_640_S64x8x128 inb_S64x8x8x128_S64x1x8x128_0_5_0_0 z
  · exact fun z => slab (made m c t) 4 512 rfl slices_S64x8x1024_o0_0_512_S64x8x128 inb_S64x8x8x128_S64x1x8x128_0_4_0_0 z
  · exact fun z => slab (made m c t) 3 384 rfl slices_S64x8x1024_o0_0_384_S64x8x128 inb_S64x8x8x128_S64x1x8x128_0_3_0_0 z
  · exact fun z => slab (made m c t) 2 256 rfl slices_S64x8x1024_o0_0_256_S64x8x128 inb_S64x8x8x128_S64x1x8x128_0_2_0_0 z
  · exact fun z => slab (made m c t) 1 128 rfl slices_S64x8x1024_o0_0_128_S64x8x128 inb_S64x8x8x128_S64x1x8x128_0_1_0_0 z
  · exact fun z => slab (made m c t) 0 0 rfl slices_S64x8x1024_o0_0_0_S64x8x128 inb_S64x8x8x128_S64x1x8x128_0_0_0_0 z

theorem out12 (t : Fin cfg0.N) : (outsAt0 m c t.val t.isLt).1
    = tiled (rows (iblk m c 0 t) (iblk m c 1 t) (iblk m c 2 t) (X0_3 m c t) (X0_4 m c t) (iblk m c 5 t) (iblk m c 6 t) (iblk m c 7 t) (iblk m c 8 t) (iblk m c 9 t)) := by
  rw [← pay_rows]
  exact funext fun y => (em (t.val % 32 = 0)).elim (fun h => first m c t h y) fun h => later m c t h y

end Cert.Proof.Merge

end
-- ==== Proof.MergeValue.lean ====
/-
  The merge's call computes its tokens' rows: a point is given its tokens' rows, the branches' and the gates' among them, and
  leaves the same rows merged and normalised.
-/
module

public import proofs.«01_k».proof.Proof.MergeOut
public import proofs.«01_k».proof.Proof.ProjLayout
public import Idealize.ShloMosaic.Lib.Pipeline.ValueKit.Geometry

@[expose] public section

noncomputable section

namespace Cert.Proof.Merge

open Cert.Kernel4Ideal Cert.Kernel4Ideal.Gen

open Idealize.ShloMosaic Idealize.ShloMosaic.Pointwise
open Idealize.ShloMosaic.TcCoe

/-! ## What the host hands the call -/

section
variable (U : Valuation τ sig (Elt Ideal))
open StableHlo

theorem after_v0 : after hostOps0 U main_v0 = shapeCast S16384x1024 (U main_arg0) Facts₀.shapeCasts_S8x2048x1024_S16384x1024 := by
  after_results <;> rfl

theorem after_arg1 : after hostOps0 U main_arg1 = U main_arg1 := by
  after_results <;> rfl

theorem after_arg2 : after hostOps0 U main_arg2 = U main_arg2 := by
  after_results <;> rfl

theorem after_arg3 : after hostOps0 U main_arg3 = U main_arg3 := by
  after_results <;> rfl

theorem after_v15 : after hostOps0 U main_v15 = truncf (F := Ideal) (s := S512x1024) (φ := .f32) .bf16 (U main_arg4) Facts₀.bitsLt_bf16_f32 := by
  after_results <;> rfl

theorem after_v16 : after hostOps0 U main_v16 = truncf (F := Ideal) (s := S512x1024) (φ := .f32) .bf16 (U main_arg5) Facts₀.bitsLt_bf16_f32 := by
  after_results <;> rfl

theorem after_v17 : after hostOps0 U main_v17 = truncf (F := Ideal) (s := S1024x1024) (φ := .f32) .bf16 (U main_arg6) Facts₀.bitsLt_bf16_f32 := by
  after_results <;> rfl

theorem after_v18 : after hostOps0 U main_v18 = shapeCast S1x1024 (U main_arg7) Facts₀.shapeCasts_S1024_S1x1024 := by
  after_results <;> rfl

theorem after_v19 : after hostOps0 U main_v19 = shapeCast S1x1024 (U main_arg8) Facts₀.shapeCasts_S1024_S1x1024 := by
  after_results <;> rfl

end

theorem lifted (v : S1024.Idx → EReal) (h : S1024.ShapeCasts S1x1024) (e : Fin 1) (j : Fin 1024) : shapeCast S1x1024 v h (ix2 e j) = v (ix1 j) := by
  refine shapeCast_apply _ _ _ _ ?_
  rw [Shape.rowMajor_val_one, Shape.rowMajor_val_two]
  show j.val = e.val * 1024 + j.val
  have := e.isLt
  omega

variable (m : (ℓ : Loc nD τ sig) → Buf (Elt Ideal) ℓ) (c : Dev nD)

/-- The layer's input, -/
abbrev inX : S8x2048x1024.Idx → EReal := m ((c : Thread nD τ).loc main_arg0)
/-- the branches' outputs, -/
abbrev inYn : S16384x512.Idx → EReal := m ((c : Thread nD τ).loc main_arg1)
abbrev inYd : S16384x512.Idx → EReal := m ((c : Thread nD τ).loc main_arg2)
/-- the wide projection, gates first, -/
abbrev inH : S16384x5632.Idx → EReal := m ((c : Thread nD τ).loc main_arg3)
/-- the weights of the branches and of the whole, -/
abbrev inWn : S512x1024.Idx → EReal := m ((c : Thread nD τ).loc main_arg4)
abbrev inWd : S512x1024.Idx → EReal := m ((c : Thread nD τ).loc main_arg5)
abbrev inWo : S1024x1024.Idx → EReal := m ((c : Thread nD τ).loc main_arg6)
/-- the norm's scale and shift. -/
abbrev inG : S1024.Idx → EReal := m ((c : Thread nD τ).loc main_arg7)
abbrev inB : S1024.Idx → EReal := m ((c : Thread nD τ).loc main_arg8)

/-! ## A point's blocks -/

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 1] := (by decide +kernel : ∀ t : Fin grid0.N, win0_4.index t = ![t.val, 1])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx12 : ∀ t : Fin cfg0.N, win0_12.index t = ![t.val, 0, 0, 0] := (by decide +kernel : ∀ t : Fin grid0.N, win0_12.index t = ![t.val, 0, 0, 0])

theorem x_at (t : Fin cfg0.N) (r : Fin 512) (d : Fin 1024) (q : Fin 16384) (hq : q.val = t.val * 512 + r.val) :
    ((iblk m c 0 t : S512x1024.Idx → EReal) (ix2 r d) : EReal) = inX m c (ix3 (⟨q.val / 2048, by have := q.isLt; omega⟩ : Fin 8) (⟨q.val % 2048, Nat.mod_lt _ (by decide)⟩ : Fin 2048) d) := by
  have e : ∀ a : Fin 2, (((win0_0.rect t).emb (ix2 r d) a : Fin _) : ℕ) = (![t.val, 0] : Fin 2 → ℕ) a * S512x1024.size a + ((ix2 r d : S512x1024.Idx) a).val := fun a => by
    have e := Pipeline.Window.rect_emb_val win0_0 t (ix2 r d) a
    rw [idx0] at e
    exact e
  refine Eq.trans (b := V m c main_v0 ((win0_0.rect t).emb (ix2 r d))) rfl ?_
  rw [show V m c main_v0 = _ from after_v0 _]
  refine Eq.trans (congrArg _ (?_ : ((win0_0.rect t).emb (ix2 r d) : S16384x1024.Idx) = ix2 q d)) (Proj.rows_apply (inX m c) _ q d)
  funext b
  refine Fin.ext ((e b).trans ?_)
  match b with
  | ⟨0, _⟩ => exact hq.symm
  | ⟨1, _⟩ => show 0 * 1024 + d.val = d.val; omega

theorem yn_at (t : Fin cfg0.N) (r : Fin 512) (i : Fin 512) (q : Fin 16384) (hq : q.val = t.val * 512 + r.val) :
    ((iblk m c 1 t : S512x512.Idx → EReal) (ix2 r i) : EReal) = inYn m c (ix2 q i) := by
  have e : ∀ a : Fin 2, (((win0_1.rect t).emb (ix2 r i) a : Fin _) : ℕ) = (![t.val, 0] : Fin 2 → ℕ) a * S512x512.size a + ((ix2 r i : S512x512.Idx) a).val := fun a => by
    have e := Pipeline.Window.rect_emb_val win0_1 t (ix2 r i) a
    rw [idx1] at e
    exact e
  refine Eq.trans (b := V m c main_arg1 ((win0_1.rect t).emb (ix2 r i))) rfl ?_
  rw [show V m c main_arg1 = _ from after_arg1 _]
  refine congrArg (inYn m c) (?_ : ((win0_1.rect t).emb (ix2 r i) : S16384x512.Idx) = ix2 q i)
  funext b
  refine Fin.ext ((e b).trans ?_)
  match b with
  | ⟨0, _⟩ => exact hq.symm
  | ⟨1, _⟩ => show 0 * 512 + i.val = i.val; omega

theorem yd_at (t : Fin cfg0.N) (r : Fin 512) (i : Fin 512) (q : Fin 16384) (hq : q.val = t.val * 512 + r.val) :
    ((iblk m c 2 t : S512x512.Idx → EReal) (ix2 r i) : EReal) = inYd m c (ix2 q i) := by
  have e : ∀ a : Fin 2, (((win0_2.rect t).emb (ix2 r i) a : Fin _) : ℕ) = (![t.val, 0] : Fin 2 → ℕ) a * S512x512.size a + ((ix2 r i : S512x512.Idx) a).val := fun a => by
    have e := Pipeline.Window.rect_emb_val win0_2 t (ix2 r i) a
    rw [idx2] at e
    exact e
  refine Eq.trans (b := V m c main_arg2 ((win0_2.rect t).emb (ix2 r i))) rfl ?_
  rw [show V m c main_arg2 = _ from after_arg2 _]
  refine congrArg (inYd m c) (?_ : ((win0_2.rect t).emb (ix2 r i) : S16384x512.Idx) = ix2 q i)
  funext b
  refine Fin.ext ((e b).trans ?_)
  match b with
  | ⟨0, _⟩ => exact hq.symm
  | ⟨1, _⟩ => show 0 * 512 + i.val = i.val; omega

theorem gn_at (t : Fin cfg0.N) (r : Fin 512) (k : Fin 1024) (q : Fin 16384) (hq : q.val = t.val * 512 + r.val) :
    ((X0_3 m c t : S512x1024.Idx → EReal) (ix2 r k) : EReal) = inH m c (ix2 q (⟨k.val, by omega⟩ : Fin 5632)) := by
  have hm := moved0_3 t (ix2 r k)
  have e : ∀ a : Fin 2, (((win0_3.rect t).emb (fun a => ⟨((ix2 r k : S512x1024.Idx) a).val, ((cfg0.win 3).moved_iff _ _).mp hm a⟩) a : Fin _) : ℕ)
      = (![t.val, 0] : Fin 2 → ℕ) a * S512x1024.size a + ((ix2 r k : S512x1024.Idx) a).val := fun a => by
    have e := Pipeline.Window.rect_emb_val win0_3 t (fun a => ⟨((ix2 r k : S512x1024.Idx) a).val, ((cfg0.win 3).moved_iff _ _).mp hm a⟩) a
    rw [idx3] at e
    exact e
  unfold X0_3 Pipeline.Window.fill
  refine (dif_pos hm).trans ?_
  refine Eq.trans (b := V m c main_arg3 ((win0_3.rect t).emb (fun a => ⟨((ix2 r k : S512x1024.Idx) a).val, ((cfg0.win 3).moved_iff _ _).mp hm a⟩))) rfl ?_
  rw [show V m c main_arg3 = _ from after_arg3 _]
  refine congrArg (inH m c) (?_ : ((win0_3.rect t).emb (fun a => ⟨((ix2 r k : S512x1024.Idx) a).val, ((cfg0.win 3).moved_iff _ _).mp hm a⟩) : S16384x5632.Idx) = ix2 q (⟨k.val, by omega⟩ : Fin 5632))
  funext b
  refine Fin.ext ((e b).trans ?_)
  match b with
  | ⟨0, _⟩ => exact hq.symm
  | ⟨1, _⟩ => show 0 * 1024 + k.val = k.val; omega

theorem gd_at (t : Fin cfg0.N) (r : Fin 512) (k : Fin 1024) (q : Fin 16384) (hq : q.val = t.val * 512 + r.val) :
    ((X0_4 m c t : S512x1024.Idx → EReal) (ix2 r k) : EReal) = inH m c (ix2 q (⟨1024 + k.val, by omega⟩ : Fin 5632)) := by
  have hm := moved0_4 t (ix2 r k)
  have e : ∀ a : Fin 2, (((win0_4.rect t).emb (fun a => ⟨((ix2 r k : S512x1024.Idx) a).val, ((cfg0.win 4).moved_iff _ _).mp hm a⟩) a : Fin _) : ℕ)
      = (![t.val, 1] : Fin 2 → ℕ) a * S512x1024.size a + ((ix2 r k : S512x1024.Idx) a).val := fun a => by
    have e := Pipeline.Window.rect_emb_val win0_4 t (fun a => ⟨((ix2 r k : S512x1024.Idx) a).val, ((cfg0.win 4).moved_iff _ _).mp hm a⟩) a
    rw [idx4] at e
    exact e
  unfold X0_4 Pipeline.Window.fill
  refine (dif_pos hm).trans ?_
  refine Eq.trans (b := V m c main_arg3 ((win0_4.rect t).emb (fun a => ⟨((ix2 r k : S512x1024.Idx) a).val, ((cfg0.win 4).moved_iff _ _).mp hm a⟩))) rfl ?_
  rw [show V m c main_arg3 = _ from after_arg3 _]
  refine congrArg (inH m c) (?_ : ((win0_4.rect t).emb (fun a => ⟨((ix2 r k : S512x1024.Idx) a).val, ((cfg0.win 4).moved_iff _ _).mp hm a⟩) : S16384x5632.Idx) = ix2 q (⟨1024 + k.val, by omega⟩ : Fin 5632))
  funext b
  refine Fin.ext ((e b).trans ?_)
  match b with
  | ⟨0, _⟩ => exact hq.symm
  | ⟨1, _⟩ => show 1 * 1024 + k.val = 1024 + k.val; omega

theorem wn_at (t : Fin cfg0.N) (i : Fin 512) (k : Fin 1024) : ((iblk m c 5 t : S512x1024.Idx → EReal) (ix2 i k) : EReal) = inWn m c (ix2 i k) := by
  have e : ∀ a : Fin 2, (((win0_5.rect t).emb (ix2 i k) a : Fin _) : ℕ) = (![0, 0] : Fin 2 → ℕ) a * S512x1024.size a + ((ix2 i k : S512x1024.Idx) a).val := fun a => by
    have e := Pipeline.Window.rect_emb_val win0_5 t (ix2 i k) a
    rw [idx5] at e
    exact e
  refine Eq.trans (b := V m c main_v15 ((win0_5.rect t).emb (ix2 i k))) rfl ?_
  rw [show V m c main_v15 = _ from after_v15 _]
  refine congrArg (inWn m c) (?_ : ((win0_5.rect t).emb (ix2 i k) : S512x1024.Idx) = ix2 i k)
  funext b
  refine Fin.ext ((e b).trans ?_)
  match b with
  | ⟨0, _⟩ => show 0 * 512 + i.val = i.val; omega
  | ⟨1, _⟩ => show 0 * 1024 + k.val = k.val; omega

theorem wd_at (t : Fin cfg0.N) (i : Fin 512) (k : Fin 1024) : ((iblk m c 6 t : S512x1024.Idx → EReal) (ix2 i k) : EReal) = inWd m c (ix2 i k) := by
  have e : ∀ a : Fin 2, (((win0_6.rect t).emb (ix2 i k) a : Fin _) : ℕ) = (![0, 0] : Fin 2 → ℕ) a * S512x1024.size a + ((ix2 i k : S512x1024.Idx) a).val := fun a => by
    have e := Pipeline.Window.rect_emb_val win0_6 t (ix2 i k) a
    rw [idx6] at e
    exact e
  refine Eq.trans (b := V m c main_v16 ((win0_6.rect t).emb (ix2 i k))) rfl ?_
  rw [show V m c main_v16 = _ from after_v16 _]
  refine congrArg (inWd m c) (?_ : ((win0_6.rect t).emb (ix2 i k) : S512x1024.Idx) = ix2 i k)
  funext b
  refine Fin.ext ((e b).trans ?_)
  match b with
  | ⟨0, _⟩ => show 0 * 512 + i.val = i.val; omega
  | ⟨1, _⟩ => show 0 * 1024 + k.val = k.val; omega

theorem wo_at (t : Fin cfg0.N) (k : Fin 1024) (j : Fin 1024) : ((iblk m c 7 t : S1024x1024.Idx → EReal) (ix2 k j) : EReal) = inWo m c (ix2 k j) := by
  have e : ∀ a : Fin 2, (((win0_7.rect t).emb (ix2 k j) a : Fin _) : ℕ) = (![0, 0] : Fin 2 → ℕ) a * S1024x1024.size a + ((ix2 k j : S1024x1024.Idx) a).val := fun a => by
    have e := Pipeline.Window.rect_emb_val win0_7 t (ix2 k j) a
    rw [idx7] at e
    exact e
  refine Eq.trans (b := V m c main_v17 ((win0_7.rect t).emb (ix2 k j))) rfl ?_
  rw [show V m c main_v17 = _ from after_v17 _]
  refine congrArg (inWo m c) (?_ : ((win0_7.rect t).emb (ix2 k j) : S1024x1024.Idx) = ix2 k j)
  funext b
  refine Fin.ext ((e b).trans ?_)
  match b with
  | ⟨0, _⟩ => show 0 * 1024 + k.val = k.val; omega
  | ⟨1, _⟩ => show 0 * 1024 + j.val = j.val; omega

theorem g_at (t : Fin cfg0.N) (j : Fin 1024) : ((iblk m c 8 t : S1x1024.Idx → EReal) (ix2 0 j) : EReal) = inG m c (ix1 j) := by
  have e : ∀ a : Fin 2, (((win0_8.rect t).emb (ix2 0 j) a : Fin _) : ℕ) = (![0, 0] : Fin 2 → ℕ) a * S1x1024.size a + ((ix2 0 j : S1x1024.Idx) a).val := fun a => by
    have e := Pipeline.Window.rect_emb_val win0_8 t (ix2 0 j) a
    rw [idx8] at e
    exact e
  refine Eq.trans (b := V m c main_v18 ((win0_8.rect t).emb (ix2 0 j))) rfl ?_
  rw [show V m c main_v18 = _ from after_v18 _]
  refine Eq.trans (congrArg _ (?_ : ((win0_8.rect t).emb (ix2 0 j) : S1x1024.Idx) = ix2 0 j)) (lifted (inG m c) _ 0 j)
  funext b
  refine Fin.ext ((e b).trans ?_)
  match b with
  | ⟨0, _⟩ => rfl
  | ⟨1, _⟩ => show 0 * 1024 + j.val = j.val; omega

theorem b_at (t : Fin cfg0.N) (j : Fin 1024) : ((iblk m c 9 t : S1x1024.Idx → EReal) (ix2 0 j) : EReal) = inB m c (ix1 j) := by
  have e : ∀ a : Fin 2, (((win0_9.rect t).emb (ix2 0 j) a : Fin _) : ℕ) = (![0, 0] : Fin 2 → ℕ) a * S1x1024.size a + ((ix2 0 j : S1x1024.Idx) a).val := fun a => by
    have e := Pipeline.Window.rect_emb_val win0_9 t (ix2 0 j) a
    rw [idx9] at e
    exact e
  refine Eq.trans (b := V m c main_v19 ((win0_9.rect t).emb (ix2 0 j))) rfl ?_
  rw [show V m c main_v19 = _ from after_v19 _]
  refine Eq.trans (congrArg _ (?_ : ((win0_9.rect t).emb (ix2 0 j) : S1x1024.Idx) = ix2 0 j)) (lifted (inB m c) _ 0 j)
  funext b
  refine Fin.ext ((e b).trans ?_)
  match b with
  | ⟨0, _⟩ => rfl
  | ⟨1, _⟩ => show 0 * 1024 + j.val = j.val; omega

/-! ## The result -/

/-- A token's row of the result. -/
def tokenRow (q : Fin 16384) (j : Fin 1024) : EReal :=
  row (fun j => inX m c (ix3 (⟨q.val / 2048, by have := q.isLt; omega⟩ : Fin 8) (⟨q.val % 2048, Nat.mod_lt _ (by decide)⟩ : Fin 2048) j)) (fun i => inYn m c (ix2 q i)) (fun i => inYd m c (ix2 q i))
    (fun k => inH m c (ix2 q (⟨k.val, by omega⟩ : Fin 5632))) (fun k => inH m c (ix2 q (⟨1024 + k.val, by omega⟩ : Fin 5632))) (fun i k => inWn m c (ix2 i k)) (fun i k => inWd m c (ix2 i k))
    (fun k j => inWo m c (ix2 k j)) (fun j => inG m c (ix1 j)) (fun j => inB m c (ix1 j)) j

/-- The result: eight rows to a tile, a tile's columns by lanes groups. -/
def G12 (y : S2048x8x8x128.Idx) : EReal :=
  tokenRow m c (⟨(y 0).val * 8 + (y 2).val, by have h0 : (y 0).val < 2048 := (y 0).isLt; have h2 : (y 2).val < 8 := (y 2).isLt; omega⟩ : Fin 16384)
    (⟨(y 1).val * 128 + (y 3).val, by have h1 : (y 1).val < 8 := (y 1).isLt; have h3 : (y 3).val < 128 := (y 3).isLt; omega⟩ : Fin 1024)

theorem row_congr {x x' : Fin 1024 → EReal} {yn yn' yd yd' : Fin 512 → EReal} {gn gn' gd gd' : Fin 1024 → EReal} {Wn Wn' Wd Wd' : Fin 512 → Fin 1024 → EReal} {Wo Wo' : Fin 1024 → Fin 1024 → EReal}
    {g g' b b' : Fin 1024 → EReal} {j j' : Fin 1024} (h0 : ∀ j, x j = x' j) (h1 : ∀ i, yn i = yn' i) (h2 : ∀ i, yd i = yd' i) (h3 : ∀ k, gn k = gn' k) (h4 : ∀ k, gd k = gd' k)
    (h5 : ∀ i k, Wn i k = Wn' i k) (h6 : ∀ i k, Wd i k = Wd' i k) (h7 : ∀ k j, Wo k j = Wo' k j) (h8 : ∀ j, g j = g' j) (h9 : ∀ j, b j = b' j) (hj : j = j') :
    row x yn yd gn gd Wn Wd Wo g b j = row x' yn' yd' gn' gd' Wn' Wd' Wo' g' b' j' := by
  obtain rfl := funext h0
  obtain rfl := funext h1
  obtain rfl := funext h2
  obtain rfl := funext h3
  obtain rfl := funext h4
  obtain rfl := funext fun i => funext (h5 i)
  obtain rfl := funext fun i => funext (h6 i)
  obtain rfl := funext fun i => funext (h7 i)
  obtain rfl := funext h8
  obtain rfl := funext h9
  rw [hj]

theorem tile_at (t : Fin cfg0.N) (z : S64x8x8x128.Idx) :
    tiled (rows (iblk m c 0 t) (iblk m c 1 t) (iblk m c 2 t) (X0_3 m c t) (X0_4 m c t) (iblk m c 5 t) (iblk m c 6 t) (iblk m c 7 t) (iblk m c 8 t) (iblk m c 9 t)) z
      = G12 m c ((win0_12.rect t).emb z) := by
  have e : ∀ a : Fin 4, (((win0_12.rect t).emb z a : Fin _) : ℕ) = (![t.val, 0, 0, 0] : Fin 4 → ℕ) a * S64x8x8x128.size a + (z a).val := fun a => by
    have e := Pipeline.Window.rect_emb_val win0_12 t z a
    rw [idx12] at e
    exact e
  have e0 : ((((win0_12.rect t).emb z : S2048x8x8x128.Idx) 0 : Fin _) : ℕ) = t.val * 64 + (z 0).val := e 0
  have e1 : ((((win0_12.rect t).emb z : S2048x8x8x128.Idx) 1 : Fin _) : ℕ) = (z 1).val := (e 1).trans (by show 0 * 8 + (z 1).val = (z 1).val; omega)
  have e2 : ((((win0_12.rect t).emb z : S2048x8x8x128.Idx) 2 : Fin _) : ℕ) = (z 2).val := (e 2).trans (by show 0 * 8 + (z 2).val = (z 2).val; omega)
  have e3 : ((((win0_12.rect t).emb z : S2048x8x8x128.Idx) 3 : Fin _) : ℕ) = (z 3).val := (e 3).trans (by show 0 * 128 + (z 3).val = (z 3).val; omega)
  have hq : (((win0_12.rect t).emb z : S2048x8x8x128.Idx) 0).val * 8 + (((win0_12.rect t).emb z : S2048x8x8x128.Idx) 2).val = t.val * 512 + ((z 0).val * 8 + (z 2).val) := by
    rw [e0, e2]
    omega
  unfold tiled rows G12 tokenRow
  exact row_congr (fun j => x_at m c t _ j _ hq) (fun i => yn_at m c t _ i _ hq) (fun i => yd_at m c t _ i _ hq) (fun k => gn_at m c t _ k _ hq) (fun k => gd_at m c t _ k _ hq)
    (fun i k => wn_at m c t i k) (fun i k => wd_at m c t i k) (fun k j => wo_at m c t k j) (fun j => g_at m c t j) (fun j => b_at m c t j)
    (Fin.ext (congrArg₂ (fun u v : ℕ => u * 128 + v) e1.symm e3.symm))

theorem final12 : (dats m 0 c).arrAt 12 cfg0.N = G12 m c :=
  (dats m 0 c).arrAt_eq_of_covers 12 _ (by decide +kernel) fun t _ y =>
    (congrFun ((after0_12 m c t).trans (out12 m c t)) y).trans (tile_at m c t y)

end Cert.Proof.Merge

end
-- ==== Proof.MergeRef.lean ====
/-
  The merge's reference over the extended reals, entry by entry: each token's row of its result is the token's row.
-/
module

public import proofs.«01_k».proof.Proof.Gen.Reference4Ideal
public import proofs.«01_k».proof.Proof.MergeRow
public import Idealize.ShloMosaic.Lib.Pipeline.Value

@[expose] public section

noncomputable section

namespace Cert.Proof.Merge.Ref

open Cert.Reference4Ideal Cert.Reference4Ideal.Gen

open Idealize.ShloMosaic Idealize.ShloMosaic.Pointwise

variable (x : FVec Ideal S8x2048x1024 .f32) (yn yd : FVec Ideal S16384x512 .bf16) (h : FVec Ideal S16384x5632 .bf16) (wn wd : FVec Ideal S512x1024 .f32) (wo : FVec Ideal S1024x1024 .f32)
  (g b : FVec Ideal S1024 .f32)

/-- The token's place among all of them. -/
abbrev tok (e : Fin 8) (t : Fin 2048) : Fin 16384 := ⟨e.val * 2048 + t.val, by have := e.isLt; have := t.isLt; omega⟩

theorem batched {α : Type} {l : ℕ} (v : (⟨2, ![16384, l]⟩ : Shape).Idx → α) (hc : (⟨2, ![16384, l]⟩ : Shape).ShapeCasts ⟨3, ![8, 2048, l]⟩) (e : Fin 8) (t : Fin 2048) (d : Fin l) :
    shapeCast ⟨3, ![8, 2048, l]⟩ v hc (ix3 e t d) = v (ix2 (tok e t) d) := by
  refine shapeCast_apply _ hc _ _ ?_
  rw [Shape.rowMajor_val_two, Shape.rowMajor_val_three]
  rfl

/-- A branch's projection, -/
def proj (y : FVec Ideal S16384x512 .bf16) (w : FVec Ideal S512x1024 .f32) : FVec Ideal S8x2048x1024 .f32 :=
  Host.dotGeneral dot_S8x2048x512_S512x1024_S8x2048x1024_2_0_01_1_n_n none (shapeCast _ (extf .f32 y bitsLt_bf16_f32) shapeCasts_S16384x512_S8x2048x512) w

theorem proj_apply (y : FVec Ideal S16384x512 .bf16) (w : FVec Ideal S512x1024 .f32) (e : Fin 8) (t : Fin 2048) (k : Fin 1024) :
    proj y w (ix3 e t k) = (∑ i : Fin 512, (y (ix2 (tok e t) i) : EReal) * (w (ix2 i k) : EReal) : EReal) := by
  have h1 : proj y w (ix3 e t k) = (∑ i : Fin 512, (shapeCast S8x2048x512 (extf .f32 y bitsLt_bf16_f32 : FVec Ideal S16384x512 .f32) shapeCasts_S16384x512_S8x2048x512 (ix3 e t i) : EReal) * (w (ix2 i k) : EReal) : EReal) := by
    unfold proj
    generalize (shapeCast S8x2048x512 (extf .f32 y bitsLt_bf16_f32 : FVec Ideal S16384x512 .f32) shapeCasts_S16384x512_S8x2048x512) = q
    pointwise []
  rw [h1]
  exact Finset.sum_congr rfl fun i _ => congrArg (· * (w (ix2 i k) : EReal)) (batched (l := 512) (extf .f32 y bitsLt_bf16_f32 : FVec Ideal S16384x512 .f32) _ e t i)

/-- a sigmoid, -/
def sig (v : FVec Ideal S8x2048x1024 .f32) : FVec Ideal S8x2048x1024 .f32 :=
  Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf v)))

theorem sig_apply (v : FVec Ideal S8x2048x1024 .f32) (e : Fin 8) (t : Fin 2048) (k : Fin 1024) : sig v (ix3 e t k) = sigm (v (ix3 e t k)) := by
  have h1 : sig v (ix3 e t k) = Ideal.div 1 (1 + Ideal.exp (-(v (ix3 e t k) : EReal))) := by pointwise [sig]
  exact h1.trans (congrArg (fun z : EReal => Ideal.div 1 (1 + Ideal.exp z)) (zero_sub (v (ix3 e t k) : EReal)).symm)

/-- the gates' columns from `o`, -/
def cols (o : ℕ) (hs : S8x2048x5632.Slices ![0, 0, o] S8x2048x1024) : FVec Ideal S8x2048x1024 .f32 :=
  extractStridedSlice S8x2048x1024 ![0, 0, o] (shapeCast S8x2048x5632 (extf .f32 h bitsLt_bf16_f32 : FVec Ideal S16384x5632 .f32) shapeCasts_S16384x5632_S8x2048x5632) hs

theorem cols_apply (o : ℕ) (hs : S8x2048x5632.Slices ![0, 0, o] S8x2048x1024) (e : Fin 8) (t : Fin 2048) (k : Fin 1024) (f : Fin 5632) (hf : f.val = o + k.val) :
    cols h o hs (ix3 e t k) = h (ix2 (tok e t) f) := by
  refine (extractStridedSlice_apply _ _ _ _ (ix3 e t f) fun a => ?_).trans (batched (l := 5632) (extf .f32 h bitsLt_bf16_f32 : FVec Ideal S16384x5632 .f32) _ e t f)
  match a with
  | ⟨0, _⟩ => exact (Nat.zero_add _).symm
  | ⟨1, _⟩ => exact (Nat.zero_add _).symm
  | ⟨2, _⟩ => exact hf

/-- the token beside its merged branches, -/
def summed : FVec Ideal S8x2048x1024 .f32 :=
  addf (mulf (broadcastInDim S8x2048x1024 ![] bcast_S_S8x2048x1024 (constant S_ .f32 0x3F9837F0#32)) x)
    (Host.dotGeneral dot_S8x2048x1024_S1024x1024_S8x2048x1024_2_0_01_1_n_n none
      (addf (mulf (sig (cols h 0 slices_S8x2048x5632_S8x2048x1024_0_0_0)) (proj yn wn)) (mulf (sig (cols h 1024 slices_S8x2048x5632_S8x2048x1024_0_0_1024)) (proj yd wd))) wo)

theorem summed_apply (e : Fin 8) (t : Fin 2048) (j : Fin 1024) :
    summed x yn yd h wn wd wo (ix3 e t j) = alpha * x (ix3 e t j) + mixed (fun i => yn (ix2 (tok e t) i)) (fun i => yd (ix2 (tok e t) i))
      (fun k => h (ix2 (tok e t) (⟨k.val, by omega⟩ : Fin 5632))) (fun k => h (ix2 (tok e t) (⟨1024 + k.val, by omega⟩ : Fin 5632))) (fun i k => wn (ix2 i k)) (fun i k => wd (ix2 i k)) (fun k j => wo (ix2 k j)) j := by
  have h1 : ∀ gn gd pn pd : FVec Ideal S8x2048x1024 .f32,
      addf (mulf (broadcastInDim S8x2048x1024 ![] bcast_S_S8x2048x1024 (constant S_ .f32 0x3F9837F0#32)) x)
        (Host.dotGeneral dot_S8x2048x1024_S1024x1024_S8x2048x1024_2_0_01_1_n_n none (addf (mulf gn pn) (mulf gd pd)) wo) (ix3 e t j)
      = alpha * x (ix3 e t j) + (∑ k : Fin 1024, ((gn (ix3 e t k) : EReal) * (pn (ix3 e t k) : EReal) + (gd (ix3 e t k) : EReal) * (pd (ix3 e t k) : EReal)) * (wo (ix2 k j) : EReal) : EReal) := fun gn gd pn pd => by
    unfold alpha
    pointwise []
  refine (h1 _ _ _ _).trans (congrArg (alpha * x (ix3 e t j) + ·) (Finset.sum_congr rfl fun k _ => congrArg (· * (wo (ix2 k j) : EReal)) ?_))
  refine congrArg₂ (· + ·) (congrArg₂ (· * ·) ((sig_apply _ e t k).trans (congrArg sigm (cols_apply h 0 _ e t k _ ?_))) (proj_apply yn wn e t k))
    (congrArg₂ (· * ·) ((sig_apply _ e t k).trans (congrArg sigm (cols_apply h 1024 _ e t k _ rfl))) (proj_apply yd wd e t k))
  exact (Nat.zero_add _).symm

/-- each row's mean, -/
def means (u : FVec Ideal S8x2048x1024 .f32) : FVec Ideal S8x2048x1 .f32 :=
  Host.divf (broadcastInDim S8x2048x1 ![0, 1] bcast_S8x2048_S8x2048x1_0_1 (Host.reduceAdd u (constant S_ .f32 0x00000000#32) reducesTo_S8x2048x1024_S8x2048_d2 h_S_))
    (broadcastInDim S8x2048x1 ![] bcast_S_S8x2048x1 (constant S_ .f32 0x44800000#32))

theorem means_apply (u : FVec Ideal S8x2048x1024 .f32) (e : Fin 8) (t : Fin 2048) : means u (ix3 e t 0) = mean fun j => u (ix3 e t j) := by
  unfold mean len
  pointwise [means]

/-- each row about its mean, -/
def centred (u : FVec Ideal S8x2048x1024 .f32) : FVec Ideal S8x2048x1024 .f32 :=
  subf u (broadcastInDim S8x2048x1024 ![0, 1, 2] bcast_S8x2048x1_S8x2048x1024_0_1_2 (means u))

theorem centred_apply (u : FVec Ideal S8x2048x1024 .f32) (e : Fin 8) (t : Fin 2048) (j : Fin 1024) : centred u (ix3 e t j) = u (ix3 e t j) - mean fun j => u (ix3 e t j) := by
  rw [← means_apply]
  unfold centred
  generalize means u = q
  pointwise []

/-- the rows normalised, -/
def normed (u : FVec Ideal S8x2048x1024 .f32) : FVec Ideal S8x2048x1024 .f32 :=
  addf (mulf (mulf (centred u) (broadcastInDim S8x2048x1024 ![0, 1, 2] bcast_S8x2048x1_S8x2048x1024_0_1_2
      (Host.rsqrt (addf (means (mulf (centred u) (centred u))) (broadcastInDim S8x2048x1 ![] bcast_S_S8x2048x1 (constant S_ .f32 0x3727C5AC#32))))))
    (broadcastInDim S8x2048x1024 ![0, 1, 2] bcast_S1x1x1024_S8x2048x1024_0_1_2 (broadcastInDim S1x1x1024 ![2] bcast_S1024_S1x1x1024_2 g)))
  (broadcastInDim S8x2048x1024 ![0, 1, 2] bcast_S1x1x1024_S8x2048x1024_0_1_2 (broadcastInDim S1x1x1024 ![2] bcast_S1024_S1x1x1024_2 b))

theorem normed_apply (u : FVec Ideal S8x2048x1024 .f32) (e : Fin 8) (t : Fin 2048) (j : Fin 1024) :
    normed g b u (ix3 e t j) = norm (fun j => u (ix3 e t j)) (fun j => g (ix1 j)) (fun j => b (ix1 j)) j := by
  have h1 : ∀ (v : FVec Ideal S8x2048x1024 .f32) (q : FVec Ideal S8x2048x1 .f32),
      addf (mulf (mulf v (broadcastInDim S8x2048x1024 ![0, 1, 2] bcast_S8x2048x1_S8x2048x1024_0_1_2
          (Host.rsqrt (addf q (broadcastInDim S8x2048x1 ![] bcast_S_S8x2048x1 (constant S_ .f32 0x3727C5AC#32))))))
        (broadcastInDim S8x2048x1024 ![0, 1, 2] bcast_S1x1x1024_S8x2048x1024_0_1_2 (broadcastInDim S1x1x1024 ![2] bcast_S1024_S1x1x1024_2 g)))
        (broadcastInDim S8x2048x1024 ![0, 1, 2] bcast_S1x1x1024_S8x2048x1024_0_1_2 (broadcastInDim S1x1x1024 ![2] bcast_S1024_S1x1x1024_2 b)) (ix3 e t j)
      = (v (ix3 e t j) : EReal) * Ideal.rsqrt ((q (ix3 e t 0) : EReal) + eps) * (g (ix1 j) : EReal) + (b (ix1 j) : EReal) := fun v q => by
    unfold eps
    pointwise []
  refine (h1 _ _).trans ?_
  rw [means_apply, centred_apply]
  refine congrArg (fun s : Fin 1024 → EReal => (u (ix3 e t j) - mean fun j => u (ix3 e t j)) * Ideal.rsqrt (mean s + eps) * (g (ix1 j) : EReal) + (b (ix1 j) : EReal)) (funext fun k => ?_)
  exact congrArg₂ (· * ·) (centred_apply u e t k) (centred_apply u e t k)

/-- in tiles of eight rows, by lanes groups. -/
def res : FVec Ideal S2048x8x8x128 .f32 :=
  transpose S2048x8x8x128 [0, 2, 1, 3] (shapeCast S2048x8x8x128 (normed g b (summed x yn yd h wn wd wo)) shapeCasts_S8x2048x1024_S2048x8x8x128) transposes_S2048x8x8x128_S2048x8x8x128_0_2_1_3

theorem res_apply (a : Fin 2048) (k : Fin 8) (s : Fin 8) (l : Fin 128) (e : Fin 8) (t : Fin 2048) (j : Fin 1024) (hr : e.val * 2048 + t.val = a.val * 8 + s.val) (hj : j.val = k.val * 128 + l.val) :
    res x yn yd h wn wd wo g b (ix4 a k s l) = row (fun j => x (ix3 e t j)) (fun i => yn (ix2 (tok e t) i)) (fun i => yd (ix2 (tok e t) i))
      (fun k => h (ix2 (tok e t) (⟨k.val, by omega⟩ : Fin 5632))) (fun k => h (ix2 (tok e t) (⟨1024 + k.val, by omega⟩ : Fin 5632))) (fun i k => wn (ix2 i k)) (fun i k => wd (ix2 i k)) (fun k j => wo (ix2 k j))
      (fun j => g (ix1 j)) (fun j => b (ix1 j)) j := by
  refine (Idealize.ShloMosaic.transpose_apply _ _ _ _ (ix4 a s k l) fun c => ?_).trans ((shapeCast_apply _ _ _ (ix3 e t j) ?_).trans ((normed_apply g b _ e t j).trans ?_))
  · match c with
    | ⟨0, _⟩ => rfl
    | ⟨1, _⟩ => rfl
    | ⟨2, _⟩ => rfl
    | ⟨3, _⟩ => rfl
  · rw [Shape.rowMajor_val_three, Shape.rowMajor_val_four]
    show (e.val * 2048 + t.val) * 1024 + j.val = ((a.val * 8 + s.val) * 8 + k.val) * 128 + l.val
    omega
  · exact congrArg (fun u => norm u (fun j => g (ix1 j)) (fun j => b (ix1 j)) j) (funext fun j => summed_apply x yn yd h wn wd wo e t j)

end Cert.Proof.Merge.Ref

end
-- ==== Proof.MergeClaims.lean ====
/-
  The claims of the merge's call: its run and its first result.
-/
module

public import proofs.«01_k».proof.Defs
public import proofs.«01_k».proof.Proof.MergeValue
public import proofs.«01_k».proof.Proof.MergeRef
public import proofs.«01_k».proof.Proof.Gen.Kernel4.Frame
public import proofs.«01_k».proof.Proof.Gen.Reference4Ideal.Run
public import Idealize.ShloMosaic.Adequacy
public import Idealize.ShloMosaic.Init

@[expose] public section

noncomputable section

namespace Cert.Proof.Merge

open Idealize.ShloMosaic Idealize.ShloMosaic.TcCoe Idealize.SL.Sem Idealize.ShloMosaic.Pointwise

/-! ## The reference's result is the call's -/

section
open Cert.Kernel4Ideal

variable (m : (ℓ : Loc nD τ sig) → Buf (Elt Ideal) ℓ) (c : Dev nD)

theorem ref_at (a : Fin 2048) (k : Fin 8) (s : Fin 8) (l : Fin 128) (q : Fin 16384) (j : Fin 1024) (hq : q.val = a.val * 8 + s.val) (hj : j.val = k.val * 128 + l.val) :
    Ref.res (inX m c) (inYn m c) (inYd m c) (inH m c) (inWn m c) (inWd m c) (inWo m c) (inG m c) (inB m c) (ix4 a k s l) = tokenRow m c q j := by
  have hlt := q.isLt
  have ht : Ref.tok (⟨q.val / 2048, by omega⟩ : Fin 8) (⟨q.val % 2048, Nat.mod_lt _ (by decide)⟩ : Fin 2048) = q := Fin.ext (by show q.val / 2048 * 2048 + q.val % 2048 = q.val; omega)
  refine (Ref.res_apply (inX m c) (inYn m c) (inYd m c) (inH m c) (inWn m c) (inWd m c) (inWo m c) (inG m c) (inB m c) a k s l
    (⟨q.val / 2048, by omega⟩ : Fin 8) (⟨q.val % 2048, Nat.mod_lt _ (by decide)⟩ : Fin 2048) j (by show q.val / 2048 * 2048 + q.val % 2048 = _; omega) hj).trans ?_
  rw [ht]
  rfl

theorem ref_eq : Ref.res (inX m c) (inYn m c) (inYd m c) (inH m c) (inWn m c) (inWd m c) (inWo m c) (inG m c) (inB m c) = G12 m c := funext fun y => by
  have ey : y = ix4 (y 0) (y 1) (y 2) (y 3) := funext fun a => by
    match a with
    | ⟨0, _⟩ => rfl
    | ⟨1, _⟩ => rfl
    | ⟨2, _⟩ => rfl
    | ⟨3, _⟩ => rfl
  exact (congrArg (Ref.res (inX m c) (inYn m c) (inYd m c) (inH m c) (inWn m c) (inWd m c) (inWo m c) (inG m c) (inB m c)) ey).trans
    (ref_at m c (y 0) (y 1) (y 2) (y 3) _ _ rfl rfl)

end

section
open Cert.Reference4Ideal

theorem res_eq (m : (ℓ : Loc nD τ sig) → Buf (Elt Ideal) ℓ) (c : Dev nD) :
    Value.res_main_v55 (F := Ideal) m c = Ref.res (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Value.res_main_v55 Ref.res Ref.normed Ref.centred Ref.means Ref.summed Ref.sig Ref.cols Ref.proj
  rfl

theorem res_congr {x x' : FVec Ideal S8x2048x1024 .f32} {yn yn' yd yd' : FVec Ideal S16384x512 .bf16} {h h' : FVec Ideal S16384x5632 .bf16} {wn wn' wd wd' : FVec Ideal S512x1024 .f32}
    {wo wo' : FVec Ideal S1024x1024 .f32} {g g' b b' : FVec Ideal S1024 .f32} (e0 : x = x') (e1 : yn = yn') (e2 : yd = yd') (e3 : h = h') (e4 : wn = wn') (e5 : wd = wd') (e6 : wo = wo')
    (e7 : g = g') (e8 : b = b') : Ref.res x yn yd h wn wd wo g b = Ref.res x' yn' yd' h' wn' wd' wo' g' b' := by
  rw [e0, e1, e2, e3, e4, e5, e6, e7, e8]

end

/-! ## The claims -/

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hag
  refine ⟨fun c => G12 m c, ?_, ?_⟩
  · refine (θ_run Cert.Kernel4Ideal.defs _ _).mono (fun r h c => ?_) (Cert.Kernel4Ideal.Value.run_blocks (F := Ideal) m ρ)
    obtain ⟨h0, -, -, h3⟩ := h c
    exact ⟨h0.trans (final12 m c), h3⟩
  · refine (θ_run Cert.Reference4Ideal.defs _ _).mono (fun r h c => ?_) (Cert.Reference4Ideal.Value.run (F := Ideal) m' ρ')
    obtain ⟨h0, h1⟩ := h c
    obtain ⟨e0, e1, e2, e3, e4, e5, e6, e7, e8, -⟩ := hag c
    exact ⟨h0.trans ((res_eq m' c).trans ((res_congr e0 e1 e2 e3 e4 e5 e6 e7 e8).trans (ref_eq m c))), h1⟩

end Cert.Proof.Merge

end
-- ==== Proof.PlanRow.lean ====
/-
  The plan of the experts' buffers, over the extended reals: where an expert's rows begin and end, a token's row from its
  expert and its rank there, and the tiles' tables.
-/
module

public import Idealize.ShloMosaic.PureOps.Ideal
public import Idealize.ShloMosaic.PureOps.Ideal.Laws
public import Idealize.ShloMosaic.Lib.Pointwise

@[expose] public section

noncomputable section

namespace Cert.Proof.Plan

open Idealize.ShloMosaic

/-! ## The constants -/

theorem c256 : Ideal.ofBits .f32 0x43800000#32 = ((256 : ℝ) : EReal) := by
  simp [Ideal.ofBits, Ideal.ieee, -EReal.coe_mul]; norm_num

theorem c8 : Ideal.ofBits .f32 0x41000000#32 = ((8 : ℝ) : EReal) := by
  simp [Ideal.ofBits, Ideal.ieee, -EReal.coe_mul]; norm_num

theorem c4 : Ideal.ofBits .f32 0x40800000#32 = ((4 : ℝ) : EReal) := by
  simp [Ideal.ofBits, Ideal.ieee, -EReal.coe_mul]; norm_num

theorem cinf : Ideal.ofBits .f32 0x7F800000#32 = ⊤ := by
  simp [Ideal.ofBits, Ideal.ieee]

theorem cninf : Ideal.ofBits .f32 0xFF800000#32 = ⊥ := by
  simp [Ideal.ofBits, Ideal.ieee]

theorem r256 : Ideal.ofBits .f32 0x3B800000#32 = (((256 : ℝ)⁻¹ : ℝ) : EReal) := by
  simp [Ideal.ofBits, Ideal.ieee, -EReal.coe_mul]; norm_num

theorem r8 : Ideal.ofBits .f32 0x3E000000#32 = (((8 : ℝ)⁻¹ : ℝ) : EReal) := by
  simp [Ideal.ofBits, Ideal.ieee, -EReal.coe_mul]; norm_num

/-- A quotient by a real other than zero is a product with its inverse. -/
theorem div_real (x : EReal) {r : ℝ} (h : r ≠ 0) : Ideal.div x (r : EReal) = x * ((r⁻¹ : ℝ) : EReal) := by
  have h' : (r : EReal) ≠ 0 := fun e => h (EReal.coe_eq_zero.1 e)
  unfold Ideal.div
  rw [if_neg h', EReal.coe_inv]

/-! ## The plan -/

/-- An expert's rows in whole tiles. -/
def filled (n : EReal) : EReal := Ideal.liftRound Int.ceil (Ideal.div n ((256 : ℝ) : EReal)) * ((256 : ℝ) : EReal)

theorem filled_eq (n : EReal) : filled n = Ideal.liftRound Int.ceil (n * (((256 : ℝ)⁻¹ : ℝ) : EReal)) * ((256 : ℝ) : EReal) := by
  unfold filled
  rw [div_real n (by norm_num)]

theorem filled_real (r : ℝ) : ∃ s : ℝ, filled (r : EReal) = (s : EReal) := by
  refine ⟨(⌈r * (256 : ℝ)⁻¹⌉ : ℝ) * 256, ?_⟩
  rw [filled_eq, ← EReal.coe_mul]
  exact (EReal.coe_mul _ _).symm

theorem filled_nonneg {r : ℝ} (h : 0 ≤ r) : 0 ≤ filled (r : EReal) := by
  have e : filled (r : EReal) = (((⌈r * (256 : ℝ)⁻¹⌉ : ℝ) * 256 : ℝ) : EReal) := by
    rw [filled_eq, ← EReal.coe_mul]
    exact (EReal.coe_mul _ _).symm
  rw [e]
  exact EReal.coe_nonneg.2 (mul_nonneg (Int.cast_nonneg (Int.ceil_nonneg (mul_nonneg h (by norm_num)))) (by norm_num))

/-- Where an expert's rows begin. -/
def start (n : Fin 32 → EReal) (e : EReal) : EReal := ∑ j : Fin 32, if ((j.val : ℝ) : EReal) < e then filled (n j) else 0

/-- A token's slot, by rows of the result: the row itself, its tile and its place in the tile, all twice, then nothing. -/
def slots (a b : EReal) (s : Fin 8) : EReal :=
  match s with
  | ⟨0, _⟩ => a
  | ⟨1, _⟩ => b
  | ⟨2, _⟩ => Ideal.liftRound Int.floor (Ideal.div a ((8 : ℝ) : EReal))
  | ⟨3, _⟩ => Ideal.liftRound Int.floor (Ideal.div b ((8 : ℝ) : EReal))
  | ⟨4, _⟩ => a - ((8 : ℝ) : EReal) * Ideal.liftRound Int.floor (Ideal.div a ((8 : ℝ) : EReal))
  | ⟨5, _⟩ => b - ((8 : ℝ) : EReal) * Ideal.liftRound Int.floor (Ideal.div b ((8 : ℝ) : EReal))
  | ⟨6, _⟩ => 0
  | ⟨7, _⟩ => 0

/-- Where an expert's rows end. -/
def stop (n : Fin 32 → EReal) (j : Fin 32) : EReal := start n ((j.val : ℝ) : EReal) + filled (n j)

/-- The tiles' tables, by rows of the result: the expert a tile is of, the number of tiles, an expert's last tile (experts
    in columns 4 to 35), then nothing. -/
def tables (n : Fin 32 → EReal) (s : Fin 8) (t : Fin 256) : EReal :=
  match s with
  | ⟨0, _⟩ => min (∑ j : Fin 32, if stop n j ≤ ((t.val : ℝ) : EReal) * ((256 : ℝ) : EReal) then 1 else 0) (Ideal.ofBits .f32 0x41F80000#32)
  | ⟨1, _⟩ => Ideal.div (∑ j : Fin 32, filled (n j)) ((256 : ℝ) : EReal)
  | ⟨2, _⟩ => if h : 4 ≤ t.val ∧ t.val < 36 then
      if 0 < filled (n ⟨t.val - 4, by omega⟩) then Ideal.div (stop n ⟨t.val - 4, by omega⟩) ((256 : ℝ) : EReal) - 1 else Ideal.ofBits .f32 0xBF800000#32
    else Ideal.ofBits .f32 0xBF800000#32
  | ⟨3, _⟩ => 0
  | ⟨4, _⟩ => 0
  | ⟨5, _⟩ => 0
  | ⟨6, _⟩ => 0
  | ⟨7, _⟩ => 0

/-! ## Sums over the lanes, of which the experts are lanes 4 to 35 -/

/-- A lane's expert's rows in whole tiles, none for the other lanes. -/
def lanes (n : Fin 32 → EReal) (d : Fin 128) : EReal := if h : 4 ≤ d.val ∧ d.val < 36 then filled (n ⟨d.val - 4, by omega⟩) else 0

theorem lanes_real {n : Fin 32 → EReal} (h : ∀ j, ∃ r : ℝ, n j = (r : EReal)) (d : Fin 128) : ∃ r : ℝ, lanes n d = (r : EReal) := by
  unfold lanes
  split
  · obtain ⟨r, e⟩ := h ⟨d.val - 4, by omega⟩
    rw [e]
    exact filled_real r
  · exact ⟨0, rfl⟩

theorem sum_lanes (n : Fin 32 → EReal) (e : Fin 32) :
    (∑ d : Fin 128, if d.val < e.val + 4 then lanes n d else 0) = start n ((e.val : ℝ) : EReal) := by
  have h : (∑ d : Fin (4 + (32 + 92)), if d.val < e.val + 4 then lanes n d else 0) = start n ((e.val : ℝ) : EReal) := by
    rw [Fin.sum_univ_add, Fin.sum_univ_add]
    have h0 : (∑ i : Fin 4, if (Fin.castAdd (32 + 92) i).val < e.val + 4 then lanes n (Fin.castAdd (32 + 92) i) else 0) = 0 :=
      Finset.sum_eq_zero fun i _ => by
        have := i.isLt
        unfold lanes
        rw [dif_neg (by show ¬ (4 ≤ i.val ∧ i.val < 36); omega), ite_self]
    have h2 : (∑ i : Fin 92, if (Fin.natAdd 4 (Fin.natAdd 32 i)).val < e.val + 4 then lanes n (Fin.natAdd 4 (Fin.natAdd 32 i)) else 0) = 0 :=
      Finset.sum_eq_zero fun i _ => by
        have := e.isLt
        rw [if_neg (by show ¬ (4 + (32 + i.val) < e.val + 4); omega)]
    rw [h0, h2, zero_add, add_zero]
    refine Finset.sum_congr rfl fun j _ => ?_
    have hj := j.isLt
    have hl : lanes n (Fin.natAdd 4 (Fin.castAdd 92 j)) = filled (n j) := by
      unfold lanes
      rw [dif_pos (by show 4 ≤ 4 + j.val ∧ 4 + j.val < 36; omega)]
      exact congrArg (fun k => filled (n k)) (Fin.ext (by show 4 + j.val - 4 = j.val; omega))
    rw [hl]
    by_cases hje : j.val < e.val
    · rw [if_pos (by show 4 + j.val < e.val + 4; omega), if_pos (EReal.coe_lt_coe_iff.2 (by exact_mod_cast hje))]
    · rw [if_neg (by show ¬ 4 + j.val < e.val + 4; omega), if_neg (fun h => hje (by exact_mod_cast EReal.coe_lt_coe_iff.1 h))]
  exact h

/-- A sum of which the other lanes have no part is over the experts. -/
theorem sum_experts (f : Fin 128 → EReal) (h : ∀ d : Fin 128, ¬ (4 ≤ d.val ∧ d.val < 36) → f d = 0) :
    ∑ d, f d = ∑ j : Fin 32, f ⟨4 + j.val, by omega⟩ := by
  have e : (∑ d : Fin (4 + (32 + 92)), f d) = ∑ j : Fin 32, f ⟨4 + j.val, by omega⟩ := by
    rw [Fin.sum_univ_add, Fin.sum_univ_add]
    rw [Finset.sum_eq_zero fun (i : Fin 4) _ => h (Fin.castAdd (32 + 92) i) (by have := i.isLt; show ¬ (4 ≤ i.val ∧ i.val < 36); omega),
      Finset.sum_eq_zero fun (i : Fin 92) _ => h (Fin.natAdd 4 (Fin.natAdd 32 i)) (by show ¬ (4 ≤ 4 + (32 + i.val) ∧ 4 + (32 + i.val) < 36); omega), zero_add, add_zero]
    rfl
  exact e

theorem lanes_expert (n : Fin 32 → EReal) (j : Fin 32) : lanes n ⟨4 + j.val, by omega⟩ = filled (n j) := by
  have hj := j.isLt
  unfold lanes
  rw [dif_pos (by show 4 ≤ 4 + j.val ∧ 4 + j.val < 36; omega)]
  exact congrArg (fun k => filled (n k)) (Fin.ext (by show 4 + j.val - 4 = j.val; omega))

theorem lanes_none (n : Fin 32 → EReal) (d : Fin 128) (h : ¬ (4 ≤ d.val ∧ d.val < 36)) : lanes n d = 0 := by
  unfold lanes
  rw [dif_neg h]

/-- Where a lane's rows end. -/
def ends (n : Fin 32 → EReal) (d : Fin 128) : EReal := (∑ i : Fin 128, if i.val < d.val then lanes n i else 0) + lanes n d

theorem ends_expert (n : Fin 32 → EReal) (j : Fin 32) : ends n ⟨4 + j.val, by omega⟩ = stop n j := by
  unfold ends stop
  rw [lanes_expert, ← sum_lanes]
  simp only [Nat.add_comm]

theorem ends_eq (n : Fin 32 → EReal) (d : Fin 128) : ends n d = ∑ i : Fin 128, if i.val ≤ d.val then lanes n i else 0 := by
  have e : lanes n d = ∑ i : Fin 128, if i = d then lanes n i else 0 := by
    rw [Finset.sum_ite_eq' Finset.univ d, if_pos (Finset.mem_univ d)]
  unfold ends
  rw [e, ← Finset.sum_add_distrib]
  refine Finset.sum_congr rfl fun i _ => ?_
  rcases lt_trichotomy i.val d.val with h | h | h
  · rw [if_pos h, if_neg (fun e => absurd (congrArg Fin.val e) (by omega)), if_pos h.le, add_zero]
  · rw [if_neg (by omega), if_pos (Fin.ext h), if_pos h.le, zero_add]
  · rw [if_neg (by omega), if_neg (fun e => absurd (congrArg Fin.val e) (by omega)), if_neg (by omega), add_zero]

/-- The largest end is the number of all rows, of counts that are not negative. -/
theorem max_ends {n : Fin 32 → EReal} (hn : ∀ j, ∃ r : ℝ, 0 ≤ r ∧ n j = (r : EReal)) :
    Finset.fold max (⊥ : EReal) (fun d => ends n d) Finset.univ = ∑ j : Fin 32, filled (n j) := by
  have hl : ∀ d, 0 ≤ lanes n d := fun d => by
    unfold lanes
    split
    · obtain ⟨r, h0, e⟩ := hn ⟨d.val - 4, by omega⟩
      rw [e]
      exact filled_nonneg h0
    · exact le_refl _
  have ht : ∑ d, lanes n d = ∑ j : Fin 32, filled (n j) := by
    rw [sum_experts _ (lanes_none n)]
    exact Finset.sum_congr rfl fun j _ => lanes_expert n j
  rw [← ht]
  refine le_antisymm ((Finset.fold_max_le _).2 ⟨bot_le, fun d _ => ?_⟩) ((Finset.le_fold_max _).2 (Or.inr ⟨⟨127, by omega⟩, Finset.mem_univ _, ?_⟩))
  · rw [ends_eq]
    refine Finset.sum_le_sum fun i _ => ?_
    split
    · exact le_refl _
    · exact hl i
  · rw [ends_eq]
    refine Finset.sum_le_sum fun i _ => ?_
    have := i.isLt
    rw [if_pos (by show i.val ≤ 127; omega)]

end Cert.Proof.Plan

end
-- ==== Proof.PlanHost.lean ====
/-
  What the plan's precondition says over the extended reals: every token's experts are among the 32, and the experts'
  counts are finite and not negative.
-/
module

public import proofs.«01_k».proof.Pre_counted
public import proofs.«01_k».proof.Proof.PlanRow
public import Idealize.ShloMosaic.Lib.ReduceAll
public import Idealize.ShloMosaic.Lib.Affine

@[expose] public section

noncomputable section

namespace Cert.Proof.Plan

open Idealize.ShloMosaic Idealize.ShloMosaic.Pointwise

/-- The precondition's operations are well formed. -/
instance facts_counted : Cert.Pre_counted.Facts where
  slices_S16384x128_S16384x2_0_0 := by decide
  slices_S8x128_S1x32_0_4 := by decide
  shapeCasts_S1x32_S32 := by decide
  bcast_S16384x2_S16384x2x1_0_1 := by decide
  bcast_S32_S1x1x32_2 := by decide
  bcast_S16384x2x1_S16384x2x32_0_1_2 := by decide
  bcast_S1x1x32_S16384x2x32_0_1_2 := by decide
  reducesTo_S16384x2x32_S16384x2_d2 := by decide
  h_S_ := by decide
  reducesTo_S16384x2_S_d0_1 := by decide
  bcast_S_S32 := by decide
  reducesTo_S32_S_d0 := by decide

/-- A left fold by `or` that is 1 starts at 1 or meets a 1. -/
theorem foldl_ori {ι : Type} (f : ι → BitVec 1) : ∀ (l : List ι) (init : BitVec 1), l.foldl (fun r n => IntOp.ori r (f n)) init = 1#1 → init = 1#1 ∨ ∃ n ∈ l, f n = 1#1
  | [], _, h => Or.inl h
  | a :: l, init, h => by
    rcases foldl_ori f l _ h with h | ⟨n, hn, e⟩
    · have ho : ∀ u v : BitVec 1, IntOp.ori u v = 1#1 → u = 1#1 ∨ v = 1#1 := by decide
      rcases ho _ _ h with h | h
      · exact Or.inl h
      · exact Or.inr ⟨a, List.mem_cons_self .., h⟩
    · exact Or.inr ⟨n, List.mem_cons_of_mem _ hn, e⟩

/-- A comparison that holds, read back. -/
theorem of_cmp {p : Prop} [Decidable p] (h : BitVec.ofBool (decide p) = 1#1) : p := by
  by_contra hp
  rw [decide_eq_false hp] at h
  exact absurd h (by decide)

variable {route : FVec Ideal Cert.Pre_counted.S16384x128 .f32} {counts : FVec Ideal Cert.Pre_counted.S8x128 .f32}

open Cert.Pre_counted in
theorem counted_of (h : Cert.Pre_counted.fn (F := Ideal) route counts = fun _ => 1#1) :
    (∀ (q : Fin 16384) (k : Fin 2), ∃ j : Fin 32, (route (ix2 q (⟨k.val, by omega⟩ : Fin 128)) : EReal) = ((j.val : ℝ) : EReal))
      ∧ ∀ j : Fin 32, ∃ r : ℝ, 0 ≤ r ∧ (counts (ix2 (0 : Fin 8) (⟨4 + j.val, by omega⟩ : Fin 128)) : EReal) = (r : EReal) := by
  have h0 := congrFun h (fun a => nomatch a)
  haveI : Subsingleton Cert.Pre_counted.S_.Idx := ⟨fun i j => funext fun a => nomatch a⟩
  unfold Cert.Pre_counted.fn at h0
  dsimp only at h0
  obtain ⟨e1, e2⟩ := IntOp.andi_eq_one.1 h0
  constructor
  · intro q k
    have q1 := Host.reduce_andi_all _ _ _ _ _ e1 (ix2 q k)
    rw [Host.reduce_eq_foldl] at q1
    rcases foldl_ori _ _ _ q1 with q1 | ⟨i, hi, e⟩
    · exact absurd q1 (by decide)
    · rw [List.mem_filter] at hi
      obtain ⟨j, hj⟩ := (Shape.ReducesTo.fiber_r3_a2 _ _ _).1 (of_decide_eq_true hi.2)
      refine ⟨j, ?_⟩
      rw [← hj] at e
      have hw : ∀ d : Fin 32, (BitVec.ofNat 32 d.val).toInt = (d.val : ℤ) := by decide +kernel
      have e' : BitVec.ofBool (decide ((route (ix2 q (⟨k.val, by omega⟩ : Fin 128)) : EReal) = (((BitVec.ofNat 32 j.val).toInt : ℝ) : EReal))) = 1#1 := by
        refine Eq.trans (Eq.symm ?_) e
        pointwise []
        rfl
      rw [of_cmp e', hw, Int.cast_natCast]
  · intro j
    obtain ⟨q1, q2⟩ := IntOp.andi_eq_one.1 (Host.reduce_andi_all _ _ _ _ _ e2 (ix1 j))
    have q1 : BitVec.ofBool (decide ((0 : EReal) ≤ counts (ix2 (0 : Fin 8) (⟨4 + j.val, by omega⟩ : Fin 128)))) = 1#1 := by
      refine Eq.trans (Eq.symm ?_) q1
      pointwise []
    have q2 : BitVec.ofBool (decide ((counts (ix2 (0 : Fin 8) (⟨4 + j.val, by omega⟩ : Fin 128)) : EReal) < Ideal.ofBits .f32 0x7F800000#32)) = 1#1 := by
      refine Eq.trans (Eq.symm ?_) q2
      pointwise []
    have q1 := of_cmp q1
    have q2 := of_cmp q2
    rw [cinf] at q2
    exact ⟨_, EReal.toReal_nonneg q1, (EReal.coe_toReal q2.ne (fun e => absurd (e ▸ q1) (by simp))).symm⟩

end Cert.Proof.Plan

end
-- ==== Proof.PlanTile.lean ====
/-
  The plan's kernel at one grid point, over the extended reals: a token's slots, from its experts, its ranks and the
  counts of the experts' rows, and the tiles' tables from the counts.
-/
module

public import proofs.«01_k».proof.Proof.Gen.Kernel5Ideal.Value
public import proofs.«01_k».proof.Proof.PlanRow
public import Idealize.ShloMosaic.Lib.Pointwise

@[expose] public section

noncomputable section

namespace Cert.Proof.Plan

open Cert.Kernel5Ideal Cert.Kernel5Ideal.Gen

open Idealize.ShloMosaic Idealize.ShloMosaic.Pointwise

variable (x : Vec Ideal S512x128 .f32) (v : Vec Ideal S8x128 .f32)

/-- The experts' counts: lanes 4 to 35 of the first row. -/
abbrev counted (j : Fin 32) : EReal := v (ix2 (0 : Fin 8) (⟨4 + j.val, by omega⟩ : Fin 128))

/-! ## Where the experts' rows begin -/

theorem lane_word : ∀ d : Fin 128, IntOp.andi (IntOp.cmpi CmpIPredicate.sge (BitVec.ofNat 32 d.val) 4#32) (IntOp.cmpi CmpIPredicate.slt (BitVec.ofNat 32 d.val) 36#32) = if 4 ≤ d.val ∧ d.val < 36 then 1#1 else 0#1 := by
  decide +kernel

theorem pay2_apply (d : Fin 128) : k0_pay2 (F := Ideal) v (ix2 d 0) = lanes (counted v) d := by
  have h : k0_pay2 (F := Ideal) v (ix2 d 0) = Scalar.select (IntOp.andi (IntOp.cmpi CmpIPredicate.sge (BitVec.ofNat 32 d.val) 4#32) (IntOp.cmpi CmpIPredicate.slt (BitVec.ofNat 32 d.val) 36#32))
      (Ideal.liftRound Int.ceil ((v (ix2 (0 : Fin 8) d) : EReal) * Ideal.ofBits FTy.f32 0x3B800000#32) * Ideal.ofBits FTy.f32 0x43800000#32) (0 : EReal) := by
    pointwise [k0_pay2, k0_pay1]
  rw [h, lane_word, r256, c256, ← filled_eq]
  unfold lanes
  by_cases hd : 4 ≤ d.val ∧ d.val < 36
  · rw [if_pos hd, dif_pos hd]
    exact congrArg (fun k => filled (v (ix2 (0 : Fin 8) k))) (Fin.ext (by show d.val = 4 + (d.val - 4); omega))
  · rw [if_neg hd, dif_neg hd]
    rfl

theorem below_word : ∀ i d : Fin 128, (BitVec.setWidth 32 (IntOp.cmpi CmpIPredicate.sgt (BitVec.ofNat 32 i.val) (BitVec.ofNat 32 d.val))).toInt = if d.val < i.val then 1 else 0 := by
  decide +kernel

/-- A product with the triangle below `i`. -/
theorem below_mul (i d : Fin 128) (a : EReal) :
    (((BitVec.setWidth 32 (IntOp.cmpi CmpIPredicate.sgt (BitVec.ofNat 32 i.val) (BitVec.ofNat 32 d.val))).toInt : ℝ) : EReal) * a = if d.val < i.val then a else 0 := by
  rw [below_word]
  split
  · rw [Int.cast_one, EReal.coe_one, one_mul]
  · rw [Int.cast_zero, EReal.coe_zero, zero_mul]

/-- The three parts of the product: the second and third are of differences that vanish. -/
theorem pay3_apply (hn : ∀ j, ∃ r : ℝ, counted v j = (r : EReal)) (i : Fin 128) :
    k0_pay3 (F := Ideal) v (ix2 i 0) = (∑ d : Fin 128, if d.val < i.val then lanes (counted v) d else 0 : EReal) := by
  have h : ∀ p : FVec Ideal S128x1 .f32, k0_pay2 (F := Ideal) v = p → k0_pay3 (F := Ideal) v (ix2 i 0)
      = ((∑ d : Fin 128, (((BitVec.setWidth 32 (IntOp.cmpi CmpIPredicate.sgt (BitVec.ofNat 32 i.val) (BitVec.ofNat 32 d.val))).toInt : ℝ) : EReal) * (p (ix2 d 0) : EReal))
        + (∑ d : Fin 128, (((BitVec.setWidth 32 (IntOp.cmpi CmpIPredicate.sgt (BitVec.ofNat 32 i.val) (BitVec.ofNat 32 d.val))).toInt : ℝ) : EReal) * ((p (ix2 d 0) : EReal) - (p (ix2 d 0) : EReal)))
        + (∑ d : Fin 128, (((BitVec.setWidth 32 (IntOp.cmpi CmpIPredicate.sgt (BitVec.ofNat 32 i.val) (BitVec.ofNat 32 d.val))).toInt : ℝ) : EReal)
            * ((p (ix2 d 0) : EReal) - (p (ix2 d 0) : EReal) - ((p (ix2 d 0) : EReal) - (p (ix2 d 0) : EReal)))) : EReal) := by
    intro p hp
    unfold k0_pay3
    rw [hp]
    pointwise []
    rfl
  rw [h _ rfl]
  have hs : ∀ d : Fin 128, (k0_pay2 (F := Ideal) v (ix2 d 0) : EReal) - (k0_pay2 (F := Ideal) v (ix2 d 0) : EReal) = 0 := fun d => by
    rw [pay2_apply v d]
    obtain ⟨r, e⟩ := lanes_real hn d
    rw [e, ← EReal.coe_sub, sub_self, EReal.coe_zero]
  have h1 : ∀ d : Fin 128, (((BitVec.setWidth 32 (IntOp.cmpi CmpIPredicate.sgt (BitVec.ofNat 32 i.val) (BitVec.ofNat 32 d.val))).toInt : ℝ) : EReal) * (k0_pay2 (F := Ideal) v (ix2 d 0) : EReal)
      = if d.val < i.val then lanes (counted v) d else 0 := fun d => by rw [below_mul, pay2_apply]
  refine (congrArg₂ (· + ·) (congrArg₂ (· + ·) (Finset.sum_congr rfl fun d _ => h1 d) (Finset.sum_eq_zero fun d _ => ?_)) (Finset.sum_eq_zero fun d _ => ?_)).trans ?_
  · exact (congrArg _ (hs d)).trans (mul_zero _)
  · exact (congrArg _ ((congrArg₂ (· - ·) (hs d) (hs d)).trans (sub_zero _))).trans (mul_zero _)
  · exact (add_zero _).trans (add_zero _)

/-! ## A token's slots -/

section
variable (p : FVec Ideal S128x1 .f32) (z l : FVec Ideal S128x512 .f32) (e r : FVec Ideal S1x512 .f32) (q : Fin 512)

/-- A token's row for its first expert, -/
abbrev rowA : EReal := (∑ d : Fin 128, if (l (ix2 d q) : EReal) = (e (ix2 0 q) : EReal) then (p (ix2 d 0) : EReal) else 0) + (r (ix2 0 q) : EReal)

/-- and for its second. -/
abbrev rowB : EReal := (∑ d : Fin 128, if (l (ix2 d q) : EReal) = (z (ix2 (1 : Fin 128) q) : EReal) then (p (ix2 d 0) : EReal) else 0) + (z (ix2 (5 : Fin 128) q) : EReal)

theorem pay9_0 : k0_pay9 (F := Ideal) p z l e r (ix2 (0 : Fin 8) q) = Ideal.fptosi 32 (rowA p l e r q) := by
  pointwise [k0_pay9]
  rfl

theorem pay9_1 : k0_pay9 (F := Ideal) p z l e r (ix2 (1 : Fin 8) q) = Ideal.fptosi 32 (rowB p z l q) := by
  pointwise [k0_pay9]
  rfl

theorem pay9_2 : k0_pay9 (F := Ideal) p z l e r (ix2 (2 : Fin 8) q) = Ideal.fptosi 32 (Ideal.liftRound Int.floor (rowA p l e r q * Ideal.ofBits FTy.f32 0x3E000000#32)) := by
  pointwise [k0_pay9]
  rfl

theorem pay9_3 : k0_pay9 (F := Ideal) p z l e r (ix2 (3 : Fin 8) q) = Ideal.fptosi 32 (Ideal.liftRound Int.floor (rowB p z l q * Ideal.ofBits FTy.f32 0x3E000000#32)) := by
  pointwise [k0_pay9]
  rfl

theorem pay9_4 : k0_pay9 (F := Ideal) p z l e r (ix2 (4 : Fin 8) q) = Ideal.fptosi 32 (rowA p l e r q - Ideal.ofBits FTy.f32 0x41000000#32 * Ideal.liftRound Int.floor (rowA p l e r q * Ideal.ofBits FTy.f32 0x3E000000#32)) := by
  pointwise [k0_pay9]
  rfl

theorem pay9_5 : k0_pay9 (F := Ideal) p z l e r (ix2 (5 : Fin 8) q) = Ideal.fptosi 32 (rowB p z l q - Ideal.ofBits FTy.f32 0x41000000#32 * Ideal.liftRound Int.floor (rowB p z l q * Ideal.ofBits FTy.f32 0x3E000000#32)) := by
  pointwise [k0_pay9]
  rfl

theorem pay9_6 : k0_pay9 (F := Ideal) p z l e r (ix2 (6 : Fin 8) q) = Ideal.fptosi 32 (0) := by
  pointwise [k0_pay9]
  rfl

theorem pay9_7 : k0_pay9 (F := Ideal) p z l e r (ix2 (7 : Fin 8) q) = Ideal.fptosi 32 (0) := by
  pointwise [k0_pay9]
  rfl

theorem pay9_apply (s : Fin 8) : k0_pay9 (F := Ideal) p z l e r (ix2 s q) = Ideal.fptosi 32 (slots (rowA p l e r q) (rowB p z l q) s) := by
  match s with
  | ⟨0, _⟩ => exact pay9_0 p z l e r q
  | ⟨1, _⟩ => exact pay9_1 p z l e r q
  | ⟨2, _⟩ =>
    refine (pay9_2 p z l e r q).trans (congrArg (Ideal.fptosi 32) ?_)
    unfold slots
    dsimp only
    rw [div_real _ (by norm_num), r8]
  | ⟨3, _⟩ =>
    refine (pay9_3 p z l e r q).trans (congrArg (Ideal.fptosi 32) ?_)
    unfold slots
    dsimp only
    rw [div_real _ (by norm_num), r8]
  | ⟨4, _⟩ =>
    refine (pay9_4 p z l e r q).trans (congrArg (Ideal.fptosi 32) ?_)
    unfold slots
    dsimp only
    rw [div_real _ (by norm_num), r8, c8]
  | ⟨5, _⟩ =>
    refine (pay9_5 p z l e r q).trans (congrArg (Ideal.fptosi 32) ?_)
    unfold slots
    dsimp only
    rw [div_real _ (by norm_num), r8, c8]
  | ⟨6, _⟩ => exact pay9_6 p z l e r q
  | ⟨7, _⟩ => exact pay9_7 p z l e r q

end

theorem lane_apply (d : Fin 128) (q : Fin 512) : (k0_pay6 (F := Ideal) (ix2 d q) : EReal) = (((d.val : ℝ) - 4 : ℝ) : EReal) := by
  have h : (k0_pay6 (F := Ideal) (ix2 d q) : EReal) = (((BitVec.ofNat 32 d.val).toInt : ℝ) : EReal) - Ideal.ofBits FTy.f32 0x40800000#32 := by
    pointwise [k0_pay6]
    rfl
  have hw : ∀ d : Fin 128, (BitVec.ofNat 32 d.val).toInt = (d.val : ℤ) := by decide +kernel
  rw [h, c4, hw, EReal.coe_sub, Int.cast_natCast]

/-- The lane that holds an expert. -/
theorem lane_eq (d : Fin 128) (q : Fin 512) (j : Fin 32) : (k0_pay6 (F := Ideal) (ix2 d q) : EReal) = ((j.val : ℝ) : EReal) ↔ d = (⟨j.val + 4, by omega⟩ : Fin 128) := by
  rw [lane_apply, EReal.coe_eq_coe_iff]
  constructor
  · intro h
    refine Fin.ext ?_
    have : (d.val : ℝ) = ((j.val + 4 : ℕ) : ℝ) := by push_cast; linarith
    exact_mod_cast this
  · intro h
    rw [h]
    push_cast
    ring

theorem pick (hn : ∀ j, ∃ r : ℝ, counted v j = (r : EReal)) (q : Fin 512) {a : EReal} {j : Fin 32} (ha : a = ((j.val : ℝ) : EReal)) :
    (∑ d : Fin 128, if (k0_pay6 (F := Ideal) (ix2 d q) : EReal) = a then (k0_pay3 (F := Ideal) v (ix2 d 0) : EReal) else 0) = start (counted v) a := by
  subst ha
  have h : ∀ d : Fin 128, (if (k0_pay6 (F := Ideal) (ix2 d q) : EReal) = ((j.val : ℝ) : EReal) then (k0_pay3 (F := Ideal) v (ix2 d 0) : EReal) else 0)
      = if d = (⟨j.val + 4, by omega⟩ : Fin 128) then (k0_pay3 (F := Ideal) v (ix2 d 0) : EReal) else 0 := fun d => if_congr (lane_eq d q j) rfl rfl
  rw [Finset.sum_congr rfl fun d _ => h d, Finset.sum_ite_eq' Finset.univ, if_pos (Finset.mem_univ _), pay3_apply v hn]
  exact sum_lanes (counted v) j

theorem pay7_apply (q : Fin 512) : k0_pay7 (F := Ideal) x (ix2 0 q) = x (ix2 q (0 : Fin 128)) := by
  pointwise [k0_pay7, k0_pay5]

theorem pay8_apply (q : Fin 512) : k0_pay8 (F := Ideal) x (ix2 0 q) = x (ix2 q (4 : Fin 128)) := by
  pointwise [k0_pay8, k0_pay5]

theorem pay5_apply (k : Fin 128) (q : Fin 512) : k0_pay5 (F := Ideal) x (ix2 k q) = x (ix2 q k) := by
  pointwise [k0_pay5]

theorem ld_route : View.ld x r0_1 = x :=
  View.ld_unit_zero (funext fun a => by match a with | ⟨0, _⟩ => rfl | ⟨1, _⟩ => rfl) _ x

theorem ld_counts : View.ld v r0_0 = v :=
  View.ld_unit_zero (funext fun a => by match a with | ⟨0, _⟩ => rfl | ⟨1, _⟩ => rfl) _ v

/-- What the point leaves. -/
theorem out2_apply (hn : ∀ j, ∃ r : ℝ, counted v j = (r : EReal)) (s : Fin 8) (q : Fin 512) {ja jb : Fin 32}
    (ha : (x (ix2 q (0 : Fin 128)) : EReal) = ((ja.val : ℝ) : EReal)) (hb : (x (ix2 q (1 : Fin 128)) : EReal) = ((jb.val : ℝ) : EReal)) :
    out0_2 (F := Ideal) x v (ix2 s q) = Ideal.fptosi 32 (slots (start (counted v) (x (ix2 q (0 : Fin 128))) + x (ix2 q (4 : Fin 128))) (start (counted v) (x (ix2 q (1 : Fin 128))) + x (ix2 q (5 : Fin 128))) s) := by
  unfold out0_2
  rw [ld_route, ld_counts, View.canon_unit_zero (funext fun a => by match a with | ⟨0, _⟩ => rfl | ⟨1, _⟩ => rfl)]
  refine (pay9_apply _ _ _ _ _ q s).trans (congrArg (Ideal.fptosi 32) (congrArg₂ (fun a b => slots a b s) ?_ ?_))
  · unfold rowA
    rw [pay7_apply, pay8_apply, pick v hn q ha]
  · unfold rowB
    rw [pay5_apply, pay5_apply, pick v hn q hb]

/-! ## The tiles' tables -/

section
variable (w : IVec S128x1 1) (p f : FVec Ideal S128x1 .f32) (b : IVec S128x256 1) (o : FVec Ideal S128x256 .f32) (z : EReal) (t : Fin 256)

theorem pay12_0 : k0_pay12 (F := Ideal) w p f b z o (ix2 (0 : Fin 8) t)
    = Ideal.fptosi 32 (min (∑ d : Fin 128, Scalar.select (b (ix2 d t)) (o (ix2 d t) : EReal) z) (Ideal.ofBits FTy.f32 0x41F80000#32)) := by
  pointwise [k0_pay12]
  rfl

theorem pay12_1 : k0_pay12 (F := Ideal) w p f b z o (ix2 (1 : Fin 8) t)
    = Ideal.fptosi 32 (Finset.fold max (Ideal.ofBits FTy.f32 0xFF800000#32) (fun d : Fin 128 => (f (ix2 d 0) : EReal)) Finset.univ * Ideal.ofBits FTy.f32 0x3B800000#32) := by
  pointwise [k0_pay12]
  rfl

theorem pay12_2 : k0_pay12 (F := Ideal) w p f b z o (ix2 (2 : Fin 8) t)
    = Ideal.fptosi 32 (if h : t.val < 128 then
        Scalar.select (IntOp.andi (w (ix2 (⟨t.val, h⟩ : Fin 128) 0)) (BitVec.ofBool (decide ((0 : EReal) < p (ix2 (⟨t.val, h⟩ : Fin 128) 0)))))
          ((f (ix2 (⟨t.val, h⟩ : Fin 128) 0) : EReal) * Ideal.ofBits FTy.f32 0x3B800000#32 - 1) (Ideal.ofBits FTy.f32 0xBF800000#32)
      else Ideal.ofBits FTy.f32 0xBF800000#32) := by
  pointwise [k0_pay12]
  rfl

theorem pay12_3 : k0_pay12 (F := Ideal) w p f b z o (ix2 (3 : Fin 8) t) = Ideal.fptosi 32 (0) := by
  pointwise [k0_pay12]
  rfl

theorem pay12_4 : k0_pay12 (F := Ideal) w p f b z o (ix2 (4 : Fin 8) t) = Ideal.fptosi 32 (0) := by
  pointwise [k0_pay12]
  rfl

theorem pay12_5 : k0_pay12 (F := Ideal) w p f b z o (ix2 (5 : Fin 8) t) = Ideal.fptosi 32 (0) := by
  pointwise [k0_pay12]
  rfl

theorem pay12_6 : k0_pay12 (F := Ideal) w p f b z o (ix2 (6 : Fin 8) t) = Ideal.fptosi 32 (0) := by
  pointwise [k0_pay12]
  rfl

theorem pay12_7 : k0_pay12 (F := Ideal) w p f b z o (ix2 (7 : Fin 8) t) = Ideal.fptosi 32 (0) := by
  pointwise [k0_pay12]
  rfl

theorem pay10_apply (d : Fin 128) : k0_pay10 (F := Ideal) w f (ix2 d t)
    = IntOp.andi (w (ix2 d 0)) (BitVec.ofBool (decide ((f (ix2 d 0) : EReal) ≤ (((BitVec.ofNat 32 t.val).toInt : ℝ) : EReal) * Ideal.ofBits FTy.f32 0x43800000#32))) := by
  pointwise [k0_pay10]
  rfl

end

theorem pay1_apply (d : Fin 128) : k0_pay1 (ix2 d 0) = if 4 ≤ d.val ∧ d.val < 36 then 1#1 else 0#1 := by
  rw [← lane_word]
  pointwise [k0_pay1]

theorem pay4_apply (hn : ∀ j, ∃ r : ℝ, counted v j = (r : EReal)) (d : Fin 128) : k0_pay4 (F := Ideal) v (ix2 d 0) = ends (counted v) d := by
  have h : k0_pay4 (F := Ideal) v (ix2 d 0) = (k0_pay3 (F := Ideal) v (ix2 d 0) : EReal) + (k0_pay2 (F := Ideal) v (ix2 d 0) : EReal) := rfl
  rw [h, pay3_apply v hn, pay2_apply]
  rfl

theorem select_word (c p : Prop) [Decidable c] [Decidable p] (a b : EReal) :
    Scalar.select (IntOp.andi (if c then 1#1 else 0#1) (BitVec.ofBool (decide p))) a b = if c ∧ p then a else b := by
  by_cases hc : c
  · by_cases hp : p
    · rw [if_pos hc, decide_eq_true hp, if_pos ⟨hc, hp⟩]
      rfl
    · rw [if_pos hc, decide_eq_false hp, if_neg (fun h => hp h.2)]
      rfl
  · have : ∀ u : BitVec 1, IntOp.andi 0#1 u = 0#1 := by decide
    rw [if_neg hc, this, if_neg (fun h => hc h.1)]
    rfl

theorem tile_word : ∀ t : Fin 256, (BitVec.ofNat 32 t.val).toInt = (t.val : ℤ) := by decide +kernel

/-- A point's tables. -/
theorem out3_apply (hn : ∀ j, ∃ r : ℝ, 0 ≤ r ∧ counted v j = (r : EReal)) (s : Fin 8) (t : Fin 256) :
    out0_3 (F := Ideal) x v (ix2 s t) = Ideal.fptosi 32 (tables (counted v) s t) := by
  have hr : ∀ j, ∃ r : ℝ, counted v j = (r : EReal) := fun j => (hn j).imp fun _ h => h.2
  unfold out0_3 k0_pay14 k0_pay13
  rw [View.canon_unit_zero (funext fun a => by match a with | ⟨0, _⟩ => rfl | ⟨1, _⟩ => rfl), ld_counts]
  match s with
  | ⟨0, _⟩ =>
    refine (pay12_0 ..).trans (congrArg (Ideal.fptosi 32) (congrArg (min · _) ?_))
    have he : ∀ d : Fin 128, Scalar.select (k0_pay10 (F := Ideal) k0_pay1 (k0_pay4 v) (ix2 d t)) (k0_pay11 (F := Ideal) (ix2 d t) : EReal) (Scalar.ofBits (F := Ideal) .f32 0x00000000#32)
        = if (4 ≤ d.val ∧ d.val < 36) ∧ ends (counted v) d ≤ ((t.val : ℝ) : EReal) * ((256 : ℝ) : EReal) then 1 else 0 := fun d => by
      have h1 : (k0_pay11 (F := Ideal) (ix2 d t) : EReal) = 1 := by pointwise [k0_pay11]
      have h0 : (Scalar.ofBits (F := Ideal) .f32 0x00000000#32 : EReal) = 0 := by pointwise []
      rw [pay10_apply, pay1_apply, pay4_apply v hr, c256, tile_word, Int.cast_natCast, h1, h0]
      exact select_word _ _ _ _
    refine (Finset.sum_congr rfl fun d _ => he d).trans ((sum_experts _ fun d hd => if_neg fun h => hd h.1).trans (Finset.sum_congr rfl fun j _ => ?_))
    have hj := j.isLt
    rw [ends_expert]
    by_cases h : stop (counted v) j ≤ ((t.val : ℝ) : EReal) * ((256 : ℝ) : EReal)
    · rw [if_pos h, if_pos ⟨by show 4 ≤ 4 + j.val ∧ 4 + j.val < 36; omega, h⟩]
    · rw [if_neg h, if_neg fun e => h e.2]
  | ⟨1, _⟩ =>
    refine (pay12_1 ..).trans (congrArg (Ideal.fptosi 32) ?_)
    have he : (fun d : Fin 128 => (k0_pay4 (F := Ideal) v (ix2 d 0) : EReal)) = fun d => ends (counted v) d := funext fun d => pay4_apply v hr d
    rw [he, cninf, max_ends hn, r256, ← div_real _ (by norm_num)]
    rfl
  | ⟨2, _⟩ =>
    refine (pay12_2 ..).trans (congrArg (Ideal.fptosi 32) ?_)
    unfold tables
    dsimp only
    by_cases h : 4 ≤ t.val ∧ t.val < 36
    · have h128 : t.val < 128 := by omega
      have ht : (⟨t.val, h128⟩ : Fin 128) = ⟨4 + (⟨t.val - 4, by omega⟩ : Fin 32).val, by omega⟩ := Fin.ext (by show t.val = 4 + (t.val - 4); omega)
      rw [dif_pos h, dif_pos h128, pay1_apply, pay2_apply, pay4_apply v hr, ht, lanes_expert, ends_expert, r256, ← div_real _ (by norm_num), select_word]
      refine if_congr ⟨fun e => e.2, fun e => ⟨?_, e⟩⟩ rfl rfl
      show 4 ≤ 4 + (t.val - 4) ∧ 4 + (t.val - 4) < 36
      omega
    · rw [dif_neg h]
      by_cases h128 : t.val < 128
      · rw [dif_pos h128, pay1_apply, select_word, if_neg fun e => h e.1]
      · rw [dif_neg h128]
  | ⟨3, _⟩ => exact pay12_3 ..
  | ⟨4, _⟩ => exact pay12_4 ..
  | ⟨5, _⟩ => exact pay12_5 ..
  | ⟨6, _⟩ => exact pay12_6 ..
  | ⟨7, _⟩ => exact pay12_7 ..

end Cert.Proof.Plan

end
-- ==== Proof.PlanValue.lean ====
/-
  The plan's call computes its tokens' slots and its tiles' tables: a point is given its tokens' routing and all the counts,
  and leaves its tokens' columns of the first result and the second result whole.
-/
module

public import proofs.«01_k».proof.Proof.PlanTile
public import Idealize.ShloMosaic.Lib.Pipeline.ValueKit.Geometry

@[expose] public section

noncomputable section

namespace Cert.Proof.Plan

open Cert.Kernel5Ideal Cert.Kernel5Ideal.Gen

open Idealize.ShloMosaic Idealize.ShloMosaic.Pointwise
open Idealize.ShloMosaic.TcCoe

variable (m : (ℓ : Loc nD τ sig) → Buf (Elt Ideal) ℓ) (c : Dev nD)

/-- The tokens' routing: experts in columns 0 and 1, ranks in columns 4 and 5. -/
abbrev inRoute : S16384x128.Idx → EReal := m ((c : Thread nD τ).loc main_arg0)
/-- The experts' counts. -/
abbrev inCounts : S8x128.Idx → EReal := m ((c : Thread nD τ).loc main_arg1)

/-! ## A point's blocks -/

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, t.val] := (by decide +kernel : ∀ t : Fin grid0.N, win0_2.index t = ![0, t.val])
theorem idx3 : ∀ t : Fin cfg0.N, win0_3.index t = ![0, 0] := (by decide +kernel : ∀ t : Fin grid0.N, win0_3.index t = ![0, 0])

theorem route_at (t : Fin cfg0.N) (r : Fin 512) (k : Fin 128) (q : Fin 16384) (hq : q.val = t.val * 512 + r.val) :
    ((iblk m c 0 t : S512x128.Idx → EReal) (ix2 r k) : EReal) = inRoute m c (ix2 q k) := by
  have e : ∀ a : Fin 2, (((win0_0.rect t).emb (ix2 r k) a : Fin _) : ℕ) = (![t.val, 0] : Fin 2 → ℕ) a * S512x128.size a + ((ix2 r k : S512x128.Idx) a).val := fun a => by
    have e := Pipeline.Window.rect_emb_val win0_0 t (ix2 r k) a
    rw [idx0] at e
    exact e
  refine Eq.trans (b := V m c main_arg0 ((win0_0.rect t).emb (ix2 r k))) rfl ?_
  rw [show V m c main_arg0 = _ from V_main_arg0 m c]
  refine congrArg (inRoute m c) (?_ : ((win0_0.rect t).emb (ix2 r k) : S16384x128.Idx) = ix2 q k)
  funext b
  refine Fin.ext ((e b).trans ?_)
  match b with
  | ⟨0, _⟩ => exact hq.symm
  | ⟨1, _⟩ => show 0 * 128 + k.val = k.val; omega

theorem counts_at (t : Fin cfg0.N) (s : Fin 8) (k : Fin 128) : ((iblk m c 1 t : S8x128.Idx → EReal) (ix2 s k) : EReal) = inCounts m c (ix2 s k) := by
  have e : ∀ a : Fin 2, (((win0_1.rect t).emb (ix2 s k) a : Fin _) : ℕ) = (![0, 0] : Fin 2 → ℕ) a * S8x128.size a + ((ix2 s k : S8x128.Idx) a).val := fun a => by
    have e := Pipeline.Window.rect_emb_val win0_1 t (ix2 s k) a
    rw [idx1] at e
    exact e
  refine Eq.trans (b := V m c main_arg1 ((win0_1.rect t).emb (ix2 s k))) rfl ?_
  rw [show V m c main_arg1 = _ from V_main_arg1 m c]
  refine congrArg (inCounts m c) (?_ : ((win0_1.rect t).emb (ix2 s k) : S8x128.Idx) = ix2 s k)
  funext b
  refine Fin.ext ((e b).trans ?_)
  match b with
  | ⟨0, _⟩ => show 0 * 8 + s.val = s.val; omega
  | ⟨1, _⟩ => show 0 * 128 + k.val = k.val; omega

/-! ## The result -/

/-- A token's row for one of its experts. -/
def rowOf (q : Fin 16384) (k : Fin 2) : EReal :=
  start (fun j => inCounts m c (ix2 (0 : Fin 8) (⟨4 + j.val, by omega⟩ : Fin 128))) (inRoute m c (ix2 q (⟨k.val, by omega⟩ : Fin 128))) + inRoute m c (ix2 q (⟨4 + k.val, by omega⟩ : Fin 128))

/-- The result: a column to a token. -/
def G2 (y : S8x16384.Idx) : BitVec 32 := Ideal.fptosi 32 (slots (rowOf m c (y 1) 0) (rowOf m c (y 1) 1) (y 0))

/-- What the call is given: experts among the 32, and finite counts that are not negative. -/
def Given : Prop :=
  (∀ (q : Fin 16384) (k : Fin 2), ∃ j : Fin 32, inRoute m c (ix2 q (⟨k.val, by omega⟩ : Fin 128)) = ((j.val : ℝ) : EReal))
    ∧ ∀ j : Fin 32, ∃ r : ℝ, 0 ≤ r ∧ inCounts m c (ix2 (0 : Fin 8) (⟨4 + j.val, by omega⟩ : Fin 128)) = (r : EReal)

theorem tile_at (hg : Given m c) (t : Fin cfg0.N) (s : Fin 8) (r : Fin 512) (q : Fin 16384) (hq : q.val = t.val * 512 + r.val) :
    out0_2 (F := Ideal) (iblk m c 0 t) (iblk m c 1 t) (ix2 s r) = Ideal.fptosi 32 (slots (rowOf m c q 0) (rowOf m c q 1) s) := by
  have hc : counted (iblk m c 1 t) = fun j => inCounts m c (ix2 (0 : Fin 8) (⟨4 + j.val, by omega⟩ : Fin 128)) := funext fun j => counts_at m c t 0 _
  obtain ⟨ja, ha⟩ := hg.1 q 0
  obtain ⟨jb, hb⟩ := hg.1 q 1
  refine (out2_apply (iblk m c 0 t) (iblk m c 1 t) (fun j => ?_) s r ((route_at m c t r 0 q hq).trans ha) ((route_at m c t r 1 q hq).trans hb)).trans ?_
  · obtain ⟨v, -, hv⟩ := hg.2 j
    exact ⟨v, (counts_at m c t 0 _).trans hv⟩
  · rw [hc]
    exact congrArg (Ideal.fptosi 32) (congrArg₂ (fun a b => slots a b s)
      (congrArg₂ (fun a b => start (fun j => inCounts m c (ix2 (0 : Fin 8) (⟨4 + j.val, by omega⟩ : Fin 128))) a + b) (route_at m c t r 0 q hq) (route_at m c t r 4 q hq))
      (congrArg₂ (fun a b => start (fun j => inCounts m c (ix2 (0 : Fin 8) (⟨4 + j.val, by omega⟩ : Fin 128))) a + b) (route_at m c t r 1 q hq) (route_at m c t r 5 q hq)))

theorem final2 (hg : Given m c) : (dats m 0 c).arrAt 2 cfg0.N = G2 m c :=
  (dats m 0 c).arrAt_eq_of_covers 2 _ (by decide +kernel) fun t _ y => by
    refine (congrFun (after0_2 m c t) y).trans ?_
    have e : ∀ a : Fin 2, (((win0_2.rect t).emb y a : Fin _) : ℕ) = (![0, t.val] : Fin 2 → ℕ) a * S8x512.size a + (y a).val := fun a => by
      have e := Pipeline.Window.rect_emb_val win0_2 t y a
      rw [idx2] at e
      exact e
    have ey : y = ix2 (y 0) (y 1) := funext fun a => by
      match a with
      | ⟨0, _⟩ => rfl
      | ⟨1, _⟩ => rfl
    have e0 : (((win0_2.rect t).emb y : S8x16384.Idx) 0) = y 0 := Fin.ext ((e 0).trans (by show 0 * 8 + (y 0).val = (y 0).val; omega))
    refine (congrArg (out0_2 (F := Ideal) (iblk m c 0 t) (iblk m c 1 t)) ey).trans ((tile_at m c hg t (y 0) (y 1) (((win0_2.rect t).emb y : S8x16384.Idx) 1) (e 1)).trans ?_)
    exact congrArg (fun s => Ideal.fptosi 32 (slots (rowOf m c (((win0_2.rect t).emb y : S8x16384.Idx) 1) 0) (rowOf m c (((win0_2.rect t).emb y : S8x16384.Idx) 1) 1) s)) e0.symm

/-- The second result: a column to a tile. -/
def G3 (y : S8x256.Idx) : BitVec 32 := Ideal.fptosi 32 (tables (fun j => inCounts m c (ix2 (0 : Fin 8) (⟨4 + j.val, by omega⟩ : Fin 128))) (y 0) (y 1))

/-- Every point leaves the same tables. -/
theorem final3 (hg : Given m c) : (dats m 0 c).arrAt 3 cfg0.N = G3 m c :=
  (dats m 0 c).arrAt_eq_of_covers 3 _ (by decide +kernel) fun t _ y => by
    refine (congrFun (after0_3 m c t) y).trans ?_
    have e : ∀ a : Fin 2, (((win0_3.rect t).emb y a : Fin _) : ℕ) = (![0, 0] : Fin 2 → ℕ) a * S8x256.size a + (y a).val := fun a => by
      have e := Pipeline.Window.rect_emb_val win0_3 t y a
      rw [idx3] at e
      exact e
    have ey : y = ix2 (y 0) (y 1) := funext fun a => by
      match a with
      | ⟨0, _⟩ => rfl
      | ⟨1, _⟩ => rfl
    have e0 : (((win0_3.rect t).emb y : S8x256.Idx) 0) = y 0 := Fin.ext ((e 0).trans (by show 0 * 8 + (y 0).val = (y 0).val; omega))
    have e1 : (((win0_3.rect t).emb y : S8x256.Idx) 1) = y 1 := Fin.ext ((e 1).trans (by show 0 * 256 + (y 1).val = (y 1).val; omega))
    have hc : counted (iblk m c 1 t) = fun j => inCounts m c (ix2 (0 : Fin 8) (⟨4 + j.val, by omega⟩ : Fin 128)) := funext fun j => counts_at m c t 0 _
    refine (congrArg (out0_3 (F := Ideal) (iblk m c 0 t) (iblk m c 1 t)) ey).trans ((out3_apply (iblk m c 0 t) (iblk m c 1 t) (fun j => ?_) (y 0) (y 1)).trans ?_)
    · obtain ⟨v, h0, hv⟩ := hg.2 j
      exact ⟨v, h0, (counts_at m c t 0 _).trans hv⟩
    · rw [hc]
      exact congrArg₂ (fun s q => Ideal.fptosi 32 (tables (fun j => inCounts m c (ix2 (0 : Fin 8) (⟨4 + j.val, by omega⟩ : Fin 128))) s q)) e0.symm e1.symm

end Cert.Proof.Plan

end
-- ==== Proof.PlanRef.lean ====
/-
  The plan's reference over the extended reals, entry by entry: a token's slots and the tiles' tables.
-/
module

public import proofs.«01_k».proof.Proof.Gen.Reference5Ideal
public import proofs.«01_k».proof.Proof.PlanRow
public import Idealize.ShloMosaic.Lib.Pipeline.Value

@[expose] public section

noncomputable section

namespace Cert.Proof.Plan.Ref

open Cert.Reference5Ideal Cert.Reference5Ideal.Gen

open Idealize.ShloMosaic Idealize.ShloMosaic.Pointwise

variable (route : FVec Ideal S16384x128 .f32) (counts : FVec Ideal S8x128 .f32)

/-- The experts' rows in whole tiles, -/
def tiled : FVec Ideal S32 .f32 :=
  mulf (Host.ceil (Host.divf (shapeCast _ (extractStridedSlice S1x32 ![0, 4] counts slices_S8x128_S1x32_0_4) shapeCasts_S1x32_S32) (broadcastInDim S32 ![] bcast_S_S32 (constant S_ .f32 0x43800000#32))))
    (broadcastInDim S32 ![] bcast_S_S32 (constant S_ .f32 0x43800000#32))

theorem tiled_apply (j : Fin 32) : tiled counts (ix1 j) = filled (counts (ix2 (0 : Fin 8) (⟨4 + j.val, by omega⟩ : Fin 128))) := by
  have h : tiled counts (ix1 j) = Ideal.liftRound Int.ceil (Ideal.div (counts (ix2 (0 : Fin 8) (⟨4 + j.val, by omega⟩ : Fin 128))) (Ideal.ofBits .f32 0x43800000#32)) * Ideal.ofBits .f32 0x43800000#32 := by
    pointwise [tiled]
  rw [h, c256]
  rfl

/-- the tokens' rows, -/
def rows : FVec Ideal S2x16384 .f32 :=
  transpose S2x16384 [1, 0] (addf (Host.reduceAdd (select (cmpf .olt (broadcastInDim S16384x2x32 ![0, 1, 2] bcast_S1x1x32_S16384x2x32_0_1_2 (broadcastInDim S1x1x32 ![2] bcast_S32_S1x1x32_2 (sitofp .f32 (iotaInDim S32 32 0))))
      (broadcastInDim S16384x2x32 ![0, 1, 2] bcast_S16384x2x1_S16384x2x32_0_1_2 (broadcastInDim S16384x2x1 ![0, 1] bcast_S16384x2_S16384x2x1_0_1 (extractStridedSlice S16384x2 ![0, 0] route slices_S16384x128_S16384x2_0_0))))
      (broadcastInDim S16384x2x32 ![2] bcast_S32_S16384x2x32_2 (tiled counts)) (broadcastInDim S16384x2x32 ![] bcast_S_S16384x2x32 (constant S_ .f32 0x00000000#32)))
    (constant S_ .f32 0x00000000#32) reducesTo_S16384x2x32_S16384x2_d2 h_S_) (extractStridedSlice S16384x2 ![0, 4] route slices_S16384x128_S16384x2_0_4)) transposes_S16384x2_S2x16384_1_0

theorem rows_apply (k : Fin 2) (q : Fin 16384) :
    rows route counts (ix2 k q) = start (fun j => counts (ix2 (0 : Fin 8) (⟨4 + j.val, by omega⟩ : Fin 128))) (route (ix2 q (⟨k.val, by omega⟩ : Fin 128))) + route (ix2 q (⟨4 + k.val, by omega⟩ : Fin 128)) := by
  have h : ∀ t : FVec Ideal S32 .f32, tiled counts = t → rows route counts (ix2 k q) = (∑ j : Fin 32, if (((BitVec.ofNat 32 j.val).toInt : ℝ) : EReal) < (route (ix2 q (⟨k.val, by omega⟩ : Fin 128)) : EReal) then (t (ix1 j) : EReal) else 0)
      + (route (ix2 q (⟨4 + k.val, by omega⟩ : Fin 128)) : EReal) := by
    intro t ht
    unfold rows
    rw [ht]
    pointwise []
    rfl
  have hw : ∀ d : Fin 32, (BitVec.ofNat 32 d.val).toInt = (d.val : ℤ) := by decide +kernel
  rw [h _ rfl]
  unfold start
  refine congrArg (· + _) (Finset.sum_congr rfl fun j _ => ?_)
  rw [tiled_apply, hw, Int.cast_natCast]

/-- and the tokens' slots, -/
def stacked (t : FVec Ideal S2x16384 .f32) : FVec Ideal S8x16384 .f32 :=
  concatenate S8x16384 0 [⟨S2x16384, t⟩, ⟨S2x16384, Host.floor (Host.divf t (broadcastInDim S2x16384 ![] bcast_S_S2x16384 (constant (F := Ideal) S_ .f32 0x41000000#32)))⟩,
    ⟨S2x16384, subf t (mulf (broadcastInDim S2x16384 ![] bcast_S_S2x16384 (constant (F := Ideal) S_ .f32 0x41000000#32))
      (Host.floor (Host.divf t (broadcastInDim S2x16384 ![] bcast_S_S2x16384 (constant (F := Ideal) S_ .f32 0x41000000#32)))))⟩,
    ⟨S2x16384, broadcastInDim S2x16384 ![] bcast_S_S2x16384 (constant (F := Ideal) S_ .f32 0x00000000#32)⟩]
    concatenates_S2x16384_S2x16384_S2x16384_S2x16384_S8x16384_d0

/-- as integers. -/
def res : IVec S8x16384 32 := fptosi 32 (stacked (rows route counts))

section
variable (t : FVec Ideal S2x16384 .f32) (q : Fin 16384)

theorem stacked_0 : stacked t (ix2 (0 : Fin 8) q) = (t (ix2 (0 : Fin 2) q) : EReal) := by
  pointwise [stacked]

theorem stacked_1 : stacked t (ix2 (1 : Fin 8) q) = (t (ix2 (1 : Fin 2) q) : EReal) := by
  pointwise [stacked]

theorem stacked_2 : stacked t (ix2 (2 : Fin 8) q) = Ideal.liftRound Int.floor (Ideal.div (t (ix2 (0 : Fin 2) q) : EReal) (Ideal.ofBits FTy.f32 0x41000000#32)) := by
  pointwise [stacked]

theorem stacked_3 : stacked t (ix2 (3 : Fin 8) q) = Ideal.liftRound Int.floor (Ideal.div (t (ix2 (1 : Fin 2) q) : EReal) (Ideal.ofBits FTy.f32 0x41000000#32)) := by
  pointwise [stacked]

theorem stacked_4 : stacked t (ix2 (4 : Fin 8) q) = (t (ix2 (0 : Fin 2) q) : EReal) - Ideal.ofBits FTy.f32 0x41000000#32 * Ideal.liftRound Int.floor (Ideal.div (t (ix2 (0 : Fin 2) q) : EReal) (Ideal.ofBits FTy.f32 0x41000000#32)) := by
  pointwise [stacked]

theorem stacked_5 : stacked t (ix2 (5 : Fin 8) q) = (t (ix2 (1 : Fin 2) q) : EReal) - Ideal.ofBits FTy.f32 0x41000000#32 * Ideal.liftRound Int.floor (Ideal.div (t (ix2 (1 : Fin 2) q) : EReal) (Ideal.ofBits FTy.f32 0x41000000#32)) := by
  pointwise [stacked]

theorem stacked_6 : stacked t (ix2 (6 : Fin 8) q) = (0 : EReal) := by
  pointwise [stacked]

theorem stacked_7 : stacked t (ix2 (7 : Fin 8) q) = (0 : EReal) := by
  pointwise [stacked]

theorem stacked_apply (s : Fin 8) : stacked t (ix2 s q) = slots (t (ix2 (0 : Fin 2) q)) (t (ix2 (1 : Fin 2) q)) s := by
  match s with
  | ⟨0, _⟩ => exact stacked_0 t q
  | ⟨1, _⟩ => exact stacked_1 t q
  | ⟨2, _⟩ =>
    refine (stacked_2 t q).trans ?_
    rw [c8]
    rfl
  | ⟨3, _⟩ =>
    refine (stacked_3 t q).trans ?_
    rw [c8]
    rfl
  | ⟨4, _⟩ =>
    refine (stacked_4 t q).trans ?_
    rw [c8]
    rfl
  | ⟨5, _⟩ =>
    refine (stacked_5 t q).trans ?_
    rw [c8]
    rfl
  | ⟨6, _⟩ => exact stacked_6 t q
  | ⟨7, _⟩ => exact stacked_7 t q

end

theorem res_apply (s : Fin 8) (q : Fin 16384) : res route counts (ix2 s q) = Ideal.fptosi 32 (slots (rows route counts (ix2 (0 : Fin 2) q)) (rows route counts (ix2 (1 : Fin 2) q)) s) :=
  congrArg (Ideal.fptosi 32) (stacked_apply (rows route counts) q s)

/-! ## The tiles' tables -/

/-- Where the experts' rows end, -/
def stops : FVec Ideal S32 .f32 :=
  addf (Host.reduceAdd (select (cmpf .olt (broadcastInDim S32x32 ![0, 1] bcast_S1x32_S32x32_0_1 (broadcastInDim S1x32 ![1] bcast_S32_S1x32_1 (sitofp (F := Ideal) .f32 (iotaInDim S32 32 0))))
      (broadcastInDim S32x32 ![0, 1] bcast_S32x1_S32x32_0_1 (broadcastInDim S32x1 ![0] bcast_S32_S32x1_0 (sitofp (F := Ideal) .f32 (iotaInDim S32 32 0)))))
      (broadcastInDim S32x32 ![1] bcast_S32_S32x32_1 (tiled counts)) (broadcastInDim S32x32 ![] bcast_S_S32x32 (constant (F := Ideal) S_ .f32 0x00000000#32)))
    (constant (F := Ideal) S_ .f32 0x00000000#32) reducesTo_S32x32_S32_d1 h_S_) (tiled counts)

theorem stops_apply (j : Fin 32) : stops counts (ix1 j) = stop (fun j => counts (ix2 (0 : Fin 8) (⟨4 + j.val, by omega⟩ : Fin 128))) j := by
  have h : ∀ t : FVec Ideal S32 .f32, tiled counts = t → stops counts (ix1 j)
      = (∑ d : Fin 32, if (((BitVec.ofNat 32 d.val).toInt : ℝ) : EReal) < (((BitVec.ofNat 32 j.val).toInt : ℝ) : EReal) then (t (ix1 d) : EReal) else 0) + (t (ix1 j) : EReal) := by
    intro t ht
    unfold stops
    rw [ht]
    pointwise []
    rfl
  have hw : ∀ d : Fin 32, (BitVec.ofNat 32 d.val).toInt = (d.val : ℤ) := by decide +kernel
  rw [h _ rfl, tiled_apply]
  unfold stop start
  refine congrArg (· + _) (Finset.sum_congr rfl fun d _ => ?_)
  rw [tiled_apply, hw, hw, Int.cast_natCast, Int.cast_natCast]

/-- the tables from the experts' rows in whole tiles and where they end, -/
def tabled (p e : FVec Ideal S32 .f32) : FVec Ideal S8x256 .f32 :=
  concatenate S8x256 0 [⟨S1x256, broadcastInDim S1x256 ![1] bcast_S256_S1x256_1 (minimumf (Host.reduceAdd (select (cmpf .ole (broadcastInDim S256x32 ![0, 1] bcast_S1x32_S256x32_0_1 (broadcastInDim S1x32 ![1] bcast_S32_S1x32_1 e))
      (broadcastInDim S256x32 ![0, 1] bcast_S256x1_S256x32_0_1 (broadcastInDim S256x1 ![0] bcast_S256_S256x1_0 (mulf (sitofp .f32 (iotaInDim S256 32 0)) (broadcastInDim S256 ![] bcast_S_S256 (constant (F := Ideal) S_ .f32 0x43800000#32))))))
      (broadcastInDim S256x32 ![] bcast_S_S256x32 (constant (F := Ideal) S_ .f32 0x3F800000#32)) (broadcastInDim S256x32 ![] bcast_S_S256x32 (constant (F := Ideal) S_ .f32 0x00000000#32))) (constant (F := Ideal) S_ .f32 0x00000000#32) reducesTo_S256x32_S256_d1 h_S_)
      (broadcastInDim S256 ![] bcast_S_S256 (constant (F := Ideal) S_ .f32 0x41F80000#32)))⟩,
    ⟨S1x256, broadcastInDim S1x256 ![] bcast_S_S1x256 (Host.divf (Host.reduceAdd p (constant (F := Ideal) S_ .f32 0x00000000#32) reducesTo_S32_S_d0 h_S_) (constant (F := Ideal) S_ .f32 0x43800000#32))⟩,
    ⟨S1x256, broadcastInDim S1x256 ![1] bcast_S256_S1x256_1 (concatenate S256 0 [⟨S4, broadcastInDim S4 ![] bcast_S_S4 (constant (F := Ideal) S_ .f32 0xBF800000#32)⟩,
      ⟨S32, select (cmpf .ogt p (broadcastInDim S32 ![] bcast_S_S32 (constant (F := Ideal) S_ .f32 0x00000000#32)))
        (subf (Host.divf e (broadcastInDim S32 ![] bcast_S_S32 (constant (F := Ideal) S_ .f32 0x43800000#32))) (broadcastInDim S32 ![] bcast_S_S32 (constant (F := Ideal) S_ .f32 0x3F800000#32)))
        (broadcastInDim S32 ![] bcast_S_S32 (constant (F := Ideal) S_ .f32 0xBF800000#32))⟩,
      ⟨S220, broadcastInDim S220 ![] bcast_S_S220 (constant (F := Ideal) S_ .f32 0xBF800000#32)⟩] concatenates_S4_S32_S220_S256_d0)⟩,
    ⟨S5x256, broadcastInDim S5x256 ![] bcast_S_S5x256 (constant (F := Ideal) S_ .f32 0x00000000#32)⟩]
    concatenates_S1x256_S1x256_S1x256_S5x256_S8x256_d0

/-- as integers. -/
def res2 : IVec S8x256 32 := fptosi 32 (tabled (tiled counts) (stops counts))

section
variable (p e : FVec Ideal S32 .f32) (t : Fin 256)

theorem tabled_0 : tabled p e (ix2 (0 : Fin 8) t)
    = min (∑ j : Fin 32, if (e (ix1 j) : EReal) ≤ (((BitVec.ofNat 32 t.val).toInt : ℝ) : EReal) * Ideal.ofBits FTy.f32 0x43800000#32 then (1 : EReal) else 0) (Ideal.ofBits FTy.f32 0x41F80000#32) := by
  pointwise [tabled]
  rfl

theorem tabled_1 : tabled p e (ix2 (1 : Fin 8) t) = Ideal.div (∑ j : Fin 32, (p (ix1 j) : EReal)) (Ideal.ofBits FTy.f32 0x43800000#32) := by
  pointwise [tabled]

theorem tabled_2 : tabled p e (ix2 (2 : Fin 8) t) = if h : 4 ≤ t.val ∧ t.val < 36 then
      if (0 : EReal) < p (ix1 (⟨t.val - 4, by omega⟩ : Fin 32)) then Ideal.div (e (ix1 (⟨t.val - 4, by omega⟩ : Fin 32)) : EReal) (Ideal.ofBits FTy.f32 0x43800000#32) - 1 else Ideal.ofBits FTy.f32 0xBF800000#32
    else Ideal.ofBits FTy.f32 0xBF800000#32 := by
  pointwise [tabled]
  by_cases h4 : t.val < 4
  · rw [dif_pos h4, dif_neg (by omega)]
  · rw [dif_neg h4]
    by_cases h36 : t.val - 4 < 32
    · rw [dif_pos h36, dif_pos (by omega)]
    · rw [dif_neg h36, dif_neg (by omega)]

theorem tabled_3 : tabled p e (ix2 (3 : Fin 8) t) = (0 : EReal) := by
  pointwise [tabled]

theorem tabled_4 : tabled p e (ix2 (4 : Fin 8) t) = (0 : EReal) := by
  pointwise [tabled]

theorem tabled_5 : tabled p e (ix2 (5 : Fin 8) t) = (0 : EReal) := by
  pointwise [tabled]

theorem tabled_6 : tabled p e (ix2 (6 : Fin 8) t) = (0 : EReal) := by
  pointwise [tabled]

theorem tabled_7 : tabled p e (ix2 (7 : Fin 8) t) = (0 : EReal) := by
  pointwise [tabled]

end

theorem tile_word : ∀ t : Fin 256, (BitVec.ofNat 32 t.val).toInt = (t.val : ℤ) := by decide +kernel

theorem res2_apply (s : Fin 8) (t : Fin 256) : res2 counts (ix2 s t) = Ideal.fptosi 32 (tables (fun j => counts (ix2 (0 : Fin 8) (⟨4 + j.val, by omega⟩ : Fin 128))) s t) := by
  refine congrArg (Ideal.fptosi 32) (?_ : tabled (tiled counts) (stops counts) (ix2 s t) = _)
  match s with
  | ⟨0, _⟩ =>
    refine (tabled_0 ..).trans ?_
    rw [c256, tile_word, Int.cast_natCast]
    refine congrArg (min · _) (Finset.sum_congr rfl fun j _ => ?_)
    rw [stops_apply]
  | ⟨1, _⟩ =>
    refine (tabled_1 ..).trans ?_
    rw [c256]
    exact congrArg (Ideal.div · _) (Finset.sum_congr rfl fun j _ => tiled_apply counts j)
  | ⟨2, _⟩ =>
    refine (tabled_2 ..).trans ?_
    unfold tables
    dsimp only
    rw [c256]
    by_cases h : 4 ≤ t.val ∧ t.val < 36
    · rw [dif_pos h, dif_pos h, tiled_apply, stops_apply]
    · rw [dif_neg h, dif_neg h]
  | ⟨3, _⟩ => exact tabled_3 ..
  | ⟨4, _⟩ => exact tabled_4 ..
  | ⟨5, _⟩ => exact tabled_5 ..
  | ⟨6, _⟩ => exact tabled_6 ..
  | ⟨7, _⟩ => exact tabled_7 ..

end Cert.Proof.Plan.Ref

end
-- ==== Proof.PlanClaims.lean ====
/-
  The claims of the plan's call: its run and its results.
-/
module

public import proofs.«01_k».proof.Defs
public import proofs.«01_k».proof.Proof.PlanHost
public import proofs.«01_k».proof.Proof.PlanValue
public import proofs.«01_k».proof.Proof.PlanRef
public import proofs.«01_k».proof.Proof.Gen.Kernel5.Frame
public import proofs.«01_k».proof.Proof.Gen.Reference5Ideal.Run
public import Idealize.ShloMosaic.Adequacy
public import Idealize.ShloMosaic.Init

@[expose] public section

noncomputable section

namespace Cert.Proof.Plan

open Idealize.ShloMosaic Idealize.ShloMosaic.TcCoe Idealize.SL.Sem Idealize.ShloMosaic.Pointwise

/-! ## The reference's results are the call's -/

section
open Cert.Kernel5Ideal

variable (m : (ℓ : Loc nD τ sig) → Buf (Elt Ideal) ℓ) (c : Dev nD)

theorem ref_at (s : Fin 8) (q : Fin 16384) : Ref.res (inRoute m c) (inCounts m c) (ix2 s q) = Ideal.fptosi 32 (slots (rowOf m c q 0) (rowOf m c q 1) s) := by
  refine (Ref.res_apply (inRoute m c) (inCounts m c) s q).trans ?_
  rw [Ref.rows_apply, Ref.rows_apply]
  rfl

theorem ref_eq : Ref.res (inRoute m c) (inCounts m c) = G2 m c := funext fun y => by
  have ey : y = ix2 (y 0) (y 1) := funext fun a => by
    match a with
    | ⟨0, _⟩ => rfl
    | ⟨1, _⟩ => rfl
  exact (congrArg (Ref.res (inRoute m c) (inCounts m c)) ey).trans (ref_at m c (y 0) (y 1))

theorem ref2_eq : Ref.res2 (inCounts m c) = G3 m c := funext fun y => by
  have ey : y = ix2 (y 0) (y 1) := funext fun a => by
    match a with
    | ⟨0, _⟩ => rfl
    | ⟨1, _⟩ => rfl
  exact (congrArg (Ref.res2 (inCounts m c)) ey).trans (Ref.res2_apply (inCounts m c) (y 0) (y 1))

end

section
open Cert.Reference5Ideal

theorem res_eq (m : (ℓ : Loc nD τ sig) → Buf (Elt Ideal) ℓ) (c : Dev nD) :
    Value.res_main_v65 (F := Ideal) m c = Ref.res (m ((c.tc : Thread nD τ).loc main_arg0)) (m ((c.tc : Thread nD τ).loc main_arg1)) := by
  unfold Value.res_main_v65 Ref.res Ref.stacked Ref.rows Ref.tiled
  rfl

theorem res2_eq (m : (ℓ : Loc nD τ sig) → Buf (Elt Ideal) ℓ) (c : Dev nD) :
    Value.res_main_v70 (F := Ideal) m c = Ref.res2 (m ((c.tc : Thread nD τ).loc main_arg1)) := by
  unfold Value.res_main_v70 Ref.res2 Ref.tabled Ref.stops Ref.tiled
  rfl

theorem res_congr {r r' : FVec Ideal S16384x128 .f32} {n n' : FVec Ideal S8x128 .f32} (e0 : r = r') (e1 : n = n') : Ref.res r n = Ref.res r' n' := by
  rw [e0, e1]

theorem res2_congr {n n' : FVec Ideal S8x128 .f32} (e1 : n = n') : Ref.res2 n = Ref.res2 n' := by
  rw [e1]

end

/-! ## The claims -/

theorem frame_p : Cert.quiescent_Kernel5 := fun m ρ _ => Cert.Kernel5.Gen.frame m ρ

theorem frame_pi : Cert.quiescent_Kernel5Ideal := fun m ρ _ => Cert.Kernel5Ideal.Gen.frame m ρ

theorem frame_pi_counted : Cert.quiescent_Kernel5Ideal_pre_counted := fun m ρ _ => frame_pi m ρ trivial

theorem frame_ri : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem frame_ri_counted : Cert.quiescent_Reference5Ideal_pre_counted := fun m ρ _ => frame_ri m ρ trivial

theorem algebraic : Cert.algebraic_Kernel5Ideal_Reference5Ideal_pre_counted := by
  intro m ρ m' ρ' hpre hag
  refine ⟨fun c => G2 m c, fun c => G3 m c, ?_, ?_⟩
  · refine (θ_run Cert.Kernel5Ideal.defs _ _).mono (fun r h c => ?_) (Cert.Kernel5Ideal.Value.run_blocks (F := Ideal) m ρ)
    obtain ⟨h0, h1, h3⟩ := h c
    exact ⟨h0.trans (final2 m c (counted_of (hpre c))), h1.trans (final3 m c (counted_of (hpre c))), h3⟩
  · refine (θ_run Cert.Reference5Ideal.defs _ _).mono (fun r h c => ?_) (Cert.Reference5Ideal.Value.run (F := Ideal) m' ρ')
    obtain ⟨h0, h2, h1⟩ := h c
    obtain ⟨e0, e1⟩ := hag c
    exact ⟨h0.trans ((res_eq m' c).trans ((res_congr e0 e1).trans (ref_eq m c))), h2.trans ((res2_eq m' c).trans ((res2_congr e1).trans (ref2_eq m c))), h1⟩

end Cert.Proof.Plan

end
-- ==== Proof.lean ====
/-
  The certificate. The dispatch call: its run, read at the entries the mask holds, against the reference's scatter. The
  experts' call: `ExpertsClaims`. The projection's: `ProjClaims`. The merge's: `MergeClaims`. The
  plan's: `PlanClaims`.
-/
module

public import proofs.«01_k».proof.Defs
public import proofs.«01_k».proof.Proof.Run
public import proofs.«01_k».proof.Proof.Value
public import proofs.«01_k».proof.Proof.Same
public import proofs.«01_k».proof.Proof.ExpertsClaims
public import proofs.«01_k».proof.Proof.ProjClaims
public import proofs.«01_k».proof.Proof.MergeClaims
public import proofs.«01_k».proof.Proof.PlanClaims
public import proofs.«01_k».proof.Proof.Gen.Kernel3
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.Reference.Run
public import proofs.«01_k».proof.Proof.Gen.ReferenceIdeal.Run
public import proofs.«01_k».proof.Proof.Gen.Kernel2
public import proofs.«01_k».proof.Proof.Gen.Kernel2Ideal.Skeleton
public import proofs.«01_k».proof.Proof.Gen.Kernel2Ideal.Launch
public import proofs.«01_k».proof.Proof.Gen.Reference2Ideal.Run
public import Idealize.ShloMosaic.Adequacy
public import Idealize.ShloMosaic.Init

@[expose] public section

noncomputable section

namespace Cert.Proof.Dispatch

open Idealize.ShloMosaic Idealize.ShloMosaic.TcCoe Idealize.SL.Sem Idealize.ShloMosaic.StableHlo

section
open Cert.KernelIdeal Cert.KernelIdeal.Gen

variable {F : FTy → Type} [FloatOps F]
variable (m : (ℓ : Loc nD τ sig) → Buf (Elt F) ℓ) (ρ : Dev nD → PrngReg)

/-- The call is given the tokens in their second layout. -/
theorem xT_eq (c : Dev nD) : xT m ρ c = moved (m ((c : Thread nD τ).loc main_arg4)) := by
  show after hostOps0 (V₀ m ρ c) main_v1 = _
  after_results <;> rfl

/-- What the precondition says of the launch memory. -/
def Pre (m : (ℓ : Loc nD τ sig) → Buf (Elt F) ℓ) : Prop :=
  ∀ c : Dev nD, Cert.Pre_placed.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1

theorem Pre.placed {m : (ℓ : Loc nD τ sig) → Buf (Elt F) ℓ} (h : Pre m) (c : Dev nD) : Placed (hiT m c) (loT m c) (laT m c) (ntT m c) :=
  placed_of (h c)

/-- The frame's conjuncts. -/
theorem frame_main (h : Pre m) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => (h.1 c).1, h.2⟩) (run_main m ρ h.placed)

/-- The result where the mask holds: the reference's. -/
theorem value_main (h : Pre m) :
    θ_run defs (onTc (τ := τ) (main (F := F))) ⟨m, fun _ => 0, ρ⟩ (fun r => ∀ c : Dev nD,
      (∀ i : S5120x8x8x128.Idx, Cert.On_written.fn (F := F) (m ((c : Thread nD τ).loc main_arg0)) (m ((c : Thread nD τ).loc main_arg1))
          (m ((c : Thread nD τ).loc main_arg2)) (m ((c : Thread nD τ).loc main_arg3)) (m ((c : Thread nD τ).loc main_arg4)) i = 1#1 →
        r.2.mem ((c : Thread nD τ).loc main_v2) i
          = refTerm (m ((c : Thread nD τ).loc main_arg0)) (m ((c : Thread nD τ).loc main_arg1)) (m ((c : Thread nD τ).loc main_arg4)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  refine (θ_run defs _ _).mono (fun r hr c => ⟨fun i hi => ?_, (hr.1 c).1⟩) (run_main m ρ h.placed)
  obtain ⟨hrows, hclear⟩ := (hr.1 c).2
  refine Eq.trans ?_ (ref_eq (h.placed c) _ i).symm
  rw [← xT_eq m ρ c]
  by_cases hs : ∃ a, slot (hiT m c) (loT m c) a i
  · obtain ⟨a, ha⟩ := hs
    exact hrows a i ha (by have := Nat.mod_lt a (by decide : 0 < 16384); omega)
  · refine Eq.trans ?_ (fin_none hs).symm
    exact hclear (by decide) i ((written_cases (h.placed c) i hi).resolve_left hs) hs

end

theorem refTerm_congr {F : FTy → Type} [FloatOps F] {hi hi' lo lo' : IVec Cert.Reference.S32768 32} {x x' : FVec F Cert.Reference.S16384x1024 .f32}
    (e0 : hi = hi') (e1 : lo = lo') (e2 : x = x') (i : Cert.Reference.S5120x8x8x128.Idx) : refTerm hi lo x i = refTerm hi' lo' x' i := by
  rw [e0, e1, e2]

/-! ## The claims -/

set_option maxHeartbeats 6000000 in
theorem frame_p : Cert.quiescent_Kernel := fun m ρ h =>
  run_congr defs_same main_same _ _ ((θ_run Cert.KernelIdeal.defs _ _).mono (fun _ h => h) (frame_main (F := Bits) m ρ h))

theorem frame_pi : Cert.quiescent_KernelIdeal := fun m ρ h => frame_main (F := Ideal) m ρ h

theorem frame_r : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_placed : Cert.quiescent_ReferenceIdeal_pre_placed := fun m ρ _ => frame_ri m ρ trivial

set_option maxHeartbeats 6000000 in
theorem bitexact : Cert.bitexact_Kernel_Reference_on_written := by
  intro m ρ m' ρ' hpre hag
  refine ⟨fun c => refTerm (F := Bits) (m ((c.tc : Thread Cert.Kernel.nD Cert.Kernel.τ).loc Cert.Kernel.main_arg0))
    (m ((c.tc : Thread Cert.Kernel.nD Cert.Kernel.τ).loc Cert.Kernel.main_arg1))
    (m ((c.tc : Thread Cert.Kernel.nD Cert.Kernel.τ).loc Cert.Kernel.main_arg4)),
    run_congr defs_same main_same _ _ ((θ_run Cert.KernelIdeal.defs _ _).mono (fun _ h => h) (value_main (F := Bits) m ρ hpre)), ?_⟩
  refine (θ_run Cert.Reference.defs _ _).mono (fun r h c => ⟨fun i _ => ?_, (h c).2⟩) (Cert.Reference.Value.run (F := Bits) m' ρ')
  obtain ⟨e0, e1, -, -, e4⟩ := hag c
  exact (congrFun (h c).1 i).trans (refTerm_congr e0 e1 e4 i)

theorem algebraic : Cert.algebraic_KernelIdeal_ReferenceIdeal_on_written := by
  intro m ρ m' ρ' hpre hag
  refine ⟨fun c => refTerm (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg4)), value_main (F := Ideal) m ρ hpre, ?_⟩
  refine (θ_run Cert.ReferenceIdeal.defs _ _).mono (fun r h c => ⟨fun i _ => ?_, (h c).2⟩) (Cert.ReferenceIdeal.Value.run (F := Ideal) m' ρ')
  obtain ⟨e0, e1, -, -, e4⟩ := hag c
  exact (congrFun (h c).1 i).trans (refTerm_congr e0 e1 e4 i)

end Cert.Proof.Dispatch

/-- Everything claimed. -/
theorem Cert.Proof.claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Proof.Dispatch.facts_placed, Cert.Proof.Experts.facts_routed, Cert.Proof.Plan.facts_counted, Cert.Proof.Dispatch.facts_written,
    Cert.Proof.Dispatch.frame_p, Cert.Proof.Dispatch.frame_pi, Cert.Proof.Dispatch.frame_ri, Cert.Proof.Dispatch.frame_ri_placed,
    Cert.Proof.Dispatch.frame_r, Cert.Proof.Experts.frame_p, Cert.Proof.Experts.frame_pi, Cert.Proof.Experts.frame_ri,
    Cert.Proof.Experts.frame_ri_routed, Cert.Proof.Proj.frame_p, Cert.Proof.Proj.frame_pi, Cert.Proof.Proj.frame_ri,
    Cert.Proof.Merge.frame_p, Cert.Proof.Merge.frame_pi, Cert.Proof.Merge.frame_ri,
    Cert.Proof.Plan.frame_p, Cert.Proof.Plan.frame_pi, Cert.Proof.Plan.frame_pi_counted, Cert.Proof.Plan.frame_ri, Cert.Proof.Plan.frame_ri_counted,
    trivial, Cert.Proof.Dispatch.bitexact, Cert.Proof.Dispatch.algebraic,
    trivial, Cert.Proof.Experts.algebraic, trivial, Cert.Proof.Proj.algebraic,
    trivial, Cert.Proof.Merge.algebraic, trivial, Cert.Proof.Plan.algebraic⟩

end
